-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v60_3)) (v4 : (c : Dev Cert.KernelIdeal.nD) → Buf (Elt Ideal) ((c.tc : Thread Cert.KernelIdeal.nD Cert.KernelIdeal.τ).loc Cert.KernelIdeal.main_v60_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_v60_3) = v3 c
          ∧ r.2.mem ((c.tc : Thread Cert.KernelIdeal.nD Cert.KernelIdeal.τ).loc Cert.KernelIdeal.main_v60_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v15_0)) (v1 : (c : Dev Cert.Kernel8Ideal.nD) → Buf (Elt Ideal) ((c.tc : Thread Cert.Kernel8Ideal.nD Cert.Kernel8Ideal.τ).loc Cert.Kernel8Ideal.main_v15_1)) (v2 : (c : Dev Cert.Kernel8Ideal.nD) → Buf (Elt Ideal) ((c.tc : Thread Cert.Kernel8Ideal.nD Cert.Kernel8Ideal.τ).loc Cert.Kernel8Ideal.main_v15_2)) (v3 : (c : Dev Cert.Kernel8Ideal.nD) → Buf (Elt Ideal) ((c.tc : Thread Cert.Kernel8Ideal.nD Cert.Kernel8Ideal.τ).loc Cert.Kernel8Ideal.main_v15_3)) (v4 : (c : Dev Cert.Kernel8Ideal.nD) → Buf (Elt Ideal) ((c.tc : Thread Cert.Kernel8Ideal.nD Cert.Kernel8Ideal.τ).loc Cert.Kernel8Ideal.main_v15_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15_0) = v0 c
          ∧ r.2.mem ((c.tc : Thread Cert.Kernel8Ideal.nD Cert.Kernel8Ideal.τ).loc Cert.Kernel8Ideal.main_v15_1) = v1 c
          ∧ r.2.mem ((c.tc : Thread Cert.Kernel8Ideal.nD Cert.Kernel8Ideal.τ).loc Cert.Kernel8Ideal.main_v15_2) = v2 c
          ∧ r.2.mem ((c.tc : Thread Cert.Kernel8Ideal.nD Cert.Kernel8Ideal.τ).loc Cert.Kernel8Ideal.main_v15_3) = v3 c
          ∧ r.2.mem ((c.tc : Thread Cert.Kernel8Ideal.nD Cert.Kernel8Ideal.τ).loc Cert.Kernel8Ideal.main_v15_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v79) = v0 c
          ∧ r.2.mem ((c.tc : Thread Cert.Reference8Ideal.nD Cert.Reference8Ideal.τ).loc Cert.Reference8Ideal.main_v80) = v1 c
          ∧ r.2.mem ((c.tc : Thread Cert.Reference8Ideal.nD Cert.Reference8Ideal.τ).loc Cert.Reference8Ideal.main_v81) = v2 c
          ∧ r.2.mem ((c.tc : Thread Cert.Reference8Ideal.nD Cert.Reference8Ideal.τ).loc Cert.Reference8Ideal.main_v44) = v3 c
          ∧ r.2.mem ((c.tc : Thread Cert.Reference8Ideal.nD Cert.Reference8Ideal.τ).loc Cert.Reference8Ideal.main_v41) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S16384x512 : Shape := ⟨2, ![16384, 512]⟩
abbrev S16384x8 : Shape := ⟨2, ![16384, 8]⟩
abbrev S16384x2056 : Shape := ⟨2, ![16384, 2056]⟩
abbrev S_ : Shape := ⟨0, ![]⟩

class Facts : Prop where
  concatenates_S16384x512_S16384x512_S16384x512_S16384x512_S16384x8_S16384x2056_d1 : Shape.Concatenates [S16384x512, S16384x512, S16384x512, S16384x512, S16384x8] S16384x2056 1
  bcast_S_S16384x2056 : S_.BroadcastsInDim S16384x2056 (![] : Fin 0 → Fin S16384x2056.rank)

variable [Facts]

def fn {F : FTy → Type} [FloatOps F] (main_arg0 : FVec F S16384x512 .f32) (main_arg1 : FVec F S16384x512 .f32) (main_arg2 : FVec F S16384x512 .f32) (main_arg3 : FVec F S16384x8 .f32) (main_arg4 : FVec F S16384x512 .f32) : IVec S16384x2056 1 :=
  let main_v0 : FVec F S16384x2056 .f32 := concatenate S16384x2056 1 [⟨S16384x512, main_arg0⟩, ⟨S16384x512, main_arg1⟩, ⟨S16384x512, main_arg2⟩, ⟨S16384x512, main_arg4⟩, ⟨S16384x8, main_arg3⟩] concatenates_S16384x512_S16384x512_S16384x512_S16384x512_S16384x8_S16384x2056_d1
  let main_v1 : FVec F S16384x2056 .f32 := Host.absf main_v0
  let main_cst : FVec F S_ .f32 := constant S_ .f32 0x7F800000#32
  let main_v2 : FVec F S16384x2056 .f32 := broadcastInDim S16384x2056 ![] bcast_S_S16384x2056 main_cst
  let main_v3 : IVec S16384x2056 1 := cmpf .olt main_v1 main_v2
  main_v3
-- ==== Pre_finite8.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S41217x1024 : Shape := ⟨2, ![41217, 1024]⟩
abbrev S_ : Shape := ⟨0, ![]⟩

class Facts : Prop where
  transposes_S1024x5632_S5632x1024_1_0 : S1024x5632.Transposes [1, 0] S5632x1024
  concatenates_S16384x1024_S16384x1024_S5632x1024_S2816x1024_S1x1024_S41217x1024_d0 : Shape.Concatenates [S16384x1024, S16384x1024, S5632x1024, S2816x1024, S1x1024] S41217x1024 0
  bcast_S_S41217x1024 : S_.BroadcastsInDim S41217x1024 (![] : Fin 0 → Fin S41217x1024.rank)

variable [Facts]

def fn {F : FTy → Type} [FloatOps F] (main_arg0 : FVec F S16384x1024 .f32) (main_arg1 : FVec F S1024x5632 .f32) (main_arg2 : FVec F S2816x1024 .f32) (main_arg3 : FVec F S1x1024 .f32) (main_arg4 : FVec F S16384x1024 .f32) : IVec S41217x1024 1 :=
  let main_v0 : FVec F S5632x1024 .f32 := (transpose S5632x1024 [1, 0] · transposes_S1024x5632_S5632x1024_1_0) main_arg1
  let main_v1 : FVec F S41217x1024 .f32 := concatenate S41217x1024 0 [⟨S16384x1024, main_arg0⟩, ⟨S16384x1024, main_arg4⟩, ⟨S5632x1024, main_v0⟩, ⟨S2816x1024, main_arg2⟩, ⟨S1x1024, main_arg3⟩] concatenates_S16384x1024_S16384x1024_S5632x1024_S2816x1024_S1x1024_S41217x1024_d0
  let main_v2 : FVec F S41217x1024 .f32 := Host.absf main_v1
  let main_cst : FVec F S_ .f32 := constant S_ .f32 0x7F800000#32
  let main_v3 : FVec F S41217x1024 .f32 := broadcastInDim S41217x1024 ![] bcast_S_S41217x1024 main_cst
  let main_v4 : IVec S41217x1024 1 := cmpf .olt main_v2 main_v3
  main_v4
-- ==== Kernel.lean ====
abbrev S16384x512 : Shape := ⟨2, ![16384, 512]⟩
abbrev S16384x8 : Shape := ⟨2, ![16384, 8]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S8x16384x64 : Shape := ⟨3, ![8, 16384, 64]⟩
abbrev S16384x1536 : Shape := ⟨2, ![16384, 1536]⟩
abbrev S16384x128 : Shape := ⟨2, ![16384, 128]⟩
abbrev S1536x16384 : Shape := ⟨2, ![1536, 16384]⟩
abbrev S512x16384 : Shape := ⟨2, ![512, 16384]⟩
abbrev S4x2x16384 : Shape := ⟨3, ![4, 2, 16384]⟩
abbrev S4x8x16384 : Shape := ⟨3, ![4, 8, 16384]⟩
abbrev S4x16384x128 : Shape := ⟨3, ![4, 16384, 128]⟩
abbrev S512x128 : Shape := ⟨2, ![512, 128]⟩
abbrev S128x512 : Shape := ⟨2, ![128, 512]⟩
abbrev S1x8x16384 : Shape := ⟨3, ![1, 8, 16384]⟩
abbrev S128x16384 : Shape := ⟨2, ![128, 16384]⟩
abbrev S1x512x128 : Shape := ⟨3, ![1, 512, 128]⟩
abbrev S2x128x512 : Shape := ⟨3, ![2, 128, 512]⟩
abbrev S2x512x1 : Shape := ⟨3, ![2, 512, 1]⟩
abbrev S1x128 : Shape := ⟨2, ![1, 128]⟩
abbrev S128x1 : Shape := ⟨2, ![128, 1]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩
abbrev S1x128x512 : Shape := ⟨3, ![1, 128, 512]⟩
abbrev S1x512x1 : Shape := ⟨3, ![1, 512, 1]⟩

abbrev nBuf : Space → Nat
  | .hbm => 86
  | .vmem => 29
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S16384x8x64, .f32⟩
  | .hbm, ⟨6, _⟩ => ⟨S16384x8x64, .f32⟩
  | .hbm, ⟨7, _⟩ => ⟨S8x16384x16384, .f32⟩
  | .hbm, ⟨8, _⟩ => ⟨S_, .f32⟩
  | .hbm, ⟨9, _⟩ => ⟨S8x16384x16384, .f32⟩
  | .hbm, ⟨10, _⟩ => ⟨S8x16384x16384, .f32⟩
  | .hbm, ⟨11, _⟩ => ⟨S8x16384, .f32⟩
  | .hbm, ⟨12, _⟩ => ⟨S8x16384x1, .f32⟩
  | .hbm, ⟨13, _⟩ => ⟨S8x16384x16384, .f32⟩
  | .hbm, ⟨14, _⟩ => ⟨S8x16384x16384, .f32⟩
  | .hbm, ⟨15, _⟩ => ⟨S8x16384, .f32⟩
  | .hbm, ⟨16, _⟩ => ⟨S8x1x16384, .f32⟩
  | .hbm, ⟨17, _⟩ => ⟨S8x16384x16384, .f32⟩
  | .hbm, ⟨18, _⟩ => ⟨S8x16384x16384, .f32⟩
  | .hbm, ⟨19, _⟩ => ⟨S16384, .i32⟩
  | .hbm, ⟨20, _⟩ => ⟨S16384x1, .i32⟩
  | .hbm, ⟨21, _⟩ => ⟨S16384, .i32⟩
  | .hbm, ⟨22, _⟩ => ⟨S1x16384, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S8x16384x16384, .i1⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384, .f32⟩
  | .hbm, ⟨33, _⟩ => ⟨S8x16384x1, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S_, .f32⟩
  | .hbm, ⟨38, _⟩ => ⟨S8x16384, .f32⟩
  | .hbm, ⟨39, _⟩ => ⟨S8x16384x1, .f32⟩
  | .hbm, ⟨40, _⟩ => ⟨S8x16384x16384, .f32⟩
  | .hbm, ⟨41, _⟩ => ⟨S8x16384x16384, .f32⟩
  | .hbm, ⟨42, _⟩ => ⟨S16384x8x64, .f32⟩
  | .hbm, ⟨43, _⟩ => ⟨S8x16384x64, .f32⟩
  | .hbm, ⟨44, _⟩ => ⟨S8x16384, .f32⟩
  | .hbm, ⟨45, _⟩ => ⟨S8x16384, .f32⟩
  | .hbm, ⟨46, _⟩ => ⟨S16384x8x64, .f32⟩
  | .hbm, ⟨47, _⟩ => ⟨S8x16384x64, .f32⟩
  | .hbm, ⟨48, _⟩ => ⟨S8x16384x64, .f32⟩
  | .hbm, ⟨49, _⟩ => ⟨S_, .f32⟩
  | .hbm, ⟨50, _⟩ => ⟨S8x16384, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16384x512, .f32⟩
  | .hbm, ⟨56, _⟩ => ⟨S16384x512, .f32⟩
  | .hbm, ⟨57, _⟩ => ⟨S16384x1536, .f32⟩
  | .hbm, ⟨58, _⟩ => ⟨S8x16384, .f32⟩
  | .hbm, ⟨59, _⟩ => ⟨S8x16384, .f32⟩
  | .hbm, ⟨60, _⟩ => ⟨S8x16384, .f32⟩
  | .hbm, ⟨61, _⟩ => ⟨S8x16384, .f32⟩
  | .hbm, ⟨62, _⟩ => ⟨S16384x8, .f32⟩
  | .hbm, ⟨63, _⟩ => ⟨S16384x8, .f32⟩
  | .hbm, ⟨64, _⟩ => ⟨S_, .i32⟩
  | .hbm, ⟨65, _⟩ => ⟨S_, .f32⟩
  | .hbm, ⟨66, _⟩ => ⟨S16384x128, .f32⟩
  | .hbm, ⟨67, _⟩ => ⟨S16384x1536, .bf16⟩
  | .hbm, ⟨68, _⟩ => ⟨S1536x16384, .f32⟩
  | .hbm, ⟨69, _⟩ => ⟨S1536x16384, .bf16⟩
  | .hbm, ⟨70, _⟩ => ⟨S16384x512, .bf16⟩
  | .hbm, ⟨71, _⟩ => ⟨S512x16384, .f32⟩
  | .hbm, ⟨72, _⟩ => ⟨S512x16384, .bf16⟩
  | .hbm, ⟨73, _⟩ => ⟨S4x2x16384, .f32⟩
  | .hbm, ⟨74, _⟩ => ⟨S_, .i32⟩
  | .hbm, ⟨75, _⟩ => ⟨S_, .f32⟩
  | .hbm, ⟨76, _⟩ => ⟨S4x8x16384, .f32⟩
  | .hbm, ⟨77, _⟩ => ⟨S4x2x16384, .f32⟩
  | .hbm, ⟨78, _⟩ => ⟨S_, .i32⟩
  | .hbm, ⟨79, _⟩ => ⟨S_, .f32⟩
  | .hbm, ⟨80, _⟩ => ⟨S4x8x16384, .f32⟩
  | .hbm, ⟨81, _⟩ => ⟨S512x16384, .f32⟩
  | .hbm, ⟨82, _⟩ => ⟨S512x16384, .bf16⟩
  | .hbm, ⟨83, _⟩ => ⟨S512x16384, .bf16⟩
  | .hbm, ⟨84, _⟩ => ⟨S4x16384x128, .f32⟩
  | .hbm, ⟨85, _⟩ => ⟨S4x8x16384, .f32⟩
  | .local _ .vmem, ⟨0, _⟩ => ⟨S16384x128, .bf16⟩
  | .local _ .vmem, ⟨1, _⟩ => ⟨S512x128, .bf16⟩
  | .local _ .vmem, ⟨2, _⟩ => ⟨S512x128, .bf16⟩
  | .local _ .vmem, ⟨3, _⟩ => ⟨S128x512, .bf16⟩
  | .local _ .vmem, ⟨4, _⟩ => ⟨S128x512, .bf16⟩
  | .local _ .vmem, ⟨5, _⟩ => ⟨S512x128, .bf16⟩
  | .local _ .vmem, ⟨6, _⟩ => ⟨S512x128, .bf16⟩
  | .local _ .vmem, ⟨7, _⟩ => ⟨S512x128, .f32⟩
  | .local _ .vmem, ⟨8, _⟩ => ⟨S512x128, .f32⟩
  | .local _ .vmem, ⟨9, _⟩ => ⟨S1x8x16384, .f32⟩
  | .local _ .vmem, ⟨10, _⟩ => ⟨S1x8x16384, .f32⟩
  | .local _ .vmem, ⟨11, _⟩ => ⟨S1x8x16384, .f32⟩
  | .local _ .vmem, ⟨12, _⟩ => ⟨S1x8x16384, .f32⟩
  | .local _ .vmem, ⟨13, _⟩ => ⟨S128x16384, .bf16⟩
  | .local _ .vmem, ⟨14, _⟩ => ⟨S16384x128, .bf16⟩
  | .local _ .vmem, ⟨15, _⟩ => ⟨S128x16384, .bf16⟩
  | .local _ .vmem, ⟨16, _⟩ => ⟨S128x16384, .f32⟩
  | .local _ .vmem, ⟨17, _⟩ => ⟨S128x16384, .f32⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S1x512x128, .f32⟩
  | .local _ .vmem, ⟨23, _⟩ => ⟨S1x512x128, .f32⟩
  | .local _ .vmem, ⟨24, _⟩ => ⟨S1x8x16384, .f32⟩
  | .local _ .vmem, ⟨25, _⟩ => ⟨S1x8x16384, .f32⟩
  | .local _ .vmem, ⟨26, _⟩ => ⟨S2x128x512, .f32⟩
  | .local _ .vmem, ⟨27, _⟩ => ⟨S2x128x512, .f32⟩
  | .local _ .vmem, ⟨28, _⟩ => ⟨S2x512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c : Ref sig .tc := ⟨.hbm, 64, rfl⟩
abbrev main_call1_v0 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_6 : Ref sig .tc := ⟨.hbm, 74, rfl⟩
abbrev main_call2_v0 : Ref sig .tc := ⟨.hbm, 75, rfl⟩
abbrev main_v57 : Ref sig .tc := ⟨.hbm, 76, rfl⟩
abbrev main_v58 : Ref sig .tc := ⟨.hbm, 77, rfl⟩
abbrev main_c_7 : Ref sig .tc := ⟨.hbm, 78, rfl⟩
abbrev main_call3_v0 : Ref sig .tc := ⟨.hbm, 79, rfl⟩
abbrev main_v59 : Ref sig .tc := ⟨.hbm, 80, rfl⟩
abbrev main_v60_0 : Ref sig .tc := ⟨.hbm, 81, rfl⟩
abbrev main_v60_1 : Ref sig .tc := ⟨.hbm, 82, rfl⟩
abbrev main_v60_2 : Ref sig .tc := ⟨.hbm, 83, rfl⟩
abbrev main_v60_3 : Ref sig .tc := ⟨.hbm, 84, rfl⟩
abbrev main_v60_4 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c512_i32 : BitVec 32 := 512#32
  let v72 : BitVec 32 := Scalar.muli arg1 c512_i32
  v72
def k0_off1 (i : grid0.Coords) : Fin 2 → Nat :=
  let arg1 : BitVec 32 := BitVec.ofNat 32 (i 1).val
  let c512_i32 : BitVec 32 := 512#32
  let v72 : BitVec 32 := Scalar.muli arg1 c512_i32
  let v73 : BitVec 32 := v72
  let v74 : Index := Scalar.indexCast v73
  let c0_30 : Index := 0#32
  ![v74.toNat, 0]
def k0_off2 (i : grid0.Coords) : Fin 2 → Nat :=
  let c0_32 : Index := 0#32
  let arg1 : BitVec 32 := BitVec.ofNat 32 (i 1).val
  let c512_i32 : BitVec 32 := 512#32
  let v72 : BitVec 32 := Scalar.muli arg1 c512_i32
  let v73 : BitVec 32 := v72
  let v80 : Index := Scalar.indexCast v73
  ![0, v80.toNat]
def k0_off3 (i : grid0.Coords) : Fin 3 → Nat :=
  let c0_34 : Index := 0#32
  let c0_35 : Index := 0#32
  let arg1 : BitVec 32 := BitVec.ofNat 32 (i 1).val
  let c512_i32 : BitVec 32 := 512#32
  let v72 : BitVec 32 := Scalar.muli arg1 c512_i32
  let v73 : BitVec 32 := v72
  let v86 : Index := Scalar.indexCast v73
  ![0, 0, v86.toNat]
def k0_off4 (i : grid0.Coords) : Fin 3 → Nat :=
  let c0_70 : Index := 0#32
  let c1 : Index := 1#32
  let arg1 : BitVec 32 := BitVec.ofNat 32 (i 1).val
  let c512_i32 : BitVec 32 := 512#32
  let v72 : BitVec 32 := Scalar.muli arg1 c512_i32
  let v73 : BitVec 32 := v72
  let v148 : Index := Scalar.indexCast v73
  ![0, 1, v148.toNat]
@[reducible] def k0_t1_loop (i : grid0.Coords) : Scf.Loop 32 :=
  let arg1 : BitVec 32 := BitVec.ofNat 32 (i 1).val
  let c1_i32_105 : BitVec 32 := 1#32
  let v210 : BitVec 32 := Scalar.addi arg1 c1_i32_105
  let c32_i32 : BitVec 32 := 32#32
  let v211 : BitVec 32 := Scalar.subi c32_i32 v210
  let c1_i32_107 : BitVec 32 := 1#32
  let v213 : BitVec 32 := Scalar.divsi v211 c1_i32_107
  let v214 : BitVec 32 := Scalar.muli v213 c1_i32_107
  let v215 : BitVec 32 := Scalar.addi v210 v214
  let c1_i32_108 : BitVec 32 := 1#32
  ⟨v210, v215, c1_i32_108⟩
def k0_mult2 (i : grid0.Coords) (k0_t1 : Fin (k0_t1_loop i).trips) : BitVec 32 :=
  let arg1 : BitVec 32 := BitVec.ofNat 32 (i 1).val
  let c1_i32_105 : BitVec 32 := 1#32
  let v210 : BitVec 32 := Scalar.addi arg1 c1_i32_105
  let c1_i32_108 : BitVec 32 := 1#32
  let arg20 : BitVec 32 := Scf.iv v210 c1_i32_108 k0_t1
  let c512_i32_142 : BitVec 32 := 512#32
  let v268 : BitVec 32 := Scalar.muli arg20 c512_i32_142
  v268
def k0_off5 (i : grid0.Coords) (k0_t1 : Fin (k0_t1_loop i).trips) : Fin 2 → Nat :=
  let arg1 : BitVec 32 := BitVec.ofNat 32 (i 1).val
  let c1_i32_105 : BitVec 32 := 1#32
  let v210 : BitVec 32 := Scalar.addi arg1 c1_i32_105
  let c1_i32_108 : BitVec 32 := 1#32
  let arg20 : BitVec 32 := Scf.iv v210 c1_i32_108 k0_t1
  let c512_i32_142 : BitVec 32 := 512#32
  let v268 : BitVec 32 := Scalar.muli arg20 c512_i32_142
  let v269 : BitVec 32 := v268
  let v270 : Index := Scalar.indexCast v269
  let c0_143 : Index := 0#32
  ![v270.toNat, 0]
def k0_off6 (i : grid0.Coords) (k0_t1 : Fin (k0_t1_loop i).trips) : Fin 2 → Nat :=
  let c0_145 : Index := 0#32
  let arg1 : BitVec 32 := BitVec.ofNat 32 (i 1).val
  let c1_i32_105 : BitVec 32 := 1#32
  let v210 : BitVec 32 := Scalar.addi arg1 c1_i32_105
  let c1_i32_108 : BitVec 32 := 1#32
  let arg20 : BitVec 32 := Scf.iv v210 c1_i32_108 k0_t1
  let c512_i32_142 : BitVec 32 := 512#32
  let v268 : BitVec 32 := Scalar.muli arg20 c512_i32_142
  let v269 : BitVec 32 := v268
  let v276 : Index := Scalar.indexCast v269
  ![0, v276.toNat]
def k0_off7 (i : grid0.Coords) (k0_t1 : Fin (k0_t1_loop i).trips) : Fin 3 → Nat :=
  let c0_147 : Index := 0#32
  let c0_148 : Index := 0#32
  let arg1 : BitVec 32 := BitVec.ofNat 32 (i 1).val
  let c1_i32_105 : BitVec 32 := 1#32
  let v210 : BitVec 32 := Scalar.addi arg1 c1_i32_105
  let c1_i32_108 : BitVec 32 := 1#32
  let arg20 : BitVec 32 := Scf.iv v210 c1_i32_108 k0_t1
  let c512_i32_142 : BitVec 32 := 512#32
  let v268 : BitVec 32 := Scalar.muli arg20 c512_i32_142
  let v269 : BitVec 32 := v268
  let v282 : Index := Scalar.indexCast v269
  ![0, 0, v282.toNat]
def k0_off8 (i : grid0.Coords) (k0_t1 : Fin (k0_t1_loop i).trips) : Fin 3 → Nat :=
  let c0_182 : Index := 0#32
  let c1_183 : Index := 1#32
  let arg1 : BitVec 32 := BitVec.ofNat 32 (i 1).val
  let c1_i32_105 : BitVec 32 := 1#32
  let v210 : BitVec 32 := Scalar.addi arg1 c1_i32_105
  let c1_i32_108 : BitVec 32 := 1#32
  let arg20 : BitVec 32 := Scf.iv v210 c1_i32_108 k0_t1
  let c512_i32_142 : BitVec 32 := 512#32
  let v268 : BitVec 32 := Scalar.muli arg20 c512_i32_142
  let v269 : BitVec 32 := v268
  let v339 : Index := Scalar.indexCast v269
  ![0, 1, v339.toNat]
@[reducible] def k0_t2_loop (i : grid0.Coords) : Scf.Loop 32 :=
  let arg1 : BitVec 32 := BitVec.ofNat 32 (i 1).val
  let c1_i32_105 : BitVec 32 := 1#32
  let v210 : BitVec 32 := Scalar.addi arg1 c1_i32_105
  let c32_i32 : BitVec 32 := 32#32
  let v211 : BitVec 32 := Scalar.subi c32_i32 v210
  let c1_i32_107 : BitVec 32 := 1#32
  let v213 : BitVec 32 := Scalar.divsi v211 c1_i32_107
  let v214 : BitVec 32 := Scalar.muli v213 c1_i32_107
  let v215 : BitVec 32 := Scalar.addi v210 v214
  let v212 : BitVec 32 := Scalar.addi v210 v211
  let c1_i32_109 : BitVec 32 := 1#32
  ⟨v215, v212, c1_i32_109⟩
def k0_mult3 (i : grid0.Coords) (k0_t2 : Fin (k0_t2_loop i).trips) : BitVec 32 :=
  let arg1 : BitVec 32 := BitVec.ofNat 32 (i 1).val
  let c1_i32_105 : BitVec 32 := 1#32
  let v210 : BitVec 32 := Scalar.addi arg1 c1_i32_105
  let c32_i32 : BitVec 32 := 32#32
  let v211 : BitVec 32 := Scalar.subi c32_i32 v210
  let c1_i32_107 : BitVec 32 := 1#32
  let v213 : BitVec 32 := Scalar.divsi v211 c1_i32_107
  let v214 : BitVec 32 := Scalar.muli v213 c1_i32_107
  let v215 : BitVec 32 := Scalar.addi v210 v214
  let c1_i32_109 : BitVec 32 := 1#32
  let arg20 : BitVec 32 := Scf.iv v215 c1_i32_109 k0_t2
  let c512_i32_142 : BitVec 32 := 512#32
  let v268 : BitVec 32 := Scalar.muli arg20 c512_i32_142
  v268
def k0_off9 (i : grid0.Coords) (k0_t2 : Fin (k0_t2_loop i).trips) : Fin 2 → Nat :=
  let arg1 : BitVec 32 := BitVec.ofNat 32 (i 1).val
  let c1_i32_105 : BitVec 32 := 1#32
  let v210 : BitVec 32 := Scalar.addi arg1 c1_i32_105
  let c32_i32 : BitVec 32 := 32#32
  let v211 : BitVec 32 := Scalar.subi c32_i32 v210
  let c1_i32_107 : BitVec 32 := 1#32
  let v213 : BitVec 32 := Scalar.divsi v211 c1_i32_107
  let v214 : BitVec 32 := Scalar.muli v213 c1_i32_107
  let v215 : BitVec 32 := Scalar.addi v210 v214
  let c1_i32_109 : BitVec 32 := 1#32
  let arg20 : BitVec 32 := Scf.iv v215 c1_i32_109 k0_t2
  let c512_i32_142 : BitVec 32 := 512#32
  let v268 : BitVec 32 := Scalar.muli arg20 c512_i32_142
  let v269 : BitVec 32 := v268
  let v270 : Index := Scalar.indexCast v269
  let c0_143 : Index := 0#32
  ![v270.toNat, 0]
def k0_off10 (i : grid0.Coords) (k0_t2 : Fin (k0_t2_loop i).trips) : Fin 2 → Nat :=
  let c0_145 : Index := 0#32
  let arg1 : BitVec 32 := BitVec.ofNat 32 (i 1).val
  let c1_i32_105 : BitVec 32 := 1#32
  let v210 : BitVec 32 := Scalar.addi arg1 c1_i32_105
  let c32_i32 : BitVec 32 := 32#32
  let v211 : BitVec 32 := Scalar.subi c32_i32 v210
  let c1_i32_107 : BitVec 32 := 1#32
  let v213 : BitVec 32 := Scalar.divsi v211 c1_i32_107
  let v214 : BitVec 32 := Scalar.muli v213 c1_i32_107
  let v215 : BitVec 32 := Scalar.addi v210 v214
  let c1_i32_109 : BitVec 32 := 1#32
  let arg20 : BitVec 32 := Scf.iv v215 c1_i32_109 k0_t2
  let c512_i32_142 : BitVec 32 := 512#32
  let v268 : BitVec 32 := Scalar.muli arg20 c512_i32_142
  let v269 : BitVec 32 := v268
  let v276 : Index := Scalar.indexCast v269
  ![0, v276.toNat]
def k0_off11 (i : grid0.Coords) (k0_t2 : Fin (k0_t2_loop i).trips) : Fin 3 → Nat :=
  let c0_147 : Index := 0#32
  let c0_148 : Index := 0#32
  let arg1 : BitVec 32 := BitVec.ofNat 32 (i 1).val
  let c1_i32_105 : BitVec 32 := 1#32
  let v210 : BitVec 32 := Scalar.addi arg1 c1_i32_105
  let c32_i32 : BitVec 32 := 32#32
  let v211 : BitVec 32 := Scalar.subi c32_i32 v210
  let c1_i32_107 : BitVec 32 := 1#32
  let v213 : BitVec 32 := Scalar.divsi v211 c1_i32_107
  let v214 : BitVec 32 := Scalar.muli v213 c1_i32_107
  let v215 : BitVec 32 := Scalar.addi v210 v214
  let c1_i32_109 : BitVec 32 := 1#32
  let arg20 : BitVec 32 := Scf.iv v215 c1_i32_109 k0_t2
  let c512_i32_142 : BitVec 32 := 512#32
  let v268 : BitVec 32 := Scalar.muli arg20 c512_i32_142
  let v269 : BitVec 32 := v268
  let v282 : Index := Scalar.indexCast v269
  ![0, 0, v282.toNat]
def k0_off12 (i : grid0.Coords) (k0_t2 : Fin (k0_t2_loop i).trips) : Fin 3 → Nat :=
  let c0_182 : Index := 0#32
  let c1_183 : Index := 1#32
  let arg1 : BitVec 32 := BitVec.ofNat 32 (i 1).val
  let c1_i32_105 : BitVec 32 := 1#32
  let v210 : BitVec 32 := Scalar.addi arg1 c1_i32_105
  let c32_i32 : BitVec 32 := 32#32
  let v211 : BitVec 32 := Scalar.subi c32_i32 v210
  let c1_i32_107 : BitVec 32 := 1#32
  let v213 : BitVec 32 := Scalar.divsi v211 c1_i32_107
  let v214 : BitVec 32 := Scalar.muli v213 c1_i32_107
  let v215 : BitVec 32 := Scalar.addi v210 v214
  let c1_i32_109 : BitVec 32 := 1#32
  let arg20 : BitVec 32 := Scf.iv v215 c1_i32_109 k0_t2
  let c512_i32_142 : BitVec 32 := 512#32
  let v268 : BitVec 32 := Scalar.muli arg20 c512_i32_142
  let v269 : BitVec 32 := v268
  let v339 : Index := Scalar.indexCast v269
  ![0, 1, v339.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x16384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S16384x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S128x16384 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S128x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x16384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S16384x512 : Shape := ⟨2, ![16384, 512]⟩
abbrev S16384x8 : Shape := ⟨2, ![16384, 8]⟩
abbrev S16384x8x64 : Shape := ⟨3, ![16384, 8, 64]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S8x64x16384 : Shape := ⟨3, ![8, 64, 16384]⟩
abbrev S8x16384x64 : Shape := ⟨3, ![8, 16384, 64]⟩
abbrev S4 : Shape := ⟨1, ![4]⟩
abbrev S4x1x1 : Shape := ⟨3, ![4, 1, 1]⟩
abbrev S128 : Shape := ⟨1, ![128]⟩
abbrev S1x1x128 : Shape := ⟨3, ![1, 1, 128]⟩
abbrev S4x1x128 : Shape := ⟨3, ![4, 1, 128]⟩
abbrev S16384x128 : Shape := ⟨2, ![16384, 128]⟩
abbrev S1x16384x128 : Shape := ⟨3, ![1, 16384, 128]⟩
abbrev S4x16384x128 : Shape := ⟨3, ![4, 16384, 128]⟩
abbrev S512x16384 : Shape := ⟨2, ![512, 16384]⟩
abbrev S4x2x16384 : Shape := ⟨3, ![4, 2, 16384]⟩
abbrev S4x8x16384 : Shape := ⟨3, ![4, 8, 16384]⟩

abbrev nBuf : Space → Nat
  | .hbm => 160
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x8, .f32⟩
  | 4 => ⟨S16384x512, .f32⟩
  | 5 => ⟨S16384x8x64, .f32⟩
  | 6 => ⟨S16384x8x64, .f32⟩
  | 7 => ⟨S8x16384x16384, .f32⟩
  | 8 => ⟨S_, .f32⟩
  | 9 => ⟨S8x16384x16384, .f32⟩
  | 10 => ⟨S8x16384x16384, .f32⟩
  | 11 => ⟨S8x16384, .f32⟩
  | 12 => ⟨S8x16384x1, .f32⟩
  | 13 => ⟨S8x16384x16384, .f32⟩
  | 14 => ⟨S8x16384x16384, .f32⟩
  | 15 => ⟨S8x16384, .f32⟩
  | 16 => ⟨S8x1x16384, .f32⟩
  | 17 => ⟨S8x16384x16384, .f32⟩
  | 18 => ⟨S8x16384x16384, .f32⟩
  | 19 => ⟨S16384, .i32⟩
  | 20 => ⟨S16384x1, .i32⟩
  | 21 => ⟨S16384, .i32⟩
  | 22 => ⟨S1x16384, .i32⟩
  | 23 => ⟨S16384x16384, .i32⟩
  | 24 => ⟨S16384x16384, .i32⟩
  | 25 => ⟨S16384x16384, .i1⟩
  | 26 => ⟨S_, .f32⟩
  | 27 => ⟨S_, .f32⟩
  | 28 => ⟨S8x16384x16384, .i1⟩
  | 29 => ⟨S8x16384x16384, .f32⟩
  | 30 => ⟨S8x16384x16384, .f32⟩
  | 31 => ⟨S_, .f32⟩
  | 32 => ⟨S8x16384x16384, .f32⟩
  | 33 => ⟨S_, .f32⟩
  | 34 => ⟨S8x16384, .f32⟩
  | 35 => ⟨S8x16384x1, .f32⟩
  | 36 => ⟨S8x16384x16384, .f32⟩
  | 37 => ⟨S8x16384x16384, .i1⟩
  | 38 => ⟨S8x16384x16384, .f32⟩
  | 39 => ⟨S_, .f32⟩
  | 40 => ⟨S8x16384, .f32⟩
  | 41 => ⟨S_, .f32⟩
  | 42 => ⟨S8x16384, .f32⟩
  | 43 => ⟨S8x16384, .f32⟩
  | 44 => ⟨S_, .f32⟩
  | 45 => ⟨S8x16384, .f32⟩
  | 46 => ⟨S8x16384, .i1⟩
  | 47 => ⟨S_, .f32⟩
  | 48 => ⟨S8x16384, .f32⟩
  | 49 => ⟨S8x16384, .i1⟩
  | 50 => ⟨S_, .f32⟩
  | 51 => ⟨S8x16384, .f32⟩
  | 52 => ⟨S_, .f32⟩
  | 53 => ⟨S8x16384, .f32⟩
  | 54 => ⟨S_, .f32⟩
  | 55 => ⟨S8x16384, .f32⟩
  | 56 => ⟨S8x16384, .f32⟩
  | 57 => ⟨S8x16384, .f32⟩
  | 58 => ⟨S8x16384x1, .f32⟩
  | 59 => ⟨S8x16384x16384, .f32⟩
  | 60 => ⟨S8x16384x16384, .f32⟩
  | 61 => ⟨S8x16384x16384, .f32⟩
  | 62 => ⟨S_, .f32⟩
  | 63 => ⟨S8x16384, .f32⟩
  | 64 => ⟨S8x16384x1, .f32⟩
  | 65 => ⟨S8x16384x16384, .f32⟩
  | 66 => ⟨S8x16384x16384, .f32⟩
  | 67 => ⟨S8x16384x1, .f32⟩
  | 68 => ⟨S_, .f32⟩
  | 69 => ⟨S8x16384x1, .f32⟩
  | 70 => ⟨S8x16384x1, .f32⟩
  | 71 => ⟨S16384x8x64, .f32⟩
  | 72 => ⟨S8x64x16384, .f32⟩
  | 73 => ⟨S16384x8x64, .f32⟩
  | 74 => ⟨S16384x512, .f32⟩
  | 75 => ⟨S16384x8x64, .f32⟩
  | 76 => ⟨S8x64x16384, .f32⟩
  | 77 => ⟨S8x16384x16384, .f32⟩
  | 78 => ⟨S8x64x16384, .f32⟩
  | 79 => ⟨S16384x8x64, .f32⟩
  | 80 => ⟨S16384x512, .f32⟩
  | 81 => ⟨S8x16384x16384, .f32⟩
  | 82 => ⟨S8x16384x16384, .f32⟩
  | 83 => ⟨S8x16384x16384, .f32⟩
  | 84 => ⟨S_, .f32⟩
  | 85 => ⟨S8x16384, .f32⟩
  | 86 => ⟨S8x16384x1, .f32⟩
  | 87 => ⟨S8x16384x1, .f32⟩
  | 88 => ⟨S8x16384x16384, .f32⟩
  | 89 => ⟨S8x16384x16384, .f32⟩
  | 90 => ⟨S_, .f32⟩
  | 91 => ⟨S8x16384, .f32⟩
  | 92 => ⟨S8x16384x16384, .f32⟩
  | 93 => ⟨S8x16384x16384, .f32⟩
  | 94 => ⟨S8x16384x16384, .f32⟩
  | 95 => ⟨S_, .f32⟩
  | 96 => ⟨S8x16384x16384, .f32⟩
  | 97 => ⟨S8x16384x16384, .f32⟩
  | 98 => ⟨S8x16384x16384, .f32⟩
  | 99 => ⟨S_, .f32⟩
  | 100 => ⟨S8x16384, .f32⟩
  | 101 => ⟨S8x1x16384, .f32⟩
  | 102 => ⟨S_, .f32⟩
  | 103 => ⟨S8x16384, .f32⟩
  | 104 => ⟨S16384x8, .f32⟩
  | 105 => ⟨S_, .f32⟩
  | 106 => ⟨S8x16384, .f32⟩
  | 107 => ⟨S8x16384x1, .f32⟩
  | 108 => ⟨S_, .f32⟩
  | 109 => ⟨S8x16384, .f32⟩
  | 110 => ⟨S16384x8, .f32⟩
  | 111 => ⟨S_, .f32⟩
  | 112 => ⟨S8x16384x16384, .f32⟩
  | 113 => ⟨S8x16384x16384, .f32⟩
  | 114 => ⟨S8x16384x64, .f32⟩
  | 115 => ⟨S16384x8x64, .f32⟩
  | 116 => ⟨S8x16384x64, .f32⟩
  | 117 => ⟨S16384x8x64, .f32⟩
  | 118 => ⟨S16384x512, .f32⟩
  | 119 => ⟨S16384x512, .f32⟩
  | 120 => ⟨S4, .i32⟩
  | 121 => ⟨S4x1x1, .i32⟩
  | 122 => ⟨S128, .i32⟩
  | 123 => ⟨S1x1x128, .i32⟩
  | 124 => ⟨S_, .i32⟩
  | 125 => ⟨S4x1x1, .i32⟩
  | 126 => ⟨S4x1x1, .i32⟩
  | 127 => ⟨S4x1x128, .i32⟩
  | _ => ⟨S16384x512, .f32⟩

abbrev hbmTy0_1 (i : Nat) : BufTy := match i % 128 with
  | 0 => ⟨S4x1x128, .i32⟩
  | 1 => ⟨S4x1x128, .i1⟩
  | 2 => ⟨S_, .i32⟩
  | 3 => ⟨S4x1x1, .i32⟩
  | 4 => ⟨S4x1x1, .i32⟩
  | 5 => ⟨S_, .i32⟩
  | 6 => ⟨S4x1x1, .i32⟩
  | 7 => ⟨S4x1x1, .i32⟩
  | 8 => ⟨S4x1x128, .i32⟩
  | 9 => ⟨S4x1x128, .i32⟩
  | 10 => ⟨S4x1x128, .i1⟩
  | 11 => ⟨S4x1x128, .i1⟩
  | 12 => ⟨S_, .i32⟩
  | 13 => ⟨S_, .f32⟩
  | 14 => ⟨S16384x128, .f32⟩
  | 15 => ⟨S1x16384x128, .f32⟩
  | 16 => ⟨S_, .f32⟩
  | 17 => ⟨S_, .f32⟩
  | 18 => ⟨S4x16384x128, .i1⟩
  | 19 => ⟨S4x16384x128, .f32⟩
  | 20 => ⟨S4x16384x128, .f32⟩
  | 21 => ⟨S4x16384x128, .f32⟩
  | 22 => ⟨S512x16384, .f32⟩
  | 23 => ⟨S512x16384, .f32⟩
  | 24 => ⟨S512x16384, .bf16⟩
  | 25 => ⟨S512x16384, .f32⟩
  | 26 => ⟨S512x16384, .bf16⟩
  | 27 => ⟨S8x16384, .f32⟩
  | 28 => ⟨S4x2x16384, .f32⟩
  | 29 => ⟨S_, .i32⟩
  | 30 => ⟨S_, .f32⟩
  | 31 => ⟨S4x8x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_18 : Ref sig .tc := ⟨.hbm, 130, rfl⟩
abbrev main_v98 : Ref sig .tc := ⟨.hbm, 131, rfl⟩
abbrev main_v99 : Ref sig .tc := ⟨.hbm, 132, rfl⟩
abbrev main_c_19 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_20 : Ref sig .tc := ⟨.hbm, 140, rfl⟩
abbrev main_call2_v0 : Ref sig .tc := ⟨.hbm, 141, rfl⟩
abbrev main_v106 : Ref sig .tc := ⟨.hbm, 142, rfl⟩
abbrev main_v107 : Ref sig .tc := ⟨.hbm, 143, rfl⟩
abbrev main_cst_21 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_call3_v3 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_22 : Ref sig .tc := ⟨.hbm, 157, rfl⟩
abbrev main_call4_v0 : Ref sig .tc := ⟨.hbm, 158, rfl⟩
abbrev main_v116 : Ref sig .tc := ⟨.hbm, 159, rfl⟩

abbrev nD : Nat := 1
abbrev τ : Topo := Topo.v7x

variable {F : FTy → Type} [FloatOps F]
-- ==== Kernel3.lean ====
abbrev S16384x1024 : Shape := ⟨2, ![16384, 1024]⟩
abbrev S16384x5632 : Shape := ⟨2, ![16384, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x5632, .bf16⟩
  | .hbm, ⟨2, _⟩ => ⟨S1024x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S16384x5632, .f32⟩
  | .hbm, ⟨6, _⟩ => ⟨S5632x1024, .f32⟩
  | .hbm, ⟨7, _⟩ => ⟨S1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16384x2816 : Shape := ⟨2, ![16384, 2816]⟩
abbrev S16384x1024 : Shape := ⟨2, ![16384, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel2.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .hbm, ⟨8, _⟩ => ⟨S16384x1024, .f32⟩
  | .hbm, ⟨9, _⟩ => ⟨S16384x2816, .bf16⟩
  | .hbm, ⟨10, _⟩ => ⟨S16384x2816, .bf16⟩
  | .hbm, ⟨11, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S16384x5632 : Shape := ⟨2, ![16384, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S16384x5632, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x2816, .bf16⟩
  | .hbm, ⟨52, _⟩ => ⟨S16384x2816, .bf16⟩
  | .hbm, ⟨53, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Kernel5.lean ====
abbrev S16384x1024 : Shape := ⟨2, ![16384, 1024]⟩
abbrev S512x16384 : Shape := ⟨2, ![512, 16384]⟩
abbrev S16384x1536 : Shape := ⟨2, ![16384, 1536]⟩
abbrev S16384x128 : Shape := ⟨2, ![16384, 128]⟩
abbrev S1024x3080 : Shape := ⟨2, ![1024, 3080]⟩
abbrev S1024x8 : Shape := ⟨2, ![1024, 8]⟩
abbrev S_ : Shape := ⟨0, ![]⟩
abbrev S1024x128 : Shape := ⟨2, ![1024, 128]⟩
abbrev S1024x1536 : Shape := ⟨2, ![1024, 1536]⟩
abbrev S1536x1024 : Shape := ⟨2, ![1536, 1024]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S512x16384, .f32⟩
  | .hbm, ⟨2, _⟩ => ⟨S512x16384, .bf16⟩
  | .hbm, ⟨3, _⟩ => ⟨S512x16384, .bf16⟩
  | .hbm, ⟨4, _⟩ => ⟨S16384x1536, .bf16⟩
  | .hbm, ⟨5, _⟩ => ⟨S16384x128, .bf16⟩
  | .hbm, ⟨6, _⟩ => ⟨S1024x3080, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x1536, .f32⟩
  | .hbm, ⟨12, _⟩ => ⟨S1024x1536, .bf16⟩
  | .hbm, ⟨13, _⟩ => ⟨S1536x1024, .bf16⟩
  | .hbm, ⟨14, _⟩ => ⟨S1024x1536, .f32⟩
  | .hbm, ⟨15, _⟩ => ⟨S1024x1536, .bf16⟩
  | .hbm, ⟨16, _⟩ => ⟨S1024x128, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1536, .bf16⟩
  | .local _ .vmem, ⟨9, _⟩ => ⟨S512x1536, .bf16⟩
  | .local _ .vmem, ⟨10, _⟩ => ⟨S512x128, .bf16⟩
  | .local _ .vmem, ⟨11, _⟩ => ⟨S512x128, .bf16⟩
  | .local _ .vmem, ⟨12, _⟩ => ⟨S1536x1024, .bf16⟩
  | .local _ .vmem, ⟨13, _⟩ => ⟨S1024x1536, .bf16⟩
  | .local _ .vmem, ⟨14, _⟩ => ⟨S1024x128, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S512x16384 : Shape := ⟨2, ![512, 16384]⟩
abbrev S16384x1536 : Shape := ⟨2, ![16384, 1536]⟩
abbrev S16384x128 : Shape := ⟨2, ![16384, 128]⟩
abbrev S1024x3080 : Shape := ⟨2, ![1024, 3080]⟩
abbrev S16384x512 : Shape := ⟨2, ![16384, 512]⟩
abbrev S16384x8 : Shape := ⟨2, ![16384, 8]⟩
abbrev S_ : Shape := ⟨0, ![]⟩
abbrev S1024x512 : Shape := ⟨2, ![1024, 512]⟩
abbrev S1024x8 : Shape := ⟨2, ![1024, 8]⟩
abbrev S1024x1536 : Shape := ⟨2, ![1024, 1536]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x16384, .f32⟩
  | .hbm, ⟨2, _⟩ => ⟨S512x16384, .bf16⟩
  | .hbm, ⟨3, _⟩ => ⟨S512x16384, .bf16⟩
  | .hbm, ⟨4, _⟩ => ⟨S16384x1536, .bf16⟩
  | .hbm, ⟨5, _⟩ => ⟨S16384x128, .bf16⟩
  | .hbm, ⟨6, _⟩ => ⟨S1024x3080, .f32⟩
  | .hbm, ⟨7, _⟩ => ⟨S16384x512, .f32⟩
  | .hbm, ⟨8, _⟩ => ⟨S512x16384, .f32⟩
  | .hbm, ⟨9, _⟩ => ⟨S16384x512, .f32⟩
  | .hbm, ⟨10, _⟩ => ⟨S512x16384, .f32⟩
  | .hbm, ⟨11, _⟩ => ⟨S16384x512, .f32⟩
  | .hbm, ⟨12, _⟩ => ⟨S16384x128, .f32⟩
  | .hbm, ⟨13, _⟩ => ⟨S16384x8, .f32⟩
  | .hbm, ⟨14, _⟩ => ⟨S16384x1536, .f32⟩
  | .hbm, ⟨15, _⟩ => ⟨S_, .f32⟩
  | .hbm, ⟨16, _⟩ => ⟨S16384x1024, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x8, .f32⟩
  | .hbm, ⟨21, _⟩ => ⟨S1024x1536, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x8, .f32⟩
  | .hbm, ⟨26, _⟩ => ⟨S16384x1536, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S16384x5632 : Shape := ⟨2, ![16384, 5632]⟩
abbrev S16384x2816 : Shape := ⟨2, ![16384, 2816]⟩
abbrev S_ : Shape := ⟨0, ![]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1024 : Shape := ⟨1, ![1024]⟩
abbrev S256x256 : Shape := ⟨2, ![256, 256]⟩
abbrev S1024x256 : Shape := ⟨2, ![1024, 256]⟩

abbrev nBuf : Space → Nat
  | .hbm => 35
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S16384x1024, .f32⟩
  | .hbm, ⟨5, _⟩ => ⟨S16384x5632, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x2816, .bf16⟩
  | .hbm, ⟨27, _⟩ => ⟨S16384x2816, .bf16⟩
  | .hbm, ⟨28, _⟩ => ⟨S1024x5632, .bf16⟩
  | .hbm, ⟨29, _⟩ => ⟨S2816x1024, .bf16⟩
  | .hbm, ⟨30, _⟩ => ⟨S16384x1024, .f32⟩
  | .hbm, ⟨31, _⟩ => ⟨S16384x5632, .bf16⟩
  | .hbm, ⟨32, _⟩ => ⟨S16384x1024, .bf16⟩
  | .hbm, ⟨33, _⟩ => ⟨S1x1024, .f32⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x5632, .bf16⟩
  | .local _ .vmem, ⟨14, _⟩ => ⟨S256x5632, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev main_v15_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference8Ideal.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S16384x5632 : Shape := ⟨2, ![16384, 5632]⟩
abbrev S16384x2816 : Shape := ⟨2, ![16384, 2816]⟩
abbrev S16384 : Shape := ⟨1, ![16384]⟩
abbrev S16384x1 : Shape := ⟨2, ![16384, 1]⟩
abbrev S1024 : Shape := ⟨1, ![1024]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S16384x1024, .f32⟩
  | .hbm, ⟨5, _⟩ => ⟨S_, .f32⟩
  | .hbm, ⟨6, _⟩ => ⟨S16384x5632, .f32⟩
  | .hbm, ⟨7, _⟩ => ⟨S_, .f32⟩
  | .hbm, ⟨8, _⟩ => ⟨S16384x1024, .f32⟩
  | .hbm, ⟨9, _⟩ => ⟨S_, .f32⟩
  | .hbm, ⟨10, _⟩ => ⟨S1x1024, .f32⟩
  | .hbm, ⟨11, _⟩ => ⟨S16384x5632, .f32⟩
  | .hbm, ⟨12, _⟩ => ⟨S16384x5632, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S_, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S_, .f32⟩
  | .hbm, ⟨102, _⟩ => ⟨S16384, .f32⟩
  | .hbm, ⟨103, _⟩ => ⟨S16384x1024, .f32⟩
  | .hbm, ⟨104, _⟩ => ⟨S16384x1024, .f32⟩
  | .hbm, ⟨105, _⟩ => ⟨S_, .f32⟩
  | .hbm, ⟨106, _⟩ => ⟨S16384x1024, .f32⟩
  | .hbm, ⟨107, _⟩ => ⟨S16384x1024, .f32⟩
  | .hbm, ⟨108, _⟩ => ⟨S_, .f32⟩
  | .hbm, ⟨109, _⟩ => ⟨S16384x1024, .f32⟩
  | .hbm, ⟨110, _⟩ => ⟨S16384x1024, .f32⟩
  | .hbm, ⟨111, _⟩ => ⟨S16384x2816, .f32⟩
  | .hbm, ⟨112, _⟩ => ⟨S16384x2816, .f32⟩
  | .hbm, ⟨113, _⟩ => ⟨S16384x2816, .f32⟩
  | .hbm, ⟨114, _⟩ => ⟨S16384x2816, .f32⟩
  | .hbm, ⟨115, _⟩ => ⟨S16384x2816, .f32⟩
  | .hbm, ⟨116, _⟩ => ⟨S16384x2816, .f32⟩
  | .hbm, ⟨117, _⟩ => ⟨S16384x2816, .f32⟩
  | .hbm, ⟨118, _⟩ => ⟨S16384x5632, .f32⟩
  | .hbm, ⟨119, _⟩ => ⟨S16384x1024, .f32⟩
  | .hbm, ⟨120, _⟩ => ⟨S16384x1024, .f32⟩
  | .hbm, ⟨121, _⟩ => ⟨S16384x5632, .bf16⟩
  | .hbm, ⟨122, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v7_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v7_1 : Ref sig .tc := ⟨.hbm, 26, rfl⟩
abbrev main_v7_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_9 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_11 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_15 : Ref sig .tc := ⟨.hbm, 95, rfl⟩
abbrev main_v62 : Ref sig .tc := ⟨.hbm, 96, rfl⟩
abbrev main_v63 : Ref sig .tc := ⟨.hbm, 97, rfl⟩
abbrev main_cst_16 : Ref sig .tc := ⟨.hbm, 98, rfl⟩
abbrev main_v64 : Ref sig .tc := ⟨.hbm, 99, rfl⟩
abbrev main_v65 : Ref sig .tc := ⟨.hbm, 100, rfl⟩
abbrev main_cst_17 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_18 : Ref sig .tc := ⟨.hbm, 105, rfl⟩
abbrev main_v69 : Ref sig .tc := ⟨.hbm, 106, rfl⟩
abbrev main_v70 : Ref sig .tc := ⟨.hbm, 107, rfl⟩
abbrev main_cst_19 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩

abbrev nD : Nat := 1
abbrev τ : Topo := Topo.v7x

variable {F : FTy → Type} [FloatOps F]
-- ==== Proof.Words.lean ====
/- The printed program with its arguments as words: it changes no argument array and leaves every semaphore counter at zero.
   What it writes in its five results is not stated here, so the body is walked with the results at unnamed contents. -/
module

public import proofs.«01_k».proof.Proof.Gen.Kernel.Frame
public import proofs.«01_k».proof.Proof.Gen.Kernel.Skeleton
public import proofs.«01_k».proof.Proof.Gen.Kernel.Loops
public import Idealize.ShloMosaic.Lib.WordCmp
public import Idealize.ShloMosaic.Lib.Claim

@[expose] public section

set_option maxRecDepth 16384

noncomputable section

namespace Cert.Kernel.Words

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The body holds its ten inputs at `x0` … `x9` and its results and scratch arrays at some contents. -/
def Held (c : Dev nD) (arg2 : Memref sig .tc .vmem S16384x128 .bf16) (arg3 : Memref sig .tc .vmem S512x128 .bf16) (arg4 : Memref sig .tc .vmem S128x512 .bf16) (arg5 : Memref sig .tc .vmem S512x128 .bf16) (arg6 : Memref sig .tc .vmem S512x128 .f32) (arg7 : Memref sig .tc .vmem S1x8x16384 .f32) (arg8 : Memref sig .tc .vmem S1x8x16384 .f32) (arg9 : Memref sig .tc .vmem S128x16384 .bf16) (arg10 : Memref sig .tc .vmem S16384x128 .bf16) (arg11 : Memref sig .tc .vmem S128x16384 .bf16) (arg12 : Memref sig .tc .vmem S128x16384 .f32) (arg13 : Memref sig .tc .vmem S128x512 .bf16) (arg14 : Memref sig .tc .vmem S128x512 .bf16) (arg15 : Memref sig .tc .vmem S1x512x128 .f32) (arg16 : Memref sig .tc .vmem S1x8x16384 .f32) (arg17 : Memref sig .tc .vmem S2x128x512 .f32) (arg18 : Memref sig .tc .vmem S2x128x512 .f32) (arg19 : Memref sig .tc .vmem S2x512x1 .f32)  (x0 : Vec F S16384x128 .bf16) (x1 : Vec F S512x128 .bf16) (x2 : Vec F S128x512 .bf16) (x3 : Vec F S512x128 .bf16) (x4 : Vec F S512x128 .f32) (x5 : Vec F S1x8x16384 .f32) (x6 : Vec F S1x8x16384 .f32) (x7 : Vec F S128x16384 .bf16) (x8 : Vec F S16384x128 .bf16) (x9 : Vec F S128x16384 .bf16) : sProp (MT nD τ sig Unit (Elt F) ℕ (UR sig nD τ) ℕ) :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

/-- The first block of keys of a pair of heads clears the two running results. -/
abbrev First (i : grid0.Coords) : Prop := (Scalar.cmpi .ne (Scalar.extui (Scalar.cmpi .eq (BitVec.ofNat 32 (i 1).val) 0#32)) 0#32) = 1#1
/-- The last block of keys rounds them off. -/
abbrev Last (i : grid0.Coords) : Prop := (Scalar.cmpi .ne (Scalar.extui (Scalar.cmpi .eq (BitVec.ofNat 32 (i 1).val) 31#32)) 0#32) = 1#1

theorem first_iff : ∀ t : Fin cfg0.N, First (grid0.coords t) ↔ t.val % 32 = 0 :=
  (fun t => by
    have ht : t.val < 128 := Nat.lt_of_lt_of_eq t.isLt N_0
    have e1 : (grid0.coords t 1).val = t.val / 1 % 32 := Pipeline.Grid.coords_val t 1 (by decide) rfl
    simp only [First, e1]
    word_cmp
   : ∀ t : Fin grid0.N, First (grid0.coords t) ↔ t.val % 32 = 0)

theorem last_iff : ∀ t : Fin cfg0.N, Last (grid0.coords t) ↔ t.val % 32 = 31 :=
  (fun t => by
    have ht : t.val < 128 := Nat.lt_of_lt_of_eq t.isLt N_0
    have e1 : (grid0.coords t 1).val = t.val / 1 % 32 := Pipeline.Grid.coords_val t 1 (by decide) rfl
    simp only [Last, e1]
    word_cmp
   : ∀ t : Fin grid0.N, Last (grid0.coords t) ↔ t.val % 32 = 31)

set_option maxHeartbeats 1000000 in
/-- At the first block of keys, the body keeps its inputs. -/
theorem walk_first (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : First i) (hc1 : ¬Last i)
    (x0 : Vec F S16384x128 .bf16) (x1 : Vec F S512x128 .bf16) (x2 : Vec F S128x512 .bf16) (x3 : Vec F S512x128 .bf16) (x4 : Vec F S512x128 .f32) (x5 : Vec F S1x8x16384 .f32) (x6 : Vec F S1x8x16384 .f32) (x7 : Vec F S128x16384 .bf16) (x8 : Vec F S16384x128 .bf16) (x9 : Vec F S128x16384 .bf16) (E : Set ℕ) (K : PUnit → sProp (MT nD τ sig Unit (Elt F) ℕ (UR sig nD τ) ℕ)) :
    iprop(Held c arg2 arg3 arg4 arg5 arg6 arg7 arg8 arg9 arg10 arg11 arg12 arg13 arg14 arg15 arg16 arg17 arg18 arg19 x0 x1 x2 x3 x4 x5 x6 x7 x8 x9 ∗ (Held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_bwd_eq_skeleton]; unfold cc0_attn_bwd_skel
  simp only [k0_part7_eq_skeleton, k0_part8_eq_skeleton, k0_part9_eq_skeleton, k0_part10_eq_skeleton, k0_part11_eq_skeleton, k0_part12_eq_skeleton, k0_part13_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

set_option maxHeartbeats 1000000 in
/-- Between the first and the last block of keys, the body keeps its inputs. -/
theorem walk_middle (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : ¬First i) (hc1 : ¬Last i)
    (x0 : Vec F S16384x128 .bf16) (x1 : Vec F S512x128 .bf16) (x2 : Vec F S128x512 .bf16) (x3 : Vec F S512x128 .bf16) (x4 : Vec F S512x128 .f32) (x5 : Vec F S1x8x16384 .f32) (x6 : Vec F S1x8x16384 .f32) (x7 : Vec F S128x16384 .bf16) (x8 : Vec F S16384x128 .bf16) (x9 : Vec F S128x16384 .bf16) (E : Set ℕ) (K : PUnit → sProp (MT nD τ sig Unit (Elt F) ℕ (UR sig nD τ) ℕ)) :
    iprop(Held c arg2 arg3 arg4 arg5 arg6 arg7 arg8 arg9 arg10 arg11 arg12 arg13 arg14 arg15 arg16 arg17 arg18 arg19 x0 x1 x2 x3 x4 x5 x6 x7 x8 x9 ∗ (Held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_bwd_eq_skeleton]; unfold cc0_attn_bwd_skel
  simp only [k0_part7_eq_skeleton, k0_part8_eq_skeleton, k0_part9_eq_skeleton, k0_part10_eq_skeleton, k0_part11_eq_skeleton, k0_part12_eq_skeleton, k0_part13_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

set_option maxHeartbeats 1000000 in
/-- At the last block of keys, the body keeps its inputs. -/
theorem walk_last (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : ¬First i) (hc1 : Last i)
    (x0 : Vec F S16384x128 .bf16) (x1 : Vec F S512x128 .bf16) (x2 : Vec F S128x512 .bf16) (x3 : Vec F S512x128 .bf16) (x4 : Vec F S512x128 .f32) (x5 : Vec F S1x8x16384 .f32) (x6 : Vec F S1x8x16384 .f32) (x7 : Vec F S128x16384 .bf16) (x8 : Vec F S16384x128 .bf16) (x9 : Vec F S128x16384 .bf16) (E : Set ℕ) (K : PUnit → sProp (MT nD τ sig Unit (Elt F) ℕ (UR sig nD τ) ℕ)) :
    iprop(Held c arg2 arg3 arg4 arg5 arg6 arg7 arg8 arg9 arg10 arg11 arg12 arg13 arg14 arg15 arg16 arg17 arg18 arg19 x0 x1 x2 x3 x4 x5 x6 x7 x8 x9 ∗ (Held c arg2 arg3 arg4 arg5 arg6 arg7 arg8 arg9 arg10 arg11 arg12 arg13 arg14 arg15 arg16 arg17 arg18 arg19 x0 x1 x2 x3 x4 x5 x6 x7 x8 x9 -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_bwd_eq_skeleton]; unfold cc0_attn_bwd_skel
  simp only [k0_part7_eq_skeleton, k0_part8_eq_skeleton, k0_part9_eq_skeleton, k0_part10_eq_skeleton, k0_part11_eq_skeleton, k0_part12_eq_skeleton, k0_part13_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

/-- The results' windows: nothing is said of what they hold. -/
def unsaid : Fin 15 → Bool := fun w => decide (10 ≤ w.val)

/-- The arrays as the region finds them; each input's buffer at its block, each result's at nothing in particular. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem aft_0 (c : Dev nD) (t : Fin cfg0.N) : (dats m 0 c).after 0 t = iblk m c 0 t := by dsimp only [dats]
theorem aft_1 (c : Dev nD) (t : Fin cfg0.N) : (dats m 0 c).after 1 t = iblk m c 1 t := by dsimp only [dats]
theorem aft_2 (c : Dev nD) (t : Fin cfg0.N) : (dats m 0 c).after 2 t = iblk m c 2 t := by dsimp only [dats]
theorem aft_3 (c : Dev nD) (t : Fin cfg0.N) : (dats m 0 c).after 3 t = iblk m c 3 t := by dsimp only [dats]
theorem aft_4 (c : Dev nD) (t : Fin cfg0.N) : (dats m 0 c).after 4 t = iblk m c 4 t := by dsimp only [dats]
theorem aft_5 (c : Dev nD) (t : Fin cfg0.N) : (dats m 0 c).after 5 t = iblk m c 5 t := by dsimp only [dats]
theorem aft_6 (c : Dev nD) (t : Fin cfg0.N) : (dats m 0 c).after 6 t = iblk m c 6 t := by dsimp only [dats]
theorem aft_7 (c : Dev nD) (t : Fin cfg0.N) : (dats m 0 c).after 7 t = iblk m c 7 t := by dsimp only [dats]
theorem aft_8 (c : Dev nD) (t : Fin cfg0.N) : (dats m 0 c).after 8 t = iblk m c 8 t := by dsimp only [dats]
theorem aft_9 (c : Dev nD) (t : Fin cfg0.N) : (dats m 0 c).after 9 t = iblk m c 9 t := by dsimp only [dats]
theorem bef_0 (c : Dev nD) (t : Fin cfg0.N) (d) : (dats m 0 c).before 0 t d = iblk m c 0 t :=
  before0_0_of m (dats m 0 c) (A_eq m c 0) (aft_0 m c) t d
theorem bef_1 (c : Dev nD) (t : Fin cfg0.N) (d) : (dats m 0 c).before 1 t d = iblk m c 1 t :=
  before0_1_of m (dats m 0 c) (A_eq m c 1) (aft_1 m c) t d
theorem bef_2 (c : Dev nD) (t : Fin cfg0.N) (d) : (dats m 0 c).before 2 t d = iblk m c 2 t :=
  before0_2_of m (dats m 0 c) (A_eq m c 2) (aft_2 m c) t d
theorem bef_3 (c : Dev nD) (t : Fin cfg0.N) (d) : (dats m 0 c).before 3 t d = iblk m c 3 t :=
  before0_3_of m (dats m 0 c) (A_eq m c 3) (aft_3 m c) t d
theorem bef_4 (c : Dev nD) (t : Fin cfg0.N) (d) : (dats m 0 c).before 4 t d = iblk m c 4 t :=
  before0_4_of m (dats m 0 c) (A_eq m c 4) (aft_4 m c) t d
theorem bef_5 (c : Dev nD) (t : Fin cfg0.N) (d) : (dats m 0 c).before 5 t d = iblk m c 5 t :=
  before0_5_of m (dats m 0 c) (A_eq m c 5) (aft_5 m c) t d
theorem bef_6 (c : Dev nD) (t : Fin cfg0.N) (d) : (dats m 0 c).before 6 t d = iblk m c 6 t :=
  before0_6_of m (dats m 0 c) (A_eq m c 6) (aft_6 m c) t d
theorem bef_7 (c : Dev nD) (t : Fin cfg0.N) (d) : (dats m 0 c).before 7 t d = iblk m c 7 t :=
  before0_7_of m (dats m 0 c) (A_eq m c 7) (aft_7 m c) t d
theorem bef_8 (c : Dev nD) (t : Fin cfg0.N) (d) : (dats m 0 c).before 8 t d = iblk m c 8 t :=
  before0_8_of m (dats m 0 c) (A_eq m c 8) (aft_8 m c) t d
theorem bef_9 (c : Dev nD) (t : Fin cfg0.N) (d) : (dats m 0 c).before 9 t d = iblk m c 9 t :=
  before0_9_of m (dats m 0 c) (A_eq m c 9) (aft_9 m c) t d
abbrev ms0 (t : Fin cfg0.N) : Memref sig .tc .vmem S16384x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x16384 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x16384 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x16384 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S16384x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x16384 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x16384 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x512 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x512 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x512x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x8x16384 .f32 := win0_14.stage (cfg0.slots t 14)
abbrev hs14 (t : Fin cfg0.N) : (ms14 t).IsWhole := hstage0_14 ((cfg0.slots t 14).cast nbuf0_14)
abbrev sc0 : Memref sig .tc .vmem S2x128x512 .f32 := Memref.whole cc0_scratch0
abbrev sc1 : Memref sig .tc .vmem S2x128x512 .f32 := Memref.whole cc0_scratch1
abbrev sc2 : Memref sig .tc .vmem S2x512x1 .f32 := Memref.whole cc0_scratch2

theorem scratch_eq (c : Dev nD) :
    (Pipeline.ΦA spec0 c : sProp (MT nD τ sig Unit (Elt F) ℕ (UR sig nD τ) ℕ))
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The body's call at a point: everything it is handed, and the same handed back. -/
def atPoint (c : Dev nD) (t : Fin cfg0.N) : sProp (MT nD τ sig Unit (Elt F) ℕ (UR sig nD τ) ℕ) :=
  Held c (ms0 t) (ms1 t) (ms2 t) (ms3 t) (ms4 t) (ms5 t) (ms6 t) (ms7 t) (ms8 t) (ms9 t) (ms10 t) (ms11 t) (ms12 t) (ms13 t) (ms14 t) sc0 sc1 sc2 (iblk m c 0 t) (iblk m c 1 t) (iblk m c 2 t) (iblk m c 3 t) (iblk m c 4 t) (iblk m c 5 t) (iblk m c 6 t) (iblk m c 7 t) (iblk m c 8 t) (iblk m c 9 t)

/-- The body keeps what it is handed at every point. -/
theorem walk (c : Dev nD) (t : Fin cfg0.N) (K : PUnit → sProp (MT nD τ sig Unit (Elt F) ℕ (UR sig nD τ) ℕ)) :
    iprop(atPoint m c t ∗ (atPoint m c t -∗ K ⟨⟩)) ⊢ wp frame (wpE (defs₀ (F := F)) Variants.none c none) Set.univ (bodyAt0 t) K := by
  unfold bodyAt0 atPoint
  by_cases h0 : t.val % 32 = 0
  · exact walk_first c (grid0.coords t) _ _ _ _ _ _ _ _ _ _ _ _ _ _ _ _ _ _ _ _ _ _ _ _ _ _ _ _ _ _ _ _ _ _ _ _ ((first_iff t).mpr h0) (fun h => absurd ((last_iff t).mp h) (by omega)) _ _ _ _ _ _ _ _ _ _ Set.univ K
  · by_cases h1 : t.val % 32 = 31
    · exact walk_last c (grid0.coords t) _ _ _ _ _ _ _ _ _ _ _ _ _ _ _ _ _ _ _ _ _ _ _ _ _ _ _ _ _ _ _ _ _ _ _ _ (fun h => h0 ((first_iff t).mp h)) ((last_iff t).mpr h1) _ _ _ _ _ _ _ _ _ _ Set.univ K
    · exact walk_middle c (grid0.coords t) _ _ _ _ _ _ _ _ _ _ _ _ _ _ _ _ _ _ _ _ _ _ _ _ _ _ _ _ _ _ _ _ _ _ _ _ (fun h => h0 ((first_iff t).mp h)) (fun h => h1 ((last_iff t).mp h)) _ _ _ _ _ _ _ _ _ _ Set.univ K

/-- What the pipeline gives the body at a point, -/
def given (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare d) ∗ (∃ d, owns (c : Thread nD τ) (ms11 t) fullShare d) ∗ (∃ d, owns (c : Thread nD τ) (ms12 t) fullShare d) ∗ (∃ d, owns (c : Thread nD τ) (ms13 t) fullShare d) ∗ (∃ d, owns (c : Thread nD τ) (ms14 t) fullShare d))

/-- and what it takes back. -/
def taken (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ (∃ d, owns (c : Thread nD τ) (ms10 t) fullShare d) ∗ (∃ d, owns (c : Thread nD τ) (ms11 t) fullShare d) ∗ (∃ d, owns (c : Thread nD τ) (ms12 t) fullShare d) ∗ (∃ d, owns (c : Thread nD τ) (ms13 t) fullShare d) ∗ (∃ d, owns (c : Thread nD τ) (ms14 t) fullShare d))

set_option maxHeartbeats 4000000 in
theorem sound (c : Dev nD) (t : Fin cfg0.N) :
    given m c t ⊢ wp frame (wpE (defs₀ (F := F)) Variants.none c none) Set.univ (bodyAt0 t) (fun _ => taken m c t) := by
  unfold given taken
  simp only [bef_0, bef_1, bef_2, bef_3, bef_4, bef_5, bef_6, bef_7, bef_8, bef_9]
  rw [show (dats m 0 c).Φ t.succ = (dats m 0 c).Φ t.castSucc from rfl,
    show (dats m 0 c).owesAt () t.succ = (dats m 0 c).owesAt () t.castSucc from rfl,
    aft_0, aft_1, aft_2, aft_3, aft_4, aft_5, aft_6, aft_7, aft_8, aft_9]
  rw [show (dats m 0 c).Φ t.castSucc = Pipeline.ΦA spec0 c from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, H14⟩
  iapply (walk m c t _)
  unfold atPoint Held
  isplitl [H0 H1 H2 H3 H4 H5 H6 H7 H8 H9 H10 H11 H12 H13 H14 HS0 HS1 HS2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ unsaid := fun t => by
  rw [bigSep_W0, bigSep_W0, row]
  exact triple_restated (sound m c t) rfl .rfl fun _ => .rfl

set_option backward.isDefEq.respectTransparency.types false in
/-- The launch. -/
theorem launched : θ_run defs (onTc (τ := τ) (main (F := F))) (s₀ m ρ) (fun r => (Pipeline.RDat.FramePost (cfgs 0) (fun c => (dats m 0 c).toRForget unsaid) (V m)) r ∧ r.2.sem = fun _ => 0) :=
  Pipeline.θ_run_frame_forget_shared (Q' := _) cfgs (dats m) (0 : Fin 1) launch₀0 defs₀ Variants.none unsaid m ρ main
    (hbody := fun c => (obligation m c).loose) (hq := fun _ _ _ => rfl)
    (howed := fun _ _ => rfl) (V := V m) (hmain := hmain m Variants.none) (hA := A_eq m) (hΦ := fun _ _ => rfl)

/-- The argument arrays end as they were, the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and
    ((θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) ((θ_run defs _ _).mono (fun _ h => h.1) (launched m ρ)))
    ((θ_run defs _ _).mono (fun _ h => h.2) (launched m ρ))

end Cert.Kernel.Words
-- ==== Proof.WeightIn.lean ====
/- The gradient of a feed-forward block's input weights: the kernel's sum over blocks of tokens is the reference's product. -/
module

public import proofs.«01_k».proof.Proof.Gen.Kernel3Ideal.Frame
public import proofs.«01_k».proof.Proof.Gen.Reference3Ideal.Run
public import proofs.«01_k».proof.Defs
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Kernel3Ideal.Weight

open Idealize.ShloMosaic Idealize.ShloMosaic.TcCoe Idealize.SL.Sem
open Idealize.ShloMosaic.Pipeline (Dat)
open Cert.Kernel3Ideal Cert.Kernel3Ideal.Gen

section Ref
open Cert.Reference3Ideal Cert.Reference3Ideal.Gen

/-- The reference's result from its two arguments. -/
def wgrad (X : FVec Ideal S16384x1024 .f32) (D : FVec Ideal S16384x5632 .bf16) : FVec Ideal S1024x5632 .f32 :=
  transpose S1024x5632 [1, 0] (Host.dotGeneral dot_S16384x5632_S16384x1024_S5632x1024_0_0_1_1_n_n none (extf .f32 D Cert.Reference3Ideal.Gen.bitsLt_bf16_f32) X) transposes_S5632x1024_S1024x5632_1_0

theorem wgrad_at (X : FVec Ideal S16384x1024 .f32) (D : FVec Ideal S16384x5632 .bf16) (j : S1024x5632.Idx) :
    wgrad X D j = ∑ l : Fin 16384, X (ix2 l (j 0)) * D (ix2 l (j 1)) := by
  pointwise [wgrad]
  exact Finset.sum_congr rfl fun l _ => mul_comm _ _

end Ref

variable (m : (ℓ : Loc nD τ sig) → Buf (Elt Ideal) ℓ)

theorem cleared (j : S1024x1408.Idx) : k0_pay1 (F := Ideal) j = 0 := by pointwise [k0_pay1]

theorem added (acc : Vec Ideal S1024x1408 .f32) (x : Vec Ideal S1024x1024 .f32) (d : Vec Ideal S1024x1408 .bf16) (j : S1024x1408.Idx) :
    k0_pay2 (F := Ideal) acc x d j = acc j + ∑ k : Fin 1024, x (ix2 k (j 0)) * d (ix2 k (j 1)) := by
  pointwise [k0_pay2]

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The array of gradients after the run. -/
theorem final (c : Dev nD) : (dats m 0 c).arrAt 2 (cfgs 0).N = wgrad (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [added, cleared]) (fun t h j => by rw [outsAt0_B m c t h]; frame_out; rw [added])
    t ((flush0_2 t).mp hf) _, zero_add, wgrad_at]
  refine Fin.sum_mul_add_congr fun s k hl => ?_
  blk_point [iblk, V, idx t, idx ⟨_, Pipeline.run_point_lt_of_flush t ((flush0_2 t).mp hf) s⟩]

theorem value : Cert.algebraic_Kernel3Ideal_Reference3Ideal (hKernel3Ideal := Cert.Kernel3Ideal.Gen.facts)
    (hReference3Ideal := Cert.Reference3Ideal.Gen.facts) := by
  intro m ρ m' ρ' _ hm
  refine ⟨fun c => wgrad (m ((c.tc : Thread nD τ).loc main_arg0)) (m ((c.tc : Thread nD τ).loc main_arg1)), ?_, ?_⟩
  · refine (θ_run defs _ _).mono (fun r h c => ?_) (θ_run_and (run_main m ρ) (unchanged m ρ))
    exact ⟨(h.1.out_eq c 2).trans (final m c), h.2 c⟩
  · refine (θ_run Cert.Reference3Ideal.defs _ _).mono (fun r h c => ?_) (Cert.Reference3Ideal.Value.run (F := Ideal) m' ρ')
    obtain ⟨h0, ha⟩ := h c
    obtain ⟨e0, e1⟩ := hm c
    refine ⟨h0.trans ?_, ha⟩
    rw [e0, e1]; rfl

section Frame

variable (m : (ℓ : Loc Cert.Reference3Ideal.nD Cert.Reference3Ideal.τ Cert.Reference3Ideal.sig) → Buf (Elt Ideal) ℓ)
  (ρ : Dev Cert.Reference3Ideal.nD → PrngReg)
open Cert.Reference3Ideal

theorem frame_reference : θ_run (Cert.Reference3Ideal.defs (F := Ideal)) (onTc (τ := Cert.Reference3Ideal.τ) (Cert.Reference3Ideal.main (F := Ideal))) ⟨m, fun _ => 0, ρ⟩ (fun r =>
      (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run (F := Ideal) m ρ)

end Frame

end Cert.Kernel3Ideal.Weight
-- ==== Proof.WeightOut.lean ====
/- The gradient of a feed-forward block's output weights: the kernel's sum over blocks of tokens is the reference's product. -/
module

public import proofs.«01_k».proof.Proof.Gen.Kernel4Ideal.Frame
public import proofs.«01_k».proof.Proof.Gen.Reference4Ideal.Run
public import proofs.«01_k».proof.Defs
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Kernel4Ideal.Weight

open Idealize.ShloMosaic Idealize.ShloMosaic.TcCoe Idealize.SL.Sem
open Idealize.ShloMosaic.Pipeline (Dat)
open Cert.Kernel4Ideal Cert.Kernel4Ideal.Gen

section Ref
open Cert.Reference4Ideal Cert.Reference4Ideal.Gen

/-- The reference's result from its two arguments. -/
def wgrad (X : FVec Ideal S16384x2816 .bf16) (D : FVec Ideal S16384x1024 .bf16) : FVec Ideal S2816x1024 .f32 :=
  transpose S2816x1024 [1, 0] (Host.dotGeneral dot_S16384x1024_S16384x2816_S1024x2816_0_0_1_1_n_n none (extf .f32 D Cert.Reference4Ideal.Gen.bitsLt_bf16_f32) (extf .f32 X Cert.Reference4Ideal.Gen.bitsLt_bf16_f32)) transposes_S1024x2816_S2816x1024_1_0

theorem wgrad_at (X : FVec Ideal S16384x2816 .bf16) (D : FVec Ideal S16384x1024 .bf16) (j : S2816x1024.Idx) :
    wgrad X D j = ∑ l : Fin 16384, X (ix2 l (j 0)) * D (ix2 l (j 1)) := by
  pointwise [wgrad]
  exact Finset.sum_congr rfl fun l _ => mul_comm _ _

end Ref

variable (m : (ℓ : Loc nD τ sig) → Buf (Elt Ideal) ℓ)

theorem cleared (j : S2816x512.Idx) : k0_pay1 (F := Ideal) j = 0 := by pointwise [k0_pay1]

theorem added (acc : Vec Ideal S2816x512 .f32) (x : Vec Ideal S1024x2816 .bf16) (d : Vec Ideal S1024x512 .bf16) (j : S2816x512.Idx) :
    k0_pay2 (F := Ideal) acc x d j = acc j + ∑ k : Fin 1024, x (ix2 k (j 0)) * d (ix2 k (j 1)) := by
  pointwise [k0_pay2]

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The array of gradients after the run. -/
theorem final (c : Dev nD) : (dats m 0 c).arrAt 2 (cfgs 0).N = wgrad (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [added, cleared]) (fun t h j => by rw [outsAt0_B m c t h]; frame_out; rw [added])
    t ((flush0_2 t).mp hf) _, zero_add, wgrad_at]
  refine Fin.sum_mul_add_congr fun s k hl => ?_
  blk_point [iblk, V, idx t, idx ⟨_, Pipeline.run_point_lt_of_flush t ((flush0_2 t).mp hf) s⟩]

theorem value : Cert.algebraic_Kernel4Ideal_Reference4Ideal (hKernel4Ideal := Cert.Kernel4Ideal.Gen.facts)
    (hReference4Ideal := Cert.Reference4Ideal.Gen.facts) := by
  intro m ρ m' ρ' _ hm
  refine ⟨fun c => wgrad (m ((c.tc : Thread nD τ).loc main_arg0)) (m ((c.tc : Thread nD τ).loc main_arg1)), ?_, ?_⟩
  · refine (θ_run defs _ _).mono (fun r h c => ?_) (θ_run_and (run_main m ρ) (unchanged m ρ))
    exact ⟨(h.1.out_eq c 2).trans (final m c), h.2 c⟩
  · refine (θ_run Cert.Reference4Ideal.defs _ _).mono (fun r h c => ?_) (Cert.Reference4Ideal.Value.run (F := Ideal) m' ρ')
    obtain ⟨h0, ha⟩ := h c
    obtain ⟨e0, e1⟩ := hm c
    refine ⟨h0.trans ?_, ha⟩
    rw [e0, e1]; rfl

section Frame

variable (m : (ℓ : Loc Cert.Reference4Ideal.nD Cert.Reference4Ideal.τ Cert.Reference4Ideal.sig) → Buf (Elt Ideal) ℓ)
  (ρ : Dev Cert.Reference4Ideal.nD → PrngReg)
open Cert.Reference4Ideal

theorem frame_reference : θ_run (Cert.Reference4Ideal.defs (F := Ideal)) (onTc (τ := Cert.Reference4Ideal.τ) (Cert.Reference4Ideal.main (F := Ideal))) ⟨m, fun _ => 0, ρ⟩ (fun r =>
      (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Value.run (F := Ideal) m ρ)

end Frame

end Cert.Kernel4Ideal.Weight
-- ==== Proof.FeedForward.lean ====
/- A feed-forward block's forward call: the blocks the kernel stores, chunk by chunk, are sums over whole rows. -/
module

public import proofs.«01_k».proof.Proof.Gen.Kernel2Ideal.Frame
public import proofs.«01_k».proof.Proof.Gen.Reference2Ideal.Read
public import proofs.«01_k».proof.Defs
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Kernel2Ideal.FeedForward

open Idealize.ShloMosaic Idealize.ShloMosaic.TcCoe Idealize.SL.Sem
open Idealize.ShloMosaic.Pipeline (Dat)
open Cert.Kernel2Ideal Cert.Kernel2Ideal.Gen

/-! ## One row of the block -/

/-- The gated unit of a gate and an up value. -/
def act (g u : EReal) : EReal := g * Ideal.div 1 (1 + Ideal.exp (0 - g)) * u

/-- Column `k` of a row times the input weights. -/
def proj (X : Fin 1024 → EReal) (W : S1024x5632.Idx → EReal) (k : Fin 5632) : EReal := ∑ l : Fin 1024, X l * W (ix2 l k)

/-- Hidden value `k` of a row: the gate is column `k`, the up value column `2816 + k`. -/
def hidden (X : Fin 1024 → EReal) (W : S1024x5632.Idx → EReal) (k : Fin 2816) : EReal :=
  act (proj X W ⟨k.val, by omega⟩) (proj X W ⟨2816 + k.val, by omega⟩)

/-- The residual sum from a row's entry and its product with the output weights. -/
def join (x acc : EReal) : EReal := Ideal.ofBits .f32 0x3F9837F0#32 * x + Ideal.ofBits .f32 0x3F000000#32 * acc

/-- Column `c` of a row of the residual sum. -/
def resid (X : Fin 1024 → EReal) (W : S1024x5632.Idx → EReal) (V : S2816x1024.Idx → EReal) (c : Fin 1024) : EReal :=
  join (X c) (∑ k : Fin 2816, hidden X W k * V (ix2 k c))

/-- A row's mean. -/
def mean (R : Fin 1024 → EReal) : EReal := Ideal.div (∑ x, R x) (Ideal.ofBits .f32 0x44800000#32)

/-- Layer norm of a row at column `c` with gain `g` and bias `b`. -/
def norm (R : Fin 1024 → EReal) (g b : EReal) (c : Fin 1024) : EReal :=
  (R c - mean R) * Ideal.rsqrt (mean (fun x => (R x - mean R) * (R x - mean R)) + Ideal.ofBits .f32 0x3727C5AC#32) * g + b

/-! ## The kernel's values on a tile -/

theorem tile (x : Vec Ideal S512x1024 .f32) (w : Vec Ideal S1024x256 .bf16) (z : S512x256.Idx) :
    k0_pay3 (F := Ideal) x w z = ∑ l : Fin 1024, x (ix2 (z 0) l) * w (ix2 l (z 1)) := by
  pointwise [k0_pay3, k0_pay2]

theorem gated (x : Vec Ideal S512x1024 .f32) (w u : Vec Ideal S1024x256 .bf16) (z : S512x256.Idx) :
    k0_pay5 (F := Ideal) x w u z = act (k0_pay3 (F := Ideal) x w z) (k0_pay3 (F := Ideal) x u z) := by
  pointwise [k0_pay5, k0_pay4, tile, act, k0_pay2]

/-- One chunk's part of the product with the output weights. -/
def chunk (x : Vec Ideal S512x1024 .f32) (w u : Vec Ideal S1024x256 .bf16) (o : Vec Ideal S256x1024 .bf16) : FVec Ideal S512x1024 .f32 :=
  matmul dot_S512x256_S256x1024_S512x1024_1_0_0_1_n_n none (k0_pay5 x w u) (shapeCast S256x1024 o shapeCasts_S256x1024_S256x1024 : FVec Ideal S256x1024 .bf16) (constant S512x1024 .f32 0x00000000#32)

theorem chunk_eq (x : Vec Ideal S512x1024 .f32) (w u : Vec Ideal S1024x256 .bf16) (o : Vec Ideal S256x1024 .bf16) (z : S512x1024.Idx) :
    chunk x w u o z = ∑ k : Fin 256, act (k0_pay3 (F := Ideal) x w (ix2 (z 0) k)) (k0_pay3 (F := Ideal) x u (ix2 (z 0) k)) * o (ix2 k (z 1)) := by
  pointwise [chunk, gated]

/-- The kernel's layer norm of a block of rows. -/
def normBlock (r : FVec Ideal S512x1024 .f32) (g b : Vec Ideal S1x1024 .f32) : FVec Ideal S512x1024 .f32 :=
  have mu : FVec Ideal S512x1024 .f32 := broadcastTo S512x1024 (divf (shapeCast S512x1 (multiReduction .add [1] S512 r 0x00000000#32 reduces_S512x1024_S512 (.inl rfl) rfl) shapeCasts_S512_S512x1) (broadcast S512x1 (Scalar.ofBits .f32 0x44800000#32))) broadcasts_S512x1_S512x1024
  have d : FVec Ideal S512x1024 .f32 := subf r mu
  k0_pay1 d (divf (shapeCast S512x1 (multiReduction .add [1] S512 (mulf d d) 0x00000000#32 reduces_S512x1024_S512 (.inl rfl) rfl) shapeCasts_S512_S512x1) (broadcast S512x1 (Scalar.ofBits .f32 0x44800000#32))) (Scalar.ofBits .f32 0x3727C5AC#32) g b

theorem normBlock_at (r : FVec Ideal S512x1024 .f32) (g b : Vec Ideal S1x1024 .f32) (z : S512x1024.Idx) :
    normBlock r g b z = norm (fun c => r (ix2 (z 0) c)) (g (ix2 0 (z 1))) (b (ix2 0 (z 1))) (z 1) := by
  pointwise [normBlock, k0_pay1, norm, mean]

/-! ## The stored blocks -/

section Stored

variable (x0 : Vec Ideal S512x1024 .f32) (x1 : Vec Ideal S1024x5632 .bf16) (x2 : Vec Ideal S2816x1024 .bf16) (x3 x4 : Vec Ideal S1x1024 .f32)

theorem whole : View.ld x0 r0_0 = x0 := by
  funext z
  pointwise
  blk_ext

/-- The tile of a matrix of gates or up values that begins at column `b`. -/
theorem tile_proj (b : ℕ) (hb : b + 256 ≤ 5632) (w : Vec Ideal S1024x256 .bf16) (hw : ∀ z : S1024x256.Idx, w z = x1 (ix2 (z 0) ⟨b + (z 1).val, by have : (z 1).val < 256 := (z 1).isLt; omega⟩))
    (z : S512x256.Idx) :
    k0_pay3 (F := Ideal) (View.ld x0 r0_0) w z = proj (fun l => x0 (ix2 (z 0) l)) x1 ⟨b + (z 1).val, by have : (z 1).val < 256 := (z 1).isLt; omega⟩ := by
  rw [whole, tile]
  exact Finset.sum_congr rfl fun l _ => congrArg _ (hw _)

theorem ldG0 (z : S1024x256.Idx) : View.ld x1 r0_1 z = x1 (ix2 (z 0) ⟨0 + (z 1).val, by have : (z 1).val < 256 := (z 1).isLt; omega⟩) := by
  pointwise
  blk_ext
theorem ldU0 (z : S1024x256.Idx) : View.ld x1 r0_2 z = x1 (ix2 (z 0) ⟨2816 + (z 1).val, by have : (z 1).val < 256 := (z 1).isLt; omega⟩) := by
  pointwise
  blk_ext
theorem ldO0 (z : S256x1024.Idx) : View.ld x2 r0_4 z = x2 (ix2 ⟨0 + (z 0).val, by have : (z 0).val < 256 := (z 0).isLt; omega⟩ (z 1)) := by
  pointwise
  blk_ext
theorem ldG1 (z : S1024x256.Idx) : View.ld x1 r0_5 z = x1 (ix2 (z 0) ⟨256 + (z 1).val, by have : (z 1).val < 256 := (z 1).isLt; omega⟩) := by
  pointwise
  blk_ext
theorem ldU1 (z : S1024x256.Idx) : View.ld x1 r0_6 z = x1 (ix2 (z 0) ⟨3072 + (z 1).val, by have : (z 1).val < 256 := (z 1).isLt; omega⟩) := by
  pointwise
  blk_ext
theorem ldO1 (z : S256x1024.Idx) : View.ld x2 r0_8 z = x2 (ix2 ⟨256 + (z 0).val, by have : (z 0).val < 256 := (z 0).isLt; omega⟩ (z 1)) := by
  pointwise
  blk_ext
theorem ldG2 (z : S1024x256.Idx) : View.ld x1 r0_9 z = x1 (ix2 (z 0) ⟨512 + (z 1).val, by have : (z 1).val < 256 := (z 1).isLt; omega⟩) := by
  pointwise
  blk_ext
theorem ldU2 (z : S1024x256.Idx) : View.ld x1 r0_10 z = x1 (ix2 (z 0) ⟨3328 + (z 1).val, by have : (z 1).val < 256 := (z 1).isLt; omega⟩) := by
  pointwise
  blk_ext
theorem ldO2 (z : S256x1024.Idx) : View.ld x2 r0_12 z = x2 (ix2 ⟨512 + (z 0).val, by have : (z 0).val < 256 := (z 0).isLt; omega⟩ (z 1)) := by
  pointwise
  blk_ext
theorem ldG3 (z : S1024x256.Idx) : View.ld x1 r0_13 z = x1 (ix2 (z 0) ⟨768 + (z 1).val, by have : (z 1).val < 256 := (z 1).isLt; omega⟩) := by
  pointwise
  blk_ext
theorem ldU3 (z : S1024x256.Idx) : View.ld x1 r0_14 z = x1 (ix2 (z 0) ⟨3584 + (z 1).val, by have : (z 1).val < 256 := (z 1).isLt; omega⟩) := by
  pointwise
  blk_ext
theorem ldO3 (z : S256x1024.Idx) : View.ld x2 r0_16 z = x2 (ix2 ⟨768 + (z 0).val, by have : (z 0).val < 256 := (z 0).isLt; omega⟩ (z 1)) := by
  pointwise
  blk_ext
theorem ldG4 (z : S1024x256.Idx) : View.ld x1 r0_17 z = x1 (ix2 (z 0) ⟨1024 + (z 1).val, by have : (z 1).val < 256 := (z 1).isLt; omega⟩) := by
  pointwise
  blk_ext
theorem ldU4 (z : S1024x256.Idx) : View.ld x1 r0_18 z = x1 (ix2 (z 0) ⟨3840 + (z 1).val, by have : (z 1).val < 256 := (z 1).isLt; omega⟩) := by
  pointwise
  blk_ext
theorem ldO4 (z : S256x1024.Idx) : View.ld x2 r0_20 z = x2 (ix2 ⟨1024 + (z 0).val, by have : (z 0).val < 256 := (z 0).isLt; omega⟩ (z 1)) := by
  pointwise
  blk_ext
theorem ldG5 (z : S1024x256.Idx) : View.ld x1 r0_21 z = x1 (ix2 (z 0) ⟨1280 + (z 1).val, by have : (z 1).val < 256 := (z 1).isLt; omega⟩) := by
  pointwise
  blk_ext
theorem ldU5 (z : S1024x256.Idx) : View.ld x1 r0_22 z = x1 (ix2 (z 0) ⟨4096 + (z 1).val, by have : (z 1).val < 256 := (z 1).isLt; omega⟩) := by
  pointwise
  blk_ext
theorem ldO5 (z : S256x1024.Idx) : View.ld x2 r0_24 z = x2 (ix2 ⟨1280 + (z 0).val, by have : (z 0).val < 256 := (z 0).isLt; omega⟩ (z 1)) := by
  pointwise
  blk_ext
theorem ldG6 (z : S1024x256.Idx) : View.ld x1 r0_25 z = x1 (ix2 (z 0) ⟨1536 + (z 1).val, by have : (z 1).val < 256 := (z 1).isLt; omega⟩) := by
  pointwise
  blk_ext
theorem ldU6 (z : S1024x256.Idx) : View.ld x1 r0_26 z = x1 (ix2 (z 0) ⟨4352 + (z 1).val, by have : (z 1).val < 256 := (z 1).isLt; omega⟩) := by
  pointwise
  blk_ext
theorem ldO6 (z : S256x1024.Idx) : View.ld x2 r0_28 z = x2 (ix2 ⟨1536 + (z 0).val, by have : (z 0).val < 256 := (z 0).isLt; omega⟩ (z 1)) := by
  pointwise
  blk_ext
theorem ldG7 (z : S1024x256.Idx) : View.ld x1 r0_29 z = x1 (ix2 (z 0) ⟨1792 + (z 1).val, by have : (z 1).val < 256 := (z 1).isLt; omega⟩) := by
  pointwise
  blk_ext
theorem ldU7 (z : S1024x256.Idx) : View.ld x1 r0_30 z = x1 (ix2 (z 0) ⟨4608 + (z 1).val, by have : (z 1).val < 256 := (z 1).isLt; omega⟩) := by
  pointwise
  blk_ext
theorem ldO7 (z : S256x1024.Idx) : View.ld x2 r0_32 z = x2 (ix2 ⟨1792 + (z 0).val, by have : (z 0).val < 256 := (z 0).isLt; omega⟩ (z 1)) := by
  pointwise
  blk_ext
theorem ldG8 (z : S1024x256.Idx) : View.ld x1 r0_33 z = x1 (ix2 (z 0) ⟨2048 + (z 1).val, by have : (z 1).val < 256 := (z 1).isLt; omega⟩) := by
  pointwise
  blk_ext
theorem ldU8 (z : S1024x256.Idx) : View.ld x1 r0_34 z = x1 (ix2 (z 0) ⟨4864 + (z 1).val, by have : (z 1).val < 256 := (z 1).isLt; omega⟩) := by
  pointwise
  blk_ext
theorem ldO8 (z : S256x1024.Idx) : View.ld x2 r0_36 z = x2 (ix2 ⟨2048 + (z 0).val, by have : (z 0).val < 256 := (z 0).isLt; omega⟩ (z 1)) := by
  pointwise
  blk_ext
theorem ldG9 (z : S1024x256.Idx) : View.ld x1 r0_37 z = x1 (ix2 (z 0) ⟨2304 + (z 1).val, by have : (z 1).val < 256 := (z 1).isLt; omega⟩) := by
  pointwise
  blk_ext
theorem ldU9 (z : S1024x256.Idx) : View.ld x1 r0_38 z = x1 (ix2 (z 0) ⟨5120 + (z 1).val, by have : (z 1).val < 256 := (z 1).isLt; omega⟩) := by
  pointwise
  blk_ext
theorem ldO9 (z : S256x1024.Idx) : View.ld x2 r0_40 z = x2 (ix2 ⟨2304 + (z 0).val, by have : (z 0).val < 256 := (z 0).isLt; omega⟩ (z 1)) := by
  pointwise
  blk_ext
theorem ldG10 (z : S1024x256.Idx) : View.ld x1 r0_41 z = x1 (ix2 (z 0) ⟨2560 + (z 1).val, by have : (z 1).val < 256 := (z 1).isLt; omega⟩) := by
  pointwise
  blk_ext
theorem ldU10 (z : S1024x256.Idx) : View.ld x1 r0_42 z = x1 (ix2 (z 0) ⟨5376 + (z 1).val, by have : (z 1).val < 256 := (z 1).isLt; omega⟩) := by
  pointwise
  blk_ext
theorem ldO10 (z : S256x1024.Idx) : View.ld x2 r0_44 z = x2 (ix2 ⟨2560 + (z 0).val, by have : (z 0).val < 256 := (z 0).isLt; omega⟩ (z 1)) := by
  pointwise
  blk_ext

/-- The block of residual sums as the kernel adds it up. -/
def resBlock : FVec Ideal S512x1024 .f32 :=
  addf (mulf (broadcast S512x1024 (Scalar.ofBits .f32 0x3F9837F0#32)) x0) (mulf (broadcast S512x1024 (Scalar.ofBits .f32 0x3F000000#32)) (addf (addf (addf (addf (addf (addf (addf (addf (addf (addf (addf (broadcast S512x1024 (Scalar.ofBits .f32 0x00000000#32)) (chunk x0 (View.ld x1 r0_1) (View.ld x1 r0_2) (View.ld x2 r0_4))) (chunk x0 (View.ld x1 r0_5) (View.ld x1 r0_6) (View.ld x2 r0_8))) (chunk x0 (View.ld x1 r0_9) (View.ld x1 r0_10) (View.ld x2 r0_12))) (chunk x0 (View.ld x1 r0_13) (View.ld x1 r0_14) (View.ld x2 r0_16))) (chunk x0 (View.ld x1 r0_17) (View.ld x1 r0_18) (View.ld x2 r0_20))) (chunk x0 (View.ld x1 r0_21) (View.ld x1 r0_22) (View.ld x2 r0_24))) (chunk x0 (View.ld x1 r0_25) (View.ld x1 r0_26) (View.ld x2 r0_28))) (chunk x0 (View.ld x1 r0_29) (View.ld x1 r0_30) (View.ld x2 r0_32))) (chunk x0 (View.ld x1 r0_33) (View.ld x1 r0_34) (View.ld x2 r0_36))) (chunk x0 (View.ld x1 r0_37) (View.ld x1 r0_38) (View.ld x2 r0_40))) (chunk x0 (View.ld x1 r0_41) (View.ld x1 r0_42) (View.ld x2 r0_44))))

theorem chunk_hidden (b : ℕ) (hb : b + 256 ≤ 2816) (w u : Vec Ideal S1024x256 .bf16) (o : Vec Ideal S256x1024 .bf16)
    (hw : ∀ z : S1024x256.Idx, w z = x1 (ix2 (z 0) ⟨b + (z 1).val, by have : (z 1).val < 256 := (z 1).isLt; omega⟩))
    (hu : ∀ z : S1024x256.Idx, u z = x1 (ix2 (z 0) ⟨2816 + b + (z 1).val, by have : (z 1).val < 256 := (z 1).isLt; omega⟩))
    (ho : ∀ z : S256x1024.Idx, o z = x2 (ix2 ⟨b + (z 0).val, by have : (z 0).val < 256 := (z 0).isLt; omega⟩ (z 1))) (z : S512x1024.Idx) :
    chunk x0 w u o z = ∑ k : Fin 256, hidden (fun l => x0 (ix2 (z 0) l)) x1 ⟨b + k.val, by omega⟩ * x2 (ix2 ⟨b + k.val, by omega⟩ (z 1)) := by
  rw [chunk_eq]
  refine Finset.sum_congr rfl fun k _ => ?_
  have e := tile_proj x0 x1 b (by omega) w hw (ix2 (z 0) k)
  have f := tile_proj x0 x1 (2816 + b) (by omega) u hu (ix2 (z 0) k)
  rw [whole] at e f
  rw [e, f, ho]
  have g : ∀ h h', (⟨2816 + b + k.val, h⟩ : Fin 5632) = ⟨2816 + (b + k.val), h'⟩ := fun _ _ => Fin.ext (Nat.add_assoc _ _ _)
  exact congrArg (· * _) (congrArg₂ act rfl (congrArg (proj _ _) (g _ _)))

theorem eleven (F : Fin 11 → EReal) : (((((((((((0 + F 0) + F 1) + F 2) + F 3) + F 4) + F 5) + F 6) + F 7) + F 8) + F 9) + F 10) = ∑ s, F s := by
  simp only [Fin.sum_univ_castSucc, Fin.sum_univ_zero]
  rfl

theorem resBlock_at (z : S512x1024.Idx) : resBlock x0 x1 x2 z = resid (fun l => x0 (ix2 (z 0) l)) x1 x2 (z 1) := by
  have e : resBlock x0 x1 x2 z = join (x0 (ix2 (z 0) (z 1))) ((((((((((((0 + chunk x0 (View.ld x1 r0_1) (View.ld x1 r0_2) (View.ld x2 r0_4) z) + chunk x0 (View.ld x1 r0_5) (View.ld x1 r0_6) (View.ld x2 r0_8) z) + chunk x0 (View.ld x1 r0_9) (View.ld x1 r0_10) (View.ld x2 r0_12) z) + chunk x0 (View.ld x1 r0_13) (View.ld x1 r0_14) (View.ld x2 r0_16) z) + chunk x0 (View.ld x1 r0_17) (View.ld x1 r0_18) (View.ld x2 r0_20) z) + chunk x0 (View.ld x1 r0_21) (View.ld x1 r0_22) (View.ld x2 r0_24) z) + chunk x0 (View.ld x1 r0_25) (View.ld x1 r0_26) (View.ld x2 r0_28) z) + chunk x0 (View.ld x1 r0_29) (View.ld x1 r0_30) (View.ld x2 r0_32) z) + chunk x0 (View.ld x1 r0_33) (View.ld x1 r0_34) (View.ld x2 r0_36) z) + chunk x0 (View.ld x1 r0_37) (View.ld x1 r0_38) (View.ld x2 r0_40) z) + chunk x0 (View.ld x1 r0_41) (View.ld x1 r0_42) (View.ld x2 r0_44) z)) := by
    pointwise [resBlock, join]
  rw [e]
  show _ = join _ (∑ k : Fin 2816, hidden (fun l => x0 (ix2 (z 0) l)) x1 k * x2 (ix2 k (z 1)))
  rw [← Fin.sum_mul_add_fin 11 256 (fun k : Fin 2816 => hidden (fun l => x0 (ix2 (z 0) l)) x1 k * x2 (ix2 k (z 1)))]
  congr 1
  rw [chunk_hidden x0 x1 x2 0 (by omega) _ _ _ (ldG0 x1) (ldU0 x1) (ldO0 x2), chunk_hidden x0 x1 x2 256 (by omega) _ _ _ (ldG1 x1) (ldU1 x1) (ldO1 x2), chunk_hidden x0 x1 x2 512 (by omega) _ _ _ (ldG2 x1) (ldU2 x1) (ldO2 x2), chunk_hidden x0 x1 x2 768 (by omega) _ _ _ (ldG3 x1) (ldU3 x1) (ldO3 x2), chunk_hidden x0 x1 x2 1024 (by omega) _ _ _ (ldG4 x1) (ldU4 x1) (ldO4 x2), chunk_hidden x0 x1 x2 1280 (by omega) _ _ _ (ldG5 x1) (ldU5 x1) (ldO5 x2), chunk_hidden x0 x1 x2 1536 (by omega) _ _ _ (ldG6 x1) (ldU6 x1) (ldO6 x2), chunk_hidden x0 x1 x2 1792 (by omega) _ _ _ (ldG7 x1) (ldU7 x1) (ldO7 x2), chunk_hidden x0 x1 x2 2048 (by omega) _ _ _ (ldG8 x1) (ldU8 x1) (ldO8 x2), chunk_hidden x0 x1 x2 2304 (by omega) _ _ _ (ldG9 x1) (ldU9 x1) (ldO9 x2), chunk_hidden x0 x1 x2 2560 (by omega) _ _ _ (ldG10 x1) (ldU10 x1) (ldO10 x2)]
  exact eleven fun s : Fin 11 => ∑ k : Fin 256, hidden (fun l => x0 (ix2 (z 0) l)) x1 ⟨s.val * 256 + k.val, by omega⟩ * x2 (ix2 ⟨s.val * 256 + k.val, by omega⟩ (z 1))

theorem stored6 : out0_6 x0 x1 x2 x3 x4 = resBlock x0 x1 x2 := by
  unfold_out out0_6
  frame_out
  rfl

theorem stored5 : out0_5 x0 x1 x2 x3 x4 = normBlock (resBlock x0 x1 x2) x3 x4 := by
  unfold_out out0_5
  frame_out
  rfl

theorem proj_congr {i i' : Fin 512} {k k' : Fin 5632} (hi : i.val = i'.val) (hk : k.val = k'.val) :
    proj (fun l => x0 (ix2 i l)) x1 k = proj (fun l => x0 (ix2 i' l)) x1 k' := by
  obtain rfl := Fin.ext hi
  obtain rfl := Fin.ext hk
  rfl

theorem hidden_eq {i i' : Fin 512} {k k' : Fin 5632} {n : Fin 2816} (hi : i.val = i'.val) (hk : k.val = n.val) (hk' : k'.val = 2816 + n.val) :
    act (proj (fun l => x0 (ix2 i l)) x1 k) (proj (fun l => x0 (ix2 i l)) x1 k') = hidden (fun l => x0 (ix2 i' l)) x1 n :=
  congrArg₂ act (proj_congr x0 x1 hi hk) (proj_congr x0 x1 hi hk')

theorem stored7 (y : S512x2816.Idx) : out0_7 x0 x1 x2 x3 x4 y = proj (fun l => x0 (ix2 (y 0) l)) x1 ⟨(y 1).val, by have : (y 1).val < 2816 := (y 1).isLt; omega⟩ := by
  unfold out0_7
  canon_tiles x h
  case piece0 => exact (show _ = k0_pay3 (F := Ideal) (View.ld x0 r0_0) (View.ld x1 r0_41) x from rfl).trans ((tile_proj x0 x1 2560 (by omega) _ (ldG10 x1) x).trans (proj_congr x0 x1 h0.symm (by simpa using h1.symm)))
  case piece1 => exact (show _ = k0_pay3 (F := Ideal) (View.ld x0 r0_0) (View.ld x1 r0_37) x from rfl).trans ((tile_proj x0 x1 2304 (by omega) _ (ldG9 x1) x).trans (proj_congr x0 x1 h0.symm (by simpa using h1.symm)))
  case piece2 => exact (show _ = k0_pay3 (F := Ideal) (View.ld x0 r0_0) (View.ld x1 r0_33) x from rfl).trans ((tile_proj x0 x1 2048 (by omega) _ (ldG8 x1) x).trans (proj_congr x0 x1 h0.symm (by simpa using h1.symm)))
  case piece3 => exact (show _ = k0_pay3 (F := Ideal) (View.ld x0 r0_0) (View.ld x1 r0_29) x from rfl).trans ((tile_proj x0 x1 1792 (by omega) _ (ldG7 x1) x).trans (proj_congr x0 x1 h0.symm (by simpa using h1.symm)))
  case piece4 => exact (show _ = k0_pay3 (F := Ideal) (View.ld x0 r0_0) (View.ld x1 r0_25) x from rfl).trans ((tile_proj x0 x1 1536 (by omega) _ (ldG6 x1) x).trans (proj_congr x0 x1 h0.symm (by simpa using h1.symm)))
  case piece5 => exact (show _ = k0_pay3 (F := Ideal) (View.ld x0 r0_0) (View.ld x1 r0_21) x from rfl).trans ((tile_proj x0 x1 1280 (by omega) _ (ldG5 x1) x).trans (proj_congr x0 x1 h0.symm (by simpa using h1.symm)))
  case piece6 => exact (show _ = k0_pay3 (F := Ideal) (View.ld x0 r0_0) (View.ld x1 r0_17) x from rfl).trans ((tile_proj x0 x1 1024 (by omega) _ (ldG4 x1) x).trans (proj_congr x0 x1 h0.symm (by simpa using h1.symm)))
  case piece7 => exact (show _ = k0_pay3 (F := Ideal) (View.ld x0 r0_0) (View.ld x1 r0_13) x from rfl).trans ((tile_proj x0 x1 768 (by omega) _ (ldG3 x1) x).trans (proj_congr x0 x1 h0.symm (by simpa using h1.symm)))
  case piece8 => exact (show _ = k0_pay3 (F := Ideal) (View.ld x0 r0_0) (View.ld x1 r0_9) x from rfl).trans ((tile_proj x0 x1 512 (by omega) _ (ldG2 x1) x).trans (proj_congr x0 x1 h0.symm (by simpa using h1.symm)))
  case piece9 => exact (show _ = k0_pay3 (F := Ideal) (View.ld x0 r0_0) (View.ld x1 r0_5) x from rfl).trans ((tile_proj x0 x1 256 (by omega) _ (ldG1 x1) x).trans (proj_congr x0 x1 h0.symm (by simpa using h1.symm)))
  case piece10 => exact (show _ = k0_pay3 (F := Ideal) (View.ld x0 r0_0) (View.ld x1 r0_1) x from rfl).trans ((tile_proj x0 x1 0 (by omega) _ (ldG0 x1) x).trans (proj_congr x0 x1 h0.symm (by simpa using h1.symm)))

theorem stored8 (y : S512x2816.Idx) : out0_8 x0 x1 x2 x3 x4 y = proj (fun l => x0 (ix2 (y 0) l)) x1 ⟨2816 + (y 1).val, by have : (y 1).val < 2816 := (y 1).isLt; omega⟩ := by
  unfold out0_8
  canon_tiles x h
  case piece0 => exact (show _ = k0_pay3 (F := Ideal) (View.ld x0 r0_0) (View.ld x1 r0_42) x from rfl).trans ((tile_proj x0 x1 5376 (by omega) _ (ldU10 x1) x).trans (proj_congr x0 x1 h0.symm (by show 5376 + (x 1).val = 2816 + (y 1).val; omega)))
  case piece1 => exact (show _ = k0_pay3 (F := Ideal) (View.ld x0 r0_0) (View.ld x1 r0_38) x from rfl).trans ((tile_proj x0 x1 5120 (by omega) _ (ldU9 x1) x).trans (proj_congr x0 x1 h0.symm (by show 5120 + (x 1).val = 2816 + (y 1).val; omega)))
  case piece2 => exact (show _ = k0_pay3 (F := Ideal) (View.ld x0 r0_0) (View.ld x1 r0_34) x from rfl).trans ((tile_proj x0 x1 4864 (by omega) _ (ldU8 x1) x).trans (proj_congr x0 x1 h0.symm (by show 4864 + (x 1).val = 2816 + (y 1).val; omega)))
  case piece3 => exact (show _ = k0_pay3 (F := Ideal) (View.ld x0 r0_0) (View.ld x1 r0_30) x from rfl).trans ((tile_proj x0 x1 4608 (by omega) _ (ldU7 x1) x).trans (proj_congr x0 x1 h0.symm (by show 4608 + (x 1).val = 2816 + (y 1).val; omega)))
  case piece4 => exact (show _ = k0_pay3 (F := Ideal) (View.ld x0 r0_0) (View.ld x1 r0_26) x from rfl).trans ((tile_proj x0 x1 4352 (by omega) _ (ldU6 x1) x).trans (proj_congr x0 x1 h0.symm (by show 4352 + (x 1).val = 2816 + (y 1).val; omega)))
  case piece5 => exact (show _ = k0_pay3 (F := Ideal) (View.ld x0 r0_0) (View.ld x1 r0_22) x from rfl).trans ((tile_proj x0 x1 4096 (by omega) _ (ldU5 x1) x).trans (proj_congr x0 x1 h0.symm (by show 4096 + (x 1).val = 2816 + (y 1).val; omega)))
  case piece6 => exact (show _ = k0_pay3 (F := Ideal) (View.ld x0 r0_0) (View.ld x1 r0_18) x from rfl).trans ((tile_proj x0 x1 3840 (by omega) _ (ldU4 x1) x).trans (proj_congr x0 x1 h0.symm (by show 3840 + (x 1).val = 2816 + (y 1).val; omega)))
  case piece7 => exact (show _ = k0_pay3 (F := Ideal) (View.ld x0 r0_0) (View.ld x1 r0_14) x from rfl).trans ((tile_proj x0 x1 3584 (by omega) _ (ldU3 x1) x).trans (proj_congr x0 x1 h0.symm (by show 3584 + (x 1).val = 2816 + (y 1).val; omega)))
  case piece8 => exact (show _ = k0_pay3 (F := Ideal) (View.ld x0 r0_0) (View.ld x1 r0_10) x from rfl).trans ((tile_proj x0 x1 3328 (by omega) _ (ldU2 x1) x).trans (proj_congr x0 x1 h0.symm (by show 3328 + (x 1).val = 2816 + (y 1).val; omega)))
  case piece9 => exact (show _ = k0_pay3 (F := Ideal) (View.ld x0 r0_0) (View.ld x1 r0_6) x from rfl).trans ((tile_proj x0 x1 3072 (by omega) _ (ldU1 x1) x).trans (proj_congr x0 x1 h0.symm (by show 3072 + (x 1).val = 2816 + (y 1).val; omega)))
  case piece10 => exact (show _ = k0_pay3 (F := Ideal) (View.ld x0 r0_0) (View.ld x1 r0_2) x from rfl).trans ((tile_proj x0 x1 2816 (by omega) _ (ldU0 x1) x).trans (proj_congr x0 x1 h0.symm (by show 2816 + (x 1).val = 2816 + (y 1).val; omega)))

theorem stored9 (y : S512x2816.Idx) : out0_9 x0 x1 x2 x3 x4 y = hidden (fun l => x0 (ix2 (y 0) l)) x1 (y 1) := by
  unfold out0_9
  canon_tiles x h
  case piece0 =>
    refine (show _ = k0_pay5 (F := Ideal) (View.ld x0 r0_0) (View.ld x1 r0_41) (View.ld x1 r0_42) x from rfl).trans ((gated _ _ _ x).trans ?_)
    rw [tile_proj x0 x1 2560 (by omega) _ (ldG10 x1) x, tile_proj x0 x1 5376 (by omega) _ (ldU10 x1) x]
    exact hidden_eq x0 x1 h0.symm (by simpa using h1.symm) (by show 5376 + (x 1).val = 2816 + (y 1).val; omega)
  case piece1 =>
    refine (show _ = k0_pay5 (F := Ideal) (View.ld x0 r0_0) (View.ld x1 r0_37) (View.ld x1 r0_38) x from rfl).trans ((gated _ _ _ x).trans ?_)
    rw [tile_proj x0 x1 2304 (by omega) _ (ldG9 x1) x, tile_proj x0 x1 5120 (by omega) _ (ldU9 x1) x]
    exact hidden_eq x0 x1 h0.symm (by simpa using h1.symm) (by show 5120 + (x 1).val = 2816 + (y 1).val; omega)
  case piece2 =>
    refine (show _ = k0_pay5 (F := Ideal) (View.ld x0 r0_0) (View.ld x1 r0_33) (View.ld x1 r0_34) x from rfl).trans ((gated _ _ _ x).trans ?_)
    rw [tile_proj x0 x1 2048 (by omega) _ (ldG8 x1) x, tile_proj x0 x1 4864 (by omega) _ (ldU8 x1) x]
    exact hidden_eq x0 x1 h0.symm (by simpa using h1.symm) (by show 4864 + (x 1).val = 2816 + (y 1).val; omega)
  case piece3 =>
    refine (show _ = k0_pay5 (F := Ideal) (View.ld x0 r0_0) (View.ld x1 r0_29) (View.ld x1 r0_30) x from rfl).trans ((gated _ _ _ x).trans ?_)
    rw [tile_proj x0 x1 1792 (by omega) _ (ldG7 x1) x, tile_proj x0 x1 4608 (by omega) _ (ldU7 x1) x]
    exact hidden_eq x0 x1 h0.symm (by simpa using h1.symm) (by show 4608 + (x 1).val = 2816 + (y 1).val; omega)
  case piece4 =>
    refine (show _ = k0_pay5 (F := Ideal) (View.ld x0 r0_0) (View.ld x1 r0_25) (View.ld x1 r0_26) x from rfl).trans ((gated _ _ _ x).trans ?_)
    rw [tile_proj x0 x1 1536 (by omega) _ (ldG6 x1) x, tile_proj x0 x1 4352 (by omega) _ (ldU6 x1) x]
    exact hidden_eq x0 x1 h0.symm (by simpa using h1.symm) (by show 4352 + (x 1).val = 2816 + (y 1).val; omega)
  case piece5 =>
    refine (show _ = k0_pay5 (F := Ideal) (View.ld x0 r0_0) (View.ld x1 r0_21) (View.ld x1 r0_22) x from rfl).trans ((gated _ _ _ x).trans ?_)
    rw [tile_proj x0 x1 1280 (by omega) _ (ldG5 x1) x, tile_proj x0 x1 4096 (by omega) _ (ldU5 x1) x]
    exact hidden_eq x0 x1 h0.symm (by simpa using h1.symm) (by show 4096 + (x 1).val = 2816 + (y 1).val; omega)
  case piece6 =>
    refine (show _ = k0_pay5 (F := Ideal) (View.ld x0 r0_0) (View.ld x1 r0_17) (View.ld x1 r0_18) x from rfl).trans ((gated _ _ _ x).trans ?_)
    rw [tile_proj x0 x1 1024 (by omega) _ (ldG4 x1) x, tile_proj x0 x1 3840 (by omega) _ (ldU4 x1) x]
    exact hidden_eq x0 x1 h0.symm (by simpa using h1.symm) (by show 3840 + (x 1).val = 2816 + (y 1).val; omega)
  case piece7 =>
    refine (show _ = k0_pay5 (F := Ideal) (View.ld x0 r0_0) (View.ld x1 r0_13) (View.ld x1 r0_14) x from rfl).trans ((gated _ _ _ x).trans ?_)
    rw [tile_proj x0 x1 768 (by omega) _ (ldG3 x1) x, tile_proj x0 x1 3584 (by omega) _ (ldU3 x1) x]
    exact hidden_eq x0 x1 h0.symm (by simpa using h1.symm) (by show 3584 + (x 1).val = 2816 + (y 1).val; omega)
  case piece8 =>
    refine (show _ = k0_pay5 (F := Ideal) (View.ld x0 r0_0) (View.ld x1 r0_9) (View.ld x1 r0_10) x from rfl).trans ((gated _ _ _ x).trans ?_)
    rw [tile_proj x0 x1 512 (by omega) _ (ldG2 x1) x, tile_proj x0 x1 3328 (by omega) _ (ldU2 x1) x]
    exact hidden_eq x0 x1 h0.symm (by simpa using h1.symm) (by show 3328 + (x 1).val = 2816 + (y 1).val; omega)
  case piece9 =>
    refine (show _ = k0_pay5 (F := Ideal) (View.ld x0 r0_0) (View.ld x1 r0_5) (View.ld x1 r0_6) x from rfl).trans ((gated _ _ _ x).trans ?_)
    rw [tile_proj x0 x1 256 (by omega) _ (ldG1 x1) x, tile_proj x0 x1 3072 (by omega) _ (ldU1 x1) x]
    exact hidden_eq x0 x1 h0.symm (by simpa using h1.symm) (by show 3072 + (x 1).val = 2816 + (y 1).val; omega)
  case piece10 =>
    refine (show _ = k0_pay5 (F := Ideal) (View.ld x0 r0_0) (View.ld x1 r0_1) (View.ld x1 r0_2) x from rfl).trans ((gated _ _ _ x).trans ?_)
    rw [tile_proj x0 x1 0 (by omega) _ (ldG0 x1) x, tile_proj x0 x1 2816 (by omega) _ (ldU0 x1) x]
    exact hidden_eq x0 x1 h0.symm (by simpa using h1.symm) (by show 2816 + (x 1).val = 2816 + (y 1).val; omega)

end Stored

end Cert.Kernel2Ideal.FeedForward
-- ==== Proof.FeedForwardValue.lean ====
/- The value of a feed-forward block's forward call: the blocks the kernel stores are the reference's results. -/
module

public import proofs.«01_k».proof.Proof.FeedForward
public import proofs.«01_k».proof.Proof.Gen.Reference2Ideal.Read
public import proofs.«01_k».proof.Defs
public import Idealize.ShloMosaic.Lib.Claim
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Kernel2Ideal.FeedForward

open Idealize.ShloMosaic Idealize.ShloMosaic.TcCoe Idealize.SL.Sem
open Idealize.ShloMosaic.Pipeline (Dat)

/-! ## The reference's results at an index -/

section Ref
open Cert.Reference2Ideal Cert.Reference2Ideal.Gen Cert.Reference2Ideal.Read

variable (X : FVec Ideal S16384x1024 .f32) (W : FVec Ideal S1024x5632 .f32) (V : FVec Ideal S2816x1024 .f32) (g b : FVec Ideal S1x1024 .f32)

theorem product_at (j : S16384x5632.Idx) : val_main_v0 (F := Ideal) X W j = proj (fun l => X (ix2 (j 0) l)) W (j 1) := by
  pointwise [val_main_v0, proj]

theorem gate_at (j : S16384x2816.Idx) : val_main_v1 (F := Ideal) X W j = proj (fun l => X (ix2 (j 0) l)) W ⟨(j 1).val, by have : (j 1).val < 2816 := (j 1).isLt; omega⟩ := by
  rw [val_main_v1_apply, product_at]; rfl

theorem up_at (j : S16384x2816.Idx) : val_main_v2 (F := Ideal) X W j = proj (fun l => X (ix2 (j 0) l)) W ⟨2816 + (j 1).val, by have : (j 1).val < 2816 := (j 1).isLt; omega⟩ := by
  rw [val_main_v2_apply, product_at]; rfl

theorem sig_at (j : S16384x2816.Idx) : val_main_v4 (F := Ideal) X W j = act (val_main_v1 (F := Ideal) X W j) (val_main_v2 (F := Ideal) X W j) := by
  pointwise [val_main_v4, val_main_v3, val_main_call0_v5, val_main_call0_v4, val_main_call0_v3, val_main_call0_v2, val_main_call0_v1, val_main_call0_v0, val_main_call0_cst, val_main_call0_cst_0, act]
  rw [zero_sub]

theorem hidden_at (j : S16384x2816.Idx) : val_main_v4 (F := Ideal) X W j = hidden (fun l => X (ix2 (j 0) l)) W (j 1) := by
  rw [sig_at, gate_at, up_at]; rfl

theorem resid_at (j : S16384x1024.Idx) : val_main_v10 (F := Ideal) X W V j = resid (fun l => X (ix2 (j 0) l)) W V (j 1) := by
  pointwise [val_main_v10, val_main_v9, val_main_v8, val_main_v7, val_main_v6, val_main_v5, val_main_cst, val_main_cst_0, hidden_at, resid, join]

theorem norm_at (j : S16384x1024.Idx) : val_main_v30 (F := Ideal) X W V g b j
    = norm (fun c => val_main_v10 (F := Ideal) X W V (ix2 (j 0) c)) (g (ix2 0 (j 1))) (b (ix2 0 (j 1))) (j 1) := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_cst_1, val_main_cst_2, val_main_cst_3, val_main_cst_4, val_main_cst_5, norm, mean]

end Ref

open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

theorem iblk1 (c : Dev nD) (t : Fin cfg0.N) : (iblk m c 1 t : S1024x5632.Idx → EReal) = m ((c.tc : Thread nD τ).loc main_arg1) := by
  blk_ext! [iblk, idx t]

theorem iblk2 (c : Dev nD) (t : Fin cfg0.N) : (iblk m c 2 t : S2816x1024.Idx → EReal) = m ((c.tc : Thread nD τ).loc main_arg2) := by
  blk_ext! [iblk, idx t]

theorem iblk3 (c : Dev nD) (t : Fin cfg0.N) : iblk m c 3 t = m ((c.tc : Thread nD τ).loc main_arg3) := by
  blk_ext! [iblk, V, idx t]

theorem iblk4 (c : Dev nD) (t : Fin cfg0.N) : iblk m c 4 t = m ((c.tc : Thread nD τ).loc main_arg4) := by
  blk_ext! [iblk, V, idx t]

theorem iblk0 (c : Dev nD) (t : Fin cfg0.N) (i : Fin 512) (j : Fin 16384) (h : j.val = t.val * 512 + i.val) :
    (fun l : Fin 1024 => (iblk m c 0 t : S512x1024.Idx → EReal) (ix2 i l)) = fun l => (m ((c.tc : Thread nD τ).loc main_arg0) : S16384x1024.Idx → EReal) (ix2 j l) := by
  funext l
  blk_ext [iblk, V, idx t]

theorem proj_eq {X X' : Fin 1024 → EReal} {W : S1024x5632.Idx → EReal} {k k' : Fin 5632} (hX : X = X') (hk : k.val = k'.val) : proj X W k = proj X' W k' := by
  rw [hX, Fin.ext hk]

theorem hidden_eq' {X X' : Fin 1024 → EReal} {W : S1024x5632.Idx → EReal} {k k' : Fin 2816} (hX : X = X') (hk : k.val = k'.val) : hidden X W k = hidden X' W k' := by
  rw [hX, Fin.ext hk]

theorem resid_eq {X X' : Fin 1024 → EReal} {W : S1024x5632.Idx → EReal} {V : S2816x1024.Idx → EReal} {k k' : Fin 1024} (hX : X = X') (hk : k.val = k'.val) :
    resid X W V k = resid X' W V k' := by
  rw [hX, Fin.ext hk]

theorem norm_eq {R R' : Fin 1024 → EReal} {g b : S1x1024.Idx → EReal} {k k' : Fin 1024} (hR : ∀ c, R c = R' c) (hk : k.val = k'.val) :
    norm R (g (ix2 0 k)) (b (ix2 0 k)) k = norm R' (g (ix2 0 k')) (b (ix2 0 k')) k' := by
  rw [funext hR, Fin.ext hk]

/-! ## The arrays after the run -/

section Arrays
open Cert.Reference2Ideal.Read (val_main_v1 val_main_v2 val_main_v4 val_main_v10 val_main_v30 val_main_v31 val_main_v32 val_main_v33)

/-- The reference's result number 0 at a device's arguments. -/
def res5 (c : Dev nD) := val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's result number 1 at a device's arguments. -/
def res6 (c : Dev nD) := val_main_v10 (F := Ideal) (m ((c.tc : Thread nD τ).loc main_arg0)) (m ((c.tc : Thread nD τ).loc main_arg1)) (m ((c.tc : Thread nD τ).loc main_arg2))

/-- The reference's result number 2 at a device's arguments. -/
def res7 (c : Dev nD) := val_main_v31 (F := Ideal) (m ((c.tc : Thread nD τ).loc main_arg0)) (m ((c.tc : Thread nD τ).loc main_arg1))

/-- The reference's result number 3 at a device's arguments. -/
def res8 (c : Dev nD) := val_main_v32 (F := Ideal) (m ((c.tc : Thread nD τ).loc main_arg0)) (m ((c.tc : Thread nD τ).loc main_arg1))

/-- The reference's result number 4 at a device's arguments. -/
def res9 (c : Dev nD) := val_main_v33 (F := Ideal) (m ((c.tc : Thread nD τ).loc main_arg0)) (m ((c.tc : Thread nD τ).loc main_arg1))

theorem final5 (c : Dev nD) : (dats m 0 c).arrAt 5 (cfgs 0).N = res5 m c := by
  refine (dats m 0 c).arrAt_eq_of_covers 5 _ (by decide +kernel) fun t hf y => ?_
  blk_simp
  rw [after0_5]
  rw [stored5, normBlock_at, iblk1, iblk2, iblk3, iblk4]
  refine Eq.trans ?_ (norm_at _ _ _ _ _ _).symm
  refine norm_eq (fun k => ?_) (by blk_simp [idx t])
  rw [resBlock_at]
  refine Eq.trans ?_ (resid_at _ _ _ _).symm
  exact resid_eq (iblk0 m c t _ _ (by blk_simp [idx t])) rfl

theorem final6 (c : Dev nD) : (dats m 0 c).arrAt 6 (cfgs 0).N = res6 m c := by
  refine (dats m 0 c).arrAt_eq_of_covers 6 _ (by decide +kernel) fun t hf y => ?_
  blk_simp
  rw [after0_6]
  rw [stored6, resBlock_at, iblk1, iblk2]
  refine Eq.trans ?_ (resid_at _ _ _ _).symm
  exact resid_eq (iblk0 m c t _ _ (by blk_simp [idx t])) (by blk_simp [idx t])

theorem final7 (c : Dev nD) : (dats m 0 c).arrAt 7 (cfgs 0).N = res7 m c := by
  refine (dats m 0 c).arrAt_eq_of_covers 7 _ (by decide +kernel) fun t hf y => ?_
  blk_simp
  rw [after0_7]
  rw [stored7, iblk1]
  refine Eq.trans ?_ (gate_at _ _ _).symm
  exact proj_eq (iblk0 m c t _ _ (by blk_simp [idx t])) (by blk_simp [idx t])

theorem final8 (c : Dev nD) : (dats m 0 c).arrAt 8 (cfgs 0).N = res8 m c := by
  refine (dats m 0 c).arrAt_eq_of_covers 8 _ (by decide +kernel) fun t hf y => ?_
  blk_simp
  rw [after0_8]
  rw [stored8, iblk1]
  refine Eq.trans ?_ (up_at _ _ _).symm
  exact proj_eq (iblk0 m c t _ _ (by blk_simp [idx t])) (by blk_simp [idx t])

theorem final9 (c : Dev nD) : (dats m 0 c).arrAt 9 (cfgs 0).N = res9 m c := by
  refine (dats m 0 c).arrAt_eq_of_covers 9 _ (by decide +kernel) fun t hf y => ?_
  blk_simp
  rw [after0_9]
  rw [stored9, iblk1]
  refine Eq.trans ?_ (hidden_at _ _ _).symm
  exact hidden_eq' (iblk0 m c t _ _ (by blk_simp [idx t])) (by blk_simp [idx t])

end Arrays

theorem value : Cert.algebraic_Kernel2Ideal_Reference2Ideal (hKernel2Ideal := Cert.Kernel2Ideal.Gen.facts)
    (hReference2Ideal := Cert.Reference2Ideal.Gen.facts) := by
  intro m ρ m' ρ' _ hm
  refine ⟨res5 m, res6 m, res7 m, res8 m, res9 m, ?_, ?_⟩
  · refine (θ_run defs _ _).mono (fun r h c => ?_) (θ_run_and (run_main m ρ) (unchanged m ρ))
    exact ⟨(h.1.out_eq c 5).trans (final5 m c), (h.1.out_eq c 6).trans (final6 m c), (h.1.out_eq c 7).trans (final7 m c),
      (h.1.out_eq c 8).trans (final8 m c), (h.1.out_eq c 9).trans (final9 m c), h.2 c⟩
  · refine (θ_run Cert.Reference2Ideal.defs _ _).mono (fun r h c => ?_) (Cert.Reference2Ideal.Value.run (F := Ideal) m' ρ')
    obtain ⟨h0, h1, h2, h3, h4, ha⟩ := h c
    obtain ⟨e0, e1, e2, e3, e4⟩ := hm c
    refine ⟨h0.trans ((Cert.Reference2Ideal.Read.val_main_v30_eq m' c).trans ?_), h1.trans ((Cert.Reference2Ideal.Read.val_main_v10_eq _ _ _).trans ?_),
      h2.trans ((Cert.Reference2Ideal.Read.val_main_v31_eq _ _).trans ?_), h3.trans ((Cert.Reference2Ideal.Read.val_main_v32_eq _ _).trans ?_),
      h4.trans ((Cert.Reference2Ideal.Read.val_main_v33_eq _ _).trans ?_), ha⟩
    · rw [e0, e1, e2, e3, e4]; rfl
    · rw [e0, e1, e2]; rfl
    · rw [e0, e1]; rfl
    · rw [e0, e1]; rfl
    · rw [e0, e1]; rfl

section Frame

variable (m : (ℓ : Loc Cert.Reference2Ideal.nD Cert.Reference2Ideal.τ Cert.Reference2Ideal.sig) → Buf (Elt Ideal) ℓ)
  (ρ : Dev Cert.Reference2Ideal.nD → PrngReg)

theorem frame_reference : θ_run (Cert.Reference2Ideal.defs (F := Ideal)) (onTc (τ := Cert.Reference2Ideal.τ) (Cert.Reference2Ideal.main (F := Ideal))) ⟨m, fun _ => 0, ρ⟩ (fun r =>
      (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m ρ)

end Frame

end Cert.Kernel2Ideal.FeedForward
-- ==== Proof.Maths.lean ====
/- The gradients of causal attention with decays, over the real numbers. -/
module

public import Idealize.ShloMosaic.Lib.Pointwise
public import Idealize.ShloMosaic.Lib.IdealHost
public import Mathlib.Analysis.SpecialFunctions.Pow.Real
public import Mathlib.Analysis.SpecialFunctions.Log.Basic

@[expose] public section

noncomputable section

namespace Cert.Maths

open Idealize.ShloMosaic

/-- Real numbers in the places of the arguments: queries, keys, values and the output's cotangent, and the heads'
cumulative decays. -/
structure Args where
  q : Fin 16384 → Fin 512 → ℝ
  k : Fin 16384 → Fin 512 → ℝ
  v : Fin 16384 → Fin 512 → ℝ
  c : Fin 16384 → Fin 8 → ℝ
  dO : Fin 16384 → Fin 512 → ℝ

/-- Column `d` of head `h`. -/
def col (h : Fin 8) (d : Fin 64) : Fin 512 := ⟨h.val * 64 + d.val, by have := h.isLt; have := d.isLt; omega⟩

/-- The head of a column. -/
def hd (e : Fin 512) : Fin 8 := ⟨e.val / 64, by have := e.isLt; omega⟩

/-- The place of a column in its head. -/
def ln (e : Fin 512) : Fin 64 := ⟨e.val % 64, Nat.mod_lt _ (by decide)⟩

theorem col_hd (e : Fin 512) : col (hd e) (ln e) = e := Fin.ext (Nat.div_add_mod' e.val 64)

variable (A : Args)

namespace Args

/-- The logit of query `t` and key `r` in head `h`. -/
def lg (h : Fin 8) (t r : Fin 16384) : ℝ := (∑ d, A.q t (col h d) * A.k r (col h d)) * (1 / 8) + A.c t h - A.c r h

/-- The weight before normalisation. -/
def w (h : Fin 8) (t r : Fin 16384) : ℝ := if r.val ≤ t.val then Real.exp (A.lg h t r) else 0

/-- The sum of the weights of a query. -/
def L (h : Fin 8) (t : Fin 16384) : ℝ := ∑ r, A.w h t r

/-- The probability. -/
def p (h : Fin 8) (t r : Fin 16384) : ℝ := A.w h t r / A.L h t

/-- The gradient of the probability. -/
def dP (h : Fin 8) (t r : Fin 16384) : ℝ := ∑ d, A.dO t (col h d) * A.v r (col h d)

/-- The row sum of the probabilities times their gradients. -/
def dl (h : Fin 8) (t : Fin 16384) : ℝ := ∑ r, A.p h t r * A.dP h t r

/-- The gradient of the logit. -/
def ds (h : Fin 8) (t r : Fin 16384) : ℝ := A.p h t r * (A.dP h t r - A.dl h t)

/-- The gradient of the queries. -/
def dq (h : Fin 8) (d : Fin 64) (t : Fin 16384) : ℝ := ∑ r, A.ds h t r * (1 / 8) * A.k r (col h d)

/-- The gradient of the keys. -/
def dk (h : Fin 8) (d : Fin 64) (r : Fin 16384) : ℝ := ∑ t, A.ds h t r * (1 / 8) * A.q t (col h d)

/-- The gradient of the values. -/
def dv (h : Fin 8) (d : Fin 64) (r : Fin 16384) : ℝ := ∑ t, A.dO t (col h d) * A.p h t r

/-- The gradient of the decays on the key side. -/
def dck (h : Fin 8) (r : Fin 16384) : ℝ := ∑ t, -A.ds h t r

/-- The gradient of the decays on the query side. -/
def dcq (h : Fin 8) (t : Fin 16384) : ℝ := ∑ r, A.ds h t r

theorem w_nonneg (h : Fin 8) (t r : Fin 16384) : 0 ≤ A.w h t r := by
  unfold w; split
  · exact (Real.exp_pos _).le
  · exact le_rfl

theorem L_pos (h : Fin 8) (t : Fin 16384) : 0 < A.L h t :=
  Finset.sum_pos' (fun r _ => A.w_nonneg h t r) ⟨t, Finset.mem_univ _, by
    unfold w; rw [if_pos le_rfl]; exact Real.exp_pos _⟩

/-- The weights after a shift of the logits by `M`. -/
theorem w_shift (M : ℝ) (h : Fin 8) (t r : Fin 16384) :
    (if r.val ≤ t.val then Real.exp (A.lg h t r - M) else 0) = A.w h t r * Real.exp (-M) := by
  unfold w; split
  · rw [sub_eq_add_neg, Real.exp_add]
  · rw [zero_mul]

theorem L_shift (M : ℝ) (h : Fin 8) (t : Fin 16384) : (∑ r, A.w h t r * Real.exp (-M)) = A.L h t * Real.exp (-M) :=
  (Finset.sum_mul ..).symm

theorem p_shift (M : ℝ) (h : Fin 8) (t r : Fin 16384) :
    A.w h t r * Real.exp (-M) / (A.L h t * Real.exp (-M)) = A.p h t r :=
  mul_div_mul_right _ _ (Real.exp_pos _).ne'

theorem L_shift_pos (M : ℝ) (h : Fin 8) (t : Fin 16384) : 0 < A.L h t * Real.exp (-M) :=
  mul_pos (A.L_pos h t) (Real.exp_pos _)

/-- The gradient of the logit, from the shifted weights. -/
theorem ds_shift (M : ℝ) (h : Fin 8) (t r : Fin 16384) :
    (A.dP h t r / (A.L h t * Real.exp (-M)) + -∑ x, A.dP h t x * (1 / (A.L h t * Real.exp (-M) * (A.L h t * Real.exp (-M)))) * (A.w h t x * Real.exp (-M)))
      * (A.w h t r * Real.exp (-M)) = A.ds h t r := by
  have hL := (A.L_pos h t).ne'
  have hE := (Real.exp_pos (-M)).ne'
  have s : (∑ x, A.dP h t x * (1 / (A.L h t * Real.exp (-M) * (A.L h t * Real.exp (-M)))) * (A.w h t x * Real.exp (-M)))
      = A.dl h t * (1 / (A.L h t * Real.exp (-M))) := by
    unfold dl
    rw [Finset.sum_mul]
    refine Finset.sum_congr rfl fun x _ => ?_
    unfold p
    field_simp
  rw [s]
  unfold ds p
  field_simp
  ring

/-- The row sum from the output of the attention. -/
theorem dl_eq (h : Fin 8) (t : Fin 16384) : (∑ d, A.dO t (col h d) * ∑ r, A.p h t r * A.v r (col h d)) = A.dl h t := by
  unfold dl dP
  simp only [Finset.mul_sum]
  rw [Finset.sum_comm]
  exact Finset.sum_congr rfl fun r _ => Finset.sum_congr rfl fun d _ => by ring

theorem ds_masked (h : Fin 8) (t r : Fin 16384) (hr : ¬ r.val ≤ t.val) : A.ds h t r = 0 := by
  unfold ds p w
  rw [if_neg hr, zero_div, zero_mul]

/-- The probability as a power of two, from the log-sum-exp. -/
theorem p_pow (M : ℝ) (h : Fin 8) (t r : Fin 16384) :
    (if r.val ≤ t.val then Real.rpow 2 ((∑ d, A.k r (col h d) * (A.q t (col h d) * ((1 / 8) / Real.log 2)))
      + ((A.c t h - (M + Real.log (A.L h t * Real.exp (-M)))) / Real.log 2 - A.c r h / Real.log 2)) else 0) = A.p h t r := by
  have hl : Real.log 2 ≠ 0 := (Real.log_pos one_lt_two).ne'
  unfold p w
  split
  · have e : ((∑ d, A.k r (col h d) * (A.q t (col h d) * ((1 / 8) / Real.log 2)))
      + ((A.c t h - (M + Real.log (A.L h t * Real.exp (-M)))) / Real.log 2 - A.c r h / Real.log 2))
        = (A.lg h t r - Real.log (A.L h t)) / Real.log 2 := by
      rw [Real.log_mul (A.L_pos h t).ne' (Real.exp_pos _).ne', Real.log_exp]
      unfold lg
      have s : (∑ d, A.k r (col h d) * (A.q t (col h d) * ((1 / 8) / Real.log 2)))
          = (∑ d, A.q t (col h d) * A.k r (col h d)) * ((1 / 8) / Real.log 2) := by
        rw [Finset.sum_mul]
        exact Finset.sum_congr rfl fun d _ => by ring
      rw [s]; field_simp; ring
    have hp : Real.rpow 2 ((A.lg h t r - Real.log (A.L h t)) / Real.log 2) = Real.exp (A.lg h t r - Real.log (A.L h t)) := by
      rw [Real.rpow_eq_pow, Real.rpow_def_of_pos two_pos, mul_div_cancel₀ _ hl]
    rw [e, hp, Real.exp_sub, Real.exp_log (A.L_pos h t)]
  · rw [zero_div]

end Args

/-- A sum of reals, as extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of extended reals that are reals. -/
theorem sum_coe {ι : Type} [Fintype ι] {f : ι → EReal} (g : ι → ℝ) (h : ∀ i, f i = ((g i : ℝ) : EReal)) :
    ∑ i, f i = ((∑ i, g i : ℝ) : EReal) :=
  (Finset.sum_congr rfl fun i _ => h i).trans (coe_sum _ g)

/-- The quotient of two reals. -/
theorem div_real {x y : ℝ} (h : y ≠ 0) : Ideal.div (x : EReal) (y : EReal) = ((x / y : ℝ) : EReal) := by
  rw [Ideal.div_coe h, ← EReal.coe_mul, mul_one_div]

/-- The scale of the logits. -/
theorem ofBits_eighth : Ideal.ofBits .f32 0x3E000000#32 = ((1 / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee, -EReal.coe_mul]

/-- The largest of finitely many extended reals, each a real or `⊥` and one of them a real, is a real. -/
theorem fold_max_real {n : ℕ} (f : Fin n → EReal) (hf : ∀ r, f r ≠ ⊤) (t : Fin n) (ht : f t ≠ ⊥) :
    ∃ M : ℝ, Finset.univ.fold max (⊥ : EReal) f = (M : EReal) := by
  have h1 : Finset.univ.fold max (⊥ : EReal) f ≠ ⊤ :=
    (Finset.fold_max_lt (b := (⊥ : EReal)) (f := f) (c := ⊤) |>.2 ⟨bot_lt_top, fun x _ => lt_top_iff_ne_top.2 (hf x)⟩).ne
  have h2 : Finset.univ.fold max (⊥ : EReal) f ≠ ⊥ :=
    (bot_lt_iff_ne_bot.2 ht |>.trans_le (Finset.le_fold_max (f t) |>.2 (Or.inr ⟨t, Finset.mem_univ _, le_rfl⟩))).ne'
  exact ⟨_, (EReal.coe_toReal h1 h2).symm⟩

end Cert.Maths
-- ==== Proof.NormMaths.lean ====
/- The gradients of a layer norm and of a gated unit: over the reals the two ways of writing them agree. -/
module

public import proofs.«01_k».proof.Proof.Maths

@[expose] public section

noncomputable section

namespace Cert.NormMaths

open Idealize.ShloMosaic Cert.Maths

/-- A row's mean. -/
def mean (R : Fin 1024 → EReal) : EReal := Ideal.div (∑ x, R x) (Ideal.ofBits .f32 0x44800000#32)

/-- A row's variance, kept away from zero. -/
def spread (R : Fin 1024 → EReal) : EReal := mean (fun x => (R x - mean R) * (R x - mean R)) + Ideal.ofBits .f32 0x3727C5AC#32

/-- The reciprocal of a row's deviation. -/
def rstd (R : Fin 1024 → EReal) : EReal := Ideal.rsqrt (spread R)

/-- A row, normed. -/
def xhat (R : Fin 1024 → EReal) (c : Fin 1024) : EReal := (R c - mean R) * rstd R

/-- The gradient of a row from the normed row's cotangent, by two means. -/
def back (R D G : Fin 1024 → EReal) (c : Fin 1024) : EReal :=
  rstd R * (D c * G c - mean (fun x => D x * G x) - xhat R c * mean (fun x => D x * G x * xhat R x))

/-- The gradient of a row's variance. -/
def dspread (R D G : Fin 1024 → EReal) : EReal :=
  Ideal.div ((∑ x, (R x - mean R) * (D x * G x)) * (Ideal.ofBits .f32 0xBF000000#32 * Ideal.div (rstd R) (spread R))) (Ideal.ofBits .f32 0x44800000#32)

/-- The gradient of a row less its mean. -/
def dcentre (R D G : Fin 1024 → EReal) (c : Fin 1024) : EReal :=
  D c * G c * rstd R + (R c - mean R) * dspread R D G + dspread R D G * (R c - mean R)

/-- The gradient of a row, the chain rule step by step. -/
def chain (R D G : Fin 1024 → EReal) (c : Fin 1024) : EReal :=
  dcentre R D G c + Ideal.div (∑ x, -dcentre R D G x) (Ideal.ofBits .f32 0x44800000#32)

theorem ofBits_n : Ideal.ofBits .f32 0x44800000#32 = ((1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(Ideal.ofBits .f32 0x3727C5AC#32).toReal, ?_, ?_⟩
  · simp [Ideal.ofBits, Ideal.ieee, -EReal.coe_mul]
  · simp [Ideal.ofBits, Ideal.ieee, -EReal.coe_mul]

theorem ofBits_alpha : ∃ e : ℝ, Ideal.ofBits .f32 0x3F9837F0#32 = (e : EReal) := by
  refine ⟨(Ideal.ofBits .f32 0x3F9837F0#32).toReal, ?_⟩
  simp [Ideal.ofBits, Ideal.ieee, -EReal.coe_mul]

theorem mean_real (r : Fin 1024 → ℝ) : mean (fun x => ((r x : ℝ) : EReal)) = (((∑ x, r x) / 1024 : ℝ) : EReal) := by
  unfold mean
  rw [coe_sum, ofBits_n, div_real (by norm_num)]

theorem mean_coe {R : Fin 1024 → EReal} (r : Fin 1024 → ℝ) (h : ∀ x, R x = ((r x : ℝ) : EReal)) : mean R = (((∑ x, r x) / 1024 : ℝ) : EReal) := by
  rw [funext h, mean_real]

theorem spread_real (r : Fin 1024 → ℝ) : ∃ v : ℝ, 0 < v ∧ spread (fun x => ((r x : ℝ) : EReal)) = (v : EReal) := by
  obtain ⟨e, he, hb⟩ := ofBits_eps
  refine ⟨(∑ x, (r x - (∑ x, r x) / 1024) * (r x - (∑ x, r x) / 1024)) / 1024 + e, ?_, ?_⟩
  · have : 0 ≤ ∑ x, (r x - (∑ x, r x) / 1024) * (r x - (∑ x, r x) / 1024) := Finset.sum_nonneg fun x _ => mul_self_nonneg _
    positivity
  · unfold spread
    rw [mean_coe (fun x => (r x - (∑ x, r x) / 1024) * (r x - (∑ x, r x) / 1024)) (fun x => by
      rw [mean_real, ← EReal.coe_sub, ← EReal.coe_mul]), hb, ← EReal.coe_add]

theorem rsqrt_real {v : ℝ} (h : 0 < v) : Ideal.rsqrt (v : EReal) = (((Real.sqrt v)⁻¹ : ℝ) : EReal) := by
  rw [Ideal.rsqrt_coe, if_neg (not_lt.2 h.le), if_neg h.ne']

/-- The two gradients of the layer norm agree, and are real. -/
theorem chain_back (r d g : Fin 1024 → ℝ) (c : Fin 1024) :
    ∃ y : ℝ, back (fun x => ((r x : ℝ) : EReal)) (fun x => ((d x : ℝ) : EReal)) (fun x => ((g x : ℝ) : EReal)) c = (y : EReal)
      ∧ chain (fun x => ((r x : ℝ) : EReal)) (fun x => ((d x : ℝ) : EReal)) (fun x => ((g x : ℝ) : EReal)) c = (y : EReal) := by
  obtain ⟨v, hv, hs⟩ := spread_real r
  set m : ℝ := (∑ x, r x) / 1024 with hm
  set s : ℝ := (Real.sqrt v)⁻¹ with hsd
  have hss : s * s * v = 1 := by
    rw [hsd, ← mul_inv, Real.mul_self_sqrt hv.le, inv_mul_cancel₀ hv.ne']
  have hr : rstd (fun x => ((r x : ℝ) : EReal)) = (s : EReal) := by unfold rstd; rw [hs, rsqrt_real hv]
  have hx : ∀ x, xhat (fun x => ((r x : ℝ) : EReal)) x = (((r x - m) * s : ℝ) : EReal) := fun x => by
    unfold xhat; rw [hr, mean_real, ← EReal.coe_sub, ← EReal.coe_mul]
  have hc : ∑ x, (r x - m) = 0 := by
    rw [Finset.sum_sub_distrib, Finset.sum_const, Finset.card_univ, Fintype.card_fin, hm]; simp; ring
  set S : ℝ := ∑ x, (r x - m) * (d x * g x) with hS
  set T : ℝ := ∑ x, d x * g x with hT
  have hb : back (fun x => ((r x : ℝ) : EReal)) (fun x => ((d x : ℝ) : EReal)) (fun x => ((g x : ℝ) : EReal)) c
      = ((s * (d c * g c - T / 1024 - (r c - m) * s * ((S * s) / 1024)) : ℝ) : EReal) := by
    unfold back
    rw [hr, hx, mean_coe (fun x => d x * g x) (fun x => (EReal.coe_mul _ _).symm),
      mean_coe (fun x => d x * g x * ((r x - m) * s)) (fun x => by rw [hx, ← EReal.coe_mul, ← EReal.coe_mul])]
    rw [← EReal.coe_mul, ← EReal.coe_sub, ← EReal.coe_mul, ← EReal.coe_sub, ← EReal.coe_mul]
    congr 5
    rw [hS, Finset.sum_mul]
    exact Finset.sum_congr rfl fun x _ => by ring
  have hd : dspread (fun x => ((r x : ℝ) : EReal)) (fun x => ((d x : ℝ) : EReal)) (fun x => ((g x : ℝ) : EReal)) = ((S * (-(1 / 2) * (s / v)) / 1024 : ℝ) : EReal) := by
    unfold dspread
    rw [hr, hs, mean_real, sum_coe (fun x => (r x - m) * (d x * g x)) (fun x => by rw [← EReal.coe_sub, ← EReal.coe_mul, ← EReal.coe_mul]),
      ofBits_neg_half, div_real hv.ne', ← EReal.coe_mul, ← EReal.coe_mul, ofBits_n, div_real (by norm_num)]
  set t : ℝ := S * (-(1 / 2) * (s / v)) / 1024 with ht
  have he : ∀ x, dcentre (fun x => ((r x : ℝ) : EReal)) (fun x => ((d x : ℝ) : EReal)) (fun x => ((g x : ℝ) : EReal)) x
      = ((d x * g x * s + (r x - m) * t + t * (r x - m) : ℝ) : EReal) := fun x => by
    unfold dcentre
    rw [hr, hd, mean_real, ← EReal.coe_sub, ← EReal.coe_mul, ← EReal.coe_mul, ← EReal.coe_mul, ← EReal.coe_mul, ← EReal.coe_add, ← EReal.coe_add]
  refine ⟨_, hb, ?_⟩
  unfold chain
  rw [he, sum_coe (fun x => -(d x * g x * s + (r x - m) * t + t * (r x - m))) (fun x => by rw [he, ← EReal.coe_neg]), ofBits_n, div_real (by norm_num), ← EReal.coe_add]
  congr 1
  have hsum : ∑ x, -(d x * g x * s + (r x - m) * t + t * (r x - m)) = -(T * s) := by
    have : ∀ x, -(d x * g x * s + (r x - m) * t + t * (r x - m)) = -(d x * g x * s) - (r x - m) * (2 * t) := fun x => by ring
    rw [Finset.sum_congr rfl fun x _ => this x, Finset.sum_sub_distrib, ← Finset.sum_mul, hc, Finset.sum_neg_distrib, ← Finset.sum_mul]
    ring
  rw [hsum, ht]
  have hsv : s / v = s * s * s := by
    rw [div_eq_iff hv.ne']
    calc s = s * 1 := (mul_one s).symm
      _ = s * (s * s * v) := by rw [hss]
      _ = s * s * s * v := by ring
  rw [hsv]
  ring

/-- The logistic function. -/
def logi (g : EReal) : EReal := Ideal.div 1 (1 + Ideal.exp (0 - g))

/-- The gradient of the gate, in one product. -/
def dgate (h g u : EReal) : EReal := h * u * logi g * (1 + g * (1 - logi g))

/-- The gradient of the gate, the chain rule step by step. -/
def dgate' (h g u : EReal) : EReal := h * u * logi g + g * (h * u) * (logi g * (1 - logi g))

theorem logi_real (g : ℝ) : ∃ s : ℝ, logi (g : EReal) = (s : EReal) := by
  unfold logi
  rw [zero_sub, ← EReal.coe_neg, Ideal.exp_coe, ← EReal.coe_one, ← EReal.coe_add, div_real (by positivity)]
  exact ⟨_, rfl⟩

theorem dgate_eq (h g u : ℝ) : dgate' (h : EReal) (g : EReal) (u : EReal) = dgate (h : EReal) (g : EReal) (u : EReal) := by
  obtain ⟨s, hs⟩ := logi_real g
  unfold dgate dgate'
  rw [hs, ← EReal.coe_one]
  simp only [← EReal.coe_mul, ← EReal.coe_sub, ← EReal.coe_add]
  congr 1
  ring

/-- A gated unit of reals is real. -/
theorem act_real (g u : ℝ) : ∃ y : ℝ, (g : EReal) * logi (g : EReal) * (u : EReal) = (y : EReal) := by
  obtain ⟨s, hs⟩ := logi_real g
  exact ⟨g * s * u, by rw [hs, ← EReal.coe_mul, ← EReal.coe_mul]⟩

end Cert.NormMaths
-- ==== Proof.FeedForwardBackRef.lean ====
/- A feed-forward block's backward call: the reference's results at an index, on real numbers. -/
module

public import proofs.«01_k».proof.Proof.NormMaths
public import proofs.«01_k».proof.Proof.Gen.Reference8Ideal.Read
public import proofs.«01_k».proof.Defs
public import Idealize.ShloMosaic.Lib.Pipeline.ValueKit

@[expose] public section

set_option maxRecDepth 16384

noncomputable section

namespace Cert.FeedBack

open Idealize.ShloMosaic Idealize.ShloMosaic.TcCoe
open Cert.Maths Cert.NormMaths
open Cert.Reference8Ideal Cert.Reference8Ideal.Gen Cert.Reference8Ideal.Read

/-- The hidden gradient: half the row's gradient times row `k` of the output weights. -/
def dhid (dr : Fin 1024 → EReal) (V : S2816x1024.Idx → EReal) (k : Fin 2816) : EReal :=
  ∑ l : Fin 1024, Ideal.ofBits .f32 0x3F000000#32 * dr l * V (ix2 k l)

/-- The gradients of a row's gates, then of its up values. -/
def dgu (dr : Fin 1024 → EReal) (V : S2816x1024.Idx → EReal) (G U : Fin 2816 → EReal) (k : Fin 5632) : EReal :=
  if h : k.val < 2816 then dgate (dhid dr V ⟨k.val, h⟩) (G ⟨k.val, h⟩) (U ⟨k.val, h⟩)
  else dhid dr V ⟨k.val - 2816, by omega⟩ * G ⟨k.val - 2816, by omega⟩ * logi (G ⟨k.val - 2816, by omega⟩)

/-- The gradient of a row's entry. -/
def dxat (dr : Fin 1024 → EReal) (V : S2816x1024.Idx → EReal) (W : S1024x5632.Idx → EReal) (G U : Fin 2816 → EReal) (c : Fin 1024) : EReal :=
  Ideal.ofBits .f32 0x3F9837F0#32 * dr c + ∑ k : Fin 5632, dgu dr V G U k * W (ix2 c k)

theorem real_sum {n : ℕ} (f : Fin n → EReal) (h : ∀ i, ∃ r : ℝ, f i = (r : EReal)) : ∃ r : ℝ, ∑ i, f i = (r : EReal) := by
  choose r hr using h
  exact ⟨∑ i, r i, sum_coe r hr⟩

theorem real_mul {a b : EReal} (ha : ∃ r : ℝ, a = (r : EReal)) (hb : ∃ r : ℝ, b = (r : EReal)) : ∃ r : ℝ, a * b = (r : EReal) := by
  obtain ⟨a, rfl⟩ := ha
  obtain ⟨b, rfl⟩ := hb
  exact ⟨a * b, (EReal.coe_mul _ _).symm⟩

theorem real_add {a b : EReal} (ha : ∃ r : ℝ, a = (r : EReal)) (hb : ∃ r : ℝ, b = (r : EReal)) : ∃ r : ℝ, a + b = (r : EReal) := by
  obtain ⟨a, rfl⟩ := ha
  obtain ⟨b, rfl⟩ := hb
  exact ⟨a + b, (EReal.coe_add _ _).symm⟩

variable (X : FVec Ideal S16384x1024 .f32) (W : FVec Ideal S1024x5632 .f32) (V : FVec Ideal S2816x1024 .f32) (L : FVec Ideal S1x1024 .f32) (D : FVec Ideal S16384x1024 .f32)

/-- A gate value: an entry of the product with the input weights' first half. -/
theorem gate_at (t : Fin 16384) (k : Fin 2816) : val_main_v5 (F := Ideal) X W (ix2 t k) = ∑ l : Fin 1024, X (ix2 t l) * W (ix2 l ⟨k.val, by omega⟩) := by
  pointwise [val_main_v5, val_main_v4, val_main_v3, val_main_v0, val_main_cst]

/-- An up value. -/
theorem up_at (t : Fin 16384) (k : Fin 2816) : val_main_v6 (F := Ideal) X W (ix2 t k) = ∑ l : Fin 1024, X (ix2 t l) * W (ix2 l ⟨2816 + k.val, by omega⟩) := by
  pointwise [val_main_v6, val_main_v4, val_main_v3, val_main_v0, val_main_cst]

theorem sig_at (j : S16384x2816.Idx) : val_main_v7_2 (F := Ideal) X W j = logi (val_main_v5 (F := Ideal) X W j) := by
  pointwise [val_main_v7_2, val_main_call0_v4, val_main_call0_v3, val_main_call0_v2, val_main_call0_v1, val_main_call0_v0, val_main_call0_cst, val_main_call0_cst_0, logi]
  rw [zero_sub]

/-- A residual sum. -/
theorem resid_at (t : Fin 16384) (c : Fin 1024) : val_main_v15 (F := Ideal) X W V (ix2 t c)
    = Ideal.ofBits .f32 0x3F9837F0#32 * X (ix2 t c) + Ideal.ofBits .f32 0x3F000000#32 * ∑ k : Fin 2816, val_main_v5 (F := Ideal) X W (ix2 t k) * logi (val_main_v5 (F := Ideal) X W (ix2 t k)) * val_main_v6 (F := Ideal) X W (ix2 t k) * V (ix2 k c) := by
  pointwise [val_main_v15, val_main_v14, val_main_v13, val_main_v12, val_main_v11, val_main_v10, val_main_v9, val_main_v8, val_main_v7_0, val_main_v1, val_main_cst_0, val_main_cst_2, val_main_cst_3, sig_at]

theorem centred_at (t : Fin 16384) (c : Fin 1024) : val_main_v21 (F := Ideal) X W V (ix2 t c)
    = val_main_v15 (F := Ideal) X W V (ix2 t c) - mean (fun x => val_main_v15 (F := Ideal) X W V (ix2 t x)) := by
  pointwise [val_main_v21, val_main_v20, val_main_v19, val_main_v18, val_main_v17, val_main_v16, val_main_cst_4, val_main_cst_5, mean]

theorem spread_at (t : Fin 16384) : val_main_v28 (F := Ideal) X W V (ix2 t 0) = spread (fun x => val_main_v15 (F := Ideal) X W V (ix2 t x)) := by
  pointwise [val_main_v28, val_main_v27, val_main_v26, val_main_v25, val_main_v24, val_main_v23, val_main_v22, val_main_cst_6, val_main_cst_7, val_main_cst_8, spread, centred_at]
  rfl

theorem rstd_at (t : Fin 16384) : val_main_v29 (F := Ideal) X W V (ix2 t 0) = rstd (fun x => val_main_v15 (F := Ideal) X W V (ix2 t x)) := by
  pointwise [val_main_v29, rstd, spread_at]

theorem xhat_at (t : Fin 16384) (c : Fin 1024) : val_main_v34 (F := Ideal) X W V (ix2 t c) = xhat (fun x => val_main_v15 (F := Ideal) X W V (ix2 t x)) c := by
  pointwise [val_main_v34, val_main_v33, xhat, rstd_at, centred_at]

theorem dspread_at (t : Fin 16384) : val_main_v54 (F := Ideal) X W V L D (ix2 t 0)
    = dspread (fun x => val_main_v15 (F := Ideal) X W V (ix2 t x)) (fun x => D (ix2 t x)) (fun x => L (ix2 0 x)) := by
  pointwise [val_main_v54, val_main_v53, val_main_v52, val_main_v49, val_main_v48, val_main_v47, val_main_v46, val_main_v45, val_main_v39, val_main_v32, val_main_v31, val_main_v30, val_main_cst_9, val_main_cst_12, val_main_cst_13, dspread, centred_at, spread_at, rstd_at]

theorem one_at (t : Fin 16384) : val_main_v55 (F := Ideal) X W V L D (ix1 t) = val_main_v54 (F := Ideal) X W V L D (ix2 t 0) := by
  pointwise [val_main_v55, val_main_cst_14]
  exact Fin.sum_univ_one _

theorem dcentre_at (t : Fin 16384) (c : Fin 1024) : val_main_v60 (F := Ideal) X W V L D (ix2 t c)
    = dcentre (fun x => val_main_v15 (F := Ideal) X W V (ix2 t x)) (fun x => D (ix2 t x)) (fun x => L (ix2 0 x)) c := by
  pointwise [val_main_v60, val_main_v59, val_main_v58, val_main_v57, val_main_v56, val_main_v51, val_main_v50, val_main_v46, val_main_v45, val_main_v39, dcentre, centred_at, one_at, dspread_at, rstd_at]

theorem two_at (t : Fin 16384) : val_main_v66 (F := Ideal) X W V L D (ix1 t) = Ideal.div (∑ x : Fin 1024, -val_main_v60 (F := Ideal) X W V L D (ix2 t x)) (Ideal.ofBits .f32 0x44800000#32) := by
  pointwise [val_main_v66, val_main_v65, val_main_v64, val_main_v63, val_main_v62, val_main_v61, val_main_cst_15, val_main_cst_16, val_main_cst_17]
  exact Fin.sum_univ_one _

theorem chain_at (t : Fin 16384) (c : Fin 1024) : val_main_v68 (F := Ideal) X W V L D (ix2 t c)
    = chain (fun x => val_main_v15 (F := Ideal) X W V (ix2 t x)) (fun x => D (ix2 t x)) (fun x => L (ix2 0 x)) c := by
  pointwise [val_main_v68, val_main_v67, chain, two_at, dcentre_at]

theorem half_at (t : Fin 16384) (c : Fin 1024) : val_main_v70 (F := Ideal) X W V L D (ix2 t c) = Ideal.ofBits .f32 0x3F000000#32 * val_main_v68 (F := Ideal) X W V L D (ix2 t c) := by
  pointwise [val_main_v70, val_main_v69, val_main_cst_18]

theorem dhid_at (t : Fin 16384) (k : Fin 2816) : val_main_v73 (F := Ideal) X W V L D (ix2 t k) = dhid (fun c => val_main_v68 (F := Ideal) X W V L D (ix2 t c)) V k := by
  pointwise [val_main_v73, half_at, dhid]

theorem dup_at (t : Fin 16384) (k : Fin 2816) : val_main_v74 (F := Ideal) X W V L D (ix2 t k)
    = val_main_v5 (F := Ideal) X W (ix2 t k) * logi (val_main_v5 (F := Ideal) X W (ix2 t k)) * val_main_v73 (F := Ideal) X W V L D (ix2 t k) := by
  pointwise [val_main_v74, val_main_v7_0, sig_at]

theorem dgate_at (t : Fin 16384) (k : Fin 2816) : val_main_v76 (F := Ideal) X W V L D (ix2 t k)
    = dgate' (val_main_v73 (F := Ideal) X W V L D (ix2 t k)) (val_main_v5 (F := Ideal) X W (ix2 t k)) (val_main_v6 (F := Ideal) X W (ix2 t k)) := by
  pointwise [val_main_v76, val_main_v75, val_main_call1_v0, val_main_call1_v1, val_main_call1_v2, val_main_v7_1, val_main_call0_v7, val_main_call0_v6, val_main_call0_cst_1, dgate', sig_at]

theorem both_at (t : Fin 16384) (k : Fin 5632) : val_main_v77 (F := Ideal) X W V L D (ix2 t k)
    = if h : k.val < 2816 then val_main_v76 (F := Ideal) X W V L D (ix2 t ⟨k.val, h⟩) else val_main_v74 (F := Ideal) X W V L D (ix2 t ⟨k.val - 2816, by omega⟩) := by
  pointwise [val_main_v77]

theorem dx_at (t : Fin 16384) (c : Fin 1024) : val_main_v79 (F := Ideal) X W V L D (ix2 t c)
    = Ideal.ofBits .f32 0x3F9837F0#32 * val_main_v68 (F := Ideal) X W V L D (ix2 t c) + ∑ k : Fin 5632, val_main_v77 (F := Ideal) X W V L D (ix2 t k) * W (ix2 c k) := by
  pointwise [val_main_v79, val_main_v78, val_main_v72, val_main_v71, val_main_cst_19]

theorem dlg_at (c : Fin 1024) : val_main_v44 (F := Ideal) X W V D (ix2 0 c)
    = ∑ t : Fin 16384, D (ix2 t c) * xhat (fun x => val_main_v15 (F := Ideal) X W V (ix2 t x)) c := by
  pointwise [val_main_v44, val_main_v43, val_main_v42, val_main_v39, val_main_cst_11, xhat_at]
  exact Finset.sum_congr rfl fun t _ => mul_comm _ _

theorem dlb_at (c : Fin 1024) : val_main_v41 (F := Ideal) D (ix2 0 c) = ∑ t : Fin 16384, D (ix2 t c) := by
  pointwise [val_main_v41, val_main_v40, val_main_cst_10]

section Real

variable (hX : ∀ t c, ∃ r : ℝ, X (ix2 t c) = (r : EReal)) (hW : ∀ l k, ∃ r : ℝ, W (ix2 l k) = (r : EReal)) (hV : ∀ k c, ∃ r : ℝ, V (ix2 k c) = (r : EReal))
  (hL : ∀ c, ∃ r : ℝ, L (ix2 0 c) = (r : EReal)) (hD : ∀ t c, ∃ r : ℝ, D (ix2 t c) = (r : EReal))

include hX hW in
theorem gate_real (t : Fin 16384) (k : Fin 2816) : ∃ r : ℝ, val_main_v5 (F := Ideal) X W (ix2 t k) = (r : EReal) := by
  rw [gate_at]
  exact real_sum _ fun l => real_mul (hX t l) (hW l _)

include hX hW in
theorem up_real (t : Fin 16384) (k : Fin 2816) : ∃ r : ℝ, val_main_v6 (F := Ideal) X W (ix2 t k) = (r : EReal) := by
  rw [up_at]
  exact real_sum _ fun l => real_mul (hX t l) (hW l _)

include hX hW hV in
theorem resid_real (t : Fin 16384) (c : Fin 1024) : ∃ r : ℝ, val_main_v15 (F := Ideal) X W V (ix2 t c) = (r : EReal) := by
  rw [resid_at]
  refine real_add (real_mul ofBits_alpha (hX t c)) (real_mul ⟨_, ofBits_half⟩ (real_sum _ fun k => real_mul (real_mul (real_mul (gate_real X W hX hW t k) ?_) (up_real X W hX hW t k)) (hV k c)))
  obtain ⟨g, hg⟩ := gate_real X W hX hW t k
  rw [hg]
  exact logi_real g

include hX hW hV hL hD in
/-- The reference's gradient of the residual sum is the two-mean form, and real. -/
theorem back_at (t : Fin 16384) (c : Fin 1024) : val_main_v68 (F := Ideal) X W V L D (ix2 t c)
      = back (fun x => val_main_v15 (F := Ideal) X W V (ix2 t x)) (fun x => D (ix2 t x)) (fun x => L (ix2 0 x)) c
    ∧ ∃ r : ℝ, val_main_v68 (F := Ideal) X W V L D (ix2 t c) = (r : EReal) := by
  choose r hr using fun x => resid_real X W V hX hW hV t x
  choose d hd using fun x => hD t x
  choose g hg using hL
  rw [chain_at, funext hr, funext hd, funext hg]
  obtain ⟨y, h1, h2⟩ := chain_back r d g c
  exact ⟨h2.trans h1.symm, y, h2⟩

include hX hW hV hL hD in
theorem dhid_real (t : Fin 16384) (k : Fin 2816) : ∃ r : ℝ, val_main_v73 (F := Ideal) X W V L D (ix2 t k) = (r : EReal) := by
  rw [dhid_at]
  exact real_sum _ fun l => real_mul (real_mul ⟨_, ofBits_half⟩ (back_at X W V L D hX hW hV hL hD t l).2) (hV k l)

include hX hW hV hL hD in
theorem dgu_at (t : Fin 16384) (k : Fin 5632) : val_main_v77 (F := Ideal) X W V L D (ix2 t k)
    = dgu (back (fun x => val_main_v15 (F := Ideal) X W V (ix2 t x)) (fun x => D (ix2 t x)) (fun x => L (ix2 0 x))) V
        (fun k => val_main_v5 (F := Ideal) X W (ix2 t k)) (fun k => val_main_v6 (F := Ideal) X W (ix2 t k)) k := by
  have e : (back (fun x => val_main_v15 (F := Ideal) X W V (ix2 t x)) (fun x => D (ix2 t x)) (fun x => L (ix2 0 x))) = fun c => val_main_v68 (F := Ideal) X W V L D (ix2 t c) :=
    funext fun c => (back_at X W V L D hX hW hV hL hD t c).1.symm
  rw [both_at, e]
  unfold dgu
  split
  · rw [dgate_at, ← dhid_at]
    obtain ⟨h, hh⟩ := dhid_real X W V L D hX hW hV hL hD t ⟨k.val, by assumption⟩
    obtain ⟨g, hg⟩ := gate_real X W hX hW t ⟨k.val, by assumption⟩
    obtain ⟨u, hu⟩ := up_real X W hX hW t ⟨k.val, by assumption⟩
    dsimp only
    rw [hh, hg, hu, dgate_eq]
  · rw [dup_at, ← dhid_at]
    dsimp only
    ac_rfl

include hX hW hV hL hD in
theorem dx_eq (t : Fin 16384) (c : Fin 1024) : val_main_v79 (F := Ideal) X W V L D (ix2 t c)
    = dxat (back (fun x => val_main_v15 (F := Ideal) X W V (ix2 t x)) (fun x => D (ix2 t x)) (fun x => L (ix2 0 x))) V W
        (fun k => val_main_v5 (F := Ideal) X W (ix2 t k)) (fun k => val_main_v6 (F := Ideal) X W (ix2 t k)) c := by
  rw [dx_at, (back_at X W V L D hX hW hV hL hD t c).1]
  exact congrArg _ (Finset.sum_congr rfl fun k _ => congrArg (· * _) (dgu_at X W V L D hX hW hV hL hD t k))

include hX hW hV hL hD in
theorem df_at (t : Fin 16384) (c : Fin 1024) : val_main_v81 (F := Ideal) X W V L D (ix2 t c)
    = Ideal.ofBits .f32 0x3F000000#32 * back (fun x => val_main_v15 (F := Ideal) X W V (ix2 t x)) (fun x => D (ix2 t x)) (fun x => L (ix2 0 x)) c := by
  rw [← (back_at X W V L D hX hW hV hL hD t c).1, ← half_at]
  pointwise [val_main_v81]

end Real

end Cert.FeedBack
-- ==== Proof.FeedForwardBack.lean ====
/- A feed-forward block's backward call: the tiles the kernel computes, chunk by chunk. -/
module

public import proofs.«01_k».proof.Proof.FeedForwardBackRef
public import proofs.«01_k».proof.Proof.Gen.Kernel8Ideal.Frame
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Kernel8Ideal.Back

open Idealize.ShloMosaic Idealize.ShloMosaic.TcCoe Idealize.SL.Sem
open Idealize.ShloMosaic.Pipeline (Dat)
open Cert.NormMaths Cert.FeedBack
open Cert.Kernel8Ideal Cert.Kernel8Ideal.Gen

/-! ## The kernel's values on a tile -/

theorem centre_at (r : Vec Ideal S256x1024 .f32) (z : S256x1024.Idx) : k0_pay2 (F := Ideal) r z = r z - mean (fun x => r (ix2 (z 0) x)) := by
  pointwise [k0_pay2, mean]

theorem rstd_at (r : Vec Ideal S256x1024 .f32) (i : Fin 256) (j : Fin 1) : k0_pay3 (F := Ideal) r (ix2 i j) = rstd (fun x => r (ix2 i x)) := by
  pointwise [k0_pay3, centre_at, rstd, spread]
  rfl

theorem xhat_at (r : Vec Ideal S256x1024 .f32) (i : Fin 256) (c : Fin 1024) : k0_pay4 (F := Ideal) r (ix2 i c) = xhat (fun x => r (ix2 i x)) c := by
  pointwise [k0_pay4, centre_at, rstd_at, xhat]

theorem back_at (d r : Vec Ideal S256x1024 .f32) (g : Vec Ideal S1x1024 .f32) (i : Fin 256) (c : Fin 1024) :
    k0_pay5 (F := Ideal) d r g (ix2 i c) = back (fun x => r (ix2 i x)) (fun x => d (ix2 i x)) (fun x => g (ix2 0 x)) c := by
  pointwise [k0_pay5, xhat_at, rstd_at, back, mean]

theorem lgrad_at (d x : Vec Ideal S256x1024 .f32) (a : Vec Ideal S1x1024 .f32) (j : S1x1024.Idx) :
    k0_pay8 (F := Ideal) d x a j = a j + ∑ k : Fin 256, d (ix2 k (j 1)) * x (ix2 k (j 1)) := by
  pointwise [k0_pay8]

theorem bgrad_at (d : Vec Ideal S256x1024 .f32) (a : Vec Ideal S1x1024 .f32) (j : S1x1024.Idx) :
    k0_pay9 (F := Ideal) d a j = a j + ∑ k : Fin 256, d (ix2 k (j 1)) := by
  pointwise [k0_pay9]

theorem cleared_l (j : S1x1024.Idx) : k0_pay6 (F := Ideal) j = 0 := by pointwise [k0_pay6]

theorem cleared_b (j : S1x1024.Idx) : k0_pay7 (F := Ideal) j = 0 := by pointwise [k0_pay7]

theorem half_at (r : FVec Ideal S256x1024 .f32) (z : S256x1024.Idx) : k0_pay10 (F := Ideal) r z = Ideal.ofBits .f32 0x3F000000#32 * r z := by
  pointwise [k0_pay10]

theorem hid_at (r : FVec Ideal S256x1024 .f32) (w : Vec Ideal S256x1024 .bf16) (z : S256x256.Idx) :
    k0_pay12 (F := Ideal) r w z = ∑ l : Fin 1024, Ideal.ofBits .f32 0x3F000000#32 * r (ix2 (z 0) l) * w (ix2 (z 1) l) := by
  pointwise [k0_pay12, half_at]

/-- A tile of gate gradients. -/
def gTile (r : FVec Ideal S256x1024 .f32) (w : Vec Ideal S256x1024 .bf16) (g u : Vec Ideal S256x256 .bf16) : FVec Ideal S256x256 .bf16 :=
  k0_pay18 (k0_pay12 r w) (k0_pay14 g) (k0_pay15 u) (k0_pay16 g)

/-- A tile of up gradients. -/
def uTile (r : FVec Ideal S256x1024 .f32) (w : Vec Ideal S256x1024 .bf16) (g : Vec Ideal S256x256 .bf16) : FVec Ideal S256x256 .bf16 :=
  k0_pay19 (k0_pay12 r w) (k0_pay14 g) (k0_pay16 g)

theorem gTile_at (r : FVec Ideal S256x1024 .f32) (w : Vec Ideal S256x1024 .bf16) (g u : Vec Ideal S256x256 .bf16) (z : S256x256.Idx) :
    gTile r w g u z = dgate (k0_pay12 (F := Ideal) r w z) (g z) (u z) := by
  pointwise [gTile, k0_pay18, k0_pay14, k0_pay15, k0_pay16, k0_pay17, dgate, logi]

theorem uTile_at (r : FVec Ideal S256x1024 .f32) (w : Vec Ideal S256x1024 .bf16) (g : Vec Ideal S256x256 .bf16) (z : S256x256.Idx) :
    uTile r w g z = k0_pay12 (F := Ideal) r w z * g z * logi (g z) := by
  pointwise [uTile, k0_pay19, k0_pay14, k0_pay16, k0_pay17, logi]

/-- The running product with one chunk of both halves added. -/
def step (r : FVec Ideal S256x1024 .f32) (w : Vec Ideal S256x1024 .bf16) (g u : Vec Ideal S256x256 .bf16) (a b : Vec Ideal S1024x256 .bf16) (acc : FVec Ideal S256x1024 .f32) : FVec Ideal S256x1024 .f32 :=
  k0_pay20 acc (k0_pay12 r w) (k0_pay14 g) (k0_pay15 u) (k0_pay16 g) a b

theorem step_at (r : FVec Ideal S256x1024 .f32) (w : Vec Ideal S256x1024 .bf16) (g u : Vec Ideal S256x256 .bf16) (a b : Vec Ideal S1024x256 .bf16) (acc : FVec Ideal S256x1024 .f32) (z : S256x1024.Idx) :
    step r w g u a b acc z = acc z + (∑ k : Fin 256, gTile r w g u (ix2 (z 0) k) * a (ix2 (z 1) k)) + ∑ k : Fin 256, uTile r w g (ix2 (z 0) k) * b (ix2 (z 1) k) := by
  pointwise [step, k0_pay20]
  rfl

section Tiles

variable (r : FVec Ideal S256x1024 .f32) (x2 x3 : Vec Ideal S256x2816 .bf16) (x4 : Vec Ideal S1024x5632 .bf16) (x5 : Vec Ideal S2816x1024 .bf16)

/-- A row's gate and up gradients. -/
def row (i : Fin 256) (k : Fin 5632) : EReal := dgu (fun l => r (ix2 i l)) x5 (fun k => x2 (ix2 i k)) (fun k => x3 (ix2 i k)) k

variable (b : ℕ) (hb : b + 256 ≤ 2816) (w : Vec Ideal S256x1024 .bf16) (g u : Vec Ideal S256x256 .bf16)
  (hw : ∀ z : S256x1024.Idx, w z = x5 (ix2 ⟨b + (z 0).val, by have : (z 0).val < 256 := (z 0).isLt; omega⟩ (z 1)))
  (hg : ∀ z : S256x256.Idx, g z = x2 (ix2 (z 0) ⟨b + (z 1).val, by have : (z 1).val < 256 := (z 1).isLt; omega⟩))
  (hu : ∀ z : S256x256.Idx, u z = x3 (ix2 (z 0) ⟨b + (z 1).val, by have : (z 1).val < 256 := (z 1).isLt; omega⟩))

include hw in
theorem hid_row (z : S256x256.Idx) : k0_pay12 (F := Ideal) r w z = dhid (fun l => r (ix2 (z 0) l)) x5 ⟨b + (z 1).val, by have : (z 1).val < 256 := (z 1).isLt; omega⟩ := by
  rw [hid_at]
  exact Finset.sum_congr rfl fun l _ => congrArg _ (hw _)

include hw hg hu in
theorem gTile_row (z : S256x256.Idx) : gTile r w g u z = row r x2 x3 x5 (z 0) ⟨b + (z 1).val, by have : (z 1).val < 256 := (z 1).isLt; omega⟩ := by
  have h : b + (z 1).val < 2816 := by have : (z 1).val < 256 := (z 1).isLt; omega
  rw [gTile_at, hid_row r x5 b hb w hw, hg, hu]
  unfold row dgu
  rw [dif_pos h]

include hw hg in
theorem uTile_row (z : S256x256.Idx) : uTile r w g z = row r x2 x3 x5 (z 0) ⟨2816 + (b + (z 1).val), by have : (z 1).val < 256 := (z 1).isLt; omega⟩ := by
  have h : b + (z 1).val < 2816 := by have : (z 1).val < 256 := (z 1).isLt; omega
  rw [uTile_at, hid_row r x5 b hb w hw, hg]
  unfold row dgu
  rw [dif_neg (by show ¬ 2816 + (b + (z 1).val) < 2816; omega)]
  have e : ∀ p, (⟨2816 + (b + (z 1).val) - 2816, p⟩ : Fin 2816) = ⟨b + (z 1).val, h⟩ := fun p => Fin.ext (by show 2816 + (b + (z 1).val) - 2816 = b + (z 1).val; omega)
  simp only [e]

include hw hg hu in
theorem step_row (A B : Vec Ideal S1024x256 .bf16) (acc : FVec Ideal S256x1024 .f32)
    (hA : ∀ z : S1024x256.Idx, A z = x4 (ix2 (z 0) ⟨b + (z 1).val, by have : (z 1).val < 256 := (z 1).isLt; omega⟩))
    (hB : ∀ z : S1024x256.Idx, B z = x4 (ix2 (z 0) ⟨2816 + (b + (z 1).val), by have : (z 1).val < 256 := (z 1).isLt; omega⟩)) (i : Fin 256) (c : Fin 1024) :
    step r w g u A B acc (ix2 i c) = acc (ix2 i c)
      + (∑ k : Fin 256, row r x2 x3 x5 i ⟨b + k.val, by omega⟩ * x4 (ix2 c ⟨b + k.val, by omega⟩))
      + ∑ k : Fin 256, row r x2 x3 x5 i ⟨2816 + (b + k.val), by omega⟩ * x4 (ix2 c ⟨2816 + (b + k.val), by omega⟩) := by
  rw [step_at]
  refine congrArg₂ (· + ·) (congrArg₂ (· + ·) rfl (Finset.sum_congr rfl fun k _ => ?_)) (Finset.sum_congr rfl fun k _ => ?_)
  · rw [gTile_row r x2 x3 x5 b hb w g u hw hg hu, hA]; rfl
  · rw [uTile_row r x2 x3 x5 b hb w g hw hg, hB]; rfl

end Tiles

/-- Sums added chunk by chunk, of both halves alternately, are one sum. -/
theorem alternate (F : Fin 5632 → EReal) (A B : Fin 11 → EReal)
    (hA : ∀ s : Fin 11, A s = ∑ k : Fin 256, F ⟨256 * s.val + k.val, by omega⟩) (hB : ∀ s : Fin 11, B s = ∑ k : Fin 256, F ⟨2816 + (256 * s.val + k.val), by omega⟩) :
    0 + A 0 + B 0 + A 1 + B 1 + A 2 + B 2 + A 3 + B 3 + A 4 + B 4 + A 5 + B 5 + A 6 + B 6 + A 7 + B 7 + A 8 + B 8 + A 9 + B 9 + A 10 + B 10 = ∑ k, F k := by
  have e : ∑ k, F k = (∑ k : Fin 2816, F ⟨k.val, by omega⟩) + ∑ k : Fin 2816, F ⟨2816 + k.val, by omega⟩ := Fin.sum_univ_add (a := 2816) (b := 2816) F
  have eA : ∑ s, A s = ∑ k : Fin 2816, F ⟨k.val, by omega⟩ := by
    rw [← Fin.sum_mul_add_fin 11 256 (fun k : Fin 2816 => F ⟨k.val, by omega⟩)]
    refine Finset.sum_congr rfl fun s _ => (hA s).trans (Finset.sum_congr rfl fun k _ => congrArg F (Fin.ext (by show 256 * s.val + k.val = s.val * 256 + k.val; omega)))
  have eB : ∑ s, B s = ∑ k : Fin 2816, F ⟨2816 + k.val, by omega⟩ := by
    rw [← Fin.sum_mul_add_fin 11 256 (fun k : Fin 2816 => F ⟨2816 + k.val, by omega⟩)]
    refine Finset.sum_congr rfl fun s _ => (hB s).trans (Finset.sum_congr rfl fun k _ => congrArg F (Fin.ext (by show 2816 + (256 * s.val + k.val) = 2816 + (s.val * 256 + k.val); omega)))
  rw [e, ← eA, ← eB, ← Finset.sum_add_distrib]
  simp only [Fin.sum_univ_castSucc, Fin.sum_univ_zero, ← add_assoc]
  rfl

/-! ## The chunks of the operands -/

abbrev rW0 : Rect S2816x1024 := Rect.unit (s := S2816x1024) ![0, 0] S256x1024.size inb_S2816x1024_S256x1024_0_0
abbrev rG0 : Rect S256x2816 := Rect.unit (s := S256x2816) ![0, 0] S256x256.size inb_S256x2816_S256x256_0_0
abbrev rA0 : Rect S1024x5632 := Rect.unit (s := S1024x5632) ![0, 0] S1024x256.size inb_S1024x5632_S1024x256_0_0
abbrev rB0 : Rect S1024x5632 := Rect.unit (s := S1024x5632) ![0, 2816] S1024x256.size inb_S1024x5632_S1024x256_0_2816

abbrev rW1 : Rect S2816x1024 := Rect.unit (s := S2816x1024) ![256, 0] S256x1024.size inb_S2816x1024_S256x1024_256_0
abbrev rG1 : Rect S256x2816 := Rect.unit (s := S256x2816) ![0, 256] S256x256.size inb_S256x2816_S256x256_0_256
abbrev rA1 : Rect S1024x5632 := Rect.unit (s := S1024x5632) ![0, 256] S1024x256.size inb_S1024x5632_S1024x256_0_256
abbrev rB1 : Rect S1024x5632 := Rect.unit (s := S1024x5632) ![0, 3072] S1024x256.size inb_S1024x5632_S1024x256_0_3072

abbrev rW2 : Rect S2816x1024 := Rect.unit (s := S2816x1024) ![512, 0] S256x1024.size inb_S2816x1024_S256x1024_512_0
abbrev rG2 : Rect S256x2816 := Rect.unit (s := S256x2816) ![0, 512] S256x256.size inb_S256x2816_S256x256_0_512
abbrev rA2 : Rect S1024x5632 := Rect.unit (s := S1024x5632) ![0, 512] S1024x256.size inb_S1024x5632_S1024x256_0_512
abbrev rB2 : Rect S1024x5632 := Rect.unit (s := S1024x5632) ![0, 3328] S1024x256.size inb_S1024x5632_S1024x256_0_3328

abbrev rW3 : Rect S2816x1024 := Rect.unit (s := S2816x1024) ![768, 0] S256x1024.size inb_S2816x1024_S256x1024_768_0
abbrev rG3 : Rect S256x2816 := Rect.unit (s := S256x2816) ![0, 768] S256x256.size inb_S256x2816_S256x256_0_768
abbrev rA3 : Rect S1024x5632 := Rect.unit (s := S1024x5632) ![0, 768] S1024x256.size inb_S1024x5632_S1024x256_0_768
abbrev rB3 : Rect S1024x5632 := Rect.unit (s := S1024x5632) ![0, 3584] S1024x256.size inb_S1024x5632_S1024x256_0_3584

abbrev rW4 : Rect S2816x1024 := Rect.unit (s := S2816x1024) ![1024, 0] S256x1024.size inb_S2816x1024_S256x1024_1024_0
abbrev rG4 : Rect S256x2816 := Rect.unit (s := S256x2816) ![0, 1024] S256x256.size inb_S256x2816_S256x256_0_1024
abbrev rA4 : Rect S1024x5632 := Rect.unit (s := S1024x5632) ![0, 1024] S1024x256.size inb_S1024x5632_S1024x256_0_1024
abbrev rB4 : Rect S1024x5632 := Rect.unit (s := S1024x5632) ![0, 3840] S1024x256.size inb_S1024x5632_S1024x256_0_3840

abbrev rW5 : Rect S2816x1024 := Rect.unit (s := S2816x1024) ![1280, 0] S256x1024.size inb_S2816x1024_S256x1024_1280_0
abbrev rG5 : Rect S256x2816 := Rect.unit (s := S256x2816) ![0, 1280] S256x256.size inb_S256x2816_S256x256_0_1280
abbrev rA5 : Rect S1024x5632 := Rect.unit (s := S1024x5632) ![0, 1280] S1024x256.size inb_S1024x5632_S1024x256_0_1280
abbrev rB5 : Rect S1024x5632 := Rect.unit (s := S1024x5632) ![0, 4096] S1024x256.size inb_S1024x5632_S1024x256_0_4096

abbrev rW6 : Rect S2816x1024 := Rect.unit (s := S2816x1024) ![1536, 0] S256x1024.size inb_S2816x1024_S256x1024_1536_0
abbrev rG6 : Rect S256x2816 := Rect.unit (s := S256x2816) ![0, 1536] S256x256.size inb_S256x2816_S256x256_0_1536
abbrev rA6 : Rect S1024x5632 := Rect.unit (s := S1024x5632) ![0, 1536] S1024x256.size inb_S1024x5632_S1024x256_0_1536
abbrev rB6 : Rect S1024x5632 := Rect.unit (s := S1024x5632) ![0, 4352] S1024x256.size inb_S1024x5632_S1024x256_0_4352

abbrev rW7 : Rect S2816x1024 := Rect.unit (s := S2816x1024) ![1792, 0] S256x1024.size inb_S2816x1024_S256x1024_1792_0
abbrev rG7 : Rect S256x2816 := Rect.unit (s := S256x2816) ![0, 1792] S256x256.size inb_S256x2816_S256x256_0_1792
abbrev rA7 : Rect S1024x5632 := Rect.unit (s := S1024x5632) ![0, 1792] S1024x256.size inb_S1024x5632_S1024x256_0_1792
abbrev rB7 : Rect S1024x5632 := Rect.unit (s := S1024x5632) ![0, 4608] S1024x256.size inb_S1024x5632_S1024x256_0_4608

abbrev rW8 : Rect S2816x1024 := Rect.unit (s := S2816x1024) ![2048, 0] S256x1024.size inb_S2816x1024_S256x1024_2048_0
abbrev rG8 : Rect S256x2816 := Rect.unit (s := S256x2816) ![0, 2048] S256x256.size inb_S256x2816_S256x256_0_2048
abbrev rA8 : Rect S1024x5632 := Rect.unit (s := S1024x5632) ![0, 2048] S1024x256.size inb_S1024x5632_S1024x256_0_2048
abbrev rB8 : Rect S1024x5632 := Rect.unit (s := S1024x5632) ![0, 4864] S1024x256.size inb_S1024x5632_S1024x256_0_4864

abbrev rW9 : Rect S2816x1024 := Rect.unit (s := S2816x1024) ![2304, 0] S256x1024.size inb_S2816x1024_S256x1024_2304_0
abbrev rG9 : Rect S256x2816 := Rect.unit (s := S256x2816) ![0, 2304] S256x256.size inb_S256x2816_S256x256_0_2304
abbrev rA9 : Rect S1024x5632 := Rect.unit (s := S1024x5632) ![0, 2304] S1024x256.size inb_S1024x5632_S1024x256_0_2304
abbrev rB9 : Rect S1024x5632 := Rect.unit (s := S1024x5632) ![0, 5120] S1024x256.size inb_S1024x5632_S1024x256_0_5120

abbrev rW10 : Rect S2816x1024 := Rect.unit (s := S2816x1024) ![2560, 0] S256x1024.size inb_S2816x1024_S256x1024_2560_0
abbrev rG10 : Rect S256x2816 := Rect.unit (s := S256x2816) ![0, 2560] S256x256.size inb_S256x2816_S256x256_0_2560
abbrev rA10 : Rect S1024x5632 := Rect.unit (s := S1024x5632) ![0, 2560] S1024x256.size inb_S1024x5632_S1024x256_0_2560
abbrev rB10 : Rect S1024x5632 := Rect.unit (s := S1024x5632) ![0, 5376] S1024x256.size inb_S1024x5632_S1024x256_0_5376

theorem ldW0 (x : Vec Ideal S2816x1024 .bf16) (z : S256x1024.Idx) : View.ld x rW0 z = x (ix2 ⟨0 + (z 0).val, by have : (z 0).val < 256 := (z 0).isLt; omega⟩ (z 1)) := by
  refine congrArg x ?_; idx_ext
theorem ldG0 (x : Vec Ideal S256x2816 .bf16) (z : S256x256.Idx) : View.ld x rG0 z = x (ix2 (z 0) ⟨0 + (z 1).val, by have : (z 1).val < 256 := (z 1).isLt; omega⟩) := by
  refine congrArg x ?_; idx_ext
theorem ldA0 (x : Vec Ideal S1024x5632 .bf16) (z : S1024x256.Idx) : View.ld x rA0 z = x (ix2 (z 0) ⟨0 + (z 1).val, by have : (z 1).val < 256 := (z 1).isLt; omega⟩) := by
  refine congrArg x ?_; idx_ext
theorem ldB0 (x : Vec Ideal S1024x5632 .bf16) (z : S1024x256.Idx) : View.ld x rB0 z = x (ix2 (z 0) ⟨2816 + (0 + (z 1).val), by have : (z 1).val < 256 := (z 1).isLt; omega⟩) := by
  refine congrArg x ?_; idx_ext

theorem ldW1 (x : Vec Ideal S2816x1024 .bf16) (z : S256x1024.Idx) : View.ld x rW1 z = x (ix2 ⟨256 + (z 0).val, by have : (z 0).val < 256 := (z 0).isLt; omega⟩ (z 1)) := by
  refine congrArg x ?_; idx_ext
theorem ldG1 (x : Vec Ideal S256x2816 .bf16) (z : S256x256.Idx) : View.ld x rG1 z = x (ix2 (z 0) ⟨256 + (z 1).val, by have : (z 1).val < 256 := (z 1).isLt; omega⟩) := by
  refine congrArg x ?_; idx_ext
theorem ldA1 (x : Vec Ideal S1024x5632 .bf16) (z : S1024x256.Idx) : View.ld x rA1 z = x (ix2 (z 0) ⟨256 + (z 1).val, by have : (z 1).val < 256 := (z 1).isLt; omega⟩) := by
  refine congrArg x ?_; idx_ext
theorem ldB1 (x : Vec Ideal S1024x5632 .bf16) (z : S1024x256.Idx) : View.ld x rB1 z = x (ix2 (z 0) ⟨2816 + (256 + (z 1).val), by have : (z 1).val < 256 := (z 1).isLt; omega⟩) := by
  refine congrArg x ?_; idx_ext

theorem ldW2 (x : Vec Ideal S2816x1024 .bf16) (z : S256x1024.Idx) : View.ld x rW2 z = x (ix2 ⟨512 + (z 0).val, by have : (z 0).val < 256 := (z 0).isLt; omega⟩ (z 1)) := by
  refine congrArg x ?_; idx_ext
theorem ldG2 (x : Vec Ideal S256x2816 .bf16) (z : S256x256.Idx) : View.ld x rG2 z = x (ix2 (z 0) ⟨512 + (z 1).val, by have : (z 1).val < 256 := (z 1).isLt; omega⟩) := by
  refine congrArg x ?_; idx_ext
theorem ldA2 (x : Vec Ideal S1024x5632 .bf16) (z : S1024x256.Idx) : View.ld x rA2 z = x (ix2 (z 0) ⟨512 + (z 1).val, by have : (z 1).val < 256 := (z 1).isLt; omega⟩) := by
  refine congrArg x ?_; idx_ext
theorem ldB2 (x : Vec Ideal S1024x5632 .bf16) (z : S1024x256.Idx) : View.ld x rB2 z = x (ix2 (z 0) ⟨2816 + (512 + (z 1).val), by have : (z 1).val < 256 := (z 1).isLt; omega⟩) := by
  refine congrArg x ?_; idx_ext

theorem ldW3 (x : Vec Ideal S2816x1024 .bf16) (z : S256x1024.Idx) : View.ld x rW3 z = x (ix2 ⟨768 + (z 0).val, by have : (z 0).val < 256 := (z 0).isLt; omega⟩ (z 1)) := by
  refine congrArg x ?_; idx_ext
theorem ldG3 (x : Vec Ideal S256x2816 .bf16) (z : S256x256.Idx) : View.ld x rG3 z = x (ix2 (z 0) ⟨768 + (z 1).val, by have : (z 1).val < 256 := (z 1).isLt; omega⟩) := by
  refine congrArg x ?_; idx_ext
theorem ldA3 (x : Vec Ideal S1024x5632 .bf16) (z : S1024x256.Idx) : View.ld x rA3 z = x (ix2 (z 0) ⟨768 + (z 1).val, by have : (z 1).val < 256 := (z 1).isLt; omega⟩) := by
  refine congrArg x ?_; idx_ext
theorem ldB3 (x : Vec Ideal S1024x5632 .bf16) (z : S1024x256.Idx) : View.ld x rB3 z = x (ix2 (z 0) ⟨2816 + (768 + (z 1).val), by have : (z 1).val < 256 := (z 1).isLt; omega⟩) := by
  refine congrArg x ?_; idx_ext

theorem ldW4 (x : Vec Ideal S2816x1024 .bf16) (z : S256x1024.Idx) : View.ld x rW4 z = x (ix2 ⟨1024 + (z 0).val, by have : (z 0).val < 256 := (z 0).isLt; omega⟩ (z 1)) := by
  refine congrArg x ?_; idx_ext
theorem ldG4 (x : Vec Ideal S256x2816 .bf16) (z : S256x256.Idx) : View.ld x rG4 z = x (ix2 (z 0) ⟨1024 + (z 1).val, by have : (z 1).val < 256 := (z 1).isLt; omega⟩) := by
  refine congrArg x ?_; idx_ext
theorem ldA4 (x : Vec Ideal S1024x5632 .bf16) (z : S1024x256.Idx) : View.ld x rA4 z = x (ix2 (z 0) ⟨1024 + (z 1).val, by have : (z 1).val < 256 := (z 1).isLt; omega⟩) := by
  refine congrArg x ?_; idx_ext
theorem ldB4 (x : Vec Ideal S1024x5632 .bf16) (z : S1024x256.Idx) : View.ld x rB4 z = x (ix2 (z 0) ⟨2816 + (1024 + (z 1).val), by have : (z 1).val < 256 := (z 1).isLt; omega⟩) := by
  refine congrArg x ?_; idx_ext

theorem ldW5 (x : Vec Ideal S2816x1024 .bf16) (z : S256x1024.Idx) : View.ld x rW5 z = x (ix2 ⟨1280 + (z 0).val, by have : (z 0).val < 256 := (z 0).isLt; omega⟩ (z 1)) := by
  refine congrArg x ?_; idx_ext
theorem ldG5 (x : Vec Ideal S256x2816 .bf16) (z : S256x256.Idx) : View.ld x rG5 z = x (ix2 (z 0) ⟨1280 + (z 1).val, by have : (z 1).val < 256 := (z 1).isLt; omega⟩) := by
  refine congrArg x ?_; idx_ext
theorem ldA5 (x : Vec Ideal S1024x5632 .bf16) (z : S1024x256.Idx) : View.ld x rA5 z = x (ix2 (z 0) ⟨1280 + (z 1).val, by have : (z 1).val < 256 := (z 1).isLt; omega⟩) := by
  refine congrArg x ?_; idx_ext
theorem ldB5 (x : Vec Ideal S1024x5632 .bf16) (z : S1024x256.Idx) : View.ld x rB5 z = x (ix2 (z 0) ⟨2816 + (1280 + (z 1).val), by have : (z 1).val < 256 := (z 1).isLt; omega⟩) := by
  refine congrArg x ?_; idx_ext

theorem ldW6 (x : Vec Ideal S2816x1024 .bf16) (z : S256x1024.Idx) : View.ld x rW6 z = x (ix2 ⟨1536 + (z 0).val, by have : (z 0).val < 256 := (z 0).isLt; omega⟩ (z 1)) := by
  refine congrArg x ?_; idx_ext
theorem ldG6 (x : Vec Ideal S256x2816 .bf16) (z : S256x256.Idx) : View.ld x rG6 z = x (ix2 (z 0) ⟨1536 + (z 1).val, by have : (z 1).val < 256 := (z 1).isLt; omega⟩) := by
  refine congrArg x ?_; idx_ext
theorem ldA6 (x : Vec Ideal S1024x5632 .bf16) (z : S1024x256.Idx) : View.ld x rA6 z = x (ix2 (z 0) ⟨1536 + (z 1).val, by have : (z 1).val < 256 := (z 1).isLt; omega⟩) := by
  refine congrArg x ?_; idx_ext
theorem ldB6 (x : Vec Ideal S1024x5632 .bf16) (z : S1024x256.Idx) : View.ld x rB6 z = x (ix2 (z 0) ⟨2816 + (1536 + (z 1).val), by have : (z 1).val < 256 := (z 1).isLt; omega⟩) := by
  refine congrArg x ?_; idx_ext

theorem ldW7 (x : Vec Ideal S2816x1024 .bf16) (z : S256x1024.Idx) : View.ld x rW7 z = x (ix2 ⟨1792 + (z 0).val, by have : (z 0).val < 256 := (z 0).isLt; omega⟩ (z 1)) := by
  refine congrArg x ?_; idx_ext
theorem ldG7 (x : Vec Ideal S256x2816 .bf16) (z : S256x256.Idx) : View.ld x rG7 z = x (ix2 (z 0) ⟨1792 + (z 1).val, by have : (z 1).val < 256 := (z 1).isLt; omega⟩) := by
  refine congrArg x ?_; idx_ext
theorem ldA7 (x : Vec Ideal S1024x5632 .bf16) (z : S1024x256.Idx) : View.ld x rA7 z = x (ix2 (z 0) ⟨1792 + (z 1).val, by have : (z 1).val < 256 := (z 1).isLt; omega⟩) := by
  refine congrArg x ?_; idx_ext
theorem ldB7 (x : Vec Ideal S1024x5632 .bf16) (z : S1024x256.Idx) : View.ld x rB7 z = x (ix2 (z 0) ⟨2816 + (1792 + (z 1).val), by have : (z 1).val < 256 := (z 1).isLt; omega⟩) := by
  refine congrArg x ?_; idx_ext

theorem ldW8 (x : Vec Ideal S2816x1024 .bf16) (z : S256x1024.Idx) : View.ld x rW8 z = x (ix2 ⟨2048 + (z 0).val, by have : (z 0).val < 256 := (z 0).isLt; omega⟩ (z 1)) := by
  refine congrArg x ?_; idx_ext
theorem ldG8 (x : Vec Ideal S256x2816 .bf16) (z : S256x256.Idx) : View.ld x rG8 z = x (ix2 (z 0) ⟨2048 + (z 1).val, by have : (z 1).val < 256 := (z 1).isLt; omega⟩) := by
  refine congrArg x ?_; idx_ext
theorem ldA8 (x : Vec Ideal S1024x5632 .bf16) (z : S1024x256.Idx) : View.ld x rA8 z = x (ix2 (z 0) ⟨2048 + (z 1).val, by have : (z 1).val < 256 := (z 1).isLt; omega⟩) := by
  refine congrArg x ?_; idx_ext
theorem ldB8 (x : Vec Ideal S1024x5632 .bf16) (z : S1024x256.Idx) : View.ld x rB8 z = x (ix2 (z 0) ⟨2816 + (2048 + (z 1).val), by have : (z 1).val < 256 := (z 1).isLt; omega⟩) := by
  refine congrArg x ?_; idx_ext

theorem ldW9 (x : Vec Ideal S2816x1024 .bf16) (z : S256x1024.Idx) : View.ld x rW9 z = x (ix2 ⟨2304 + (z 0).val, by have : (z 0).val < 256 := (z 0).isLt; omega⟩ (z 1)) := by
  refine congrArg x ?_; idx_ext
theorem ldG9 (x : Vec Ideal S256x2816 .bf16) (z : S256x256.Idx) : View.ld x rG9 z = x (ix2 (z 0) ⟨2304 + (z 1).val, by have : (z 1).val < 256 := (z 1).isLt; omega⟩) := by
  refine congrArg x ?_; idx_ext
theorem ldA9 (x : Vec Ideal S1024x5632 .bf16) (z : S1024x256.Idx) : View.ld x rA9 z = x (ix2 (z 0) ⟨2304 + (z 1).val, by have : (z 1).val < 256 := (z 1).isLt; omega⟩) := by
  refine congrArg x ?_; idx_ext
theorem ldB9 (x : Vec Ideal S1024x5632 .bf16) (z : S1024x256.Idx) : View.ld x rB9 z = x (ix2 (z 0) ⟨2816 + (2304 + (z 1).val), by have : (z 1).val < 256 := (z 1).isLt; omega⟩) := by
  refine congrArg x ?_; idx_ext

theorem ldW10 (x : Vec Ideal S2816x1024 .bf16) (z : S256x1024.Idx) : View.ld x rW10 z = x (ix2 ⟨2560 + (z 0).val, by have : (z 0).val < 256 := (z 0).isLt; omega⟩ (z 1)) := by
  refine congrArg x ?_; idx_ext
theorem ldG10 (x : Vec Ideal S256x2816 .bf16) (z : S256x256.Idx) : View.ld x rG10 z = x (ix2 (z 0) ⟨2560 + (z 1).val, by have : (z 1).val < 256 := (z 1).isLt; omega⟩) := by
  refine congrArg x ?_; idx_ext
theorem ldA10 (x : Vec Ideal S1024x5632 .bf16) (z : S1024x256.Idx) : View.ld x rA10 z = x (ix2 (z 0) ⟨2560 + (z 1).val, by have : (z 1).val < 256 := (z 1).isLt; omega⟩) := by
  refine congrArg x ?_; idx_ext
theorem ldB10 (x : Vec Ideal S1024x5632 .bf16) (z : S1024x256.Idx) : View.ld x rB10 z = x (ix2 (z 0) ⟨2816 + (2560 + (z 1).val), by have : (z 1).val < 256 := (z 1).isLt; omega⟩) := by
  refine congrArg x ?_; idx_ext

/-! ## The stored blocks -/

section Stored

variable (r : FVec Ideal S256x1024 .f32) (x2 x3 : Vec Ideal S256x2816 .bf16) (x4 : Vec Ideal S1024x5632 .bf16) (x5 : Vec Ideal S2816x1024 .bf16)

/-- The product of the gradients with the input weights, chunk by chunk. -/
def prod : FVec Ideal S256x1024 .f32 :=
  step r (View.ld x5 rW10) (View.ld x2 rG10) (View.ld x3 rG10) (View.ld x4 rA10) (View.ld x4 rB10) (step r (View.ld x5 rW9) (View.ld x2 rG9) (View.ld x3 rG9) (View.ld x4 rA9) (View.ld x4 rB9) (step r (View.ld x5 rW8) (View.ld x2 rG8) (View.ld x3 rG8) (View.ld x4 rA8) (View.ld x4 rB8) (step r (View.ld x5 rW7) (View.ld x2 rG7) (View.ld x3 rG7) (View.ld x4 rA7) (View.ld x4 rB7) (step r (View.ld x5 rW6) (View.ld x2 rG6) (View.ld x3 rG6) (View.ld x4 rA6) (View.ld x4 rB6) (step r (View.ld x5 rW5) (View.ld x2 rG5) (View.ld x3 rG5) (View.ld x4 rA5) (View.ld x4 rB5) (step r (View.ld x5 rW4) (View.ld x2 rG4) (View.ld x3 rG4) (View.ld x4 rA4) (View.ld x4 rB4) (step r (View.ld x5 rW3) (View.ld x2 rG3) (View.ld x3 rG3) (View.ld x4 rA3) (View.ld x4 rB3) (step r (View.ld x5 rW2) (View.ld x2 rG2) (View.ld x3 rG2) (View.ld x4 rA2) (View.ld x4 rB2) (step r (View.ld x5 rW1) (View.ld x2 rG1) (View.ld x3 rG1) (View.ld x4 rA1) (View.ld x4 rB1) (step r (View.ld x5 rW0) (View.ld x2 rG0) (View.ld x3 rG0) (View.ld x4 rA0) (View.ld x4 rB0) k0_pay11))))))))))

theorem zero_at (z : S256x1024.Idx) : k0_pay11 (F := Ideal) z = 0 := by pointwise [k0_pay11]

theorem prod_at (i : Fin 256) (c : Fin 1024) : prod r x2 x3 x4 x5 (ix2 i c) = ∑ k : Fin 5632, row r x2 x3 x5 i k * x4 (ix2 c k) := by
  unfold prod
  rw [step_row r x2 x3 x4 x5 2560 (by omega) _ _ _ (ldW10 x5) (ldG10 x2) (ldG10 x3) _ _ _ (ldA10 x4) (ldB10 x4), step_row r x2 x3 x4 x5 2304 (by omega) _ _ _ (ldW9 x5) (ldG9 x2) (ldG9 x3) _ _ _ (ldA9 x4) (ldB9 x4), step_row r x2 x3 x4 x5 2048 (by omega) _ _ _ (ldW8 x5) (ldG8 x2) (ldG8 x3) _ _ _ (ldA8 x4) (ldB8 x4), step_row r x2 x3 x4 x5 1792 (by omega) _ _ _ (ldW7 x5) (ldG7 x2) (ldG7 x3) _ _ _ (ldA7 x4) (ldB7 x4), step_row r x2 x3 x4 x5 1536 (by omega) _ _ _ (ldW6 x5) (ldG6 x2) (ldG6 x3) _ _ _ (ldA6 x4) (ldB6 x4), step_row r x2 x3 x4 x5 1280 (by omega) _ _ _ (ldW5 x5) (ldG5 x2) (ldG5 x3) _ _ _ (ldA5 x4) (ldB5 x4), step_row r x2 x3 x4 x5 1024 (by omega) _ _ _ (ldW4 x5) (ldG4 x2) (ldG4 x3) _ _ _ (ldA4 x4) (ldB4 x4), step_row r x2 x3 x4 x5 768 (by omega) _ _ _ (ldW3 x5) (ldG3 x2) (ldG3 x3) _ _ _ (ldA3 x4) (ldB3 x4), step_row r x2 x3 x4 x5 512 (by omega) _ _ _ (ldW2 x5) (ldG2 x2) (ldG2 x3) _ _ _ (ldA2 x4) (ldB2 x4), step_row r x2 x3 x4 x5 256 (by omega) _ _ _ (ldW1 x5) (ldG1 x2) (ldG1 x3) _ _ _ (ldA1 x4) (ldB1 x4), step_row r x2 x3 x4 x5 0 (by omega) _ _ _ (ldW0 x5) (ldG0 x2) (ldG0 x3) _ _ _ (ldA0 x4) (ldB0 x4), zero_at]
  exact alternate (fun k => row r x2 x3 x5 i k * x4 (ix2 c k))
    (fun s => ∑ k : Fin 256, row r x2 x3 x5 i ⟨256 * s.val + k.val, by omega⟩ * x4 (ix2 c ⟨256 * s.val + k.val, by omega⟩))
    (fun s => ∑ k : Fin 256, row r x2 x3 x5 i ⟨2816 + (256 * s.val + k.val), by omega⟩ * x4 (ix2 c ⟨2816 + (256 * s.val + k.val), by omega⟩))
    (fun _ => rfl) (fun _ => rfl)

theorem dx_block (i : Fin 256) (c : Fin 1024) : k0_pay1 (F := Ideal) (prod r x2 x3 x4 x5) (k0_pay84 r) (ix2 i c)
    = dxat (fun l => r (ix2 i l)) x5 x4 (fun k => x2 (ix2 i k)) (fun k => x3 (ix2 i k)) c := by
  have e : k0_pay1 (F := Ideal) (prod r x2 x3 x4 x5) (k0_pay84 r) (ix2 i c) = Ideal.ofBits .f32 0x3F9837F0#32 * r (ix2 i c) + prod r x2 x3 x4 x5 (ix2 i c) := by
    pointwise [k0_pay1, k0_pay84]
  rw [e, prod_at]
  rfl

theorem row_congr {i i' : Fin 256} {k k' : Fin 5632} (hi : i.val = i'.val) (hk : k.val = k'.val) : row r x2 x3 x5 i k = row r x2 x3 x5 i' k' := by
  rw [Fin.ext hi, Fin.ext hk]

end Stored

section Points

variable (m : (ℓ : Loc nD τ sig) → Buf (Elt Ideal) ℓ)

/-- The gradient of the residual sums of a point's rows. -/
def dr (c : Dev nD) (t : Fin cfg0.N) : FVec Ideal S256x1024 .f32 := k0_pay5 (iblk m c 0 t) (iblk m c 1 t) (iblk m c 6 t)

theorem stored7 (c : Dev nD) (t : Fin cfg0.N) : (outsAt0 m c t.val t.isLt).1
    = k0_pay1 (prod (dr m c t) (iblk m c 2 t) (iblk m c 3 t) (iblk m c 4 t) (iblk m c 5 t)) (k0_pay84 (dr m c t)) := by
  by_cases h : t.val % 64 = 0
  · rw [outsAt0_A m c t h]
    frame_out
    rfl
  · rw [outsAt0_B m c t h]
    frame_out
    rfl

theorem stored9 (c : Dev nD) (t : Fin cfg0.N) : (outsAt0 m c t.val t.isLt).2.2.1 = k0_pay10 (dr m c t) := by
  by_cases h : t.val % 64 = 0
  · rw [outsAt0_A m c t h]
    frame_out
    rfl
  · rw [outsAt0_B m c t h]
    frame_out
    rfl

theorem stored8A (c : Dev nD) (t : Fin cfg0.N) (p : t.val % 64 = 0) (y : S256x5632.Idx) : (outsAt0 m c t.val t.isLt).2.1 y
    = row (dr m c t) (iblk m c 2 t) (iblk m c 3 t) (iblk m c 5 t) (y 0) (y 1) := by
  rw [outsAt0_A m c t p]
  frame_out
  clear p
  canon_tiles x h
  case piece0 => exact (show _ = uTile (dr m c t) (View.ld (iblk m c 5 t) rW10) (View.ld (iblk m c 2 t) rG10) x from rfl).trans ((uTile_row _ _ _ _ 2560 (by omega) _ _ (ldW10 _) (ldG10 _) x).trans (row_congr _ _ _ _ h0.symm (by show 2816 + (2560 + (x 1).val) = (y 1).val; omega)))
  case piece1 => exact (show _ = gTile (dr m c t) (View.ld (iblk m c 5 t) rW10) (View.ld (iblk m c 2 t) rG10) (View.ld (iblk m c 3 t) rG10) x from rfl).trans ((gTile_row _ _ _ _ 2560 (by omega) _ _ _ (ldW10 _) (ldG10 _) (ldG10 _) x).trans (row_congr _ _ _ _ h0.symm (by show 2560 + (x 1).val = (y 1).val; omega)))
  case piece2 => exact (show _ = uTile (dr m c t) (View.ld (iblk m c 5 t) rW9) (View.ld (iblk m c 2 t) rG9) x from rfl).trans ((uTile_row _ _ _ _ 2304 (by omega) _ _ (ldW9 _) (ldG9 _) x).trans (row_congr _ _ _ _ h0.symm (by show 2816 + (2304 + (x 1).val) = (y 1).val; omega)))
  case piece3 => exact (show _ = gTile (dr m c t) (View.ld (iblk m c 5 t) rW9) (View.ld (iblk m c 2 t) rG9) (View.ld (iblk m c 3 t) rG9) x from rfl).trans ((gTile_row _ _ _ _ 2304 (by omega) _ _ _ (ldW9 _) (ldG9 _) (ldG9 _) x).trans (row_congr _ _ _ _ h0.symm (by show 2304 + (x 1).val = (y 1).val; omega)))
  case piece4 => exact (show _ = uTile (dr m c t) (View.ld (iblk m c 5 t) rW8) (View.ld (iblk m c 2 t) rG8) x from rfl).trans ((uTile_row _ _ _ _ 2048 (by omega) _ _ (ldW8 _) (ldG8 _) x).trans (row_congr _ _ _ _ h0.symm (by show 2816 + (2048 + (x 1).val) = (y 1).val; omega)))
  case piece5 => exact (show _ = gTile (dr m c t) (View.ld (iblk m c 5 t) rW8) (View.ld (iblk m c 2 t) rG8) (View.ld (iblk m c 3 t) rG8) x from rfl).trans ((gTile_row _ _ _ _ 2048 (by omega) _ _ _ (ldW8 _) (ldG8 _) (ldG8 _) x).trans (row_congr _ _ _ _ h0.symm (by show 2048 + (x 1).val = (y 1).val; omega)))
  case piece6 => exact (show _ = uTile (dr m c t) (View.ld (iblk m c 5 t) rW7) (View.ld (iblk m c 2 t) rG7) x from rfl).trans ((uTile_row _ _ _ _ 1792 (by omega) _ _ (ldW7 _) (ldG7 _) x).trans (row_congr _ _ _ _ h0.symm (by show 2816 + (1792 + (x 1).val) = (y 1).val; omega)))
  case piece7 => exact (show _ = gTile (dr m c t) (View.ld (iblk m c 5 t) rW7) (View.ld (iblk m c 2 t) rG7) (View.ld (iblk m c 3 t) rG7) x from rfl).trans ((gTile_row _ _ _ _ 1792 (by omega) _ _ _ (ldW7 _) (ldG7 _) (ldG7 _) x).trans (row_congr _ _ _ _ h0.symm (by show 1792 + (x 1).val = (y 1).val; omega)))
  case piece8 => exact (show _ = uTile (dr m c t) (View.ld (iblk m c 5 t) rW6) (View.ld (iblk m c 2 t) rG6) x from rfl).trans ((uTile_row _ _ _ _ 1536 (by omega) _ _ (ldW6 _) (ldG6 _) x).trans (row_congr _ _ _ _ h0.symm (by show 2816 + (1536 + (x 1).val) = (y 1).val; omega)))
  case piece9 => exact (show _ = gTile (dr m c t) (View.ld (iblk m c 5 t) rW6) (View.ld (iblk m c 2 t) rG6) (View.ld (iblk m c 3 t) rG6) x from rfl).trans ((gTile_row _ _ _ _ 1536 (by omega) _ _ _ (ldW6 _) (ldG6 _) (ldG6 _) x).trans (row_congr _ _ _ _ h0.symm (by show 1536 + (x 1).val = (y 1).val; omega)))
  case piece10 => exact (show _ = uTile (dr m c t) (View.ld (iblk m c 5 t) rW5) (View.ld (iblk m c 2 t) rG5) x from rfl).trans ((uTile_row _ _ _ _ 1280 (by omega) _ _ (ldW5 _) (ldG5 _) x).trans (row_congr _ _ _ _ h0.symm (by show 2816 + (1280 + (x 1).val) = (y 1).val; omega)))
  case piece11 => exact (show _ = gTile (dr m c t) (View.ld (iblk m c 5 t) rW5) (View.ld (iblk m c 2 t) rG5) (View.ld (iblk m c 3 t) rG5) x from rfl).trans ((gTile_row _ _ _ _ 1280 (by omega) _ _ _ (ldW5 _) (ldG5 _) (ldG5 _) x).trans (row_congr _ _ _ _ h0.symm (by show 1280 + (x 1).val = (y 1).val; omega)))
  case piece12 => exact (show _ = uTile (dr m c t) (View.ld (iblk m c 5 t) rW4) (View.ld (iblk m c 2 t) rG4) x from rfl).trans ((uTile_row _ _ _ _ 1024 (by omega) _ _ (ldW4 _) (ldG4 _) x).trans (row_congr _ _ _ _ h0.symm (by show 2816 + (1024 + (x 1).val) = (y 1).val; omega)))
  case piece13 => exact (show _ = gTile (dr m c t) (View.ld (iblk m c 5 t) rW4) (View.ld (iblk m c 2 t) rG4) (View.ld (iblk m c 3 t) rG4) x from rfl).trans ((gTile_row _ _ _ _ 1024 (by omega) _ _ _ (ldW4 _) (ldG4 _) (ldG4 _) x).trans (row_congr _ _ _ _ h0.symm (by show 1024 + (x 1).val = (y 1).val; omega)))
  case piece14 => exact (show _ = uTile (dr m c t) (View.ld (iblk m c 5 t) rW3) (View.ld (iblk m c 2 t) rG3) x from rfl).trans ((uTile_row _ _ _ _ 768 (by omega) _ _ (ldW3 _) (ldG3 _) x).trans (row_congr _ _ _ _ h0.symm (by show 2816 + (768 + (x 1).val) = (y 1).val; omega)))
  case piece15 => exact (show _ = gTile (dr m c t) (View.ld (iblk m c 5 t) rW3) (View.ld (iblk m c 2 t) rG3) (View.ld (iblk m c 3 t) rG3) x from rfl).trans ((gTile_row _ _ _ _ 768 (by omega) _ _ _ (ldW3 _) (ldG3 _) (ldG3 _) x).trans (row_congr _ _ _ _ h0.symm (by show 768 + (x 1).val = (y 1).val; omega)))
  case piece16 => exact (show _ = uTile (dr m c t) (View.ld (iblk m c 5 t) rW2) (View.ld (iblk m c 2 t) rG2) x from rfl).trans ((uTile_row _ _ _ _ 512 (by omega) _ _ (ldW2 _) (ldG2 _) x).trans (row_congr _ _ _ _ h0.symm (by show 2816 + (512 + (x 1).val) = (y 1).val; omega)))
  case piece17 => exact (show _ = gTile (dr m c t) (View.ld (iblk m c 5 t) rW2) (View.ld (iblk m c 2 t) rG2) (View.ld (iblk m c 3 t) rG2) x from rfl).trans ((gTile_row _ _ _ _ 512 (by omega) _ _ _ (ldW2 _) (ldG2 _) (ldG2 _) x).trans (row_congr _ _ _ _ h0.symm (by show 512 + (x 1).val = (y 1).val; omega)))
  case piece18 => exact (show _ = uTile (dr m c t) (View.ld (iblk m c 5 t) rW1) (View.ld (iblk m c 2 t) rG1) x from rfl).trans ((uTile_row _ _ _ _ 256 (by omega) _ _ (ldW1 _) (ldG1 _) x).trans (row_congr _ _ _ _ h0.symm (by show 2816 + (256 + (x 1).val) = (y 1).val; omega)))
  case piece19 => exact (show _ = gTile (dr m c t) (View.ld (iblk m c 5 t) rW1) (View.ld (iblk m c 2 t) rG1) (View.ld (iblk m c 3 t) rG1) x from rfl).trans ((gTile_row _ _ _ _ 256 (by omega) _ _ _ (ldW1 _) (ldG1 _) (ldG1 _) x).trans (row_congr _ _ _ _ h0.symm (by show 256 + (x 1).val = (y 1).val; omega)))
  case piece20 => exact (show _ = uTile (dr m c t) (View.ld (iblk m c 5 t) rW0) (View.ld (iblk m c 2 t) rG0) x from rfl).trans ((uTile_row _ _ _ _ 0 (by omega) _ _ (ldW0 _) (ldG0 _) x).trans (row_congr _ _ _ _ h0.symm (by show 2816 + (0 + (x 1).val) = (y 1).val; omega)))
  case piece21 => exact (show _ = gTile (dr m c t) (View.ld (iblk m c 5 t) rW0) (View.ld (iblk m c 2 t) rG0) (View.ld (iblk m c 3 t) rG0) x from rfl).trans ((gTile_row _ _ _ _ 0 (by omega) _ _ _ (ldW0 _) (ldG0 _) (ldG0 _) x).trans (row_congr _ _ _ _ h0.symm (by show 0 + (x 1).val = (y 1).val; omega)))

theorem stored8B (c : Dev nD) (t : Fin cfg0.N) (p : ¬t.val % 64 = 0) (y : S256x5632.Idx) : (outsAt0 m c t.val t.isLt).2.1 y
    = row (dr m c t) (iblk m c 2 t) (iblk m c 3 t) (iblk m c 5 t) (y 0) (y 1) := by
  rw [outsAt0_B m c t p]
  frame_out
  clear p
  canon_tiles x h
  case piece0 => exact (show _ = uTile (dr m c t) (View.ld (iblk m c 5 t) rW10) (View.ld (iblk m c 2 t) rG10) x from rfl).trans ((uTile_row _ _ _ _ 2560 (by omega) _ _ (ldW10 _) (ldG10 _) x).trans (row_congr _ _ _ _ h0.symm (by show 2816 + (2560 + (x 1).val) = (y 1).val; omega)))
  case piece1 => exact (show _ = gTile (dr m c t) (View.ld (iblk m c 5 t) rW10) (View.ld (iblk m c 2 t) rG10) (View.ld (iblk m c 3 t) rG10) x from rfl).trans ((gTile_row _ _ _ _ 2560 (by omega) _ _ _ (ldW10 _) (ldG10 _) (ldG10 _) x).trans (row_congr _ _ _ _ h0.symm (by show 2560 + (x 1).val = (y 1).val; omega)))
  case piece2 => exact (show _ = uTile (dr m c t) (View.ld (iblk m c 5 t) rW9) (View.ld (iblk m c 2 t) rG9) x from rfl).trans ((uTile_row _ _ _ _ 2304 (by omega) _ _ (ldW9 _) (ldG9 _) x).trans (row_congr _ _ _ _ h0.symm (by show 2816 + (2304 + (x 1).val) = (y 1).val; omega)))
  case piece3 => exact (show _ = gTile (dr m c t) (View.ld (iblk m c 5 t) rW9) (View.ld (iblk m c 2 t) rG9) (View.ld (iblk m c 3 t) rG9) x from rfl).trans ((gTile_row _ _ _ _ 2304 (by omega) _ _ _ (ldW9 _) (ldG9 _) (ldG9 _) x).trans (row_congr _ _ _ _ h0.symm (by show 2304 + (x 1).val = (y 1).val; omega)))
  case piece4 => exact (show _ = uTile (dr m c t) (View.ld (iblk m c 5 t) rW8) (View.ld (iblk m c 2 t) rG8) x from rfl).trans ((uTile_row _ _ _ _ 2048 (by omega) _ _ (ldW8 _) (ldG8 _) x).trans (row_congr _ _ _ _ h0.symm (by show 2816 + (2048 + (x 1).val) = (y 1).val; omega)))
  case piece5 => exact (show _ = gTile (dr m c t) (View.ld (iblk m c 5 t) rW8) (View.ld (iblk m c 2 t) rG8) (View.ld (iblk m c 3 t) rG8) x from rfl).trans ((gTile_row _ _ _ _ 2048 (by omega) _ _ _ (ldW8 _) (ldG8 _) (ldG8 _) x).trans (row_congr _ _ _ _ h0.symm (by show 2048 + (x 1).val = (y 1).val; omega)))
  case piece6 => exact (show _ = uTile (dr m c t) (View.ld (iblk m c 5 t) rW7) (View.ld (iblk m c 2 t) rG7) x from rfl).trans ((uTile_row _ _ _ _ 1792 (by omega) _ _ (ldW7 _) (ldG7 _) x).trans (row_congr _ _ _ _ h0.symm (by show 2816 + (1792 + (x 1).val) = (y 1).val; omega)))
  case piece7 => exact (show _ = gTile (dr m c t) (View.ld (iblk m c 5 t) rW7) (View.ld (iblk m c 2 t) rG7) (View.ld (iblk m c 3 t) rG7) x from rfl).trans ((gTile_row _ _ _ _ 1792 (by omega) _ _ _ (ldW7 _) (ldG7 _) (ldG7 _) x).trans (row_congr _ _ _ _ h0.symm (by show 1792 + (x 1).val = (y 1).val; omega)))
  case piece8 => exact (show _ = uTile (dr m c t) (View.ld (iblk m c 5 t) rW6) (View.ld (iblk m c 2 t) rG6) x from rfl).trans ((uTile_row _ _ _ _ 1536 (by omega) _ _ (ldW6 _) (ldG6 _) x).trans (row_congr _ _ _ _ h0.symm (by show 2816 + (1536 + (x 1).val) = (y 1).val; omega)))
  case piece9 => exact (show _ = gTile (dr m c t) (View.ld (iblk m c 5 t) rW6) (View.ld (iblk m c 2 t) rG6) (View.ld (iblk m c 3 t) rG6) x from rfl).trans ((gTile_row _ _ _ _ 1536 (by omega) _ _ _ (ldW6 _) (ldG6 _) (ldG6 _) x).trans (row_congr _ _ _ _ h0.symm (by show 1536 + (x 1).val = (y 1).val; omega)))
  case piece10 => exact (show _ = uTile (dr m c t) (View.ld (iblk m c 5 t) rW5) (View.ld (iblk m c 2 t) rG5) x from rfl).trans ((uTile_row _ _ _ _ 1280 (by omega) _ _ (ldW5 _) (ldG5 _) x).trans (row_congr _ _ _ _ h0.symm (by show 2816 + (1280 + (x 1).val) = (y 1).val; omega)))
  case piece11 => exact (show _ = gTile (dr m c t) (View.ld (iblk m c 5 t) rW5) (View.ld (iblk m c 2 t) rG5) (View.ld (iblk m c 3 t) rG5) x from rfl).trans ((gTile_row _ _ _ _ 1280 (by omega) _ _ _ (ldW5 _) (ldG5 _) (ldG5 _) x).trans (row_congr _ _ _ _ h0.symm (by show 1280 + (x 1).val = (y 1).val; omega)))
  case piece12 => exact (show _ = uTile (dr m c t) (View.ld (iblk m c 5 t) rW4) (View.ld (iblk m c 2 t) rG4) x from rfl).trans ((uTile_row _ _ _ _ 1024 (by omega) _ _ (ldW4 _) (ldG4 _) x).trans (row_congr _ _ _ _ h0.symm (by show 2816 + (1024 + (x 1).val) = (y 1).val; omega)))
  case piece13 => exact (show _ = gTile (dr m c t) (View.ld (iblk m c 5 t) rW4) (View.ld (iblk m c 2 t) rG4) (View.ld (iblk m c 3 t) rG4) x from rfl).trans ((gTile_row _ _ _ _ 1024 (by omega) _ _ _ (ldW4 _) (ldG4 _) (ldG4 _) x).trans (row_congr _ _ _ _ h0.symm (by show 1024 + (x 1).val = (y 1).val; omega)))
  case piece14 => exact (show _ = uTile (dr m c t) (View.ld (iblk m c 5 t) rW3) (View.ld (iblk m c 2 t) rG3) x from rfl).trans ((uTile_row _ _ _ _ 768 (by omega) _ _ (ldW3 _) (ldG3 _) x).trans (row_congr _ _ _ _ h0.symm (by show 2816 + (768 + (x 1).val) = (y 1).val; omega)))
  case piece15 => exact (show _ = gTile (dr m c t) (View.ld (iblk m c 5 t) rW3) (View.ld (iblk m c 2 t) rG3) (View.ld (iblk m c 3 t) rG3) x from rfl).trans ((gTile_row _ _ _ _ 768 (by omega) _ _ _ (ldW3 _) (ldG3 _) (ldG3 _) x).trans (row_congr _ _ _ _ h0.symm (by show 768 + (x 1).val = (y 1).val; omega)))
  case piece16 => exact (show _ = uTile (dr m c t) (View.ld (iblk m c 5 t) rW2) (View.ld (iblk m c 2 t) rG2) x from rfl).trans ((uTile_row _ _ _ _ 512 (by omega) _ _ (ldW2 _) (ldG2 _) x).trans (row_congr _ _ _ _ h0.symm (by show 2816 + (512 + (x 1).val) = (y 1).val; omega)))
  case piece17 => exact (show _ = gTile (dr m c t) (View.ld (iblk m c 5 t) rW2) (View.ld (iblk m c 2 t) rG2) (View.ld (iblk m c 3 t) rG2) x from rfl).trans ((gTile_row _ _ _ _ 512 (by omega) _ _ _ (ldW2 _) (ldG2 _) (ldG2 _) x).trans (row_congr _ _ _ _ h0.symm (by show 512 + (x 1).val = (y 1).val; omega)))
  case piece18 => exact (show _ = uTile (dr m c t) (View.ld (iblk m c 5 t) rW1) (View.ld (iblk m c 2 t) rG1) x from rfl).trans ((uTile_row _ _ _ _ 256 (by omega) _ _ (ldW1 _) (ldG1 _) x).trans (row_congr _ _ _ _ h0.symm (by show 2816 + (256 + (x 1).val) = (y 1).val; omega)))
  case piece19 => exact (show _ = gTile (dr m c t) (View.ld (iblk m c 5 t) rW1) (View.ld (iblk m c 2 t) rG1) (View.ld (iblk m c 3 t) rG1) x from rfl).trans ((gTile_row _ _ _ _ 256 (by omega) _ _ _ (ldW1 _) (ldG1 _) (ldG1 _) x).trans (row_congr _ _ _ _ h0.symm (by show 256 + (x 1).val = (y 1).val; omega)))
  case piece20 => exact (show _ = uTile (dr m c t) (View.ld (iblk m c 5 t) rW0) (View.ld (iblk m c 2 t) rG0) x from rfl).trans ((uTile_row _ _ _ _ 0 (by omega) _ _ (ldW0 _) (ldG0 _) x).trans (row_congr _ _ _ _ h0.symm (by show 2816 + (0 + (x 1).val) = (y 1).val; omega)))
  case piece21 => exact (show _ = gTile (dr m c t) (View.ld (iblk m c 5 t) rW0) (View.ld (iblk m c 2 t) rG0) (View.ld (iblk m c 3 t) rG0) x from rfl).trans ((gTile_row _ _ _ _ 0 (by omega) _ _ _ (ldW0 _) (ldG0 _) (ldG0 _) x).trans (row_congr _ _ _ _ h0.symm (by show 0 + (x 1).val = (y 1).val; omega)))

theorem stored8 (c : Dev nD) (t : Fin cfg0.N) (y : S256x5632.Idx) : (outsAt0 m c t.val t.isLt).2.1 y
    = row (dr m c t) (iblk m c 2 t) (iblk m c 3 t) (iblk m c 5 t) (y 0) (y 1) := by
  by_cases h : t.val % 64 = 0
  · exact stored8A m c t h y
  · exact stored8B m c t h y

end Points

end Cert.Kernel8Ideal.Back
-- ==== Proof.Point.lean ====
/- What one grid point of the attention kernel computes, and how its loads and slab stores are read. -/
module

public import proofs.«01_k».proof.Proof.Gen.KernelIdeal.Skeleton
public import Idealize.ShloMosaic.Lib.Pointwise
public import Idealize.ShloMosaic.Lib.WritesUnit
public import Idealize.ShloMosaic.Lib.VecWindow
public import Idealize.ShloMosaic.Lib.Pipeline.ValueKit

@[expose] public section

set_option maxRecDepth 16384

noncomputable section

namespace Cert.KernelIdeal.Point

open Idealize.ShloMosaic Idealize.ShloMosaic.TcCoe Idealize.ShloMosaic.Tactic
open Cert.KernelIdeal Cert.KernelIdeal.Gen

/-- What one grid point of the kernel reads: the two heads' parts of the blocks of `k`, `v` and `kᵀ` (zero in the other
head's lanes), the heads' cumulative gates of the key rows, the whole columns of `q`, `do` and of their transposes, the
row vectors `(c − lse)/ln 2` and `delta`, and the number of the key block. -/
structure Blk where
  kh : Fin 2 → FVec Ideal S512x128 .bf16
  vh : Fin 2 → FVec Ideal S512x128 .bf16
  kth : Fin 2 → FVec Ideal S128x512 .bf16
  ch : Fin 2 → FVec Ideal S512x1 .f32
  q : FVec Ideal S16384x128 .bf16
  al : FVec Ideal S1x8x16384 .f32
  dl : FVec Ideal S1x8x16384 .f32
  qt : FVec Ideal S128x16384 .bf16
  dO : FVec Ideal S16384x128 .bf16
  dOt : FVec Ideal S128x16384 .bf16
  kj : ℕ

namespace Blk

/-- Row `h` of the eight rows of a block of row vectors. -/
def row (h : Fin 2) : Fin 8 := ⟨h.val, by have := h.isLt; omega⟩

/-- The base-2 logit of query `t` and key `r` of the block, minus the query's log-sum-exp. -/
def z (B : Blk) (h : Fin 2) (r : Fin 512) (t : Fin 16384) : EReal :=
  (∑ d : Fin 128, B.kh h (ix2 r d) * B.q (ix2 t d)) + (B.al (ix3 0 (row h) t) - B.ch h (ix2 r 0))

/-- The probability without the causal mask. -/
def pe (B : Blk) (h : Fin 2) (r : Fin 512) (t : Fin 16384) : EReal := Ideal.exp2 (B.z h r t)

/-- The gradient of the probability minus `delta`. -/
def u (B : Blk) (h : Fin 2) (r : Fin 512) (t : Fin 16384) : EReal :=
  (∑ d : Fin 128, B.vh h (ix2 r d) * B.dO (ix2 t d)) - B.dl (ix3 0 (row h) t)

/-- The probability: zero where the key comes after the query. -/
def p (B : Blk) (h : Fin 2) (r : Fin 512) (t : Fin 16384) : EReal :=
  if 512 * B.kj + r.val ≤ t.val then B.pe h r t else 0

/-- The gradient of the logit. -/
def s (B : Blk) (h : Fin 2) (r : Fin 512) (t : Fin 16384) : EReal := B.p h r t * B.u h r t

end Blk

/-- The query `x` of the block that trip `k` of the loop takes at grid point `i`. -/
def tk (i : grid0.Coords) (k : Fin (k0_t1_loop i).trips) (x : Fin 512) : Fin 16384 :=
  ⟨512 * (i 1).val + 512 * k.val + 512 + x.val, by
    have h := k0_off5_inb i k 0
    rw [k0_off5_eq] at h
    have h' : 512 * (i 1).val + 512 * k.val + 512 + 512 ≤ 16384 := h
    omega⟩

section Loads

variable {sig' : RefSig} {κ' : Kind} {sp' : Space} {e' : EltTy} {Val' : EltTy → Type}

theorem ld5 (v : View sig' κ' sp' S16384x128 e') (f : v.ty.Contents Val') (i : grid0.Coords) (k : Fin (k0_t1_loop i).trips)
    (inb : ∀ a, k0_off5 i k a + (![512, 128] : Fin 2 → ℕ) a ≤ S16384x128.size a) (x : Fin 512) (d : Fin 128) :
    v.readAt Val' (Rect.unit (s := S16384x128) (k0_off5 i k) ![512, 128] inb).toLoadRect f (ix2 x d) = v.read Val' f (ix2 (tk i k x) d) := by
  refine congrArg (v.read Val' f) (funext fun a => Fin.ext ?_)
  refine Eq.trans (congrArg (· + _) (congrFun (k0_off5_eq i k) a)) ?_
  fin_cases a
  · show 512 * (i 1).val + 512 * k.val + 512 + 1 * x.val = 512 * (i 1).val + 512 * k.val + 512 + x.val
    omega
  · show 0 + 1 * d.val = d.val
    omega

theorem ld6 (v : View sig' κ' sp' S128x16384 e') (f : v.ty.Contents Val') (i : grid0.Coords) (k : Fin (k0_t1_loop i).trips)
    (inb : ∀ a, k0_off6 i k a + (![128, 512] : Fin 2 → ℕ) a ≤ S128x16384.size a) (d : Fin 128) (x : Fin 512) :
    v.readAt Val' (Rect.unit (s := S128x16384) (k0_off6 i k) ![128, 512] inb).toLoadRect f (ix2 d x) = v.read Val' f (ix2 d (tk i k x)) := by
  refine congrArg (v.read Val' f) (funext fun a => Fin.ext ?_)
  refine Eq.trans (congrArg (· + _) (congrFun (k0_off6_eq i k) a)) ?_
  fin_cases a
  · show 0 + 1 * d.val = d.val
    omega
  · show 512 * (i 1).val + 512 * k.val + 512 + 1 * x.val = 512 * (i 1).val + 512 * k.val + 512 + x.val
    omega

theorem ld7 (v : View sig' κ' sp' S1x8x16384 e') (f : v.ty.Contents Val') (i : grid0.Coords) (k : Fin (k0_t1_loop i).trips)
    (inb : ∀ a, k0_off7 i k a + (![1, 1, 512] : Fin 3 → ℕ) a ≤ S1x8x16384.size a) (x : Fin 512) :
    v.readAt Val' (Rect.unit (s := S1x8x16384) (k0_off7 i k) ![1, 1, 512] inb).toLoadRect f (ix3 0 0 x)
      = v.read Val' f (ix3 0 (Blk.row 0) (tk i k x)) := by
  refine congrArg (v.read Val' f) (funext fun a => Fin.ext ?_)
  refine Eq.trans (congrArg (· + _) (congrFun (k0_off7_eq i k) a)) ?_
  fin_cases a
  · rfl
  · rfl
  · show 512 * (i 1).val + 512 * k.val + 512 + 1 * x.val = 512 * (i 1).val + 512 * k.val + 512 + x.val
    omega

theorem ld8 (v : View sig' κ' sp' S1x8x16384 e') (f : v.ty.Contents Val') (i : grid0.Coords) (k : Fin (k0_t1_loop i).trips)
    (inb : ∀ a, k0_off8 i k a + (![1, 1, 512] : Fin 3 → ℕ) a ≤ S1x8x16384.size a) (x : Fin 512) :
    v.readAt Val' (Rect.unit (s := S1x8x16384) (k0_off8 i k) ![1, 1, 512] inb).toLoadRect f (ix3 0 0 x)
      = v.read Val' f (ix3 0 (Blk.row 1) (tk i k x)) := by
  refine congrArg (v.read Val' f) (funext fun a => Fin.ext ?_)
  refine Eq.trans (congrArg (· + _) (congrFun (k0_off8_eq i k) a)) ?_
  fin_cases a
  · rfl
  · rfl
  · show 512 * (i 1).val + 512 * k.val + 512 + 1 * x.val = 512 * (i 1).val + 512 * k.val + 512 + x.val
    omega

/-- A load of slab 0 of a two-slab scratch array. -/
theorem ldS0 {B C : ℕ} (v : View sig' κ' sp' ⟨3, ![2, B, C]⟩ e') (f : v.ty.Contents Val')
    (inb : ∀ a, (![0, 0, 0] : Fin 3 → ℕ) a + (![1, B, C] : Fin 3 → ℕ) a ≤ (⟨3, ![2, B, C]⟩ : Shape).size a) (x : Fin B) (y : Fin C) :
    v.readAt Val' (Rect.unit (s := ⟨3, ![2, B, C]⟩) ![0, 0, 0] ![1, B, C] inb).toLoadRect f (ix3 0 x y)
      = v.read Val' f (ix3 0 x y) := by
  refine congrArg (v.read Val' f) (funext fun a => Fin.ext ?_)
  show (![0, 0, 0] : Fin 3 → ℕ) a + 1 * _ = _
  fin_cases a
  · rfl
  · show 0 + 1 * x.val = x.val
    omega
  · show 0 + 1 * y.val = y.val
    omega

/-- A load of slab 1 of a two-slab scratch array. -/
theorem ldS1 {B C : ℕ} (v : View sig' κ' sp' ⟨3, ![2, B, C]⟩ e') (f : v.ty.Contents Val')
    (inb : ∀ a, (![1, 0, 0] : Fin 3 → ℕ) a + (![1, B, C] : Fin 3 → ℕ) a ≤ (⟨3, ![2, B, C]⟩ : Shape).size a) (x : Fin B) (y : Fin C) :
    v.readAt Val' (Rect.unit (s := ⟨3, ![2, B, C]⟩) ![1, 0, 0] ![1, B, C] inb).toLoadRect f (ix3 0 x y)
      = v.read Val' f (ix3 1 x y) := by
  refine congrArg (v.read Val' f) (funext fun a => Fin.ext ?_)
  show (![1, 0, 0] : Fin 3 → ℕ) a + 1 * _ = _
  fin_cases a
  · rfl
  · show 0 + 1 * x.val = x.val
    omega
  · show 0 + 1 * y.val = y.val
    omega

/-- What two slab writes over a two-slab scratch array leave in slab 1. -/
theorem slab1 {B C : ℕ} (v : View sig' κ' sp' ⟨3, ![2, B, C]⟩ e') (f : v.ty.Contents Val')
    (inb1 : ∀ a, (![1, 0, 0] : Fin 3 → ℕ) a + (![1, B, C] : Fin 3 → ℕ) a ≤ (⟨3, ![2, B, C]⟩ : Shape).size a)
    (w1 : (⟨3, ![1, B, C]⟩ : Shape).Idx → Val' e') (L : List (View.Piece Val' ⟨3, ![2, B, C]⟩ e')) (x : Fin B) (y : Fin C) :
    v.read Val' (v.writes Val' f ((⟨Rect.unit (s := ⟨3, ![2, B, C]⟩) ![1, 0, 0] ![1, B, C] inb1, w1⟩ : View.Piece Val' ⟨3, ![2, B, C]⟩ e') :: L)) (ix3 1 x y)
      = w1 (ix3 0 x y) :=
  View.read_writes_cons_unit_of_mem v f inb1 w1 _ _ (ix3 0 x y) rfl (by
    intro a
    fin_cases a
    · rfl
    · exact (Nat.zero_add _).symm
    · exact (Nat.zero_add _).symm)

/-- What the write of slab 0 leaves there. -/
theorem slab00 {B C : ℕ} (v : View sig' κ' sp' ⟨3, ![2, B, C]⟩ e') (f : v.ty.Contents Val')
    (inb0 : ∀ a, (![0, 0, 0] : Fin 3 → ℕ) a + (![1, B, C] : Fin 3 → ℕ) a ≤ (⟨3, ![2, B, C]⟩ : Shape).size a)
    (w0 : (⟨3, ![1, B, C]⟩ : Shape).Idx → Val' e') (L : List (View.Piece Val' ⟨3, ![2, B, C]⟩ e')) (x : Fin B) (y : Fin C) :
    v.read Val' (v.writes Val' f ((⟨Rect.unit (s := ⟨3, ![2, B, C]⟩) ![0, 0, 0] ![1, B, C] inb0, w0⟩ : View.Piece Val' ⟨3, ![2, B, C]⟩ e') :: L)) (ix3 0 x y)
      = w0 (ix3 0 x y) :=
  View.read_writes_cons_unit_of_mem v f inb0 w0 _ _ (ix3 0 x y) rfl (by
    intro a
    fin_cases a
    · rfl
    · exact (Nat.zero_add _).symm
    · exact (Nat.zero_add _).symm)

/-- What two slab writes over a two-slab scratch array leave in slab 0. -/
theorem slab0 {B C : ℕ} (v : View sig' κ' sp' ⟨3, ![2, B, C]⟩ e') (f : v.ty.Contents Val')
    (inb1 : ∀ a, (![1, 0, 0] : Fin 3 → ℕ) a + (![1, B, C] : Fin 3 → ℕ) a ≤ (⟨3, ![2, B, C]⟩ : Shape).size a)
    (w1 : (⟨3, ![1, B, C]⟩ : Shape).Idx → Val' e')
    (inb0 : ∀ a, (![0, 0, 0] : Fin 3 → ℕ) a + (![1, B, C] : Fin 3 → ℕ) a ≤ (⟨3, ![2, B, C]⟩ : Shape).size a)
    (w0 : (⟨3, ![1, B, C]⟩ : Shape).Idx → Val' e') (L : List (View.Piece Val' ⟨3, ![2, B, C]⟩ e')) (x : Fin B) (y : Fin C) :
    v.read Val' (v.writes Val' f ((⟨Rect.unit (s := ⟨3, ![2, B, C]⟩) ![1, 0, 0] ![1, B, C] inb1, w1⟩ : View.Piece Val' ⟨3, ![2, B, C]⟩ e')
      :: ⟨Rect.unit (s := ⟨3, ![2, B, C]⟩) ![0, 0, 0] ![1, B, C] inb0, w0⟩ :: L)) (ix3 0 x y)
      = w0 (ix3 0 x y) :=
  (View.read_writes_cons_unit_of_not_mem v f inb1 w1 _ _ rfl (0 : Fin 3) (.inl Nat.zero_lt_one)).trans
    (slab00 v f inb0 w0 L x y)

end Loads

theorem Blk.p_tk (B : Blk) {i : grid0.Coords} (hkj : (i 1).val = B.kj) (h : Fin 2) (k : Fin (k0_t1_loop i).trips) (r x : Fin 512) :
    B.p h r (tk i k x) = Ideal.exp2 ((∑ d : Fin 128, B.kh h (ix2 r d) * B.q (ix2 (tk i k x) d)) + (B.al (ix3 0 (Blk.row h) (tk i k x)) - B.ch h (ix2 r 0))) :=
  if_pos (by
    show 512 * B.kj + r.val ≤ 512 * (i 1).val + 512 * k.val + 512 + x.val
    omega)

/-- The sum of `f` over the queries of block `n`. -/
def blockSum (f : Fin 16384 → EReal) (n : ℕ) : EReal :=
  ∑ x : Fin 512, if h : 512 * n + x.val < 16384 then f ⟨512 * n + x.val, h⟩ else 0

theorem blockSum_tk (f : Fin 16384 → EReal) {i : grid0.Coords} (k : Fin (k0_t1_loop i).trips) :
    blockSum f ((i 1).val + k.val + 1) = ∑ x : Fin 512, f (tk i k x) :=
  Finset.sum_congr rfl fun x _ => by
    have h := (tk i k x).isLt
    have e : 512 * ((i 1).val + k.val + 1) + x.val = 512 * (i 1).val + 512 * k.val + 512 + x.val := by omega
    rw [dif_pos (e ▸ h)]
    exact congrArg f (Fin.ext e)

/-- A sum over all the queries is the sum over the 32 blocks. -/
theorem sum_eq_blocks (f : Fin 16384 → EReal) : ∑ t, f t = ∑ n ∈ Finset.range 32, blockSum f n := by
  rw [Fin.sum_univ_tiles 32 512 rfl f, ← Fin.sum_univ_eq_sum_range]
  refine Finset.sum_congr rfl fun j _ => Finset.sum_congr rfl fun x _ => ?_
  have h : 512 * j.val + x.val < 16384 := by have := j.isLt; have := x.isLt; omega
  rw [dif_pos h]
  exact congrArg f (Fin.ext (by show j.val * 512 + x.val = _; rw [Nat.mul_comm]))

/-- A sum over all the queries of a function that is zero before block `kj` is the sum over the blocks from `kj` on. -/
theorem sum_from (f : Fin 16384 → EReal) (kj : ℕ) (hkj : kj < 32) (hf : ∀ t : Fin 16384, t.val < 512 * kj → f t = 0) :
    blockSum f kj + ∑ k ∈ Finset.range (31 - kj), blockSum f (kj + k + 1) = ∑ t, f t := by
  rw [sum_eq_blocks, ← Finset.sum_range_add_sum_Ico (fun n => blockSum f n) (show kj ≤ 32 by omega)]
  have h0 : ∑ n ∈ Finset.range kj, blockSum f n = 0 := by
    refine Finset.sum_eq_zero fun n hn => Finset.sum_eq_zero fun x _ => ?_
    have hn' := Finset.mem_range.1 hn
    split
    · exact hf _ (by show 512 * n + x.val < 512 * kj; have := x.isLt; omega)
    · rfl
  rw [h0, zero_add, Finset.sum_Ico_eq_sum_range, show 32 - kj = (31 - kj) + 1 from by omega, Finset.sum_range_succ', add_comm]
  rfl

/-- What trip `k` of the loop covers. -/
def inTrip (i : grid0.Coords) (k : ℕ) (t : Fin 16384) : Prop :=
  512 * (i 1).val + 512 * k + 512 ≤ t.val ∧ t.val < 512 * (i 1).val + 512 * k + 512 + 512

instance (i : grid0.Coords) (k : ℕ) (t : Fin 16384) : Decidable (inTrip i k t) := by unfold inTrip; infer_instance

theorem inTrip.eq {i : grid0.Coords} {k : Fin (k0_t1_loop i).trips} {t : Fin 16384} (h : inTrip i k.val t) : ∃ x, t = tk i k x :=
  ⟨⟨t.val - (512 * (i 1).val + 512 * k.val + 512), by have := h.1; have := h.2; omega⟩, Fin.ext (by
    show t.val = 512 * (i 1).val + 512 * k.val + 512 + (t.val - (512 * (i 1).val + 512 * k.val + 512))
    have := h.1; omega)⟩

/-- What the block's keys add to element `(d, t)` of the gradient of `qᵀ`. -/
def Blk.g12 (B : Blk) (d : Fin 128) (t : Fin 16384) : EReal :=
  (∑ r : Fin 512, B.kth 0 (ix2 d r) * B.s 0 r t) + ∑ r : Fin 512, B.kth 1 (ix2 d r) * B.s 1 r t

/-- What the block's keys add to row `e` of the gradient of the queries' cumulative gates. -/
def Blk.g16 (B : Blk) (e : Fin 8) (t : Fin 16384) : EReal :=
  if e = Blk.row 0 then ∑ r : Fin 512, B.s 0 r t else if e = Blk.row 1 then ∑ r : Fin 512, B.s 1 r t else 0

end Cert.KernelIdeal.Point
-- ==== Proof.Diag.lean ====
/- The heads of a grid point's blocks, and the block of queries on the diagonal. -/
module

public import proofs.«01_k».proof.Proof.Point
public import Idealize.ShloMosaic.Lib.WordCmp

@[expose] public section

set_option maxRecDepth 16384

noncomputable section

namespace Cert.KernelIdeal.Point

open Idealize.ShloMosaic Idealize.ShloMosaic.TcCoe Idealize.ShloMosaic.Tactic
open Cert.KernelIdeal Cert.KernelIdeal.Gen

/-- What grid point `i` reads of the blocks it is given. -/
def blkOf (i : grid0.Coords) (x2 : Vec Ideal S16384x128 .bf16) (x3 : Vec Ideal S512x128 .bf16) (x4 : Vec Ideal S128x512 .bf16)
    (x5 : Vec Ideal S512x128 .bf16) (x6 : Vec Ideal S512x128 .f32) (x7 x8 : Vec Ideal S1x8x16384 .f32)
    (x9 : Vec Ideal S128x16384 .bf16) (x10 : Vec Ideal S16384x128 .bf16) (x11 : Vec Ideal S128x16384 .bf16) : Blk where
  kh h y := if (y 1).val / 64 = h.val then x3 y else (0 : EReal)
  vh h y := if (y 1).val / 64 = h.val then x5 y else (0 : EReal)
  kth h y := if (y 0).val / 64 = h.val then x4 y else (0 : EReal)
  ch h y := ∑ l : Fin 128, if l.val = 2 * (i 0).val + h.val then x6 (ix2 (y 0) l) else (0 : EReal)
  q := x2
  al := x7
  dl := x8
  qt := x9
  dO := x10
  dOt := x11
  kj := (i 1).val

/-- Query `x` of the key block's own block of queries. -/
def tq (i : grid0.Coords) (x : Fin 512) : Fin 16384 :=
  ⟨512 * (i 1).val + x.val, by
    have h : (i 1).val < 32 := (i 1).isLt
    omega⟩

theorem pair_ext {a b : ℕ} {α : Type} {f g : (⟨2, ![a, b]⟩ : Shape).Idx → α} (h : ∀ (x : Fin a) (y : Fin b), f (ix2 x y) = g (ix2 x y)) : f = g :=
  funext fun q => by
    have e : q = ix2 (q 0) (q 1) := by
      funext k; fin_cases k <;> rfl
    rw [e]; exact h _ _

theorem sel_of {c : BitVec 1} {p : Prop} [Decidable p] {α : Type} (h : c = 1#1 ↔ p) (a b : α) : Scalar.select c a b = if p then a else b := by
  unfold Scalar.select
  exact if_congr h rfl rfl

theorem sel_not {c : BitVec 1} {p : Prop} [Decidable p] {α : Type} (h : ¬ c = 1#1 ↔ p) (a b : α) : Scalar.select c a b = if p then b else a := by
  unfold Scalar.select
  by_cases hc : c = 1
  · rw [if_pos hc, if_neg (fun q => h.2 q hc)]
  · rw [if_neg hc, if_pos (h.1 hc)]

theorem lane0 (d : Fin 128) : IntOp.cmpi .slt (BitVec.ofNat 32 d.val) 64#32 = 1#1 ↔ d.val / 64 = 0 :=
  (by decide +kernel : ∀ d : Fin 128, IntOp.cmpi .slt (BitVec.ofNat 32 d.val) 64#32 = 1#1 ↔ d.val / 64 = 0) d

theorem lane1 (d : Fin 128) : ¬ IntOp.cmpi .slt (BitVec.ofNat 32 d.val) 64#32 = 1#1 ↔ d.val / 64 = 1 :=
  (by decide +kernel : ∀ d : Fin 128, ¬ IntOp.cmpi .slt (BitVec.ofNat 32 d.val) 64#32 = 1#1 ↔ d.val / 64 = 1) d

theorem gate (h : Fin 2) (l : Fin 128) (j : Fin 4) :
    IntOp.cmpi .eq (IntOp.subi (BitVec.ofNat 32 l.val) (Scalar.muli 2#32 (BitVec.ofNat 32 j.val))) (BitVec.ofNat 32 h.val) = 1#1 ↔ l.val = 2 * j.val + h.val :=
  (by decide +kernel : ∀ (h : Fin 2) (l : Fin 128) (j : Fin 4), IntOp.cmpi .eq (IntOp.subi (BitVec.ofNat 32 l.val) (Scalar.muli 2#32 (BitVec.ofNat 32 j.val))) (BitVec.ofNat 32 h.val) = 1#1 ↔ l.val = 2 * j.val + h.val) h l j

theorem gate0 (l : Fin 128) (j : Fin 4) :
    IntOp.cmpi .eq (BitVec.ofNat 32 l.val) (Scalar.muli 2#32 (BitVec.ofNat 32 j.val)) = 1#1 ↔ l.val = 2 * j.val :=
  (by decide +kernel : ∀ (l : Fin 128) (j : Fin 4), IntOp.cmpi .eq (BitVec.ofNat 32 l.val) (Scalar.muli 2#32 (BitVec.ofNat 32 j.val)) = 1#1 ↔ l.val = 2 * j.val) l j

theorem gate1 (l : Fin 128) (j : Fin 4) :
    IntOp.cmpi .eq (BitVec.ofNat 32 l.val) (Scalar.addi (Scalar.muli 2#32 (BitVec.ofNat 32 j.val)) 1#32) = 1#1 ↔ l.val = 2 * j.val + 1 :=
  (by decide +kernel : ∀ (l : Fin 128) (j : Fin 4), IntOp.cmpi .eq (BitVec.ofNat 32 l.val) (Scalar.addi (Scalar.muli 2#32 (BitVec.ofNat 32 j.val)) 1#32) = 1#1 ↔ l.val = 2 * j.val + 1) l j

theorem causal (r x : Fin 512) : IntOp.cmpi .sge (BitVec.ofNat 32 x.val) (BitVec.ofNat 32 r.val) = 1#1 ↔ r.val ≤ x.val := by
  have hr := r.isLt
  have hx := x.isLt
  rw [WordCmp.cmpi_sge_ofNat (by omega) (by omega)]
  by_cases h : r.val ≤ x.val
  · rw [decide_eq_true h]
    exact ⟨fun _ => h, fun _ => rfl⟩
  · rw [decide_eq_false h]
    exact ⟨fun q => absurd q (by decide), fun q => absurd q h⟩

section Loads

variable {sig' : RefSig} {κ' : Kind} {sp' : Space} {e' : EltTy} {Val' : EltTy → Type}

theorem ld0 {a b : ℕ} (v : View sig' κ' sp' ⟨2, ![a, b]⟩ e') (f : v.ty.Contents Val')
    (inb : ∀ k, (![0, 0] : Fin 2 → ℕ) k + (![a, b] : Fin 2 → ℕ) k ≤ (⟨2, ![a, b]⟩ : Shape).size k) :
    v.readAt Val' (Rect.unit (s := ⟨2, ![a, b]⟩) ![0, 0] ![a, b] inb).toLoadRect f = v.read Val' f := by
  refine funext fun y => congrArg (v.read Val' f) (funext fun k => Fin.ext ?_)
  show (![0, 0] : Fin 2 → ℕ) k + 1 * _ = _
  fin_cases k
  · show 0 + 1 * _ = _
    omega
  · show 0 + 1 * _ = _
    omega

theorem ld1 (v : View sig' κ' sp' S16384x128 e') (f : v.ty.Contents Val') (i : grid0.Coords)
    (inb : ∀ a, k0_off1 i a + (![512, 128] : Fin 2 → ℕ) a ≤ S16384x128.size a) (x : Fin 512) (d : Fin 128) :
    v.readAt Val' (Rect.unit (s := S16384x128) (k0_off1 i) ![512, 128] inb).toLoadRect f (ix2 x d) = v.read Val' f (ix2 (tq i x) d) := by
  refine congrArg (v.read Val' f) (funext fun a => Fin.ext ?_)
  refine Eq.trans (congrArg (· + _) (congrFun (k0_off1_eq i) a)) ?_
  fin_cases a
  · show 512 * (i 1).val + 1 * x.val = 512 * (i 1).val + x.val
    omega
  · show 0 + 1 * d.val = d.val
    omega

theorem ld2 (v : View sig' κ' sp' S128x16384 e') (f : v.ty.Contents Val') (i : grid0.Coords)
    (inb : ∀ a, k0_off2 i a + (![128, 512] : Fin 2 → ℕ) a ≤ S128x16384.size a) (d : Fin 128) (x : Fin 512) :
    v.readAt Val' (Rect.unit (s := S128x16384) (k0_off2 i) ![128, 512] inb).toLoadRect f (ix2 d x) = v.read Val' f (ix2 d (tq i x)) := by
  refine congrArg (v.read Val' f) (funext fun a => Fin.ext ?_)
  refine Eq.trans (congrArg (· + _) (congrFun (k0_off2_eq i) a)) ?_
  fin_cases a
  · show 0 + 1 * d.val = d.val
    omega
  · show 512 * (i 1).val + 1 * x.val = 512 * (i 1).val + x.val
    omega

theorem ld3 (v : View sig' κ' sp' S1x8x16384 e') (f : v.ty.Contents Val') (i : grid0.Coords)
    (inb : ∀ a, k0_off3 i a + (![1, 1, 512] : Fin 3 → ℕ) a ≤ S1x8x16384.size a) (x : Fin 512) :
    v.readAt Val' (Rect.unit (s := S1x8x16384) (k0_off3 i) ![1, 1, 512] inb).toLoadRect f (ix3 0 0 x) = v.read Val' f (ix3 0 (Blk.row 0) (tq i x)) := by
  refine congrArg (v.read Val' f) (funext fun a => Fin.ext ?_)
  refine Eq.trans (congrArg (· + _) (congrFun (k0_off3_eq i) a)) ?_
  fin_cases a
  · rfl
  · rfl
  · show 512 * (i 1).val + 1 * x.val = 512 * (i 1).val + x.val
    omega

theorem ld4 (v : View sig' κ' sp' S1x8x16384 e') (f : v.ty.Contents Val') (i : grid0.Coords)
    (inb : ∀ a, k0_off4 i a + (![1, 1, 512] : Fin 3 → ℕ) a ≤ S1x8x16384.size a) (x : Fin 512) :
    v.readAt Val' (Rect.unit (s := S1x8x16384) (k0_off4 i) ![1, 1, 512] inb).toLoadRect f (ix3 0 0 x) = v.read Val' f (ix3 0 (Blk.row 1) (tq i x)) := by
  refine congrArg (v.read Val' f) (funext fun a => Fin.ext ?_)
  refine Eq.trans (congrArg (· + _) (congrFun (k0_off4_eq i) a)) ?_
  fin_cases a
  · rfl
  · rfl
  · show 512 * (i 1).val + 1 * x.val = 512 * (i 1).val + x.val
    omega

end Loads

section Heads

variable (i : grid0.Coords) (x2 : Vec Ideal S16384x128 .bf16) (x3 : Vec Ideal S512x128 .bf16) (x4 : Vec Ideal S128x512 .bf16) (x5 : Vec Ideal S512x128 .bf16) (x6 : Vec Ideal S512x128 .f32) (x7 x8 : Vec Ideal S1x8x16384 .f32) (x9 : Vec Ideal S128x16384 .bf16) (x10 : Vec Ideal S16384x128 .bf16) (x11 : Vec Ideal S128x16384 .bf16)

theorem kh0 : k0_pay42 (F := Ideal) x3 = (blkOf i x2 x3 x4 x5 x6 x7 x8 x9 x10 x11).kh 0 := by
  refine pair_ext fun r d => ?_
  pointwise [k0_pay42, k0_pay39, k0_pay40, k0_pay41]
  exact sel_of (lane0 d) _ _

theorem kh1 : k0_pay43 (F := Ideal) x3 = (blkOf i x2 x3 x4 x5 x6 x7 x8 x9 x10 x11).kh 1 := by
  refine pair_ext fun r d => ?_
  pointwise [k0_pay43, k0_pay39, k0_pay40, k0_pay41]
  exact sel_not (lane1 d) _ _

theorem vh0 : k0_pay46 (F := Ideal) x5 = (blkOf i x2 x3 x4 x5 x6 x7 x8 x9 x10 x11).vh 0 := by
  refine pair_ext fun r d => ?_
  pointwise [k0_pay46, k0_pay39, k0_pay44, k0_pay45]
  exact sel_of (lane0 d) _ _

theorem vh1 : k0_pay47 (F := Ideal) x5 = (blkOf i x2 x3 x4 x5 x6 x7 x8 x9 x10 x11).vh 1 := by
  refine pair_ext fun r d => ?_
  pointwise [k0_pay47, k0_pay39, k0_pay44, k0_pay45]
  exact sel_not (lane1 d) _ _

theorem kth0 : k0_pay51 (F := Ideal) x4 = (blkOf i x2 x3 x4 x5 x6 x7 x8 x9 x10 x11).kth 0 := by
  refine pair_ext fun d r => ?_
  pointwise [k0_pay51, k0_pay48, k0_pay49, k0_pay50]
  exact sel_of (lane0 d) _ _

theorem kth1 : k0_pay52 (F := Ideal) x4 = (blkOf i x2 x3 x4 x5 x6 x7 x8 x9 x10 x11).kth 1 := by
  refine pair_ext fun d r => ?_
  pointwise [k0_pay52, k0_pay48, k0_pay49, k0_pay50]
  exact sel_not (lane1 d) _ _

theorem ch0 : k0_pay56 (F := Ideal) (k0_pay54 x6) (FloatOps.ofBits .f32 0#32) (k0_pay55 i) = (blkOf i x2 x3 x4 x5 x6 x7 x8 x9 x10 x11).ch 0 := by
  refine pair_ext fun r z => ?_
  obtain rfl : z = 0 := Subsingleton.elim _ _
  pointwise [k0_pay56, k0_pay54, k0_pay55, k0_pay53]
  exact Finset.sum_congr rfl fun l _ => sel_of (gate 0 l (i 0)) _ _

theorem ch1 : k0_pay57 (F := Ideal) (k0_pay53 i) x6 = (blkOf i x2 x3 x4 x5 x6 x7 x8 x9 x10 x11).ch 1 := by
  refine pair_ext fun r z => ?_
  obtain rfl : z = 0 := Subsingleton.elim _ _
  pointwise [k0_pay57, k0_pay54, k0_pay55, k0_pay53]
  exact Finset.sum_congr rfl fun l _ => sel_of (gate 1 l (i 0)) _ _

end Heads

section Diagonal

variable (B : Blk) {i : grid0.Coords} (hkj : (i 1).val = B.kj)

include hkj in
theorem Blk.p_tq (h : Fin 2) (r x : Fin 512) :
    FloatOps.exp2 (F := Ideal) (φ := .f32) (Scalar.select (IntOp.cmpi .sge (BitVec.ofNat 32 x.val) (BitVec.ofNat 32 r.val))
        ((∑ d : Fin 128, B.kh h (ix2 r d) * B.q (ix2 (tq i x) d)) + (B.al (ix3 0 (Blk.row h) (tq i x)) - B.ch h (ix2 r 0)))
        (Named.named (F := Ideal) (φ := .f32) κ "mask" 0xF149F2CA#32)) = B.p h r (tq i x) := by
  rw [sel_of (causal r x), IdealRules.named_const.ideal_named_scalar κ "mask" _ ⊥ rfl]
  unfold Blk.p
  by_cases hc : r.val ≤ x.val
  · rw [if_pos hc, if_pos (by rw [← hkj]; show 512 * (i 1).val + r.val ≤ 512 * (i 1).val + x.val; omega)]
    rfl
  · rw [if_neg hc, if_neg (by rw [← hkj]; show ¬ (512 * (i 1).val + r.val ≤ 512 * (i 1).val + x.val); omega)]
    exact Ideal.exp2_bot

variable (v75 v78 : Vec Ideal S512x128 .bf16) (v87 v90 : Vec Ideal S1x1x512 .f32)
  (h75 : ∀ x d, v75 (ix2 x d) = B.q (ix2 (tq i x) d)) (h78 : ∀ x d, v78 (ix2 x d) = B.dO (ix2 (tq i x) d))

include hkj h75 in
theorem diag_p0 (h87 : ∀ x, v87 (ix3 0 0 x) = B.al (ix3 0 (Blk.row 0) (tq i x))) (r x : Fin 512) : k0_pay67 (F := Ideal) (B.kh 0) (B.ch 0) v75 v87 (ix2 r x) = B.p 0 r (tq i x) := by
  pointwise [k0_pay67, k0_pay63, h75, h87]
  exact B.p_tq hkj 0 r x

include hkj h75 h78 in
theorem diag_s0 (h87 : ∀ x, v87 (ix3 0 0 x) = B.al (ix3 0 (Blk.row 0) (tq i x))) (h90 : ∀ x, v90 (ix3 0 0 x) = B.dl (ix3 0 (Blk.row 0) (tq i x))) (r x : Fin 512) :
    k0_pay68 (F := Ideal) (B.kh 0) (B.vh 0) (B.ch 0) v75 v78 v87 v90 (ix2 r x) = B.s 0 r (tq i x) := by
  pointwise [k0_pay68, k0_pay64, h78, h90]
  rw [diag_p0 B hkj v75 v87 h75 h87 r x]
  rfl

include hkj h75 in
theorem diag_p1 (h87 : ∀ x, v87 (ix3 0 0 x) = B.al (ix3 0 (Blk.row 1) (tq i x))) (r x : Fin 512) : k0_pay75 (F := Ideal) (B.kh 1) (B.ch 1) v75 v87 (ix2 r x) = B.p 1 r (tq i x) := by
  pointwise [k0_pay75, k0_pay63, h75, h87]
  exact B.p_tq hkj 1 r x

include hkj h75 h78 in
theorem diag_s1 (h87 : ∀ x, v87 (ix3 0 0 x) = B.al (ix3 0 (Blk.row 1) (tq i x))) (h90 : ∀ x, v90 (ix3 0 0 x) = B.dl (ix3 0 (Blk.row 1) (tq i x))) (r x : Fin 512) :
    k0_pay76 (F := Ideal) (B.kh 1) (B.vh 1) (B.ch 1) v75 v78 v87 v90 (ix2 r x) = B.s 1 r (tq i x) := by
  pointwise [k0_pay76, k0_pay64, h78, h90]
  rw [diag_p1 B hkj v75 v87 h75 h87 r x]
  rfl

end Diagonal

theorem blockSum_tq (f : Fin 16384 → EReal) {i : grid0.Coords} : blockSum f (i 1).val = ∑ x : Fin 512, f (tq i x) :=
  Finset.sum_congr rfl fun x _ => dif_pos (tq i x).isLt

end Cert.KernelIdeal.Point
-- ==== Proof.RefSide.lean ====
/- The reference's results over real arguments. -/
module

public import proofs.«01_k».proof.Proof.Gen.ReferenceIdeal.Read
public import proofs.«01_k».proof.Proof.Maths
public import proofs.«01_k».proof.Proof.Diag

@[expose] public section

set_option maxRecDepth 16384

noncomputable section
namespace Cert.RefSide
open Idealize.ShloMosaic Idealize.ShloMosaic.TcCoe Idealize.ShloMosaic.Tactic
open Cert.ReferenceIdeal Cert.ReferenceIdeal.Gen Cert.ReferenceIdeal.Read Cert.Maths
variable (A : Args)
abbrev x0 : FVec Ideal S16384x512 .f32 := fun i => ((A.q (i 0) (i 1) : ℝ) : EReal)
abbrev x1 : FVec Ideal S16384x512 .f32 := fun i => ((A.k (i 0) (i 1) : ℝ) : EReal)
abbrev x2 : FVec Ideal S16384x512 .f32 := fun i => ((A.v (i 0) (i 1) : ℝ) : EReal)
abbrev x3 : FVec Ideal S16384x8 .f32 := fun i => ((A.c (i 0) (i 1) : ℝ) : EReal)
abbrev x4 : FVec Ideal S16384x512 .f32 := fun i => ((A.dO (i 0) (i 1) : ℝ) : EReal)

theorem mask (t r : Fin 16384) : IntOp.cmpi .sge (BitVec.ofNat 32 t.val) (BitVec.ofNat 32 r.val) = 1#1 ↔ r.val ≤ t.val := by
  have ht := t.isLt
  have hr := r.isLt
  generalize t.val = a at ht
  generalize r.val = b at hr
  word_cmp

theorem v20 (h : Fin 8) (t r : Fin 16384) : val_main_v20_0 (F := Ideal) (x0 A) (x1 A) (x3 A) (ix3 h t r) = if r.val ≤ t.val then ((A.lg h t r : ℝ) : EReal) else ⊥ := by
  pointwise [val_main_v20_0, val_main_v20_1, val_main_call0_v2, val_main_call0_v0, val_main_cst_0, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_v2, val_main_v1, val_main_v0]
  refine (Cert.KernelIdeal.Point.sel_of (mask t r) _ _).trans (if_congr Iff.rfl ?_ ofBits_neg_inf)
  rw [ofBits_eighth]
  show (∑ d : Fin 64, ((A.q t (col h d) : ℝ) : EReal) * ((A.k r (col h d) : ℝ) : EReal)) * _ + ((A.c t h : ℝ) : EReal) - ((A.c r h : ℝ) : EReal) = _
  rw [sum_coe (fun d => A.q t (col h d) * A.k r (col h d)) fun d => (EReal.coe_mul _ _).symm, ← EReal.coe_mul]
  rfl

theorem v21 (h : Fin 8) (t : Fin 16384) : ∃ M : ℝ, val_main_v21 (F := Ideal) (x0 A) (x1 A) (x3 A) (ix2 h t) = (M : EReal) := by
  pointwise [val_main_v21, val_main_cst_1]
  rw [ofBits_neg_inf]
  refine fold_max_real _ (fun r => ?_) t ?_
  · rw [v20]; split
    · exact EReal.coe_ne_top _
    · exact bot_ne_top
  · rw [v20, if_pos le_rfl]; exact EReal.coe_ne_bot _

theorem v28 (x0 x1 : FVec Ideal S16384x512 .f32) (x3 : FVec Ideal S16384x8 .f32) (i : S8x16384.Idx) :
    val_main_v28 (F := Ideal) x0 x1 x3 i = val_main_v21 (F := Ideal) x0 x1 x3 i := by
  rw [val_main_v28_apply, val_main_v27_apply, val_main_cst_3_apply]
  generalize val_main_v21 (F := Ideal) x0 x1 x3 i = y
  show max (Ideal.ofBits .f32 0xFF800000#32) y = y
  rw [ofBits_neg_inf, max_eq_right bot_le]

theorem v41' (x0 x1 : FVec Ideal S16384x512 .f32) (x3 : FVec Ideal S16384x8 .f32) (h : Fin 8) (t r : Fin 16384) :
    val_main_v41 (F := Ideal) x0 x1 x3 (ix3 h t r) = Ideal.exp (val_main_v20_0 (F := Ideal) x0 x1 x3 (ix3 h t r) - val_main_v28 (F := Ideal) x0 x1 x3 (ix2 h t)) := by
  pointwise [val_main_v41, val_main_v40, val_main_v39, val_main_v38]

theorem v42' (x0 x1 : FVec Ideal S16384x512 .f32) (x3 : FVec Ideal S16384x8 .f32) (h : Fin 8) (t : Fin 16384) :
    val_main_v42 (F := Ideal) x0 x1 x3 (ix2 h t) = ∑ r : Fin 16384, val_main_v41 (F := Ideal) x0 x1 x3 (ix3 h t r) := by
  pointwise [val_main_v42, val_main_cst_9]

theorem v45' (x0 x1 : FVec Ideal S16384x512 .f32) (x3 : FVec Ideal S16384x8 .f32) (h : Fin 8) (t r : Fin 16384) :
    val_main_v45 (F := Ideal) x0 x1 x3 (ix3 h t r) = Ideal.div (val_main_v41 (F := Ideal) x0 x1 x3 (ix3 h t r)) (val_main_v42 (F := Ideal) x0 x1 x3 (ix2 h t)) := by
  pointwise [val_main_v45, val_main_v44, val_main_v43]

theorem v41 {M : ℝ} (h : Fin 8) (t r : Fin 16384) (hM : val_main_v21 (F := Ideal) (x0 A) (x1 A) (x3 A) (ix2 h t) = (M : EReal)) :
    val_main_v41 (F := Ideal) (x0 A) (x1 A) (x3 A) (ix3 h t r) = ((A.w h t r * Real.exp (-M) : ℝ) : EReal) := by
  rw [v41', v28, hM, v20, ← A.w_shift M h t r]
  split
  · rw [← EReal.coe_sub, Ideal.exp_coe]
  · rw [EReal.bot_sub, Ideal.exp_bot, EReal.coe_zero]

theorem v42 {M : ℝ} (h : Fin 8) (t : Fin 16384) (hM : val_main_v21 (F := Ideal) (x0 A) (x1 A) (x3 A) (ix2 h t) = (M : EReal)) :
    val_main_v42 (F := Ideal) (x0 A) (x1 A) (x3 A) (ix2 h t) = ((A.L h t * Real.exp (-M) : ℝ) : EReal) := by
  rw [v42', sum_coe _ fun r => v41 A h t r hM, A.L_shift M h t]

theorem v45 (h : Fin 8) (t r : Fin 16384) : val_main_v45 (F := Ideal) (x0 A) (x1 A) (x3 A) (ix3 h t r) = ((A.p h t r : ℝ) : EReal) := by
  obtain ⟨M, hM⟩ := v21 A h t
  rw [v45', v41 A h t r hM, v42 A h t hM, div_real (A.L_shift_pos M h t).ne', A.p_shift M h t r]

theorem v55 (h : Fin 8) (t r : Fin 16384) : val_main_v55 (F := Ideal) (x2 A) (x4 A) (ix3 h t r) = ((A.dP h t r : ℝ) : EReal) := by
  pointwise [val_main_v55, val_main_v54, val_main_v53, val_main_v49]
  exact sum_coe (fun d => A.dO t (col h d) * A.v r (col h d)) fun d => (EReal.coe_mul _ _).symm

theorem v60' (x0 x1 x2 x4 : FVec Ideal S16384x512 .f32) (x3 : FVec Ideal S16384x8 .f32) (h : Fin 8) (t r : Fin 16384) :
    val_main_v61 (F := Ideal) x0 x1 x2 x3 x4 (ix3 h t r) = val_main_v55 (F := Ideal) x2 x4 (ix3 h t r)
      * Ideal.div 1 (val_main_v42 (F := Ideal) x0 x1 x3 (ix2 h t) * val_main_v42 (F := Ideal) x0 x1 x3 (ix2 h t))
      * val_main_v41 (F := Ideal) x0 x1 x3 (ix3 h t r) := by
  pointwise [val_main_v61, val_main_v60, val_main_v59, val_main_v48, val_main_v47, val_main_v46, val_main_v43, val_main_cst_10]

theorem v70' (x0 x1 x2 x4 : FVec Ideal S16384x512 .f32) (x3 : FVec Ideal S16384x8 .f32) (h : Fin 8) (t r : Fin 16384) :
    val_main_v70 (F := Ideal) x0 x1 x2 x3 x4 (ix3 h t r) = (Ideal.div (val_main_v55 (F := Ideal) x2 x4 (ix3 h t r)) (val_main_v42 (F := Ideal) x0 x1 x3 (ix2 h t))
      + -∑ x : Fin 16384, val_main_v61 (F := Ideal) x0 x1 x2 x3 x4 (ix3 h t x)) * val_main_v41 (F := Ideal) x0 x1 x3 (ix3 h t r) := by
  pointwise [val_main_v70, val_main_v69, val_main_v68, val_main_v67, val_main_v66, val_main_v65, val_main_v64, val_main_v63, val_main_v62, val_main_v43, val_main_cst_11, val_main_cst_12]
  rw [Fin.sum_univ_one]

theorem v71' (x0 x1 x2 x4 : FVec Ideal S16384x512 .f32) (x3 : FVec Ideal S16384x8 .f32) (h : Fin 8) (t r : Fin 16384) :
    val_main_v71 (F := Ideal) x0 x1 x2 x3 x4 (ix3 h t r) = if r.val ≤ t.val then val_main_v70 (F := Ideal) x0 x1 x2 x3 x4 (ix3 h t r) else 0 := by
  pointwise [val_main_v71, val_main_call1_v0, val_main_call1_cst, val_main_v20_1, val_main_v19, val_main_v18, val_main_v17, val_main_v16, val_main_v15, val_main_v14, val_main_v13]
  exact Cert.KernelIdeal.Point.sel_of (mask t r) _ _

theorem v71 (h : Fin 8) (t r : Fin 16384) : val_main_v71 (F := Ideal) (x0 A) (x1 A) (x2 A) (x3 A) (x4 A) (ix3 h t r) = ((A.ds h t r : ℝ) : EReal) := by
  rw [v71']
  split
  · obtain ⟨M, hM⟩ := v21 A h t
    have hl := (A.L_shift_pos M h t).ne'
    rw [v70', v55, v42 A h t hM, v41 A h t r hM, div_real hl,
      sum_coe (fun x => A.dP h t x * (1 / (A.L h t * Real.exp (-M) * (A.L h t * Real.exp (-M)))) * (A.w h t x * Real.exp (-M))) fun x => by
        rw [v60', v55, v42 A h t hM, v41 A h t x hM, ← EReal.coe_mul, ← EReal.coe_one, div_real (mul_ne_zero hl hl), ← EReal.coe_mul, ← EReal.coe_mul],
      ← EReal.coe_neg, ← EReal.coe_add, ← EReal.coe_mul, A.ds_shift M h t r]
  · rename_i hr
    rw [A.ds_masked h t r hr, EReal.coe_zero]

theorem v82 (h : Fin 8) (t r : Fin 16384) : val_main_v82 (F := Ideal) (x0 A) (x1 A) (x2 A) (x3 A) (x4 A) (ix3 h t r) = ((A.ds h t r * (1 / 8) : ℝ) : EReal) := by
  rw [val_main_v82_apply, v71, val_main_v81_apply, val_main_cst_17_apply]
  refine Eq.trans (congrArg (((A.ds h t r : ℝ) : EReal) * ·) ofBits_eighth) ?_
  rw [← EReal.coe_mul]

/-- The reference's gradient of the queries. -/
theorem v109 (e : Fin 512) (t : Fin 16384) :
    val_main_v109 (F := Ideal) (x0 A) (x1 A) (x2 A) (x3 A) (x4 A) (ix2 e t) = ((A.dq (hd e) (ln e) t : ℝ) : EReal) := by
  pointwise [val_main_v109, val_main_v88, val_main_v86, val_main_v85, val_main_v1]
  refine sum_coe _ fun r => ?_
  rw [EReal.coe_mul]
  exact congrArg₂ (· * ·) (v82 A (hd e) t r) (congrArg (fun j => ((A.k r j : ℝ) : EReal)) (col_hd e).symm)

/-- The reference's gradient of the keys. -/
theorem v111 (e : Fin 512) (r : Fin 16384) :
    val_main_v111 (F := Ideal) (x0 A) (x1 A) (x2 A) (x3 A) (x4 A) (ix2 e r) = ((A.dk (hd e) (ln e) r : ℝ) : EReal) := by
  pointwise [val_main_v111, val_main_v110, val_main_v87, val_main_v84, val_main_v83, val_main_v0]
  refine sum_coe _ fun t => ?_
  rw [EReal.coe_mul]
  exact congrArg₂ (· * ·) (v82 A (hd e) t r) (congrArg (fun j => ((A.q t j : ℝ) : EReal)) (col_hd e).symm)

/-- The reference's gradient of the values. -/
theorem v113 (e : Fin 512) (r : Fin 16384) :
    val_main_v113 (F := Ideal) (x0 A) (x1 A) (x3 A) (x4 A) (ix2 e r) = ((A.dv (hd e) (ln e) r : ℝ) : EReal) := by
  pointwise [val_main_v113, val_main_v112, val_main_v58, val_main_v57, val_main_v56, val_main_v54, val_main_v53]
  refine sum_coe _ fun t => ?_
  rw [EReal.coe_mul]
  exact congrArg₂ (· * ·) (congrArg (fun j => ((A.dO t j : ℝ) : EReal)) (col_hd e).symm) (v45 A (hd e) t r)

theorem v76 (r : Fin 16384) (h : Fin 8) :
    val_main_v76 (F := Ideal) (x0 A) (x1 A) (x2 A) (x3 A) (x4 A) (ix2 r h) = ((A.dck h r : ℝ) : EReal) := by
  pointwise [val_main_v76, val_main_v75, val_main_v74, val_main_v73, val_main_v72, val_main_cst_13, val_main_cst_14]
  rw [Fin.sum_univ_one]
  exact sum_coe _ fun t => (congrArg (- ·) (v71 A h t r)).trans (EReal.coe_neg _).symm

theorem v80 (t : Fin 16384) (h : Fin 8) :
    val_main_v80 (F := Ideal) (x0 A) (x1 A) (x2 A) (x3 A) (x4 A) (ix2 t h) = ((A.dcq h t : ℝ) : EReal) := by
  pointwise [val_main_v80, val_main_v79, val_main_v78, val_main_v77, val_main_cst_15, val_main_cst_16]
  rw [Fin.sum_univ_one]
  exact sum_coe _ fun r => v71 A h t r

theorem lanes : ∀ (j : Fin 4) (l : Fin 128),
    IntOp.ori (IntOp.cmpi .eq (BitVec.ofNat 32 l.val) (IntOp.muli (2#32) (BitVec.ofNat 32 j.val)))
        (IntOp.cmpi .eq (BitVec.ofNat 32 l.val) (IntOp.addi (IntOp.muli (2#32) (BitVec.ofNat 32 j.val)) 1#32)) = 1#1
      ↔ (l.val = 2 * j.val ∨ l.val = 2 * j.val + 1) := by
  decide +kernel

theorem pad0 (i : S_.Idx) : val_main_call4_v0 (F := Ideal) i = 0 := by
  rw [val_main_call4_v0_apply, val_main_c_22_apply]
  show (((0#32 : BitVec 32).toInt : ℝ) : EReal) = 0
  norm_num

/-- The reference's gradient of the decays on the key side, in the lanes of the heads' pairs. -/
theorem v108 (j : Fin 4) (r : Fin 16384) (l : Fin 128) :
    val_main_v108 (F := Ideal) (x0 A) (x1 A) (x2 A) (x3 A) (x4 A) (ix3 j r l) = if h : l.val = 2 * j.val ∨ l.val = 2 * j.val + 1 then ((A.dck ⟨l.val, by omega⟩ r : ℝ) : EReal) else 0 := by
  pointwise [val_main_v108, val_main_call3_v1, val_main_call3_v2, val_main_call3_v3, val_main_call3_v0, val_main_cst_21, val_main_v107, val_main_v106, val_main_v105, val_main_v104, val_main_v103, val_main_v102, val_main_v101, val_main_v100, val_main_c_19, val_main_v99, val_main_v98, val_main_c_18, val_main_v97, val_main_v96, val_main_v95, val_main_v94, val_main_v93, val_main_c, val_main_v92, val_main_v91, val_main_v90, val_main_v89]
  refine (Cert.KernelIdeal.Point.sel_of (lanes j l) _ _).trans ?_
  by_cases hl : l.val = 2 * j.val ∨ l.val = 2 * j.val + 1
  · have h8 : l.val < 8 := by omega
    rw [if_pos hl, dif_pos hl, dif_pos h8]
    exact v76 A r ⟨l.val, h8⟩
  · rw [if_neg hl, dif_neg hl]
    exact Ideal.ofBits_zero_f32

/-- The reference's gradient of the decays on the query side, the heads' pairs in eight rows. -/
theorem v116 (j : Fin 4) (e : Fin 8) (t : Fin 16384) :
    val_main_v116 (F := Ideal) (x0 A) (x1 A) (x2 A) (x3 A) (x4 A) (ix3 j e t) = if h : e.val < 2 then ((A.dcq ⟨2 * j.val + e.val, by omega⟩ t : ℝ) : EReal) else 0 := by
  pointwise [val_main_v116, val_main_v115, val_main_v114]
  by_cases he : e.val < 2
  · rw [dif_pos he, dif_pos he]
    refine (v80 A t _).trans (congrArg (fun h => ((A.dcq h t : ℝ) : EReal)) (Fin.ext ?_))
    show j.val * 2 + e.val = 2 * j.val + e.val
    omega
  · rw [dif_neg he, dif_neg he]
    exact pad0 _

end Cert.RefSide
-- ==== Proof.Finite.lean ====
/- Finite arguments are real numbers. -/
module

public import proofs.«01_k».proof.Defs
public import proofs.«01_k».proof.Proof.Gen.Pre_finite
public import proofs.«01_k».proof.Proof.RefSide

@[expose] public section

set_option maxRecDepth 16384

noncomputable section

namespace Cert.RefSide

open Idealize.ShloMosaic Idealize.ShloMosaic.TcCoe Idealize.ShloMosaic.Tactic
open Cert.Maths

theorem ofBits_inf : Ideal.ofBits .f32 0x7F800000#32 = (⊤ : EReal) := by
  simp [Ideal.ofBits, Ideal.ieee, -EReal.coe_mul]

/-- An extended real whose absolute value is below infinity is a real. -/
theorem real_of {x : EReal} (h : BitVec.ofBool (decide (max x (-x) < Ideal.ofBits .f32 0x7F800000#32)) = 1#1) :
    x = ((x.toReal : ℝ) : EReal) := by
  have h' : max x (-x) < ⊤ := by
    rw [← ofBits_inf]
    by_contra hn
    rw [decide_eq_false hn] at h
    exact absurd h (by decide)
  refine (EReal.coe_toReal (fun e => ?_) (fun e => ?_)).symm
  · rw [e] at h'; exact absurd h' (by simp)
  · rw [e] at h'; exact absurd h' (by simp)

variable (x0 x1 x2 x4 : FVec Ideal Cert.Pre_finite.S16384x512 .f32) (x3 : FVec Ideal Cert.Pre_finite.S16384x8 .f32)

theorem fin_at (t : Fin 16384) (l : Fin 2056) : Cert.Pre_finite.fn (F := Ideal) x0 x1 x2 x3 x4 (ix2 t l)
    = BitVec.ofBool (decide (FloatOps.absf (F := Ideal) (φ := .f32)
        (if h : l.val < 512 then x0 (ix2 t ⟨l.val, h⟩)
          else if h : l.val - 512 < 512 then x1 (ix2 t ⟨l.val - 512, h⟩)
          else if h : l.val - 512 - 512 < 512 then x2 (ix2 t ⟨l.val - 512 - 512, h⟩)
          else if h : l.val - 512 - 512 - 512 < 512 then x4 (ix2 t ⟨l.val - 512 - 512 - 512, h⟩)
          else x3 (ix2 t ⟨l.val - 512 - 512 - 512 - 512, by have := l.isLt; omega⟩)) < Ideal.ofBits .f32 0x7F800000#32)) := by
  pointwise [Cert.Pre_finite.fn]

variable (H : Cert.Pre_finite.fn (F := Ideal) x0 x1 x2 x3 x4 = fun _ => 1#1)

include H in
theorem fin0 (t : Fin 16384) (d : Fin 512) : x0 (ix2 t d) = (((x0 (ix2 t d) : EReal).toReal : ℝ) : EReal) := by
  have hd := d.isLt
  have h := (fin_at x0 x1 x2 x4 x3 t ⟨d.val, by omega⟩).symm.trans (congrFun H _)
  rw [dif_pos hd] at h
  exact real_of h

include H in
theorem fin1 (t : Fin 16384) (d : Fin 512) : x1 (ix2 t d) = (((x1 (ix2 t d) : EReal).toReal : ℝ) : EReal) := by
  have hd := d.isLt
  have h := (fin_at x0 x1 x2 x4 x3 t ⟨d.val + 512, by omega⟩).symm.trans (congrFun H _)
  rw [dif_neg (by show ¬ d.val + 512 < 512; omega), dif_pos (by show d.val + 512 - 512 < 512; omega)] at h
  have e : (⟨d.val + 512 - 512, by omega⟩ : Fin 512) = d := Fin.ext (by show d.val + 512 - 512 = d.val; omega)
  exact e ▸ real_of h

include H in
theorem fin2 (t : Fin 16384) (d : Fin 512) : x2 (ix2 t d) = (((x2 (ix2 t d) : EReal).toReal : ℝ) : EReal) := by
  have hd := d.isLt
  have h := (fin_at x0 x1 x2 x4 x3 t ⟨d.val + 512 + 512, by omega⟩).symm.trans (congrFun H _)
  rw [dif_neg (by show ¬ d.val + 512 + 512 < 512; omega), dif_neg (by show ¬ d.val + 512 + 512 - 512 < 512; omega),
    dif_pos (by show d.val + 512 + 512 - 512 - 512 < 512; omega)] at h
  have e : (⟨d.val + 512 + 512 - 512 - 512, by omega⟩ : Fin 512) = d := Fin.ext (by show d.val + 512 + 512 - 512 - 512 = d.val; omega)
  exact e ▸ real_of h

include H in
theorem fin4 (t : Fin 16384) (d : Fin 512) : x4 (ix2 t d) = (((x4 (ix2 t d) : EReal).toReal : ℝ) : EReal) := by
  have hd := d.isLt
  have h := (fin_at x0 x1 x2 x4 x3 t ⟨d.val + 512 + 512 + 512, by omega⟩).symm.trans (congrFun H _)
  rw [dif_neg (by show ¬ d.val + 512 + 512 + 512 < 512; omega), dif_neg (by show ¬ d.val + 512 + 512 + 512 - 512 < 512; omega),
    dif_neg (by show ¬ d.val + 512 + 512 + 512 - 512 - 512 < 512; omega),
    dif_pos (by show d.val + 512 + 512 + 512 - 512 - 512 - 512 < 512; omega)] at h
  have e : (⟨d.val + 512 + 512 + 512 - 512 - 512 - 512, by omega⟩ : Fin 512) = d :=
    Fin.ext (by show d.val + 512 + 512 + 512 - 512 - 512 - 512 = d.val; omega)
  exact e ▸ real_of h

include H in
theorem fin3 (t : Fin 16384) (d : Fin 8) : x3 (ix2 t d) = (((x3 (ix2 t d) : EReal).toReal : ℝ) : EReal) := by
  have hd := d.isLt
  have h := (fin_at x0 x1 x2 x4 x3 t ⟨d.val + 512 + 512 + 512 + 512, by omega⟩).symm.trans (congrFun H _)
  rw [dif_neg (by show ¬ d.val + 512 + 512 + 512 + 512 < 512; omega), dif_neg (by show ¬ d.val + 512 + 512 + 512 + 512 - 512 < 512; omega),
    dif_neg (by show ¬ d.val + 512 + 512 + 512 + 512 - 512 - 512 < 512; omega),
    dif_neg (by show ¬ d.val + 512 + 512 + 512 + 512 - 512 - 512 - 512 < 512; omega)] at h
  have e : (⟨d.val + 512 + 512 + 512 + 512 - 512 - 512 - 512 - 512, by omega⟩ : Fin 8) = d :=
    Fin.ext (by show d.val + 512 + 512 + 512 + 512 - 512 - 512 - 512 - 512 = d.val; omega)
  exact e ▸ real_of h

/-- The real arguments that finite arrays are. -/
def toArgs : Args where
  q t d := (x0 (ix2 t d) : EReal).toReal
  k t d := (x1 (ix2 t d) : EReal).toReal
  v t d := (x2 (ix2 t d) : EReal).toReal
  c t h := (x3 (ix2 t h) : EReal).toReal
  dO t d := (x4 (ix2 t d) : EReal).toReal

include H in
theorem real_args : x0 = RefSide.x0 (toArgs x0 x1 x2 x4 x3) ∧ x1 = RefSide.x1 (toArgs x0 x1 x2 x4 x3)
    ∧ x2 = RefSide.x2 (toArgs x0 x1 x2 x4 x3) ∧ x3 = RefSide.x3 (toArgs x0 x1 x2 x4 x3) ∧ x4 = RefSide.x4 (toArgs x0 x1 x2 x4 x3) :=
  ⟨Cert.KernelIdeal.Point.pair_ext fun t d => fin0 x0 x1 x2 x4 x3 H t d, Cert.KernelIdeal.Point.pair_ext fun t d => fin1 x0 x1 x2 x4 x3 H t d,
    Cert.KernelIdeal.Point.pair_ext fun t d => fin2 x0 x1 x2 x4 x3 H t d, Cert.KernelIdeal.Point.pair_ext fun t d => fin3 x0 x1 x2 x4 x3 H t d,
    Cert.KernelIdeal.Point.pair_ext fun t d => fin4 x0 x1 x2 x4 x3 H t d⟩

end Cert.RefSide
-- ==== Proof.FeedForwardBackValue.lean ====
/- The value of a feed-forward block's backward call: the arrays the kernel leaves are the reference's gradients. -/
module

public import proofs.«01_k».proof.Proof.FeedForwardBack
public import proofs.«01_k».proof.Proof.Finite
public import proofs.«01_k».proof.Proof.Gen.Pre_finite8
public import proofs.«01_k».proof.Proof.Gen.Reference8Ideal.Run
public import Idealize.ShloMosaic.Lib.Claim

@[expose] public section

set_option maxRecDepth 16384

noncomputable section

namespace Cert.Kernel8Ideal.Back

open Idealize.ShloMosaic Idealize.ShloMosaic.TcCoe Idealize.SL.Sem
open Idealize.ShloMosaic.Pipeline (Dat)
open Cert.NormMaths Cert.FeedBack
open Cert.Kernel8Ideal Cert.Kernel8Ideal.Gen
open Cert.Reference8Ideal.Read (val_main_v5 val_main_v6 val_main_v15 val_main_v41 val_main_v44 val_main_v77 val_main_v79 val_main_v80 val_main_v81)

/-! ## The host's operands -/

section Host

variable (X : FVec Ideal S16384x1024 .f32) (W : FVec Ideal S1024x5632 .f32) (V : FVec Ideal S2816x1024 .f32)

/-- The gates, as the host computes them. -/
def hostGate : FVec Ideal S16384x2816 .f32 :=
  extractStridedSlice S16384x2816 ![0, 0] (Host.dotGeneral dot_S16384x1024_S1024x5632_S16384x5632_1_0_0_1_n_n none X W : FVec Ideal S16384x5632 .f32) slices_S16384x5632_S16384x2816_0_0

/-- The up values, as the host computes them. -/
def hostUp : FVec Ideal S16384x2816 .f32 :=
  extractStridedSlice S16384x2816 ![0, 2816] (Host.dotGeneral dot_S16384x1024_S1024x5632_S16384x5632_1_0_0_1_n_n none X W : FVec Ideal S16384x5632 .f32) slices_S16384x5632_S16384x2816_0_2816

/-- The gated units' gates times their logistic values, as the host computes them. -/
def hostUnit : FVec Ideal S16384x2816 .f32 :=
  mulf (hostGate X W) (Host.divf (broadcastInDim S16384x2816 ![] bcast_S_S16384x2816 (constant S_ .f32 0x3F800000#32))
    (addf (broadcastInDim S16384x2816 ![] bcast_S_S16384x2816 (constant S_ .f32 0x3F800000#32)) (Host.exp (Host.negf (hostGate X W)))))

/-- The residual sums, as the host computes them. -/
def hostSum : FVec Ideal S16384x1024 .f32 :=
  addf (mulf (broadcastInDim S16384x1024 ![] bcast_S_S16384x1024 (constant S_ .f32 0x3F9837F0#32)) X)
    (mulf (broadcastInDim S16384x1024 ![] bcast_S_S16384x1024 (constant S_ .f32 0x3F000000#32))
      (Host.dotGeneral dot_S16384x2816_S2816x1024_S16384x1024_1_0_0_1_n_n none (mulf (hostUnit X W) (hostUp X W)) V : FVec Ideal S16384x1024 .f32))

theorem hostGate_at (t : Fin 16384) (k : Fin 2816) : hostGate X W (ix2 t k) = val_main_v5 (F := Ideal) X W (ix2 t k) := by
  rw [gate_at]
  pointwise [hostGate]

theorem hostUp_at (t : Fin 16384) (k : Fin 2816) : hostUp X W (ix2 t k) = val_main_v6 (F := Ideal) X W (ix2 t k) := by
  rw [up_at]
  pointwise [hostUp]

theorem hostUnit_at (t : Fin 16384) (k : Fin 2816) : hostUnit X W (ix2 t k) = val_main_v5 (F := Ideal) X W (ix2 t k) * logi (val_main_v5 (F := Ideal) X W (ix2 t k)) := by
  pointwise [hostUnit, hostGate_at, logi]
  rw [zero_sub]

theorem hostSum_at (t : Fin 16384) (c : Fin 1024) : hostSum X W V (ix2 t c) = val_main_v15 (F := Ideal) X W V (ix2 t c) := by
  rw [resid_at]
  pointwise [hostSum, hostUnit_at, hostUp_at]

end Host

variable (m : (ℓ : Loc nD τ sig) → Buf (Elt Ideal) ℓ)

theorem entry10 (c : Dev nD) : V m c main_v10 = hostSum (m ((c.tc : Thread nD τ).loc main_arg0)) (m ((c.tc : Thread nD τ).loc main_arg1)) (m ((c.tc : Thread nD τ).loc main_arg2)) := by
  unfold V
  simp only [hostOps0, hostOps0_1, hostOps0_2, List.flatten_cons, List.flatten_nil, List.append_nil, List.nil_append, List.cons_append]
  after_results
  rfl

theorem entry11 (c : Dev nD) : V m c main_v11 = truncf (F := Ideal) .bf16 (hostGate (m ((c.tc : Thread nD τ).loc main_arg0)) (m ((c.tc : Thread nD τ).loc main_arg1))) bitsLt_bf16_f32 := by
  unfold V
  simp only [hostOps0, hostOps0_1, hostOps0_2, List.flatten_cons, List.flatten_nil, List.append_nil, List.nil_append, List.cons_append]
  after_results
  rfl

theorem entry12 (c : Dev nD) : V m c main_v12 = truncf (F := Ideal) .bf16 (hostUp (m ((c.tc : Thread nD τ).loc main_arg0)) (m ((c.tc : Thread nD τ).loc main_arg1))) bitsLt_bf16_f32 := by
  unfold V
  simp only [hostOps0, hostOps0_1, hostOps0_2, List.flatten_cons, List.flatten_nil, List.append_nil, List.nil_append, List.cons_append]
  after_results
  rfl

theorem entry13 (c : Dev nD) : V m c main_v13 = truncf (F := Ideal) .bf16 (m ((c.tc : Thread nD τ).loc main_arg1)) bitsLt_bf16_f32 := by
  unfold V
  simp only [hostOps0, hostOps0_1, hostOps0_2, List.flatten_cons, List.flatten_nil, List.append_nil, List.nil_append, List.cons_append]
  after_results

theorem entry14 (c : Dev nD) : V m c main_v14 = truncf (F := Ideal) .bf16 (m ((c.tc : Thread nD τ).loc main_arg2)) bitsLt_bf16_f32 := by
  unfold V
  simp only [hostOps0, hostOps0_1, hostOps0_2, List.flatten_cons, List.flatten_nil, List.append_nil, List.nil_append, List.cons_append]
  after_results

theorem idx : ∀ t : Fin cfg0.N, win0_0.index t = ![t.val, 0] ∧ win0_1.index t = ![t.val, 0] ∧ win0_2.index t = ![t.val, 0] ∧ win0_3.index t = ![t.val, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

/-! ## The blocks of a point -/

section Blocks

variable (c : Dev nD) (t : Fin cfg0.N) (i : Fin 256) (j : Fin 16384) (h : j.val = t.val * 256 + i.val)

include h in
theorem iblk0 (l : Fin 1024) : (iblk m c 0 t : S256x1024.Idx → EReal) (ix2 i l) = (m ((c.tc : Thread nD τ).loc main_arg4) : S16384x1024.Idx → EReal) (ix2 j l) := by
  blk_ext [iblk, V, idx t]

include h in
theorem iblk1 (l : Fin 1024) : (iblk m c 1 t : S256x1024.Idx → EReal) (ix2 i l)
    = val_main_v15 (F := Ideal) (m ((c.tc : Thread nD τ).loc main_arg0)) (m ((c.tc : Thread nD τ).loc main_arg1)) (m ((c.tc : Thread nD τ).loc main_arg2)) (ix2 j l) := by
  blk_simp [iblk, idx t]
  rw [entry10, show (((View.whole main_v10).slice (win0_1.rect t)).emb (ix2 i l) : S16384x1024.Idx) = ix2 j l by blk_ext [idx t], hostSum_at]

include h in
theorem iblk2 (k : Fin 2816) : (iblk m c 2 t : S256x2816.Idx → EReal) (ix2 i k)
    = val_main_v5 (F := Ideal) (m ((c.tc : Thread nD τ).loc main_arg0)) (m ((c.tc : Thread nD τ).loc main_arg1)) (ix2 j k) := by
  blk_simp [iblk, idx t]
  rw [entry11, show (((View.whole main_v11).slice (win0_2.rect t)).emb (ix2 i k) : S16384x2816.Idx) = ix2 j k by blk_ext [idx t], ← hostGate_at]
  rfl

include h in
theorem iblk3 (k : Fin 2816) : (iblk m c 3 t : S256x2816.Idx → EReal) (ix2 i k)
    = val_main_v6 (F := Ideal) (m ((c.tc : Thread nD τ).loc main_arg0)) (m ((c.tc : Thread nD τ).loc main_arg1)) (ix2 j k) := by
  blk_simp [iblk, idx t]
  rw [entry12, show (((View.whole main_v12).slice (win0_3.rect t)).emb (ix2 i k) : S16384x2816.Idx) = ix2 j k by blk_ext [idx t], ← hostUp_at]
  rfl

theorem iblk4 : (iblk m c 4 t : S1024x5632.Idx → EReal) = m ((c.tc : Thread nD τ).loc main_arg1) := by
  blk_ext! [iblk, idx t]

theorem iblk5 : (iblk m c 5 t : S2816x1024.Idx → EReal) = m ((c.tc : Thread nD τ).loc main_arg2) := by
  blk_ext! [iblk, idx t]

theorem iblk6 : (iblk m c 6 t : S1x1024.Idx → EReal) = m ((c.tc : Thread nD τ).loc main_arg3) := by
  blk_ext! [iblk, V, idx t]

/-- The residual sums' gradients of row `j`. -/
def grads (c : Dev nD) (j : Fin 16384) : Fin 1024 → EReal :=
  back (fun x => val_main_v15 (F := Ideal) (m ((c.tc : Thread nD τ).loc main_arg0)) (m ((c.tc : Thread nD τ).loc main_arg1)) (m ((c.tc : Thread nD τ).loc main_arg2)) (ix2 j x))
    (fun x => (m ((c.tc : Thread nD τ).loc main_arg4) : S16384x1024.Idx → EReal) (ix2 j x)) (fun x => (m ((c.tc : Thread nD τ).loc main_arg3) : S1x1024.Idx → EReal) (ix2 0 x))

include h in
theorem dr_row (l : Fin 1024) : dr m c t (ix2 i l) = grads m c j l := by
  unfold dr
  rw [back_at]
  unfold grads
  rw [funext (iblk0 m c t i j h), funext (iblk1 m c t i j h)]
  exact congrArg (fun g => back _ _ g l) (funext fun x => congrFun (iblk6 m c t) _)

include h in
theorem row_row (k : Fin 5632) : row (dr m c t) (iblk m c 2 t) (iblk m c 3 t) (iblk m c 5 t) i k
    = dgu (grads m c j) (m ((c.tc : Thread nD τ).loc main_arg2)) (fun k => val_main_v5 (F := Ideal) (m ((c.tc : Thread nD τ).loc main_arg0)) (m ((c.tc : Thread nD τ).loc main_arg1)) (ix2 j k))
        (fun k => val_main_v6 (F := Ideal) (m ((c.tc : Thread nD τ).loc main_arg0)) (m ((c.tc : Thread nD τ).loc main_arg1)) (ix2 j k)) k := by
  unfold row
  rw [funext (dr_row m c t i j h)]
  exact congr (congr (congr (congrArg (dgu (grads m c j)) (iblk5 m c t)) (funext (iblk2 m c t i j h))) (funext (iblk3 m c t i j h))) rfl

end Blocks

/-! ## Finite arguments are real numbers -/

section Reals

variable (X D : FVec Ideal Cert.Pre_finite8.S16384x1024 .f32) (W : FVec Ideal Cert.Pre_finite8.S1024x5632 .f32)
  (U : FVec Ideal Cert.Pre_finite8.S2816x1024 .f32) (L : FVec Ideal Cert.Pre_finite8.S1x1024 .f32)

theorem fin_at (l : Fin 41217) (d : Fin 1024) : Cert.Pre_finite8.fn (F := Ideal) X W U L D (ix2 l d)
    = BitVec.ofBool (decide (FloatOps.absf (F := Ideal) (φ := .f32)
        (if h : l.val < 16384 then X (ix2 ⟨l.val, h⟩ d)
          else if h : l.val - 16384 < 16384 then D (ix2 ⟨l.val - 16384, h⟩ d)
          else if h : l.val - 16384 - 16384 < 5632 then W (ix2 d ⟨l.val - 16384 - 16384, h⟩)
          else if h : l.val - 16384 - 16384 - 5632 < 2816 then U (ix2 ⟨l.val - 16384 - 16384 - 5632, h⟩ d)
          else L (ix2 ⟨l.val - 16384 - 16384 - 5632 - 2816, by have := l.isLt; omega⟩ d)) < Ideal.ofBits .f32 0x7F800000#32)) := by
  pointwise [Cert.Pre_finite8.fn]

variable (H : Cert.Pre_finite8.fn (F := Ideal) X W U L D = fun _ => 1#1)

include H in
theorem realX (t : Fin 16384) (d : Fin 1024) : ∃ r : ℝ, X (ix2 t d) = r := by
  have ht := t.isLt
  have h := (fin_at X D W U L ⟨t.val, by omega⟩ d).symm.trans (congrFun H _)
  rw [dif_pos ht] at h
  exact ⟨_, Cert.RefSide.real_of h⟩

include H in
theorem realD (t : Fin 16384) (d : Fin 1024) : ∃ r : ℝ, D (ix2 t d) = r := by
  have ht := t.isLt
  have h := (fin_at X D W U L ⟨t.val + 16384, by omega⟩ d).symm.trans (congrFun H _)
  rw [dif_neg (by show ¬ t.val + 16384 < 16384; omega), dif_pos (by show t.val + 16384 - 16384 < 16384; omega)] at h
  have e : (⟨t.val + 16384 - 16384, by omega⟩ : Fin 16384) = t := Fin.ext (by show t.val + 16384 - 16384 = t.val; omega)
  exact ⟨_, e ▸ Cert.RefSide.real_of h⟩

include H in
theorem realW (d : Fin 1024) (k : Fin 5632) : ∃ r : ℝ, W (ix2 d k) = r := by
  have hk := k.isLt
  have h := (fin_at X D W U L ⟨k.val + 16384 + 16384, by omega⟩ d).symm.trans (congrFun H _)
  rw [dif_neg (by show ¬ k.val + 16384 + 16384 < 16384; omega), dif_neg (by show ¬ k.val + 16384 + 16384 - 16384 < 16384; omega),
    dif_pos (by show k.val + 16384 + 16384 - 16384 - 16384 < 5632; omega)] at h
  have e : (⟨k.val + 16384 + 16384 - 16384 - 16384, by omega⟩ : Fin 5632) = k :=
    Fin.ext (by show k.val + 16384 + 16384 - 16384 - 16384 = k.val; omega)
  exact ⟨_, e ▸ Cert.RefSide.real_of h⟩

include H in
theorem realU (k : Fin 2816) (d : Fin 1024) : ∃ r : ℝ, U (ix2 k d) = r := by
  have hk := k.isLt
  have h := (fin_at X D W U L ⟨k.val + 5632 + 16384 + 16384, by omega⟩ d).symm.trans (congrFun H _)
  rw [dif_neg (by show ¬ k.val + 5632 + 16384 + 16384 < 16384; omega), dif_neg (by show ¬ k.val + 5632 + 16384 + 16384 - 16384 < 16384; omega),
    dif_neg (by show ¬ k.val + 5632 + 16384 + 16384 - 16384 - 16384 < 5632; omega),
    dif_pos (by show k.val + 5632 + 16384 + 16384 - 16384 - 16384 - 5632 < 2816; omega)] at h
  have e : (⟨k.val + 5632 + 16384 + 16384 - 16384 - 16384 - 5632, by omega⟩ : Fin 2816) = k :=
    Fin.ext (by show k.val + 5632 + 16384 + 16384 - 16384 - 16384 - 5632 = k.val; omega)
  exact ⟨_, e ▸ Cert.RefSide.real_of h⟩

include H in
theorem realL (d : Fin 1024) : ∃ r : ℝ, L (ix2 0 d) = r := by
  have h := (fin_at X D W U L ⟨41216, by omega⟩ d).symm.trans (congrFun H _)
  rw [dif_neg (by show ¬ 41216 < 16384; omega), dif_neg (by show ¬ 41216 - 16384 < 16384; omega),
    dif_neg (by show ¬ 41216 - 16384 - 16384 < 5632; omega), dif_neg (by show ¬ 41216 - 16384 - 16384 - 5632 < 2816; omega)] at h
  exact ⟨_, Cert.RefSide.real_of h⟩

end Reals

/-! ## The arrays the kernel leaves -/

/-- The results of the reference at the arguments of a device of the kernel. -/
def res79 (c : Dev nD) : S16384x1024.Idx → EReal := val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def res80 (c : Dev nD) : S16384x5632.Idx → EReal := val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def res81 (c : Dev nD) : S16384x1024.Idx → EReal := val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def res44 (c : Dev nD) : S1x1024.Idx → EReal := val_main_v44 (F := Ideal) (m ((c.tc : Thread nD τ).loc main_arg0)) (m ((c.tc : Thread nD τ).loc main_arg1)) (m ((c.tc : Thread nD τ).loc main_arg2)) (m ((c.tc : Thread nD τ).loc main_arg4))
def res41 (c : Dev nD) : S1x1024.Idx → EReal := val_main_v41 (F := Ideal) (m ((c.tc : Thread nD τ).loc main_arg4))

section Arrays

variable (c : Dev nD)

theorem final7 (H : Cert.Pre_Kernel8Ideal_finite8 m) : (dats m 0 c).arrAt 7 cfg0.N = res79 m c := by
  refine (dats m 0 c).arrAt_eq_of_covers 7 _ (by decide +kernel) fun t hf y => ?_
  obtain ⟨i, k, rfl⟩ : ∃ (i : Fin 256) (k : Fin 1024), y = ix2 i k := ⟨y 0, y 1, (ix2_eta y).symm⟩
  obtain ⟨j, hj, he⟩ : ∃ j : Fin 16384, j.val = t.val * 256 + i.val
      ∧ (((View.whole main_v15_0).slice (win0_7.rect t)).emb (ix2 i k) : S16384x1024.Idx) = ix2 j k := by
    refine ⟨⟨t.val * 256 + i.val, by have h : t.val < 64 := t.isLt; have := i.isLt; omega⟩, rfl, ?_⟩
    blk_ext [idx t]
  blk_simp
  rw [he, after0_7]
  rw [stored7, dx_block, funext (dr_row m c t i j hj)]
  refine Eq.trans ?_ (FeedBack.dx_eq _ _ _ _ _ (realX _ _ _ _ _ (H c)) (realW _ _ _ _ _ (H c)) (realU _ _ _ _ _ (H c)) (realL _ _ _ _ _ (H c)) (realD _ _ _ _ _ (H c)) j k).symm
  exact congr (congr (congr (congr (congrArg (dxat (grads m c j)) (iblk5 m c t)) (iblk4 m c t)) (funext (iblk2 m c t i j hj))) (funext (iblk3 m c t i j hj))) rfl

theorem final8 (H : Cert.Pre_Kernel8Ideal_finite8 m) : (dats m 0 c).arrAt 8 cfg0.N = res80 m c := by
  refine (dats m 0 c).arrAt_eq_of_covers 8 _ (by decide +kernel) fun t hf y => ?_
  obtain ⟨i, k, rfl⟩ : ∃ (i : Fin 256) (k : Fin 5632), y = ix2 i k := ⟨y 0, y 1, (ix2_eta y).symm⟩
  obtain ⟨j, hj, he⟩ : ∃ j : Fin 16384, j.val = t.val * 256 + i.val
      ∧ (((View.whole main_v15_1).slice (win0_8.rect t)).emb (ix2 i k) : S16384x5632.Idx) = ix2 j k := by
    refine ⟨⟨t.val * 256 + i.val, by have h : t.val < 64 := t.isLt; have := i.isLt; omega⟩, rfl, ?_⟩
    blk_ext [idx t]
  blk_simp
  rw [he, after0_8]
  rw [stored8]
  refine (row_row m c t i j hj k).trans ?_
  refine Eq.trans (FeedBack.dgu_at _ _ _ _ _ (realX _ _ _ _ _ (H c)) (realW _ _ _ _ _ (H c)) (realU _ _ _ _ _ (H c)) (realL _ _ _ _ _ (H c)) (realD _ _ _ _ _ (H c)) j k).symm ?_
  pointwise [res80, val_main_v80]

theorem final9 (H : Cert.Pre_Kernel8Ideal_finite8 m) : (dats m 0 c).arrAt 9 cfg0.N = res81 m c := by
  refine (dats m 0 c).arrAt_eq_of_covers 9 _ (by decide +kernel) fun t hf y => ?_
  obtain ⟨i, k, rfl⟩ : ∃ (i : Fin 256) (k : Fin 1024), y = ix2 i k := ⟨y 0, y 1, (ix2_eta y).symm⟩
  obtain ⟨j, hj, he⟩ : ∃ j : Fin 16384, j.val = t.val * 256 + i.val
      ∧ (((View.whole main_v15_2).slice (win0_9.rect t)).emb (ix2 i k) : S16384x1024.Idx) = ix2 j k := by
    refine ⟨⟨t.val * 256 + i.val, by have h : t.val < 64 := t.isLt; have := i.isLt; omega⟩, rfl, ?_⟩
    blk_ext [idx t]
  blk_simp
  rw [he, after0_9]
  rw [stored9, half_at, dr_row m c t i j hj]
  exact (FeedBack.df_at _ _ _ _ _ (realX _ _ _ _ _ (H c)) (realW _ _ _ _ _ (H c)) (realU _ _ _ _ _ (H c)) (realL _ _ _ _ _ (H c)) (realD _ _ _ _ _ (H c)) j k).symm

theorem final10 : (dats m 0 c).arrAt 10 cfg0.N = res44 m c := by
  refine (dats m 0 c).arrAt_eq_of_covers 10 _ (by decide +kernel) fun t hf y => ?_
  obtain ⟨i, k, rfl⟩ : ∃ (i : Fin 1) (k : Fin 1024), y = ix2 i k := ⟨y 0, y 1, (ix2_eta y).symm⟩
  have he : (((View.whole main_v15_3).slice (win0_10.rect t)).emb (ix2 i k) : S1x1024.Idx) = ix2 0 k := by
    blk_ext [idx t]
  blk_simp
  rw [he, after0_10, Pipeline.eq_sum_fin_of_reset_step_apply_of_flush (fun n h => (outsAt0 m c n h).2.2.2.1) 64 (fun _ => 0) _
    (fun t h j => by rw [outsAt0_A m c t h]; frame_out; rw [lgrad_at, cleared_l]) (fun t h j => by rw [outsAt0_B m c t h]; frame_out; rw [lgrad_at])
    t ((flush0_10 t).mp hf) _, zero_add]
  refine Eq.trans ?_ (FeedBack.dlg_at _ _ _ _ k).symm
  refine Fin.sum_mul_add_congr fun s l hl => ?_
  have e : (⟨s.val * 256 + l.val, hl⟩ : Fin 16384).val
      = (⟨64 * (t.val / 64) + s.val, Pipeline.run_point_lt_of_flush t ((flush0_10 t).mp hf) s⟩ : Fin cfg0.N).val * 256 + l.val := by
    show s.val * 256 + l.val = (64 * (t.val / 64) + s.val) * 256 + l.val
    have ht : t.val < 64 := t.isLt
    omega
  exact congr (congrArg HMul.hMul (iblk0 m c _ l _ e k)) ((xhat_at _ _ _).trans (congrArg (fun r => xhat r k) (funext (iblk1 m c _ l _ e))))

theorem final11 : (dats m 0 c).arrAt 11 cfg0.N = res41 m c := by
  refine (dats m 0 c).arrAt_eq_of_covers 11 _ (by decide +kernel) fun t hf y => ?_
  obtain ⟨i, k, rfl⟩ : ∃ (i : Fin 1) (k : Fin 1024), y = ix2 i k := ⟨y 0, y 1, (ix2_eta y).symm⟩
  have he : (((View.whole main_v15_4).slice (win0_11.rect t)).emb (ix2 i k) : S1x1024.Idx) = ix2 0 k := by
    blk_ext [idx t]
  blk_simp
  rw [he, after0_11, Pipeline.eq_sum_fin_of_reset_step_apply_of_flush (fun n h => (outsAt0 m c n h).2.2.2.2) 64 (fun _ => 0) _
    (fun t h j => by rw [outsAt0_A m c t h]; frame_out; rw [bgrad_at, cleared_b]) (fun t h j => by rw [outsAt0_B m c t h]; frame_out; rw [bgrad_at])
    t ((flush0_11 t).mp hf) _, zero_add]
  refine Eq.trans ?_ (FeedBack.dlb_at _ k).symm
  refine Fin.sum_mul_add_congr fun s l hl => ?_
  blk_point [iblk, V, idx t, idx ⟨_, Pipeline.run_point_lt_of_flush t ((flush0_11 t).mp hf) s⟩]

end Arrays

theorem value : Cert.algebraic_Kernel8Ideal_Reference8Ideal_pre_finite8 (hKernel8Ideal := Cert.Kernel8Ideal.Gen.facts)
    (hReference8Ideal := Cert.Reference8Ideal.Gen.facts) (hPre_finite8 := Cert.Pre_finite8.Gen.facts) := by
  intro m ρ m' ρ' H hm
  refine ⟨res79 m, res80 m, res81 m, res44 m, res41 m, ?_, ?_⟩
  · refine (θ_run defs _ _).mono (fun r h c => ?_) (θ_run_and (run_main m ρ) (unchanged m ρ))
    exact ⟨(h.1.out_eq c 7).trans (final7 m c H), (h.1.out_eq c 8).trans (final8 m c H), (h.1.out_eq c 9).trans (final9 m c H),
      (h.1.out_eq c 10).trans (final10 m c), (h.1.out_eq c 11).trans (final11 m c), h.2 c⟩
  · refine (θ_run Cert.Reference8Ideal.defs _ _).mono (fun r h c => ?_) (Cert.Reference8Ideal.Value.run (F := Ideal) m' ρ')
    obtain ⟨h0, h1, h2, h3, h4, ha⟩ := h c
    obtain ⟨e0, e1, e2, e3, e4⟩ := hm c
    refine ⟨h0.trans ((Cert.Reference8Ideal.Read.val_main_v79_eq _).trans ?_), h1.trans ((Cert.Reference8Ideal.Read.val_main_v80_eq _).trans ?_),
      h2.trans ((Cert.Reference8Ideal.Read.val_main_v81_eq _).trans ?_), h3.trans ((Cert.Reference8Ideal.Read.val_main_v44_eq _).trans ?_),
      h4.trans ((Cert.Reference8Ideal.Read.val_main_v41_eq _).trans ?_), ha⟩
    · exact congr (congr (congr (congr (congrArg (val_main_v79 (F := Ideal)) e0) e1) e2) e3) e4
    · exact congr (congr (congr (congr (congrArg (val_main_v80 (F := Ideal)) e0) e1) e2) e3) e4
    · exact congr (congr (congr (congr (congrArg (val_main_v81 (F := Ideal)) e0) e1) e2) e3) e4
    · exact congr (congr (congr (congrArg (val_main_v44 (F := Ideal)) e0) e1) e2) e4
    · exact congrArg (val_main_v41 (F := Ideal)) e4

section Frame

variable (m : (ℓ : Loc Cert.Reference8Ideal.nD Cert.Reference8Ideal.τ Cert.Reference8Ideal.sig) → Buf (Elt Ideal) ℓ)
  (ρ : Dev Cert.Reference8Ideal.nD → PrngReg)

theorem frame_reference : θ_run (Cert.Reference8Ideal.defs (F := Ideal)) (onTc (τ := Cert.Reference8Ideal.τ) (Cert.Reference8Ideal.main (F := Ideal))) ⟨m, fun _ => 0, ρ⟩ (fun r =>
      (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
        ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0) :=
  (θ_run Cert.Reference8Ideal.defs _ _).mono
    (fun r h => ⟨fun c => (h c).2.2.2.2.2, Idealize.ShloMosaic.sem_eq_zero_of_no_sems (by decide) r.2⟩)
    (Cert.Reference8Ideal.Value.run (F := Ideal) m ρ)

end Frame

end Cert.Kernel8Ideal.Back
-- ==== Proof.MixerIn.lean ====
/- The mixer's input projection, backward to its input: the kernel's sum of products is the reference's. -/
module

public import proofs.«01_k».proof.Proof.Gen.Kernel5Ideal.Frame
public import proofs.«01_k».proof.Proof.Gen.Reference5Ideal.Read
public import proofs.«01_k».proof.Defs
public import Idealize.ShloMosaic.Lib.Claim
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Kernel5Ideal.MixerIn

open Idealize.ShloMosaic Idealize.ShloMosaic.TcCoe Idealize.SL.Sem
open Idealize.ShloMosaic.Pipeline (Dat)
open Cert.Kernel5Ideal Cert.Kernel5Ideal.Gen

/-- Row `i` of the cotangents, times the weights of input `c`. -/
def entry (a : EReal) (q k v : Fin 512 → EReal) (f : Fin 8 → EReal) (b : Fin 1536 → EReal) (W : Fin 3080 → EReal) : EReal :=
  a + (∑ l : Fin 1536, b l * W ⟨1544 + l.val, by omega⟩) + (∑ l : Fin 8, f l * W ⟨1536 + l.val, by omega⟩)
    + (∑ l : Fin 512, q l * W ⟨l.val, by omega⟩) + (∑ l : Fin 512, k l * W ⟨512 + l.val, by omega⟩) + ∑ l : Fin 512, v l * W ⟨1024 + l.val, by omega⟩

theorem paid (a : Vec Ideal S512x1024 .f32) (b : Vec Ideal S512x1536 .bf16) (wb : Vec Ideal S1024x1536 .bf16) (f : Vec Ideal S512x128 .bf16) (wf : Vec Ideal S1024x128 .bf16)
    (q : Vec Ideal S512x512 .f32) (wq : Vec Ideal S512x1024 .bf16) (k : Vec Ideal S512x512 .bf16) (wk : Vec Ideal S512x1024 .bf16) (v : Vec Ideal S512x512 .bf16) (wv : Vec Ideal S512x1024 .bf16) (z : S512x1024.Idx) :
    k0_pay1 (F := Ideal) a b wb f wf q wq k wk v wv z
      = a z + (∑ l : Fin 1536, b (ix2 (z 0) l) * wb (ix2 (z 1) l)) + (∑ l : Fin 128, f (ix2 (z 0) l) * wf (ix2 (z 1) l))
        + (∑ l : Fin 512, q (ix2 l (z 0)) * wq (ix2 l (z 1))) + (∑ l : Fin 512, k (ix2 l (z 0)) * wk (ix2 l (z 1))) + ∑ l : Fin 512, v (ix2 l (z 0)) * wv (ix2 l (z 1)) := by
  pointwise [k0_pay1]

/-- A sum over 128 lanes of which the last 120 are zero. -/
theorem lanes (g : Fin 128 → EReal) (h : ∀ l : Fin 128, 8 ≤ l.val → g l = 0) : ∑ l, g l = ∑ l : Fin 8, g ⟨l.val, by omega⟩ := by
  rw [show (∑ l, g l) = ∑ l : Fin (8 + 120), g l from rfl, Fin.sum_univ_add]
  rw [Finset.sum_eq_zero (s := Finset.univ) (f := fun i : Fin 120 => g (Fin.natAdd 8 i)) (fun i _ => h _ (by show 8 ≤ 8 + i.val; omega)), add_zero]
  rfl

section Ref
open Cert.Reference5Ideal Cert.Reference5Ideal.Gen Cert.Reference5Ideal.Read

variable (x0 : FVec Ideal S16384x1024 .f32) (x1 : FVec Ideal S512x16384 .f32) (x2 x3 : FVec Ideal S512x16384 .bf16) (x4 : FVec Ideal S16384x1536 .bf16) (x5 : FVec Ideal S16384x128 .bf16) (x6 : FVec Ideal S1024x3080 .f32)

theorem ref_at (j : S16384x1024.Idx) : val_main_v28 (F := Ideal) x0 x1 x2 x3 x4 x5 x6 j
    = entry (x0 j) (fun l => x1 (ix2 l (j 0))) (fun l => x2 (ix2 l (j 0))) (fun l => x3 (ix2 l (j 0))) (fun l => x5 (ix2 (j 0) ⟨l.val, by omega⟩)) (fun l => x4 (ix2 (j 0) l)) (fun l => x6 (ix2 (j 1) l)) := by
  pointwise [val_main_v28, val_main_v27, val_main_v26, val_main_v25, val_main_v24, val_main_v23, val_main_v22, val_main_v21, val_main_v20, val_main_v19, val_main_v13, val_main_v12, val_main_v11, val_main_v10, val_main_v9, val_main_v7, val_main_v6, val_main_v5, val_main_v4, val_main_v3, val_main_v2, val_main_v1, val_main_v0, entry]
  ac_rfl

end Ref

variable (m : (ℓ : Loc nD τ sig) → Buf (Elt Ideal) ℓ)

theorem idx : ∀ t : Fin cfg0.N, win0_0.index t = ![t.val, 0] ∧ win0_1.index t = ![0, t.val] ∧ win0_2.index t = ![0, t.val] ∧ win0_3.index t = ![0, t.val] ∧ win0_4.index t = ![t.val, 0]
    ∧ win0_5.index t = ![t.val, 0] ∧ win0_6.index t = ![0, 0] ∧ win0_7.index t = ![0, 0] ∧ win0_8.index t = ![0, 0] ∧ win0_9.index t = ![t.val, 0] :=
  (by decide +kernel : ∀ t : Fin grid0.N, _)

/-! ## The host's operands -/

theorem entry4 (c : Dev nD) : V m c main_v4 = transpose S1536x1024 [1, 0] (truncf (F := Ideal) .bf16 (extractStridedSlice S1024x1536 ![0, 0] (m ((c.tc : Thread nD τ).loc main_arg6)) slices_S1024x3080_S1024x1536_0_0) bitsLt_bf16_f32) transposes_S1024x1536_S1536x1024_1_0 := by
  unfold V
  simp only [hostOps0, hostOps0_1, hostOps0_2, List.flatten_cons, List.flatten_nil, List.append_nil, List.nil_append, List.cons_append]
  after_results

theorem entry6 (c : Dev nD) : V m c main_v6 = truncf (F := Ideal) .bf16 (extractStridedSlice S1024x1536 ![0, 1544] (m ((c.tc : Thread nD τ).loc main_arg6)) slices_S1024x3080_S1024x1536_0_1544) bitsLt_bf16_f32 := by
  unfold V
  simp only [hostOps0, hostOps0_1, hostOps0_2, List.flatten_cons, List.flatten_nil, List.append_nil, List.nil_append, List.cons_append]
  after_results

theorem entry7 (c : Dev nD) : V m c main_v7 = truncf (F := Ideal) .bf16 (pad S1024x128 ![0, 0] ![0, 120] ![0, 0] (extractStridedSlice S1024x8 ![0, 1536] (m ((c.tc : Thread nD τ).loc main_arg6)) slices_S1024x3080_S1024x8_0_1536)
    (sitofp (F := Ideal) .f32 (constantI S_ 32 0#32)) pads_S1024x8_S1024x128_000_01200 h_S_) bitsLt_bf16_f32 := by
  unfold V
  simp only [hostOps0, hostOps0_1, hostOps0_2, List.flatten_cons, List.flatten_nil, List.append_nil, List.nil_append, List.cons_append]
  after_results
  rfl

theorem sit0 : FloatOps.sitofp (F := Ideal) FTy.f32 (0#32) = (0 : EReal) := by
  show ((((0#32 : BitVec 32).toInt : ℝ)) : EReal) = 0
  simp

theorem ld6 (x : Vec Ideal S1536x1024 .bf16) (l : Fin 512) (k : Fin 1024) : View.ld x r0_6 (ix2 l k) = x (ix2 ⟨l.val, by omega⟩ k) := by
  refine congrArg x ?_
  idx_ext

theorem ld7 (x : Vec Ideal S1536x1024 .bf16) (l : Fin 512) (k : Fin 1024) : View.ld x r0_7 (ix2 l k) = x (ix2 ⟨512 + l.val, by omega⟩ k) := by
  refine congrArg x ?_
  idx_ext

theorem ld8 (x : Vec Ideal S1536x1024 .bf16) (l : Fin 512) (k : Fin 1024) : View.ld x r0_8 (ix2 l k) = x (ix2 ⟨1024 + l.val, by omega⟩ k) := by
  refine congrArg x ?_
  idx_ext

theorem iblk6 (c : Dev nD) (t : Fin cfg0.N) (l : Fin 1536) (k : Fin 1024) :
    (iblk m c 6 t : S1536x1024.Idx → EReal) (ix2 l k) = (m ((c.tc : Thread nD τ).loc main_arg6) : S1024x3080.Idx → EReal) (ix2 k ⟨l.val, by omega⟩) := by
  blk_simp [iblk, idx t]
  rw [entry4]
  pointwise
  blk_ext [idx t]

theorem iblk7 (c : Dev nD) (t : Fin cfg0.N) (l : Fin 1536) (k : Fin 1024) :
    (iblk m c 7 t : S1024x1536.Idx → EReal) (ix2 k l) = (m ((c.tc : Thread nD τ).loc main_arg6) : S1024x3080.Idx → EReal) (ix2 k ⟨1544 + l.val, by omega⟩) := by
  blk_simp [iblk, idx t]
  rw [entry6]
  pointwise
  blk_ext [idx t]

theorem iblk8 (c : Dev nD) (t : Fin cfg0.N) (l : Fin 128) (k : Fin 1024) :
    (iblk m c 8 t : S1024x128.Idx → EReal) (ix2 k l) = (if h : l.val < 8 then (m ((c.tc : Thread nD τ).loc main_arg6) : S1024x3080.Idx → EReal) (ix2 k ⟨1536 + l.val, by omega⟩) else (0 : EReal) : EReal) := by
  blk_simp [iblk, idx t]
  rw [entry7, show (((View.whole main_v7).slice (win0_8.rect t)).emb (ix2 k l) : S1024x128.Idx) = ix2 k l by blk_ext [idx t]]
  pointwise
  split
  · rfl
  · exact sit0

theorem iblk0 (c : Dev nD) (t : Fin cfg0.N) (i : Fin 512) (k : Fin 1024) (j : Fin 16384) (h : j.val = t.val * 512 + i.val) :
    (iblk m c 0 t : S512x1024.Idx → EReal) (ix2 i k) = (m ((c.tc : Thread nD τ).loc main_arg0) : S16384x1024.Idx → EReal) (ix2 j k) := by
  blk_ext [iblk, V, idx t]

theorem iblk1 (c : Dev nD) (t : Fin cfg0.N) (i : Fin 512) (l : Fin 512) (j : Fin 16384) (h : j.val = t.val * 512 + i.val) :
    (iblk m c 1 t : S512x512.Idx → EReal) (ix2 l i) = (m ((c.tc : Thread nD τ).loc main_arg1) : S512x16384.Idx → EReal) (ix2 l j) := by
  blk_ext [iblk, V, idx t]

theorem iblk2 (c : Dev nD) (t : Fin cfg0.N) (i : Fin 512) (l : Fin 512) (j : Fin 16384) (h : j.val = t.val * 512 + i.val) :
    (iblk m c 2 t : S512x512.Idx → EReal) (ix2 l i) = (m ((c.tc : Thread nD τ).loc main_arg2) : S512x16384.Idx → EReal) (ix2 l j) := by
  blk_ext [iblk, V, idx t]

theorem iblk3 (c : Dev nD) (t : Fin cfg0.N) (i : Fin 512) (l : Fin 512) (j : Fin 16384) (h : j.val = t.val * 512 + i.val) :
    (iblk m c 3 t : S512x512.Idx → EReal) (ix2 l i) = (m ((c.tc : Thread nD τ).loc main_arg3) : S512x16384.Idx → EReal) (ix2 l j) := by
  blk_ext [iblk, V, idx t]

theorem iblk4 (c : Dev nD) (t : Fin cfg0.N) (i : Fin 512) (l : Fin 1536) (j : Fin 16384) (h : j.val = t.val * 512 + i.val) :
    (iblk m c 4 t : S512x1536.Idx → EReal) (ix2 i l) = (m ((c.tc : Thread nD τ).loc main_arg4) : S16384x1536.Idx → EReal) (ix2 j l) := by
  blk_ext [iblk, V, idx t]

theorem iblk5 (c : Dev nD) (t : Fin cfg0.N) (i : Fin 512) (l : Fin 128) (j : Fin 16384) (h : j.val = t.val * 512 + i.val) :
    (iblk m c 5 t : S512x128.Idx → EReal) (ix2 i l) = (m ((c.tc : Thread nD τ).loc main_arg5) : S16384x128.Idx → EReal) (ix2 j l) := by
  blk_ext [iblk, V, idx t]

/-! ## The array after the run -/

section Arrays
open Cert.Reference5Ideal.Read (val_main_v28)

/-- The reference's result at a device's arguments. -/
def res (c : Dev nD) := val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem final (c : Dev nD) : (dats m 0 c).arrAt 9 (cfgs 0).N = res m c := by
  refine (dats m 0 c).arrAt_eq_of_covers 9 _ (by decide +kernel) fun t hf y => ?_
  blk_simp
  rw [after0_9]
  unfold out0_9
  frame_out
  rw [paid]
  refine Eq.trans ?_ (ref_at _ _ _ _ _ _ _ _).symm
  obtain ⟨i, k, rfl⟩ : ∃ (i : Fin 512) (k : Fin 1024), y = ix2 i k := ⟨y 0, y 1, (ix2_eta y).symm⟩
  obtain ⟨j, hj, he⟩ : ∃ j : Fin 16384, j.val = t.val * 512 + i.val ∧ (((View.whole main_v8).slice (win0_9.rect t)).emb (ix2 i k) : S16384x1024.Idx) = ix2 j k := by
    refine ⟨⟨t.val * 512 + i.val, by have h : t.val < 32 := t.isLt; have := i.isLt; omega⟩, rfl, ?_⟩
    blk_ext [idx t]
  rw [he]
  simp only [ix2_0, ix2_1]
  rw [lanes]
  · simp only [ld6, ld7, ld8, iblk6, iblk7, iblk8, iblk0 m c t i _ j hj, iblk1 m c t i _ j hj, iblk2 m c t i _ j hj, iblk3 m c t i _ j hj, iblk4 m c t i _ j hj, iblk5 m c t i _ j hj]
    unfold entry
    have q6 : ∀ l : Fin 512, View.ld (iblk m c 6 t) r0_6 (ix2 l k) = (m ((c.tc : Thread nD τ).loc main_arg6) : S1024x3080.Idx → EReal) (ix2 k ⟨l.val, by omega⟩) := fun l => (ld6 _ l k).trans (iblk6 m c t _ k)
    have q7 : ∀ l : Fin 512, View.ld (iblk m c 6 t) r0_7 (ix2 l k) = (m ((c.tc : Thread nD τ).loc main_arg6) : S1024x3080.Idx → EReal) (ix2 k ⟨512 + l.val, by omega⟩) := fun l => (ld7 _ l k).trans (iblk6 m c t _ k)
    have q8 : ∀ l : Fin 512, View.ld (iblk m c 6 t) r0_8 (ix2 l k) = (m ((c.tc : Thread nD τ).loc main_arg6) : S1024x3080.Idx → EReal) (ix2 k ⟨1024 + l.val, by omega⟩) := fun l => (ld8 _ l k).trans (iblk6 m c t _ k)
    refine congrArg₂ (· + ·) (congrArg₂ (· + ·) (congrArg₂ (· + ·) (congrArg₂ (· + ·) rfl ?_) ?_) ?_) ?_
    · exact Finset.sum_congr rfl fun l _ => congrArg₂ (· * ·) rfl (dif_pos l.isLt)
    · exact Finset.sum_congr rfl fun l _ => congrArg₂ (· * ·) rfl (q6 l)
    · exact Finset.sum_congr rfl fun l _ => congrArg₂ (· * ·) rfl (q7 l)
    · exact Finset.sum_congr rfl fun l _ => congrArg₂ (· * ·) rfl (q8 l)
  · intro l hl
    rw [iblk8, dif_neg (by omega), mul_zero]

end Arrays

open Cert.Reference5Ideal.Read (val_main_v28_eq) in
theorem value : Cert.algebraic_Kernel5Ideal_Reference5Ideal (hKernel5Ideal := Cert.Kernel5Ideal.Gen.facts)
    (hReference5Ideal := Cert.Reference5Ideal.Gen.facts) := by
  intro m ρ m' ρ' _ hm
  refine ⟨fun c => res m c, ?_, ?_⟩
  · refine (θ_run defs _ _).mono (fun r h c => ?_) (θ_run_and (run_main m ρ) (unchanged m ρ))
    exact ⟨(h.1.out_eq c 9).trans (final m c), h.2 c⟩
  · refine (θ_run Cert.Reference5Ideal.defs _ _).mono (fun r h c => ?_) (Cert.Reference5Ideal.Value.run (F := Ideal) m' ρ')
    obtain ⟨h0, ha⟩ := h c
    obtain ⟨e0, e1, e2, e3, e4, e5, e6⟩ := hm c
    refine ⟨h0.trans ?_, ha⟩
    rw [val_main_v28_eq, e0, e1, e2, e3, e4, e5, e6]; rfl

section Frame

variable (m : (ℓ : Loc Cert.Reference5Ideal.nD Cert.Reference5Ideal.τ Cert.Reference5Ideal.sig) → Buf (Elt Ideal) ℓ)
  (ρ : Dev Cert.Reference5Ideal.nD → PrngReg)
open Cert.Reference5Ideal

theorem frame_reference : θ_run (Cert.Reference5Ideal.defs (F := Ideal)) (onTc (τ := Cert.Reference5Ideal.τ) (Cert.Reference5Ideal.main (F := Ideal))) ⟨m, fun _ => 0, ρ⟩ (fun r =>
      (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
        ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Value.run (F := Ideal) m ρ)

end Frame

end Cert.Kernel5Ideal.MixerIn
-- ==== Proof.WeightMix.lean ====
/- The gradient of the mixer's output weights: the kernel's sum over blocks of tokens is the reference's product. -/
module

public import proofs.«01_k».proof.Proof.Gen.Kernel6Ideal.Frame
public import proofs.«01_k».proof.Proof.Gen.Reference6Ideal.Run
public import proofs.«01_k».proof.Defs
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Kernel6Ideal.Weight

open Idealize.ShloMosaic Idealize.ShloMosaic.TcCoe Idealize.SL.Sem
open Idealize.ShloMosaic.Pipeline (Dat)
open Cert.Kernel6Ideal Cert.Kernel6Ideal.Gen

section Ref
open Cert.Reference6Ideal Cert.Reference6Ideal.Gen

/-- The reference's result from its two arguments. -/
def wgrad (X : FVec Ideal S16384x1024 .bf16) (D : FVec Ideal S16384x1024 .bf16) : FVec Ideal S1024x1024 .f32 :=
  transpose S1024x1024 [1, 0] (Host.dotGeneral dot_S16384x1024_S16384x1024_S1024x1024_0_0_1_1_n_n none (extf .f32 D Cert.Reference6Ideal.Gen.bitsLt_bf16_f32) (extf .f32 X Cert.Reference6Ideal.Gen.bitsLt_bf16_f32)) transposes_S1024x1024_S1024x1024_1_0

theorem wgrad_at (X : FVec Ideal S16384x1024 .bf16) (D : FVec Ideal S16384x1024 .bf16) (j : S1024x1024.Idx) :
    wgrad X D j = ∑ l : Fin 16384, X (ix2 l (j 0)) * D (ix2 l (j 1)) := by
  pointwise [wgrad]
  exact Finset.sum_congr rfl fun l _ => mul_comm _ _

end Ref

variable (m : (ℓ : Loc nD τ sig) → Buf (Elt Ideal) ℓ)

theorem cleared (j : S1024x1024.Idx) : k0_pay1 (F := Ideal) j = 0 := by pointwise [k0_pay1]

theorem added (acc : Vec Ideal S1024x1024 .f32) (x : Vec Ideal S1024x1024 .bf16) (d : Vec Ideal S1024x1024 .bf16) (j : S1024x1024.Idx) :
    k0_pay2 (F := Ideal) acc x d j = acc j + ∑ k : Fin 1024, x (ix2 k (j 0)) * d (ix2 k (j 1)) := by
  pointwise [k0_pay2]

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The array of gradients after the run. -/
theorem final (c : Dev nD) : (dats m 0 c).arrAt 2 (cfgs 0).N = wgrad (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [added, cleared]) (fun t h j => by rw [outsAt0_B m c t h]; frame_out; rw [added])
    t ((flush0_2 t).mp hf) _, zero_add, wgrad_at]
  refine Fin.sum_mul_add_congr fun s k hl => ?_
  blk_point [iblk, V, idx t, idx ⟨_, Pipeline.run_point_lt_of_flush t ((flush0_2 t).mp hf) s⟩]

theorem value : Cert.algebraic_Kernel6Ideal_Reference6Ideal (hKernel6Ideal := Cert.Kernel6Ideal.Gen.facts)
    (hReference6Ideal := Cert.Reference6Ideal.Gen.facts) := by
  intro m ρ m' ρ' _ hm
  refine ⟨fun c => wgrad (m ((c.tc : Thread nD τ).loc main_arg0)) (m ((c.tc : Thread nD τ).loc main_arg1)), ?_, ?_⟩
  · refine (θ_run defs _ _).mono (fun r h c => ?_) (θ_run_and (run_main m ρ) (unchanged m ρ))
    exact ⟨(h.1.out_eq c 2).trans (final m c), h.2 c⟩
  · refine (θ_run Cert.Reference6Ideal.defs _ _).mono (fun r h c => ?_) (Cert.Reference6Ideal.Value.run (F := Ideal) m' ρ')
    obtain ⟨h0, ha⟩ := h c
    obtain ⟨e0, e1⟩ := hm c
    refine ⟨h0.trans ?_, ha⟩
    rw [e0, e1]; rfl

section Frame

variable (m : (ℓ : Loc Cert.Reference6Ideal.nD Cert.Reference6Ideal.τ Cert.Reference6Ideal.sig) → Buf (Elt Ideal) ℓ)
  (ρ : Dev Cert.Reference6Ideal.nD → PrngReg)
open Cert.Reference6Ideal

theorem frame_reference : θ_run (Cert.Reference6Ideal.defs (F := Ideal)) (onTc (τ := Cert.Reference6Ideal.τ) (Cert.Reference6Ideal.main (F := Ideal))) ⟨m, fun _ => 0, ρ⟩ (fun r =>
      (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono
    (fun r h => ⟨fun c => (h c).2, Idealize.ShloMosaic.sem_eq_zero_of_no_sems (by decide) r.2⟩)
    (Cert.Reference6Ideal.Value.run (F := Ideal) m ρ)

end Frame

end Cert.Kernel6Ideal.Weight
-- ==== Proof.WeightGate.lean ====
/- The gradient of the weights of the layer embedding's gate: the kernel's sum over blocks of tokens is the reference's product. -/
module

public import proofs.«01_k».proof.Proof.Gen.Kernel7Ideal.Frame
public import proofs.«01_k».proof.Proof.Gen.Reference7Ideal.Run
public import proofs.«01_k».proof.Defs
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.Kernel7Ideal.Weight

open Idealize.ShloMosaic Idealize.ShloMosaic.TcCoe Idealize.SL.Sem
open Idealize.ShloMosaic.Pipeline (Dat)
open Cert.Kernel7Ideal Cert.Kernel7Ideal.Gen

section Ref
open Cert.Reference7Ideal Cert.Reference7Ideal.Gen

/-- The reference's result from its two arguments. -/
def wgrad (X : FVec Ideal S16384x1024 .f32) (D : FVec Ideal S16384x1024 .bf16) : FVec Ideal S1024x1024 .f32 :=
  transpose S1024x1024 [1, 0] (Host.dotGeneral dot_S16384x1024_S16384x1024_S1024x1024_0_0_1_1_n_n none (extf .f32 D Cert.Reference7Ideal.Gen.bitsLt_bf16_f32) X) transposes_S1024x1024_S1024x1024_1_0

theorem wgrad_at (X : FVec Ideal S16384x1024 .f32) (D : FVec Ideal S16384x1024 .bf16) (j : S1024x1024.Idx) :
    wgrad X D j = ∑ l : Fin 16384, X (ix2 l (j 0)) * D (ix2 l (j 1)) := by
  pointwise [wgrad]
  exact Finset.sum_congr rfl fun l _ => mul_comm _ _

end Ref

variable (m : (ℓ : Loc nD τ sig) → Buf (Elt Ideal) ℓ)

theorem cleared (j : S1024x1024.Idx) : k0_pay1 (F := Ideal) j = 0 := by pointwise [k0_pay1]

theorem added (acc : Vec Ideal S1024x1024 .f32) (x : Vec Ideal S1024x1024 .f32) (d : Vec Ideal S1024x1024 .bf16) (j : S1024x1024.Idx) :
    k0_pay2 (F := Ideal) acc x d j = acc j + ∑ k : Fin 1024, x (ix2 k (j 0)) * d (ix2 k (j 1)) := by
  pointwise [k0_pay2]

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- The array of gradients after the run. -/
theorem final (c : Dev nD) : (dats m 0 c).arrAt 2 (cfgs 0).N = wgrad (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 16 (fun _ => 0) _
    (fun t h j => by rw [outsAt0_A m c t h]; frame_out; rw [added, cleared]) (fun t h j => by rw [outsAt0_B m c t h]; frame_out; rw [added])
    t ((flush0_2 t).mp hf) _, zero_add, wgrad_at]
  refine Fin.sum_mul_add_congr fun s k hl => ?_
  blk_point [iblk, V, idx t, idx ⟨_, Pipeline.run_point_lt_of_flush t ((flush0_2 t).mp hf) s⟩]

theorem value : Cert.algebraic_Kernel7Ideal_Reference7Ideal (hKernel7Ideal := Cert.Kernel7Ideal.Gen.facts)
    (hReference7Ideal := Cert.Reference7Ideal.Gen.facts) := by
  intro m ρ m' ρ' _ hm
  refine ⟨fun c => wgrad (m ((c.tc : Thread nD τ).loc main_arg0)) (m ((c.tc : Thread nD τ).loc main_arg1)), ?_, ?_⟩
  · refine (θ_run defs _ _).mono (fun r h c => ?_) (θ_run_and (run_main m ρ) (unchanged m ρ))
    exact ⟨(h.1.out_eq c 2).trans (final m c), h.2 c⟩
  · refine (θ_run Cert.Reference7Ideal.defs _ _).mono (fun r h c => ?_) (Cert.Reference7Ideal.Value.run (F := Ideal) m' ρ')
    obtain ⟨h0, ha⟩ := h c
    obtain ⟨e0, e1⟩ := hm c
    refine ⟨h0.trans ?_, ha⟩
    rw [e0, e1]; rfl

section Frame

variable (m : (ℓ : Loc Cert.Reference7Ideal.nD Cert.Reference7Ideal.τ Cert.Reference7Ideal.sig) → Buf (Elt Ideal) ℓ)
  (ρ : Dev Cert.Reference7Ideal.nD → PrngReg)
open Cert.Reference7Ideal

theorem frame_reference : θ_run (Cert.Reference7Ideal.defs (F := Ideal)) (onTc (τ := Cert.Reference7Ideal.τ) (Cert.Reference7Ideal.main (F := Ideal))) ⟨m, fun _ => 0, ρ⟩ (fun r =>
      (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run Cert.Reference7Ideal.defs _ _).mono
    (fun r h => ⟨fun c => (h c).2, Idealize.ShloMosaic.sem_eq_zero_of_no_sems (by decide) r.2⟩)
    (Cert.Reference7Ideal.Value.run (F := Ideal) m ρ)

end Frame

end Cert.Kernel7Ideal.Weight
-- ==== Proof.TripleDefs.lean ====
/- What a grid point leaves in the outputs. -/
module

public import proofs.«01_k».proof.Proof.Diag

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

/-- The key block's gradient of the keys, the two heads on their own rows. -/
def out13 (B : Blk) : Vec Ideal S128x512 .bf16 := fun y =>
  (if (y 0).val / 64 = 0 then ∑ t : Fin 16384, B.qt (ix2 (y 0) t) * B.s 0 (y 1) t
    else ∑ t : Fin 16384, B.qt (ix2 (y 0) t) * B.s 1 (y 1) t) * Named.named (F := Ideal) (φ := .f32) κ "ln2" 0x3F317218#32

/-- The key block's gradient of the values. -/
def out14 (B : Blk) : Vec Ideal S128x512 .bf16 := fun y =>
  if (y 0).val / 64 = 0 then ∑ t : Fin 16384, B.dOt (ix2 (y 0) t) * B.p 0 (y 1) t
    else ∑ t : Fin 16384, B.dOt (ix2 (y 0) t) * B.p 1 (y 1) t

/-- The key block's gradient of the decays on the key side, in the lanes of the pair `j` of heads. -/
def out15 (B : Blk) (j : ℕ) : Vec Ideal S1x512x128 .f32 := fun y =>
  if (y 2).val = 2 * j then 0 - ∑ t : Fin 16384, B.s 0 (y 1) t
    else if (y 2).val = 2 * j + 1 then 0 - ∑ t : Fin 16384, B.s 1 (y 1) t else (0 : EReal)

/-- What the key block adds to the gradient of the queries. -/
def add12 (B : Blk) : Vec Ideal S128x16384 .f32 := fun y => B.g12 (y 0) (y 1)

/-- What the key block adds to the gradient of the decays on the query side. -/
def add16 (B : Blk) : Vec Ideal S1x8x16384 .f32 := fun y => B.g16 (y 1) (y 2)

/-- The scale of the logits. -/
def eighth : EReal := FloatOps.ofBits (F := Ideal) .f32 0x3E000000#32

theorem tri_ext {a b : ℕ} {α : Type} {f g : (⟨3, ![1, a, b]⟩ : Shape).Idx → α} (h : ∀ (x : Fin a) (y : Fin b), f (ix3 0 x y) = g (ix3 0 x y)) : f = g :=
  funext fun q => by
    have e : q = ix3 0 (q 1) (q 2) := by
      funext k; fin_cases k
      · exact Subsingleton.elim (α := Fin 1) _ _
      · rfl
      · rfl
    rw [e]; exact h _ _

end Cert.KernelIdeal.Point
-- ==== Proof.Run.lean ====
/- The runs of the attention kernel's body at the first, the inner and the last key blocks of a pair of heads. -/
module

public import proofs.«01_k».proof.Proof.Gen.KernelIdeal.Loops
public import Idealize.ShloMosaic.Lib.LoopRemainder
public import Idealize.ShloMosaic.Lib.Exec
public import Idealize.ShloMosaic.Lib.Pipeline.Kit

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The first key block of a pair of heads. -/
abbrev Cond0 (i : grid0.Coords) : Prop := (Scalar.cmpi .ne (Scalar.extui (Scalar.cmpi .eq (BitVec.ofNat 32 (i 1).val) 0#32)) 0#32) = 1#1

/-- The last key block of a pair of heads. -/
abbrev Cond1 (i : grid0.Coords) : Prop := (Scalar.cmpi .ne (Scalar.extui (Scalar.cmpi .eq (BitVec.ofNat 32 (i 1).val) 31#32)) 0#32) = 1#1

set_option maxHeartbeats 4000000 in
/-- The run of the body, case A: what it leaves in each output and scratch buffer, found by the run. -/
@[irreducible] def runA (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : Cond0 i) (hc1 : ¬Cond1 i) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), {g19 : BufTy.Contents (Elt F) arg19.view.ty // ∀ (E : Set ℕ),
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) : sProp (MT nD τ sig Unit (Elt F) ℕ (UR sig nD τ) ℕ))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19)))} := by
  refine ⟨?_, ?_, ?_, ?_, ?_, ?_, ?_, ?_, fun E => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton, k0_part13_eq_skeleton]
    iintro ⟨H2, H3, H4, H5, H6, H7, H8, H9, H10, H11, H12, H13, H14, H15, H16, H17, H18, H19⟩
    sl_exec (disch := first | sl_exact hc0 | sl_exact hc1)
    sl_step
    sl_close

set_option maxHeartbeats 4000000 in
/-- The run of the body, case B: what it leaves in each output and scratch buffer, found by the run. -/
@[irreducible] def runB (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : ¬Cond0 i) (hc1 : ¬Cond1 i) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), {g19 : BufTy.Contents (Elt F) arg19.view.ty // ∀ (E : Set ℕ),
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) : sProp (MT nD τ sig Unit (Elt F) ℕ (UR sig nD τ) ℕ))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19)))} := by
  refine ⟨?_, ?_, ?_, ?_, ?_, ?_, ?_, ?_, fun E => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton, k0_part13_eq_skeleton]
    iintro ⟨H2, H3, H4, H5, H6, H7, H8, H9, H10, H11, H12, H13, H14, H15, H16, H17, H18, H19⟩
    sl_exec (disch := first | sl_exact hc0 | sl_exact hc1)
    sl_step
    sl_close

set_option maxHeartbeats 4000000 in
/-- The run of the body, case C: what it leaves in each output and scratch buffer, found by the run. -/
@[irreducible] def runC (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : ¬Cond0 i) (hc1 : Cond1 i) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), {g19 : BufTy.Contents (Elt F) arg19.view.ty // ∀ (E : Set ℕ),
      (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) : sProp (MT nD τ sig Unit (Elt F) ℕ (UR sig nD τ) ℕ))
      ⊢ wp frame (wpE (defs₀ (F := F)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19)))} := by
  refine ⟨?_, ?_, ?_, ?_, ?_, ?_, ?_, ?_, fun E => ?run⟩
  case run =>
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton, k0_part13_eq_skeleton]
    iintro ⟨H2, H3, H4, H5, H6, H7, H8, H9, H10, H11, H12, H13, H14, H15, H16, H17, H18, H19⟩
    sl_exec (disch := first | sl_exact hc0 | sl_exact hc1)
    sl_step
    sl_close

end Cert.KernelIdeal.Point
-- ==== Proof.Windows.lean ====
/- What the windows of the attention kernel hold at every grid point. -/
module

public import proofs.«01_k».proof.Proof.TripleDefs
public import proofs.«01_k».proof.Proof.Run
public import proofs.«01_k».proof.Proof.Gen.KernelIdeal.Frame
public import Idealize.ShloMosaic.Lib.Claim

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

theorem cond0_iff : ∀ t : Fin cfg0.N, Cond0 (grid0.coords t) ↔ t.val % 32 = 0 :=
  (fun t => by
    have ht : t.val < 128 := Nat.lt_of_lt_of_eq t.isLt N_0
    have e1 : (grid0.coords t 1).val = t.val / 1 % 32 := Pipeline.Grid.coords_val t 1 (by decide) rfl
    simp only [Cond0, e1]
    word_cmp : ∀ t : Fin grid0.N, Cond0 (grid0.coords t) ↔ t.val % 32 = 0)

theorem cond1_iff : ∀ t : Fin cfg0.N, Cond1 (grid0.coords t) ↔ t.val % 32 = 31 :=
  (fun t => by
    have ht : t.val < 128 := Nat.lt_of_lt_of_eq t.isLt N_0
    have e1 : (grid0.coords t 1).val = t.val / 1 % 32 := Pipeline.Grid.coords_val t 1 (by decide) rfl
    simp only [Cond1, e1]
    word_cmp : ∀ t : Fin grid0.N, Cond1 (grid0.coords t) ↔ t.val % 32 = 31)

theorem trips_eq : ∀ t : Fin cfg0.N, (k0_t1_loop (grid0.coords t)).trips = 31 - (grid0.coords t 1).val :=
  (by decide +kernel : ∀ t : Fin grid0.N, (k0_t1_loop (grid0.coords t)).trips = 31 - (grid0.coords t 1).val)

abbrev ms0 (t : Fin cfg0.N) : Memref sig .tc .vmem S16384x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x8x16384 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x16384 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x16384 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S16384x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x16384 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x16384 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x512 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x512 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x512x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x8x16384 .f32 := win0_14.stage (cfg0.slots t 14)
abbrev hs14 (t : Fin cfg0.N) : (ms14 t).IsWhole := hstage0_14 ((cfg0.slots t 14).cast nbuf0_14)
abbrev sc0 : Memref sig .tc .vmem S2x128x512 .f32 := Memref.whole cc0_scratch0
abbrev sc1 : Memref sig .tc .vmem S2x128x512 .f32 := Memref.whole cc0_scratch1
abbrev sc2 : Memref sig .tc .vmem S2x512x1 .f32 := Memref.whole cc0_scratch2

/-- What the launch hands the body beside the windows: the scratch buffers at some contents, and the generator. -/
theorem scratch_eq (c : Dev nD) :
    (Pipeline.ΦA spec0 c : sProp (MT nD τ sig Unit (Elt Ideal) ℕ (UR sig nD τ) ℕ))
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- What grid point `t` reads. -/
def Bt (c : Dev nD) (t : Fin cfg0.N) : Blk :=
  blkOf (grid0.coords t) (iblk m c 0 t) (iblk m c 1 t) (iblk m c 2 t) (iblk m c 3 t) (iblk m c 4 t) (iblk m c 5 t) (iblk m c 6 t) (iblk m c 7 t) (iblk m c 8 t) (iblk m c 9 t)

/-- The grid point of a number. -/
def pt (n : ℕ) : Fin cfg0.N := ⟨n % 128, by rw [show cfg0.N = 128 from N_0]; exact Nat.mod_lt _ (by decide)⟩

theorem pt_val (t : Fin cfg0.N) (n : ℕ) (h : n = t.val) : pt n = t :=
  Fin.ext (by
    have ht : t.val < 128 := Nat.lt_of_lt_of_eq t.isLt N_0
    show n % 128 = t.val
    omega)

/-- A value of the grid points summed over the key blocks of the pair of heads up to point `t`. -/
def acc (f : Fin cfg0.N → EReal) (t : ℕ) : EReal :=
  ∑ k ∈ Finset.range (t % 32 + 1), f (pt (32 * (t / 32) + k))

theorem acc_zero (f : Fin cfg0.N → EReal) (t : Fin cfg0.N) (h : t.val % 32 = 0) : acc f t.val = 0 + f t := by
  unfold acc
  rw [h, Finset.sum_range_one, zero_add, pt_val t _ (by omega)]

theorem acc_succ (f : Fin cfg0.N → EReal) (t : Fin cfg0.N) (h : t.val % 32 ≠ 0) : acc f t.val = acc f (t.val - 1) + f t := by
  unfold acc
  rw [Finset.sum_range_succ, pt_val t _ (by omega), show (t.val - 1) / 32 = t.val / 32 by omega, show (t.val - 1) % 32 + 1 = t.val % 32 by omega]

/-- The gradient of the queries after point `t`, scaled once the last key block is in. -/
def aft12 (c : Dev nD) (t : ℕ) : Vec Ideal S128x16384 .f32 := fun y =>
  if t % 32 = 31 then acc (fun u => add12 (Bt m c u) y) t * eighth else acc (fun u => add12 (Bt m c u) y) t

/-- The gradient of the decays on the query side after point `t`. -/
def aft16 (c : Dev nD) (t : ℕ) : Vec Ideal S1x8x16384 .f32 := fun y => acc (fun u => add16 (Bt m c u) y) t

theorem step12_A (c : Dev nD) (t : Fin cfg0.N) (h : t.val % 32 = 0) : aft12 m c t.val = fun y => (0 : EReal) + add12 (Bt m c t) y := by
  funext y
  unfold aft12
  rw [if_neg (by omega), acc_zero _ t h]

theorem step12_B (c : Dev nD) (t : Fin cfg0.N) (h : t.val % 32 ≠ 0) (h' : t.val % 32 ≠ 31) :
    aft12 m c t.val = fun y => (aft12 m c (t.val - 1) y + add12 (Bt m c t) y : EReal) := by
  funext y
  unfold aft12
  rw [if_neg h', if_neg (by omega), acc_succ _ t h]

theorem step12_C (c : Dev nD) (t : Fin cfg0.N) (h : t.val % 32 = 31) :
    aft12 m c t.val = fun y => ((aft12 m c (t.val - 1) y + add12 (Bt m c t) y) * eighth : EReal) := by
  funext y
  unfold aft12
  rw [if_pos h, if_neg (by omega), acc_succ _ t (by omega)]

theorem step16_A (c : Dev nD) (t : Fin cfg0.N) (h : t.val % 32 = 0) : aft16 m c t.val = fun y => (0 : EReal) + add16 (Bt m c t) y := by
  funext y
  unfold aft16
  rw [acc_zero _ t h]

theorem step16_B (c : Dev nD) (t : Fin cfg0.N) (h : t.val % 32 ≠ 0) :
    aft16 m c t.val = fun y => (aft16 m c (t.val - 1) y + add16 (Bt m c t) y : EReal) := by
  funext y
  unfold aft16
  rw [acc_succ _ t h]

/-- The launch's arrays, and what the body leaves in every window at every grid point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => aft12 m c t.val
    | ⟨11, _⟩ => out13 (Bt m c t)
    | ⟨12, _⟩ => out14 (Bt m c t)
    | ⟨13, _⟩ => out15 (Bt m c t) (grid0.coords t 0).val
    | ⟨14, _⟩ => aft16 m c t.val
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem aft_0 (c : Dev nD) (t : Fin cfg0.N) : (dats m 0 c).after 0 t = iblk m c 0 t := by dsimp only [dats]
theorem aft_1 (c : Dev nD) (t : Fin cfg0.N) : (dats m 0 c).after 1 t = iblk m c 1 t := by dsimp only [dats]
theorem aft_2 (c : Dev nD) (t : Fin cfg0.N) : (dats m 0 c).after 2 t = iblk m c 2 t := by dsimp only [dats]
theorem aft_3 (c : Dev nD) (t : Fin cfg0.N) : (dats m 0 c).after 3 t = iblk m c 3 t := by dsimp only [dats]
theorem aft_4 (c : Dev nD) (t : Fin cfg0.N) : (dats m 0 c).after 4 t = iblk m c 4 t := by dsimp only [dats]
theorem aft_5 (c : Dev nD) (t : Fin cfg0.N) : (dats m 0 c).after 5 t = iblk m c 5 t := by dsimp only [dats]
theorem aft_6 (c : Dev nD) (t : Fin cfg0.N) : (dats m 0 c).after 6 t = iblk m c 6 t := by dsimp only [dats]
theorem aft_7 (c : Dev nD) (t : Fin cfg0.N) : (dats m 0 c).after 7 t = iblk m c 7 t := by dsimp only [dats]
theorem aft_8 (c : Dev nD) (t : Fin cfg0.N) : (dats m 0 c).after 8 t = iblk m c 8 t := by dsimp only [dats]
theorem aft_9 (c : Dev nD) (t : Fin cfg0.N) : (dats m 0 c).after 9 t = iblk m c 9 t := by dsimp only [dats]
theorem aft_10 (c : Dev nD) (t : Fin cfg0.N) : (dats m 0 c).after 10 t = aft12 m c t.val := by dsimp only [dats]
theorem aft_11 (c : Dev nD) (t : Fin cfg0.N) : (dats m 0 c).after 11 t = out13 (Bt m c t) := by dsimp only [dats]
theorem aft_12 (c : Dev nD) (t : Fin cfg0.N) : (dats m 0 c).after 12 t = out14 (Bt m c t) := by dsimp only [dats]
theorem aft_13 (c : Dev nD) (t : Fin cfg0.N) : (dats m 0 c).after 13 t = out15 (Bt m c t) (grid0.coords t 0).val := by dsimp only [dats]
theorem aft_14 (c : Dev nD) (t : Fin cfg0.N) : (dats m 0 c).after 14 t = aft16 m c t.val := by dsimp only [dats]

theorem bef_0 (c : Dev nD) (t : Fin cfg0.N) (d) : (dats m 0 c).before 0 t d = iblk m c 0 t :=
  before0_0_of m (dats m 0 c) (A_eq m c 0) (aft_0 m c) t d
theorem bef_1 (c : Dev nD) (t : Fin cfg0.N) (d) : (dats m 0 c).before 1 t d = iblk m c 1 t :=
  before0_1_of m (dats m 0 c) (A_eq m c 1) (aft_1 m c) t d
theorem bef_2 (c : Dev nD) (t : Fin cfg0.N) (d) : (dats m 0 c).before 2 t d = iblk m c 2 t :=
  before0_2_of m (dats m 0 c) (A_eq m c 2) (aft_2 m c) t d
theorem bef_3 (c : Dev nD) (t : Fin cfg0.N) (d) : (dats m 0 c).before 3 t d = iblk m c 3 t :=
  before0_3_of m (dats m 0 c) (A_eq m c 3) (aft_3 m c) t d
theorem bef_4 (c : Dev nD) (t : Fin cfg0.N) (d) : (dats m 0 c).before 4 t d = iblk m c 4 t :=
  before0_4_of m (dats m 0 c) (A_eq m c 4) (aft_4 m c) t d
theorem bef_5 (c : Dev nD) (t : Fin cfg0.N) (d) : (dats m 0 c).before 5 t d = iblk m c 5 t :=
  before0_5_of m (dats m 0 c) (A_eq m c 5) (aft_5 m c) t d
theorem bef_6 (c : Dev nD) (t : Fin cfg0.N) (d) : (dats m 0 c).before 6 t d = iblk m c 6 t :=
  before0_6_of m (dats m 0 c) (A_eq m c 6) (aft_6 m c) t d
theorem bef_7 (c : Dev nD) (t : Fin cfg0.N) (d) : (dats m 0 c).before 7 t d = iblk m c 7 t :=
  before0_7_of m (dats m 0 c) (A_eq m c 7) (aft_7 m c) t d
theorem bef_8 (c : Dev nD) (t : Fin cfg0.N) (d) : (dats m 0 c).before 8 t d = iblk m c 8 t :=
  before0_8_of m (dats m 0 c) (A_eq m c 8) (aft_8 m c) t d
theorem bef_9 (c : Dev nD) (t : Fin cfg0.N) (d) : (dats m 0 c).before 9 t d = iblk m c 9 t :=
  before0_9_of m (dats m 0 c) (A_eq m c 9) (aft_9 m c) t d

theorem bef_10 (c : Dev nD) (t : Fin cfg0.N) (h : t.val % 32 ≠ 0) (d) : (dats m 0 c).before 10 t d = aft12 m c (t.val - 1) := by
  have hf : (cfg0.win 10).flush ⟨t.val - 1, Nat.lt_of_le_of_lt (Nat.sub_le _ _) t.isLt⟩ = false :=
    Bool.eq_false_iff.mpr fun e => by
      have := (flush0_10 ⟨t.val - 1, Nat.lt_of_le_of_lt (Nat.sub_le _ _) t.isLt⟩).mp e
      dsimp only at this
      omega
  rw [Pipeline.Dat.before_out_kept (dats m 0 c) 10 rfl t (by omega) hf (fun _ => rfl) (fun _ _ => rfl), aft_10]

theorem bef_14 (c : Dev nD) (t : Fin cfg0.N) (h : t.val % 32 ≠ 0) (d) : (dats m 0 c).before 14 t d = aft16 m c (t.val - 1) := by
  have hf : (cfg0.win 14).flush ⟨t.val - 1, Nat.lt_of_le_of_lt (Nat.sub_le _ _) t.isLt⟩ = false :=
    Bool.eq_false_iff.mpr fun e => by
      have := (flush0_14 ⟨t.val - 1, Nat.lt_of_le_of_lt (Nat.sub_le _ _) t.isLt⟩).mp e
      dsimp only at this
      omega
  rw [Pipeline.Dat.before_out_kept (dats m 0 c) 14 rfl t (by omega) hf (fun _ => rfl) (fun _ _ => rfl), aft_14]

/-- What the body is called with at point `t`. -/
def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- What the body returns at point `t`. -/
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t))

end Cert.KernelIdeal.Point
-- ==== Proof.Trip.lean ====
/- One trip of the loop over the later query blocks: what it leaves in the five arrays that it adds to. -/
module

public import proofs.«01_k».proof.Proof.Gen.KernelIdeal.Loops
public import proofs.«01_k».proof.Proof.Point

@[expose] public section

set_option maxRecDepth 16384

noncomputable section

namespace Cert.KernelIdeal.Point

open Idealize.ShloMosaic Idealize.ShloMosaic.TcCoe Idealize.ShloMosaic.Tactic
open Cert.KernelIdeal Cert.KernelIdeal.Gen

section Trip

variable (𝒱 : Variants) (c : Dev nD) (bd : Option 𝒱.V) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (arg1 : BitVec 32) (v73 : BitVec 32) (v168 : FVec Ideal S512x512 .f32) (v170 : FVec Ideal S512x512 .bf16) (v185 : Vec Ideal S1x512x1 .f32) (v210 : BitVec 32) (X_arg2 : BufTy.Contents (Elt Ideal) arg2.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)
  (f12 : BufTy.Contents (Elt Ideal) arg12.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty)
  (B : Blk) (k : Fin (k0_t1_loop i).trips)

theorem trip18_0 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (d : Fin 128) (r : Fin 512) :
    arg18.view.read (Elt Ideal) (arg18.view.writes (Elt Ideal) f18 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.2.1 f12 f16 f17 f18 f19)) (ix3 0 d r)
      = arg18.view.read (Elt Ideal) f18 (ix3 0 d r) + ∑ x : Fin 512, B.dOt (ix2 d (tk i k x)) * B.p 0 r (tk i k x) := by
  unfold trip_k0_t1
  dsimp only
  refine Eq.trans (slab0 _ _ _ _ _ _ _ _ _) ?_
  simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]
  pointwise [k0_pay83, k0_pay84, k0_pay85, ld5, ld6, ld7, ld8, ldS0, ldS1, View.readCov_cons_toLoadRect, hq, hal, hdl, hqt, hdO, hdOt]
  simp only [Blk.s, Blk.u, B.p_tk hkj]
  rfl

theorem trip17_0 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (d : Fin 128) (r : Fin 512) :
    arg17.view.read (Elt Ideal) (arg17.view.writes (Elt Ideal) f17 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.1 f12 f16 f17 f18 f19)) (ix3 0 d r)
      = arg17.view.read (Elt Ideal) f17 (ix3 0 d r) + ∑ x : Fin 512, B.qt (ix2 d (tk i k x)) * B.s 0 r (tk i k x) := by
  unfold trip_k0_t1
  dsimp only
  refine Eq.trans (slab0 _ _ _ _ _ _ _ _ _) ?_
  simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]
  pointwise [k0_pay83, k0_pay84, k0_pay85, ld5, ld6, ld7, ld8, ldS0, ldS1, View.readCov_cons_toLoadRect, hq, hal, hdl, hqt, hdO, hdOt]
  simp only [Blk.s, Blk.u, B.p_tk hkj]
  rfl

theorem trip19_0 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (r : Fin 512) :
    arg19.view.read (Elt Ideal) (arg19.view.writes (Elt Ideal) f19 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.2.2.1 f12 f16 f17 f18 f19)) (ix3 0 r 0)
      = arg19.view.read (Elt Ideal) f19 (ix3 0 r 0) + ∑ x : Fin 512, B.s 0 r (tk i k x) := by
  unfold trip_k0_t1
  dsimp only
  refine Eq.trans (slab0 _ _ _ _ _ _ _ _ _) ?_
  simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]
  pointwise [k0_pay83, k0_pay84, k0_pay85, ld5, ld6, ld7, ld8, ldS0, ldS1, View.readCov_cons_toLoadRect, hq, hal, hdl, hqt, hdO, hdOt]
  simp only [Blk.s, Blk.u, B.p_tk hkj]
  rfl

theorem trip18_1 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (d : Fin 128) (r : Fin 512) :
    arg18.view.read (Elt Ideal) (arg18.view.writes (Elt Ideal) f18 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.2.1 f12 f16 f17 f18 f19)) (ix3 1 d r)
      = arg18.view.read (Elt Ideal) f18 (ix3 1 d r) + ∑ x : Fin 512, B.dOt (ix2 d (tk i k x)) * B.p 1 r (tk i k x) := by
  unfold trip_k0_t1
  dsimp only
  refine Eq.trans (slab1 _ _ _ _ _ _ _) ?_
  simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]
  pointwise [k0_pay83, k0_pay84, k0_pay85, ld5, ld6, ld7, ld8, ldS0, ldS1, View.readCov_cons_toLoadRect, hq, hal, hdl, hqt, hdO, hdOt]
  simp only [Blk.s, Blk.u, B.p_tk hkj]
  rfl

theorem trip17_1 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (d : Fin 128) (r : Fin 512) :
    arg17.view.read (Elt Ideal) (arg17.view.writes (Elt Ideal) f17 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.1 f12 f16 f17 f18 f19)) (ix3 1 d r)
      = arg17.view.read (Elt Ideal) f17 (ix3 1 d r) + ∑ x : Fin 512, B.qt (ix2 d (tk i k x)) * B.s 1 r (tk i k x) := by
  unfold trip_k0_t1
  dsimp only
  refine Eq.trans (slab1 _ _ _ _ _ _ _) ?_
  simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]
  pointwise [k0_pay83, k0_pay84, k0_pay85, ld5, ld6, ld7, ld8, ldS0, ldS1, View.readCov_cons_toLoadRect, hq, hal, hdl, hqt, hdO, hdOt]
  simp only [Blk.s, Blk.u, B.p_tk hkj]
  rfl

theorem trip19_1 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (r : Fin 512) :
    arg19.view.read (Elt Ideal) (arg19.view.writes (Elt Ideal) f19 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.2.2.1 f12 f16 f17 f18 f19)) (ix3 1 r 0)
      = arg19.view.read (Elt Ideal) f19 (ix3 1 r 0) + ∑ x : Fin 512, B.s 1 r (tk i k x) := by
  unfold trip_k0_t1
  dsimp only
  refine Eq.trans (slab1 _ _ _ _ _ _ _) ?_
  simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]
  pointwise [k0_pay83, k0_pay84, k0_pay85, ld5, ld6, ld7, ld8, ldS0, ldS1, View.readCov_cons_toLoadRect, hq, hal, hdl, hqt, hdO, hdOt]
  simp only [Blk.s, Blk.u, B.p_tk hkj]
  rfl

theorem trip16_0 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (x : Fin 512) :
    arg16.view.read (Elt Ideal) (arg16.view.writes (Elt Ideal) f16 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.1 f12 f16 f17 f18 f19)) (ix3 0 (Blk.row 0) (tk i k x))
      = arg16.view.read (Elt Ideal) f16 (ix3 0 (Blk.row 0) (tk i k x)) + ∑ r : Fin 512, B.s 0 r (tk i k x) := by
  unfold trip_k0_t1
  dsimp only
  refine Eq.trans (View.read_writes_cons_unit_of_not_mem _ _ _ _ _ _ (k0_off8_eq i k) (1 : Fin 3) (.inl Nat.zero_lt_one)) ?_
  refine Eq.trans (View.read_writes_cons_unit_of_mem _ _ _ _ _ _ (ix3 0 0 x) (k0_off7_eq i k) (by intro a; fin_cases a <;> rfl)) ?_
  simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]
  pointwise [k0_pay83, k0_pay84, k0_pay85, ld5, ld6, ld7, ld8, ldS0, ldS1, View.readCov_cons_toLoadRect, hq, hal, hdl, hqt, hdO, hdOt]
  simp only [Blk.s, Blk.u, B.p_tk hkj]
  rfl

theorem trip16_1 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (x : Fin 512) :
    arg16.view.read (Elt Ideal) (arg16.view.writes (Elt Ideal) f16 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.1 f12 f16 f17 f18 f19)) (ix3 0 (Blk.row 1) (tk i k x))
      = arg16.view.read (Elt Ideal) f16 (ix3 0 (Blk.row 1) (tk i k x)) + ∑ r : Fin 512, B.s 1 r (tk i k x) := by
  unfold trip_k0_t1
  dsimp only
  refine Eq.trans (View.read_writes_cons_unit_of_mem _ _ _ _ _ _ (ix3 0 0 x) (k0_off8_eq i k) (by intro a; fin_cases a <;> rfl)) ?_
  simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]
  pointwise [k0_pay83, k0_pay84, k0_pay85, ld5, ld6, ld7, ld8, ldS0, ldS1, View.readCov_cons_toLoadRect, hq, hal, hdl, hqt, hdO, hdOt]
  simp only [Blk.s, Blk.u, B.p_tk hkj]
  rfl

theorem trip16 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (e : Fin 8) (t : Fin 16384) :
    arg16.view.read (Elt Ideal) (arg16.view.writes (Elt Ideal) f16 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.1 f12 f16 f17 f18 f19)) (ix3 0 e t)
      = arg16.view.read (Elt Ideal) f16 (ix3 0 e t) + (if inTrip i k.val t then B.g16 e t else 0) := by
  by_cases ht : inTrip i k.val t
  · rw [if_pos ht]
    obtain ⟨x, rfl⟩ := ht.eq
    unfold Blk.g16
    by_cases h0 : e = Blk.row 0
    · subst h0
      rw [if_pos rfl]
      exact trip16_0 (hkj := hkj) (hq := hq) (hal := hal) (hdl := hdl) (hqt := hqt) (hdO := hdO) (hdOt := hdOt) ..
    · rw [if_neg h0]
      by_cases h1 : e = Blk.row 1
      · subst h1
        rw [if_pos rfl]
        exact trip16_1 (hkj := hkj) (hq := hq) (hal := hal) (hdl := hdl) (hqt := hqt) (hdO := hdO) (hdOt := hdOt) ..
      · rw [if_neg h1, add_zero]
        have e0 : e.val ≠ 0 := fun h => h0 (Fin.ext h)
        have e1 : e.val ≠ 1 := fun h => h1 (Fin.ext h)
        unfold trip_k0_t1
        dsimp only
        refine Eq.trans (View.read_writes_cons_unit_of_not_mem _ _ _ _ _ _ (k0_off8_eq i k) (1 : Fin 3) (?_ : e.val < 1 ∨ 1 + 1 ≤ e.val)) ?_
        · omega
        refine Eq.trans (View.read_writes_cons_unit_of_not_mem _ _ _ _ _ _ (k0_off7_eq i k) (1 : Fin 3) (?_ : e.val < 0 ∨ 0 + 1 ≤ e.val)) ?_
        · omega
        rfl
  · rw [if_neg ht, add_zero]
    have ht' : t.val < 512 * (i 1).val + 512 * k.val + 512 ∨ 512 * (i 1).val + 512 * k.val + 512 + 512 ≤ t.val := by
      unfold inTrip at ht
      omega
    unfold trip_k0_t1
    dsimp only
    exact (View.read_writes_cons_unit_of_not_mem _ _ _ _ _ _ (k0_off8_eq i k) (2 : Fin 3) ht').trans
      (View.read_writes_cons_unit_of_not_mem _ _ _ _ _ _ (k0_off7_eq i k) (2 : Fin 3) ht')

theorem trip12 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (d : Fin 128) (t : Fin 16384) :
    arg12.view.read (Elt Ideal) (arg12.view.writes (Elt Ideal) f12 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).1 f12 f16 f17 f18 f19)) (ix2 d t)
      = arg12.view.read (Elt Ideal) f12 (ix2 d t) + (if inTrip i k.val t then B.g12 d t else 0) := by
  by_cases ht : inTrip i k.val t
  · rw [if_pos ht]
    obtain ⟨x, rfl⟩ := ht.eq
    unfold trip_k0_t1
    dsimp only
    refine Eq.trans (View.read_writes_cons_unit_of_mem _ _ _ _ _ _ (ix2 d x) (k0_off6_eq i k) (by intro a; fin_cases a <;> first | rfl | exact (Nat.zero_add _).symm)) ?_
    simp only [trip_k0_t1.sl.HW_arg12_1, trip_k0_t1.sl.arg20, trip_k0_t1.sl.cst_151, trip_k0_t1.sl.cst_156, trip_k0_t1.sl.cst_170, trip_k0_t1.sl.v268, trip_k0_t1.sl.v270, trip_k0_t1.sl.v272, trip_k0_t1.sl.v275, trip_k0_t1.sl.v278, trip_k0_t1.sl.v281, trip_k0_t1.sl.v284, trip_k0_t1.sl.v287, trip_k0_t1.sl.v288, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v298, trip_k0_t1.sl.v299, trip_k0_t1.sl.v301, trip_k0_t1.sl.v302, trip_k0_t1.sl.v303, trip_k0_t1.sl.v306, trip_k0_t1.sl.v308, trip_k0_t1.sl.v309, trip_k0_t1.sl.v310, trip_k0_t1.sl.v313, trip_k0_t1.sl.v315, trip_k0_t1.sl.v316, trip_k0_t1.sl.v317, trip_k0_t1.sl.v318, trip_k0_t1.sl.v321, trip_k0_t1.sl.v324, trip_k0_t1.sl.v325, trip_k0_t1.sl.v326, trip_k0_t1.sl.v327, trip_k0_t1.sl.v331, trip_k0_t1.sl.v334, trip_k0_t1.sl.v335, trip_k0_t1.sl.v336, trip_k0_t1.sl.v341, trip_k0_t1.sl.v344, trip_k0_t1.sl.v345, trip_k0_t1.sl.v346, trip_k0_t1.sl.v347, trip_k0_t1.sl.v348, trip_k0_t1.sl.v349, trip_k0_t1.sl.v350, trip_k0_t1.sl.v351, trip_k0_t1.sl.v352, trip_k0_t1.sl.v353, trip_k0_t1.sl.v354, trip_k0_t1.sl.v355, trip_k0_t1.sl.v356, trip_k0_t1.sl.v357, trip_k0_t1.sl.v358, trip_k0_t1.sl.v359, trip_k0_t1.sl.v360, trip_k0_t1.sl.v363, trip_k0_t1.sl.v364, trip_k0_t1.sl.v365, trip_k0_t1.sl.v366, trip_k0_t1.sl.v367, trip_k0_t1.sl.v370, trip_k0_t1.sl.v371, trip_k0_t1.sl.v372, trip_k0_t1.sl.v373, trip_k0_t1.sl.v374, trip_k0_t1.sl.v375, trip_k0_t1.sl.v380, trip_k0_t1.sl.v390]

    pointwise [k0_pay83, k0_pay84, k0_pay85, ld5, ld6, ld7, ld8, ldS0, ldS1, View.readCov_cons_toLoadRect, hq, hal, hdl, hqt, hdO, hdOt]
    simp only [Blk.g12, Blk.s, Blk.u, B.p_tk hkj]
    exact add_assoc _ _ _
  · rw [if_neg ht, add_zero]
    have ht' : t.val < 512 * (i 1).val + 512 * k.val + 512 ∨ 512 * (i 1).val + 512 * k.val + 512 + 512 ≤ t.val := by
      unfold inTrip at ht
      omega
    unfold trip_k0_t1
    dsimp only [trip_k0_t1.sl.HW_arg12_1]
    exact (View.read_writes_cons_unit_of_not_mem _ _ _ _ _ _ (k0_off6_eq i k) (1 : Fin 2) ht').trans
      (View.read_writes_cons_unit_of_not_mem _ _ _ _ _ _ (k0_off6_eq i k) (1 : Fin 2) ht')

theorem trip18 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (h : Fin 2) (d : Fin 128) (r : Fin 512) :
    arg18.view.read (Elt Ideal) (arg18.view.writes (Elt Ideal) f18 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.2.1 f12 f16 f17 f18 f19)) (ix3 h d r)
      = arg18.view.read (Elt Ideal) f18 (ix3 h d r) + blockSum (fun t => B.dOt (ix2 d t) * B.p h r t) ((i 1).val + k.val + 1) := by
  rw [blockSum_tk]
  revert h
  rw [Fin.forall_fin_two]
  exact ⟨trip18_0 (hkj := hkj) (hq := hq) (hal := hal) (hdl := hdl) (hqt := hqt) (hdO := hdO) (hdOt := hdOt) .., trip18_1 (hkj := hkj) (hq := hq) (hal := hal) (hdl := hdl) (hqt := hqt) (hdO := hdO) (hdOt := hdOt) ..⟩

theorem trip17 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (h : Fin 2) (d : Fin 128) (r : Fin 512) :
    arg17.view.read (Elt Ideal) (arg17.view.writes (Elt Ideal) f17 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.1 f12 f16 f17 f18 f19)) (ix3 h d r)
      = arg17.view.read (Elt Ideal) f17 (ix3 h d r) + blockSum (fun t => B.qt (ix2 d t) * B.s h r t) ((i 1).val + k.val + 1) := by
  rw [blockSum_tk]
  revert h
  rw [Fin.forall_fin_two]
  exact ⟨trip17_0 (hkj := hkj) (hq := hq) (hal := hal) (hdl := hdl) (hqt := hqt) (hdO := hdO) (hdOt := hdOt) .., trip17_1 (hkj := hkj) (hq := hq) (hal := hal) (hdl := hdl) (hqt := hqt) (hdO := hdO) (hdOt := hdOt) ..⟩

theorem trip19 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (h : Fin 2) (r : Fin 512) :
    arg19.view.read (Elt Ideal) (arg19.view.writes (Elt Ideal) f19 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 k).2.2.2.2.1 f12 f16 f17 f18 f19)) (ix3 h r 0)
      = arg19.view.read (Elt Ideal) f19 (ix3 h r 0) + blockSum (fun t => B.s h r t) ((i 1).val + k.val + 1) := by
  rw [blockSum_tk]
  revert h
  rw [Fin.forall_fin_two]
  exact ⟨trip19_0 (hkj := hkj) (hq := hq) (hal := hal) (hdl := hdl) (hqt := hqt) (hdO := hdO) (hdOt := hdOt) .., trip19_1 (hkj := hkj) (hq := hq) (hal := hal) (hdl := hdl) (hqt := hqt) (hdO := hdO) (hdOt := hdOt) ..⟩

end Trip

end Cert.KernelIdeal.Point
-- ==== Proof.Loop.lean ====
/- The loop over the later query blocks: what it leaves in the five arrays after any number of trips. -/
module

public import proofs.«01_k».proof.Proof.Trip

@[expose] public section

set_option maxRecDepth 16384

noncomputable section

namespace Cert.KernelIdeal.Point

open Idealize.ShloMosaic Idealize.ShloMosaic.TcCoe Idealize.ShloMosaic.Tactic
open Cert.KernelIdeal Cert.KernelIdeal.Gen

section Loop

variable (𝒱 : Variants) (c : Dev nD) (bd : Option 𝒱.V) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (arg1 : BitVec 32) (v73 : BitVec 32) (v168 : FVec Ideal S512x512 .f32) (v170 : FVec Ideal S512x512 .bf16) (v185 : Vec Ideal S1x512x1 .f32) (v210 : BitVec 32) (X_arg2 : BufTy.Contents (Elt Ideal) arg2.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)
  (G12 : BufTy.Contents (Elt Ideal) arg12.view.ty) (G16 : BufTy.Contents (Elt Ideal) arg16.view.ty) (G17 : BufTy.Contents (Elt Ideal) arg17.view.ty) (G18 : BufTy.Contents (Elt Ideal) arg18.view.ty) (G19 : BufTy.Contents (Elt Ideal) arg19.view.ty)
  (B : Blk)

/-- What trip `k` covers, as a set of queries. -/
theorem inTrip_iff {i : grid0.Coords} (k : ℕ) (t : Fin 16384) : inTrip i k t ↔ 512 * (i 1).val + 512 * k + 512 ≤ t.val ∧ t.val < 512 * (i 1).val + 512 * k + 1024 := by
  unfold inTrip; omega

/-- One more trip widens the covered range by its own block. -/
theorem cover_succ (a n : ℕ) (t : Fin 16384) (x g : EReal) {i : grid0.Coords} (ha : (i 1).val = a) :
    x + (if 512 * a + 512 ≤ t.val ∧ t.val < 512 * a + 512 * n + 512 then g else 0) + (if inTrip i n t then g else 0)
      = x + (if 512 * a + 512 ≤ t.val ∧ t.val < 512 * a + 512 * (n + 1) + 512 then g else 0) := by
  subst ha
  have hi := inTrip_iff (i := i) n t
  by_cases h1 : inTrip i n t
  · have h1' := hi.1 h1
    rw [if_pos h1, if_neg (by omega), if_pos (by omega), add_zero]
  · rw [if_neg h1, add_zero]
    have h1' := fun q => h1 (hi.2 q)
    congr 1
    exact if_congr (by constructor <;> intro q <;> constructor <;> first | omega | (by_contra w; exact h1' (by omega))) rfl rfl

theorem loop18 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (h : Fin 2) (d : Fin 128) (r : Fin 512) (n : ℕ) (hn : n ≤ (k0_t1_loop i).trips) :
    arg18.view.read (Elt Ideal) (arg18.view.writes (Elt Ideal) G18 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 n).2.2.2.1)) (ix3 h d r)
      = arg18.view.read (Elt Ideal) G18 (ix3 h d r) + ∑ k ∈ Finset.range n, blockSum (fun t => B.dOt (ix2 d t) * B.p h r t) ((i 1).val + k + 1) := by
  induction n with
  | zero => rw [Finset.sum_range_zero, add_zero]; rfl
  | succ n ih =>
    have hstep := congrArg (fun p => p.2.2.2.1) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 ⟨n, hn⟩)
    refine Eq.trans (congrArg (fun L => arg18.view.read (Elt Ideal) (arg18.view.writes (Elt Ideal) G18 L) (ix3 h d r)) hstep) ?_
    refine Eq.trans (congrArg (fun f => arg18.view.read (Elt Ideal) f (ix3 h d r)) (View.writes_append ..)) ?_
    refine Eq.trans (trip18 (hkj := hkj) (hq := hq) (hal := hal) (hdl := hdl) (hqt := hqt) (hdO := hdO) (hdOt := hdOt) ..) ?_
    rw [ih (Nat.le_of_succ_le hn)]
    rw [Finset.sum_range_succ, ← add_assoc]

theorem loop17 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (h : Fin 2) (d : Fin 128) (r : Fin 512) (n : ℕ) (hn : n ≤ (k0_t1_loop i).trips) :
    arg17.view.read (Elt Ideal) (arg17.view.writes (Elt Ideal) G17 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 n).2.2.1)) (ix3 h d r)
      = arg17.view.read (Elt Ideal) G17 (ix3 h d r) + ∑ k ∈ Finset.range n, blockSum (fun t => B.qt (ix2 d t) * B.s h r t) ((i 1).val + k + 1) := by
  induction n with
  | zero => rw [Finset.sum_range_zero, add_zero]; rfl
  | succ n ih =>
    have hstep := congrArg (fun p => p.2.2.1) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 ⟨n, hn⟩)
    refine Eq.trans (congrArg (fun L => arg17.view.read (Elt Ideal) (arg17.view.writes (Elt Ideal) G17 L) (ix3 h d r)) hstep) ?_
    refine Eq.trans (congrArg (fun f => arg17.view.read (Elt Ideal) f (ix3 h d r)) (View.writes_append ..)) ?_
    refine Eq.trans (trip17 (hkj := hkj) (hq := hq) (hal := hal) (hdl := hdl) (hqt := hqt) (hdO := hdO) (hdOt := hdOt) ..) ?_
    rw [ih (Nat.le_of_succ_le hn)]
    rw [Finset.sum_range_succ, ← add_assoc]

theorem loop19 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (h : Fin 2) (r : Fin 512) (n : ℕ) (hn : n ≤ (k0_t1_loop i).trips) :
    arg19.view.read (Elt Ideal) (arg19.view.writes (Elt Ideal) G19 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 n).2.2.2.2)) (ix3 h r 0)
      = arg19.view.read (Elt Ideal) G19 (ix3 h r 0) + ∑ k ∈ Finset.range n, blockSum (fun t => B.s h r t) ((i 1).val + k + 1) := by
  induction n with
  | zero => rw [Finset.sum_range_zero, add_zero]; rfl
  | succ n ih =>
    have hstep := congrArg (fun p => p.2.2.2.2) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 ⟨n, hn⟩)
    refine Eq.trans (congrArg (fun L => arg19.view.read (Elt Ideal) (arg19.view.writes (Elt Ideal) G19 L) (ix3 h r 0)) hstep) ?_
    refine Eq.trans (congrArg (fun f => arg19.view.read (Elt Ideal) f (ix3 h r 0)) (View.writes_append ..)) ?_
    refine Eq.trans (trip19 (hkj := hkj) (hq := hq) (hal := hal) (hdl := hdl) (hqt := hqt) (hdO := hdO) (hdOt := hdOt) ..) ?_
    rw [ih (Nat.le_of_succ_le hn)]
    rw [Finset.sum_range_succ, ← add_assoc]

theorem loop16 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (e : Fin 8) (t : Fin 16384) (n : ℕ) (hn : n ≤ (k0_t1_loop i).trips) :
    arg16.view.read (Elt Ideal) (arg16.view.writes (Elt Ideal) G16 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 n).2.1)) (ix3 0 e t)
      = arg16.view.read (Elt Ideal) G16 (ix3 0 e t) + (if 512 * (i 1).val + 512 ≤ t.val ∧ t.val < 512 * (i 1).val + 512 * n + 512 then B.g16 e t else 0) := by
  induction n with
  | zero => rw [if_neg (by omega), add_zero]; rfl
  | succ n ih =>
    have hstep := congrArg (fun p => p.2.1) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 ⟨n, hn⟩)
    refine Eq.trans (congrArg (fun L => arg16.view.read (Elt Ideal) (arg16.view.writes (Elt Ideal) G16 L) (ix3 0 e t)) hstep) ?_
    refine Eq.trans (congrArg (fun f => arg16.view.read (Elt Ideal) f (ix3 0 e t)) (View.writes_append ..)) ?_
    refine Eq.trans (trip16 (hkj := hkj) (hq := hq) (hal := hal) (hdl := hdl) (hqt := hqt) (hdO := hdO) (hdOt := hdOt) ..) ?_
    rw [ih (Nat.le_of_succ_le hn)]
    exact cover_succ _ _ _ _ _ rfl

theorem loop12 (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (d : Fin 128) (t : Fin 16384) (n : ℕ) (hn : n ≤ (k0_t1_loop i).trips) :
    arg12.view.read (Elt Ideal) (arg12.view.writes (Elt Ideal) G12 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 n).1)) (ix2 d t)
      = arg12.view.read (Elt Ideal) G12 (ix2 d t) + (if 512 * (i 1).val + 512 ≤ t.val ∧ t.val < 512 * (i 1).val + 512 * n + 512 then B.g12 d t else 0) := by
  induction n with
  | zero => rw [if_neg (by omega), add_zero]; rfl
  | succ n ih =>
    have hstep := congrArg (fun p => p.1) (pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 G19 ⟨n, hn⟩)
    refine Eq.trans (congrArg (fun L => arg12.view.read (Elt Ideal) (arg12.view.writes (Elt Ideal) G12 L) (ix2 d t)) hstep) ?_
    refine Eq.trans (congrArg (fun f => arg12.view.read (Elt Ideal) f (ix2 d t)) (View.writes_append ..)) ?_
    refine Eq.trans (trip12 (hkj := hkj) (hq := hq) (hal := hal) (hdl := hdl) (hqt := hqt) (hdO := hdO) (hdOt := hdOt) ..) ?_
    rw [ih (Nat.le_of_succ_le hn)]
    exact cover_succ _ _ _ _ _ rfl

end Loop

end Cert.KernelIdeal.Point
-- ==== Proof.After.lean ====
/- What the five arrays hold after the last trip of the loop over the later query blocks. -/
module

public import proofs.«01_k».proof.Proof.Loop

@[expose] public section

set_option maxRecDepth 16384

noncomputable section

namespace Cert.KernelIdeal.Point

open Idealize.ShloMosaic Idealize.ShloMosaic.TcCoe Idealize.ShloMosaic.Tactic
open Cert.KernelIdeal Cert.KernelIdeal.Gen

section After

theorem Blk.p_zero (B : Blk) (h : Fin 2) (r : Fin 512) (t : Fin 16384) (ht : t.val < 512 * B.kj) : B.p h r t = 0 :=
  if_neg (by omega)

theorem Blk.s_zero (B : Blk) (h : Fin 2) (r : Fin 512) (t : Fin 16384) (ht : t.val < 512 * B.kj) : B.s h r t = 0 := by
  unfold Blk.s
  rw [B.p_zero h r t ht, zero_mul]

theorem Blk.g12_zero (B : Blk) (d : Fin 128) (t : Fin 16384) (ht : t.val < 512 * B.kj) : B.g12 d t = 0 := by
  unfold Blk.g12
  simp only [B.s_zero _ _ t ht, mul_zero, Finset.sum_const_zero, add_zero]

theorem Blk.g16_zero (B : Blk) (e : Fin 8) (t : Fin 16384) (ht : t.val < 512 * B.kj) : B.g16 e t = 0 := by
  unfold Blk.g16
  simp only [B.s_zero _ _ t ht, Finset.sum_const_zero, ite_self]

/-- The queries of the diagonal block and those of the loop are all that the block of keys reaches. -/
theorem cover (a : ℕ) (t : Fin 16384) (x g : EReal) (hz : t.val < 512 * a → g = 0) :
    x + (if 512 * a ≤ t.val ∧ t.val < 512 * a + 512 then g else 0) + (if 512 * a + 512 ≤ t.val ∧ t.val < 512 * a + 512 * (31 - a) + 512 then g else 0) = x + g := by
  have ht := t.isLt
  by_cases h0 : t.val < 512 * a
  · rw [hz h0, ite_self, ite_self, add_zero, add_zero]
  · by_cases h1 : t.val < 512 * a + 512
    · rw [if_pos (by omega), if_neg (by omega), add_zero]
    · rw [if_neg (by omega), if_pos (by omega), add_zero]

variable (𝒱 : Variants) (c : Dev nD) (bd : Option 𝒱.V) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (arg1 : BitVec 32) (v73 : BitVec 32) (v168 : FVec Ideal S512x512 .f32) (v170 : FVec Ideal S512x512 .bf16) (v185 : Vec Ideal S1x512x1 .f32) (v210 : BitVec 32) (X_arg2 : BufTy.Contents (Elt Ideal) arg2.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)
  (B : Blk)

theorem after18_0 (G12 : BufTy.Contents (Elt Ideal) arg12.view.ty) (G16 : BufTy.Contents (Elt Ideal) arg16.view.ty) (G17 : BufTy.Contents (Elt Ideal) arg17.view.ty) (G19 : BufTy.Contents (Elt Ideal) arg19.view.ty) (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (htr : (k0_t1_loop i).trips = 31 - (i 1).val) (L : List (View.Piece (Elt Ideal) S2x128x512 .f32))
    (hL : ∀ (h : Fin 2) (d : Fin 128) (r : Fin 512), arg18.view.read (Elt Ideal) (arg18.view.writes (Elt Ideal) arg18.view.junk L) (ix3 h d r) = blockSum (fun t => B.dOt (ix2 d t) * B.p h r t) (i 1).val) (d : Fin 128) (r : Fin 512) :
    arg18.view.readCov (Val := Elt Ideal) ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 (arg18.view.writes (Elt Ideal) arg18.view.junk L) G19 (k0_t1_loop i).trips).2.2.2.1 ++ L) (Rect.unit (s := S2x128x512) ![0, 0, 0] S1x128x512.size inb_S2x128x512_S1x128x512_0_0_0).toLoadRect (ix3 0 d r) = ∑ t : Fin 16384, B.dOt (ix2 d t) * B.p 0 r t := by
  refine Eq.trans (ldS0 _ _ _ _ _) ?_
  refine Eq.trans (congrArg (fun f => arg18.view.read (Elt Ideal) f (ix3 0 d r)) (View.writes_append ..)) ?_
  refine Eq.trans (loop18 (hkj := hkj) (hq := hq) (hal := hal) (hdl := hdl) (hqt := hqt) (hdO := hdO) (hdOt := hdOt) (hn := Nat.le.refl) ..) ?_
  rw [hL, htr]
  exact sum_from (fun t => B.dOt (ix2 d t) * B.p 0 r t) (i 1).val (i 1).isLt (fun t ht => by rw [B.p_zero _ _ t (hkj ▸ ht), mul_zero])

theorem after17_0 (G12 : BufTy.Contents (Elt Ideal) arg12.view.ty) (G16 : BufTy.Contents (Elt Ideal) arg16.view.ty) (G18 : BufTy.Contents (Elt Ideal) arg18.view.ty) (G19 : BufTy.Contents (Elt Ideal) arg19.view.ty) (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (htr : (k0_t1_loop i).trips = 31 - (i 1).val) (L : List (View.Piece (Elt Ideal) S2x128x512 .f32))
    (hL : ∀ (h : Fin 2) (d : Fin 128) (r : Fin 512), arg17.view.read (Elt Ideal) (arg17.view.writes (Elt Ideal) arg17.view.junk L) (ix3 h d r) = blockSum (fun t => B.qt (ix2 d t) * B.s h r t) (i 1).val) (d : Fin 128) (r : Fin 512) :
    arg17.view.readCov (Val := Elt Ideal) ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 (arg17.view.writes (Elt Ideal) arg17.view.junk L) G18 G19 (k0_t1_loop i).trips).2.2.1 ++ L) (Rect.unit (s := S2x128x512) ![0, 0, 0] S1x128x512.size inb_S2x128x512_S1x128x512_0_0_0).toLoadRect (ix3 0 d r) = ∑ t : Fin 16384, B.qt (ix2 d t) * B.s 0 r t := by
  refine Eq.trans (ldS0 _ _ _ _ _) ?_
  refine Eq.trans (congrArg (fun f => arg17.view.read (Elt Ideal) f (ix3 0 d r)) (View.writes_append ..)) ?_
  refine Eq.trans (loop17 (hkj := hkj) (hq := hq) (hal := hal) (hdl := hdl) (hqt := hqt) (hdO := hdO) (hdOt := hdOt) (hn := Nat.le.refl) ..) ?_
  rw [hL, htr]
  exact sum_from (fun t => B.qt (ix2 d t) * B.s 0 r t) (i 1).val (i 1).isLt (fun t ht => by rw [B.s_zero _ _ t (hkj ▸ ht), mul_zero])

theorem after19_0 (G12 : BufTy.Contents (Elt Ideal) arg12.view.ty) (G16 : BufTy.Contents (Elt Ideal) arg16.view.ty) (G17 : BufTy.Contents (Elt Ideal) arg17.view.ty) (G18 : BufTy.Contents (Elt Ideal) arg18.view.ty) (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (htr : (k0_t1_loop i).trips = 31 - (i 1).val) (L : List (View.Piece (Elt Ideal) S2x512x1 .f32))
    (hL : ∀ (h : Fin 2) (r : Fin 512), arg19.view.read (Elt Ideal) (arg19.view.writes (Elt Ideal) arg19.view.junk L) (ix3 h r 0) = blockSum (fun t => B.s h r t) (i 1).val) (r : Fin 512) :
    arg19.view.readCov (Val := Elt Ideal) ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 (arg19.view.writes (Elt Ideal) arg19.view.junk L) (k0_t1_loop i).trips).2.2.2.2 ++ L) (Rect.unit (s := S2x512x1) ![0, 0, 0] S1x512x1.size inb_S2x512x1_S1x512x1_0_0_0).toLoadRect (ix3 0 r 0) = ∑ t : Fin 16384, B.s 0 r t := by
  refine Eq.trans (ldS0 _ _ _ _ _) ?_
  refine Eq.trans (congrArg (fun f => arg19.view.read (Elt Ideal) f (ix3 0 r 0)) (View.writes_append ..)) ?_
  refine Eq.trans (loop19 (hkj := hkj) (hq := hq) (hal := hal) (hdl := hdl) (hqt := hqt) (hdO := hdO) (hdOt := hdOt) (hn := Nat.le.refl) ..) ?_
  rw [hL, htr]
  exact sum_from (fun t => B.s 0 r t) (i 1).val (i 1).isLt (fun t ht => by exact B.s_zero _ _ t (hkj ▸ ht))

theorem after18_1 (G12 : BufTy.Contents (Elt Ideal) arg12.view.ty) (G16 : BufTy.Contents (Elt Ideal) arg16.view.ty) (G17 : BufTy.Contents (Elt Ideal) arg17.view.ty) (G19 : BufTy.Contents (Elt Ideal) arg19.view.ty) (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (htr : (k0_t1_loop i).trips = 31 - (i 1).val) (L : List (View.Piece (Elt Ideal) S2x128x512 .f32))
    (hL : ∀ (h : Fin 2) (d : Fin 128) (r : Fin 512), arg18.view.read (Elt Ideal) (arg18.view.writes (Elt Ideal) arg18.view.junk L) (ix3 h d r) = blockSum (fun t => B.dOt (ix2 d t) * B.p h r t) (i 1).val) (d : Fin 128) (r : Fin 512) :
    arg18.view.readCov (Val := Elt Ideal) ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 (arg18.view.writes (Elt Ideal) arg18.view.junk L) G19 (k0_t1_loop i).trips).2.2.2.1 ++ L) (Rect.unit (s := S2x128x512) ![1, 0, 0] S1x128x512.size inb_S2x128x512_S1x128x512_1_0_0).toLoadRect (ix3 0 d r) = ∑ t : Fin 16384, B.dOt (ix2 d t) * B.p 1 r t := by
  refine Eq.trans (ldS1 _ _ _ _ _) ?_
  refine Eq.trans (congrArg (fun f => arg18.view.read (Elt Ideal) f (ix3 1 d r)) (View.writes_append ..)) ?_
  refine Eq.trans (loop18 (hkj := hkj) (hq := hq) (hal := hal) (hdl := hdl) (hqt := hqt) (hdO := hdO) (hdOt := hdOt) (hn := Nat.le.refl) ..) ?_
  rw [hL, htr]
  exact sum_from (fun t => B.dOt (ix2 d t) * B.p 1 r t) (i 1).val (i 1).isLt (fun t ht => by rw [B.p_zero _ _ t (hkj ▸ ht), mul_zero])

theorem after17_1 (G12 : BufTy.Contents (Elt Ideal) arg12.view.ty) (G16 : BufTy.Contents (Elt Ideal) arg16.view.ty) (G18 : BufTy.Contents (Elt Ideal) arg18.view.ty) (G19 : BufTy.Contents (Elt Ideal) arg19.view.ty) (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (htr : (k0_t1_loop i).trips = 31 - (i 1).val) (L : List (View.Piece (Elt Ideal) S2x128x512 .f32))
    (hL : ∀ (h : Fin 2) (d : Fin 128) (r : Fin 512), arg17.view.read (Elt Ideal) (arg17.view.writes (Elt Ideal) arg17.view.junk L) (ix3 h d r) = blockSum (fun t => B.qt (ix2 d t) * B.s h r t) (i 1).val) (d : Fin 128) (r : Fin 512) :
    arg17.view.readCov (Val := Elt Ideal) ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 (arg17.view.writes (Elt Ideal) arg17.view.junk L) G18 G19 (k0_t1_loop i).trips).2.2.1 ++ L) (Rect.unit (s := S2x128x512) ![1, 0, 0] S1x128x512.size inb_S2x128x512_S1x128x512_1_0_0).toLoadRect (ix3 0 d r) = ∑ t : Fin 16384, B.qt (ix2 d t) * B.s 1 r t := by
  refine Eq.trans (ldS1 _ _ _ _ _) ?_
  refine Eq.trans (congrArg (fun f => arg17.view.read (Elt Ideal) f (ix3 1 d r)) (View.writes_append ..)) ?_
  refine Eq.trans (loop17 (hkj := hkj) (hq := hq) (hal := hal) (hdl := hdl) (hqt := hqt) (hdO := hdO) (hdOt := hdOt) (hn := Nat.le.refl) ..) ?_
  rw [hL, htr]
  exact sum_from (fun t => B.qt (ix2 d t) * B.s 1 r t) (i 1).val (i 1).isLt (fun t ht => by rw [B.s_zero _ _ t (hkj ▸ ht), mul_zero])

theorem after19_1 (G12 : BufTy.Contents (Elt Ideal) arg12.view.ty) (G16 : BufTy.Contents (Elt Ideal) arg16.view.ty) (G17 : BufTy.Contents (Elt Ideal) arg17.view.ty) (G18 : BufTy.Contents (Elt Ideal) arg18.view.ty) (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (htr : (k0_t1_loop i).trips = 31 - (i 1).val) (L : List (View.Piece (Elt Ideal) S2x512x1 .f32))
    (hL : ∀ (h : Fin 2) (r : Fin 512), arg19.view.read (Elt Ideal) (arg19.view.writes (Elt Ideal) arg19.view.junk L) (ix3 h r 0) = blockSum (fun t => B.s h r t) (i 1).val) (r : Fin 512) :
    arg19.view.readCov (Val := Elt Ideal) ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 G16 G17 G18 (arg19.view.writes (Elt Ideal) arg19.view.junk L) (k0_t1_loop i).trips).2.2.2.2 ++ L) (Rect.unit (s := S2x512x1) ![1, 0, 0] S1x512x1.size inb_S2x512x1_S1x512x1_1_0_0).toLoadRect (ix3 0 r 0) = ∑ t : Fin 16384, B.s 1 r t := by
  refine Eq.trans (ldS1 _ _ _ _ _) ?_
  refine Eq.trans (congrArg (fun f => arg19.view.read (Elt Ideal) f (ix3 1 r 0)) (View.writes_append ..)) ?_
  refine Eq.trans (loop19 (hkj := hkj) (hq := hq) (hal := hal) (hdl := hdl) (hqt := hqt) (hdO := hdO) (hdOt := hdOt) (hn := Nat.le.refl) ..) ?_
  rw [hL, htr]
  exact sum_from (fun t => B.s 1 r t) (i 1).val (i 1).isLt (fun t ht => by exact B.s_zero _ _ t (hkj ▸ ht))

theorem after12 (G16 : BufTy.Contents (Elt Ideal) arg16.view.ty) (G17 : BufTy.Contents (Elt Ideal) arg17.view.ty) (G18 : BufTy.Contents (Elt Ideal) arg18.view.ty) (G19 : BufTy.Contents (Elt Ideal) arg19.view.ty) (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (htr : (k0_t1_loop i).trips = 31 - (i 1).val) (L : List (View.Piece (Elt Ideal) S128x16384 .f32)) (F0 : BufTy.Contents (Elt Ideal) arg12.view.ty)
    (d : Fin 128) (t : Fin 16384) (base : EReal)
    (hL : arg12.view.read (Elt Ideal) (arg12.view.writes (Elt Ideal) F0 L) (ix2 d t) = base + (if 512 * (i 1).val ≤ t.val ∧ t.val < 512 * (i 1).val + 512 then B.g12 d t else 0)) :
    arg12.view.read (Elt Ideal) (arg12.view.writes (Elt Ideal) F0 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 (arg12.view.writes (Elt Ideal) F0 L) G16 G17 G18 G19 (k0_t1_loop i).trips).1 ++ L)) (ix2 d t) = base + B.g12 d t := by
  refine Eq.trans (congrArg (fun f => arg12.view.read (Elt Ideal) f (ix2 d t)) (View.writes_append ..)) ?_
  refine Eq.trans (loop12 (hkj := hkj) (hq := hq) (hal := hal) (hdl := hdl) (hqt := hqt) (hdO := hdO) (hdOt := hdOt) (hn := Nat.le.refl) ..) ?_
  rw [hL, htr]
  exact cover (i 1).val t base _ (fun ht => B.g12_zero _ t (hkj ▸ ht))

theorem after16 (G12 : BufTy.Contents (Elt Ideal) arg12.view.ty) (G17 : BufTy.Contents (Elt Ideal) arg17.view.ty) (G18 : BufTy.Contents (Elt Ideal) arg18.view.ty) (G19 : BufTy.Contents (Elt Ideal) arg19.view.ty) (hkj : (i 1).val = B.kj) (hq : arg2.view.read (Elt Ideal) X_arg2 = B.q) (hal : arg7.view.read (Elt Ideal) X_arg7 = B.al) (hdl : arg8.view.read (Elt Ideal) X_arg8 = B.dl) (hqt : arg9.view.read (Elt Ideal) X_arg9 = B.qt) (hdO : arg10.view.read (Elt Ideal) X_arg10 = B.dO) (hdOt : arg11.view.read (Elt Ideal) X_arg11 = B.dOt) (htr : (k0_t1_loop i).trips = 31 - (i 1).val) (L : List (View.Piece (Elt Ideal) S1x8x16384 .f32)) (F0 : BufTy.Contents (Elt Ideal) arg16.view.ty)
    (e : Fin 8) (t : Fin 16384) (base : EReal)
    (hL : arg16.view.read (Elt Ideal) (arg16.view.writes (Elt Ideal) F0 L) (ix3 0 e t) = base + (if 512 * (i 1).val ≤ t.val ∧ t.val < 512 * (i 1).val + 512 then B.g16 e t else 0)) :
    arg16.view.read (Elt Ideal) (arg16.view.writes (Elt Ideal) F0 ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 (B.kh 0) (B.kh 1) (B.vh 0) (B.vh 1) (B.kth 0) (B.kth 1) (B.ch 0) (B.ch 1) v73 v168 v170 v185 v210 X_arg2 X_arg7 X_arg8 X_arg9 X_arg10 X_arg11 G12 (arg16.view.writes (Elt Ideal) F0 L) G17 G18 G19 (k0_t1_loop i).trips).2.1 ++ L)) (ix3 0 e t) = base + B.g16 e t := by
  refine Eq.trans (congrArg (fun f => arg16.view.read (Elt Ideal) f (ix3 0 e t)) (View.writes_append ..)) ?_
  refine Eq.trans (loop16 (hkj := hkj) (hq := hq) (hal := hal) (hdl := hdl) (hqt := hqt) (hdO := hdO) (hdOt := hdOt) (hn := Nat.le.refl) ..) ?_
  rw [hL, htr]
  exact cover (i 1).val t base _ (fun ht => B.g16_zero _ t (hkj ▸ ht))

end After

end Cert.KernelIdeal.Point
-- ==== Proof.Seed.lean ====
/- What the body leaves in its arrays before the loop: the contributions of the block of queries on the diagonal. -/
module

public import proofs.«01_k».proof.Proof.Diag

@[expose] public section

set_option maxRecDepth 16384

noncomputable section

namespace Cert.KernelIdeal.Point

open Idealize.ShloMosaic Idealize.ShloMosaic.TcCoe Idealize.ShloMosaic.Tactic
open Cert.KernelIdeal Cert.KernelIdeal.Gen

section Seed

variable (B : Blk) {i : grid0.Coords} (hkj : (i 1).val = B.kj)
  (v75 v78 : Vec Ideal S512x128 .bf16) (v82 v84 : Vec Ideal S128x512 .bf16) (v87 v90 v149 v152 : Vec Ideal S1x1x512 .f32)
  (h75 : ∀ x d, v75 (ix2 x d) = B.q (ix2 (tq i x) d)) (h78 : ∀ x d, v78 (ix2 x d) = B.dO (ix2 (tq i x) d))
  (h82 : ∀ d x, v82 (ix2 d x) = B.qt (ix2 d (tq i x))) (h84 : ∀ d x, v84 (ix2 d x) = B.dOt (ix2 d (tq i x)))
  (h87 : ∀ x, v87 (ix3 0 0 x) = B.al (ix3 0 (Blk.row 0) (tq i x))) (h90 : ∀ x, v90 (ix3 0 0 x) = B.dl (ix3 0 (Blk.row 0) (tq i x)))
  (h149 : ∀ x, v149 (ix3 0 0 x) = B.al (ix3 0 (Blk.row 1) (tq i x))) (h152 : ∀ x, v152 (ix3 0 0 x) = B.dl (ix3 0 (Blk.row 1) (tq i x)))

theorem pay63_apply (v : Vec Ideal S512x128 .bf16) (x : Fin 512) (d : Fin 128) : k0_pay63 v (ix2 x d) = v (ix2 x d) := by
  pointwise [k0_pay63]

theorem pay64_apply (v : Vec Ideal S512x128 .bf16) (x : Fin 512) (d : Fin 128) : k0_pay64 v (ix2 x d) = v (ix2 x d) := by
  pointwise [k0_pay64]

theorem pay65_apply (v : Vec Ideal S128x512 .bf16) (d : Fin 128) (x : Fin 512) : k0_pay65 v (ix2 d x) = v (ix2 d x) := by
  pointwise [k0_pay65]

include hkj h75 h149 in
theorem diag_p1' (r x : Fin 512) : k0_pay75 (F := Ideal) (B.kh 1) (B.ch 1) (k0_pay63 v75) v149 (ix2 r x) = B.p 1 r (tq i x) :=
  diag_p1 B hkj (k0_pay63 v75) v149 (fun x d => (pay63_apply v75 x d).trans (h75 x d)) h149 r x

include hkj h75 h78 h149 h152 in
theorem diag_s1' (r x : Fin 512) : k0_pay76 (F := Ideal) (B.kh 1) (B.vh 1) (B.ch 1) (k0_pay63 v75) (k0_pay64 v78) v149 v152 (ix2 r x) = B.s 1 r (tq i x) :=
  diag_s1 B hkj (k0_pay63 v75) (k0_pay64 v78) v149 v152 (fun x d => (pay63_apply v75 x d).trans (h75 x d)) (fun x d => (pay64_apply v78 x d).trans (h78 x d)) h149 h152 r x

set_option maxHeartbeats 1000000 in
include hkj h75 h84 h87 h149 in
theorem seed18 {sp : Space} (v : View sig .tc sp S2x128x512 .f32) (h : Fin 2) (d : Fin 128) (r : Fin 512) :
    v.read (Elt Ideal) (v.writes (Elt Ideal) v.junk (⟨(Rect.unit (s := S2x128x512) ![1, 0, 0] S1x128x512.size inb_S2x128x512_S1x128x512_1_0_0), k0_pay78 (B.kh 1) (B.ch 1) (k0_pay63 v75) (k0_pay66 v84) v149 (v.readCov (Val := Elt Ideal) (⟨(Rect.unit (s := S2x128x512) ![0, 0, 0] S1x128x512.size inb_S2x128x512_S1x128x512_0_0_0), k0_pay70 (B.kh 0) (B.ch 0) v75 v84 v87 (v.readCov (Val := Elt Ideal) [⟨Rect.unit (s := S2x128x512) ![0, 0, 0] S2x128x512.size inb_S2x128x512_S2x128x512_0_0_0, (k0_pay61 (F := Ideal))⟩] (Rect.unit (s := S2x128x512) ![0, 0, 0] S1x128x512.size inb_S2x128x512_S1x128x512_0_0_0).toLoadRect)⟩ :: [⟨Rect.unit (s := S2x128x512) ![0, 0, 0] S2x128x512.size inb_S2x128x512_S2x128x512_0_0_0, (k0_pay61 (F := Ideal))⟩]) (Rect.unit (s := S2x128x512) ![1, 0, 0] S1x128x512.size inb_S2x128x512_S1x128x512_1_0_0).toLoadRect)⟩ :: ⟨(Rect.unit (s := S2x128x512) ![0, 0, 0] S1x128x512.size inb_S2x128x512_S1x128x512_0_0_0), k0_pay70 (B.kh 0) (B.ch 0) v75 v84 v87 (v.readCov (Val := Elt Ideal) [⟨Rect.unit (s := S2x128x512) ![0, 0, 0] S2x128x512.size inb_S2x128x512_S2x128x512_0_0_0, (k0_pay61 (F := Ideal))⟩] (Rect.unit (s := S2x128x512) ![0, 0, 0] S1x128x512.size inb_S2x128x512_S1x128x512_0_0_0).toLoadRect)⟩ :: [⟨Rect.unit (s := S2x128x512) ![0, 0, 0] S2x128x512.size inb_S2x128x512_S2x128x512_0_0_0, (k0_pay61 (F := Ideal))⟩])) (ix3 h d r) = blockSum (fun t => B.dOt (ix2 d t) * B.p h r t) (i 1).val := by
  rw [blockSum_tq]
  revert h
  rw [Fin.forall_fin_two]
  constructor
  · refine Eq.trans (slab0 v _ _ _ _ _ _ _ _) ?_
    have hz : v.readCov (Val := Elt Ideal) [⟨Rect.unit (s := S2x128x512) ![0, 0, 0] S2x128x512.size inb_S2x128x512_S2x128x512_0_0_0, (k0_pay61 (F := Ideal))⟩] (Rect.unit (s := S2x128x512) ![0, 0, 0] S1x128x512.size inb_S2x128x512_S1x128x512_0_0_0).toLoadRect (ix3 0 d r) = 0 := by
      refine Eq.trans (ldS0 v _ _ _ _) ?_
      refine Eq.trans (View.read_writes_cons_unit_of_mem _ _ _ _ _ _ (ix3 0 d r) rfl (by intro a; fin_cases a <;> exact (Nat.zero_add _).symm)) ?_
      pointwise [k0_pay61]
    pointwise [k0_pay70, k0_pay66, hz, h84]
    exact Finset.sum_congr rfl fun x _ => congrArg _ (diag_p0 B hkj v75 v87 h75 h87 r x)
  · refine Eq.trans (slab1 v _ _ _ _ _ _) ?_
    have hz : v.readCov (Val := Elt Ideal) (⟨(Rect.unit (s := S2x128x512) ![0, 0, 0] S1x128x512.size inb_S2x128x512_S1x128x512_0_0_0), k0_pay70 (B.kh 0) (B.ch 0) v75 v84 v87 (v.readCov (Val := Elt Ideal) [⟨Rect.unit (s := S2x128x512) ![0, 0, 0] S2x128x512.size inb_S2x128x512_S2x128x512_0_0_0, (k0_pay61 (F := Ideal))⟩] (Rect.unit (s := S2x128x512) ![0, 0, 0] S1x128x512.size inb_S2x128x512_S1x128x512_0_0_0).toLoadRect)⟩ :: [⟨Rect.unit (s := S2x128x512) ![0, 0, 0] S2x128x512.size inb_S2x128x512_S2x128x512_0_0_0, (k0_pay61 (F := Ideal))⟩]) (Rect.unit (s := S2x128x512) ![1, 0, 0] S1x128x512.size inb_S2x128x512_S1x128x512_1_0_0).toLoadRect (ix3 0 d r) = 0 := by
      refine Eq.trans (ldS1 v _ _ _ _) ?_
      refine Eq.trans (View.read_writes_cons_unit_of_not_mem v _ _ _ _ _ rfl (0 : Fin 3) (.inr Nat.le.refl)) ?_
      refine Eq.trans (View.read_writes_cons_unit_of_mem _ _ _ _ _ _ (ix3 1 d r) rfl (by intro a; fin_cases a <;> exact (Nat.zero_add _).symm)) ?_
      pointwise [k0_pay61]
    pointwise [k0_pay78, k0_pay66, hz, h84]
    exact Finset.sum_congr rfl fun x _ => congrArg _ (diag_p1' B hkj v75 v149 h75 h149 r x)

set_option maxHeartbeats 1000000 in
include hkj h75 h78 h82 h87 h90 h149 h152 in
theorem seed17 {sp : Space} (v : View sig .tc sp S2x128x512 .f32) (h : Fin 2) (d : Fin 128) (r : Fin 512) :
    v.read (Elt Ideal) (v.writes (Elt Ideal) v.junk (⟨(Rect.unit (s := S2x128x512) ![1, 0, 0] S1x128x512.size inb_S2x128x512_S1x128x512_1_0_0), k0_pay79 (B.kh 1) (B.vh 1) (B.ch 1) (k0_pay63 v75) (k0_pay64 v78) (k0_pay65 v82) v149 v152 (v.readCov (Val := Elt Ideal) (⟨(Rect.unit (s := S2x128x512) ![0, 0, 0] S1x128x512.size inb_S2x128x512_S1x128x512_0_0_0), k0_pay71 (k0_pay65 v82) (k0_pay69 (B.kh 0) (B.vh 0) (B.ch 0) v75 v78 v87 v90) (v.readCov (Val := Elt Ideal) [⟨Rect.unit (s := S2x128x512) ![0, 0, 0] S2x128x512.size inb_S2x128x512_S2x128x512_0_0_0, (k0_pay60 (F := Ideal))⟩] (Rect.unit (s := S2x128x512) ![0, 0, 0] S1x128x512.size inb_S2x128x512_S1x128x512_0_0_0).toLoadRect)⟩ :: [⟨Rect.unit (s := S2x128x512) ![0, 0, 0] S2x128x512.size inb_S2x128x512_S2x128x512_0_0_0, (k0_pay60 (F := Ideal))⟩]) (Rect.unit (s := S2x128x512) ![1, 0, 0] S1x128x512.size inb_S2x128x512_S1x128x512_1_0_0).toLoadRect)⟩ :: ⟨(Rect.unit (s := S2x128x512) ![0, 0, 0] S1x128x512.size inb_S2x128x512_S1x128x512_0_0_0), k0_pay71 (k0_pay65 v82) (k0_pay69 (B.kh 0) (B.vh 0) (B.ch 0) v75 v78 v87 v90) (v.readCov (Val := Elt Ideal) [⟨Rect.unit (s := S2x128x512) ![0, 0, 0] S2x128x512.size inb_S2x128x512_S2x128x512_0_0_0, (k0_pay60 (F := Ideal))⟩] (Rect.unit (s := S2x128x512) ![0, 0, 0] S1x128x512.size inb_S2x128x512_S1x128x512_0_0_0).toLoadRect)⟩ :: [⟨Rect.unit (s := S2x128x512) ![0, 0, 0] S2x128x512.size inb_S2x128x512_S2x128x512_0_0_0, (k0_pay60 (F := Ideal))⟩])) (ix3 h d r) = blockSum (fun t => B.qt (ix2 d t) * B.s h r t) (i 1).val := by
  rw [blockSum_tq]
  revert h
  rw [Fin.forall_fin_two]
  constructor
  · refine Eq.trans (slab0 v _ _ _ _ _ _ _ _) ?_
    have hz : v.readCov (Val := Elt Ideal) [⟨Rect.unit (s := S2x128x512) ![0, 0, 0] S2x128x512.size inb_S2x128x512_S2x128x512_0_0_0, (k0_pay60 (F := Ideal))⟩] (Rect.unit (s := S2x128x512) ![0, 0, 0] S1x128x512.size inb_S2x128x512_S1x128x512_0_0_0).toLoadRect (ix3 0 d r) = 0 := by
      refine Eq.trans (ldS0 v _ _ _ _) ?_
      refine Eq.trans (View.read_writes_cons_unit_of_mem _ _ _ _ _ _ (ix3 0 d r) rfl (by intro a; fin_cases a <;> exact (Nat.zero_add _).symm)) ?_
      pointwise [k0_pay60]
    pointwise [k0_pay71, k0_pay69, pay65_apply, hz, h82]
    exact Finset.sum_congr rfl fun x _ => congrArg _ (diag_s0 B hkj v75 v78 v87 v90 h75 h78 h87 h90 r x)
  · refine Eq.trans (slab1 v _ _ _ _ _ _) ?_
    have hz : v.readCov (Val := Elt Ideal) (⟨(Rect.unit (s := S2x128x512) ![0, 0, 0] S1x128x512.size inb_S2x128x512_S1x128x512_0_0_0), k0_pay71 (k0_pay65 v82) (k0_pay69 (B.kh 0) (B.vh 0) (B.ch 0) v75 v78 v87 v90) (v.readCov (Val := Elt Ideal) [⟨Rect.unit (s := S2x128x512) ![0, 0, 0] S2x128x512.size inb_S2x128x512_S2x128x512_0_0_0, (k0_pay60 (F := Ideal))⟩] (Rect.unit (s := S2x128x512) ![0, 0, 0] S1x128x512.size inb_S2x128x512_S1x128x512_0_0_0).toLoadRect)⟩ :: [⟨Rect.unit (s := S2x128x512) ![0, 0, 0] S2x128x512.size inb_S2x128x512_S2x128x512_0_0_0, (k0_pay60 (F := Ideal))⟩]) (Rect.unit (s := S2x128x512) ![1, 0, 0] S1x128x512.size inb_S2x128x512_S1x128x512_1_0_0).toLoadRect (ix3 0 d r) = 0 := by
      refine Eq.trans (ldS1 v _ _ _ _) ?_
      refine Eq.trans (View.read_writes_cons_unit_of_not_mem v _ _ _ _ _ rfl (0 : Fin 3) (.inr Nat.le.refl)) ?_
      refine Eq.trans (View.read_writes_cons_unit_of_mem _ _ _ _ _ _ (ix3 1 d r) rfl (by intro a; fin_cases a <;> exact (Nat.zero_add _).symm)) ?_
      pointwise [k0_pay60]
    pointwise [k0_pay79, k0_pay77, pay65_apply, hz, h82]
    exact Finset.sum_congr rfl fun x _ => congrArg _ (diag_s1' B hkj v75 v78 v149 v152 h75 h78 h149 h152 r x)

set_option maxHeartbeats 1000000 in
include hkj h75 h78 h87 h90 h149 h152 in
theorem seed19 {sp : Space} (v : View sig .tc sp S2x512x1 .f32) (h : Fin 2) (r : Fin 512) :
    v.read (Elt Ideal) (v.writes (Elt Ideal) v.junk (⟨(Rect.unit (s := S2x512x1) ![1, 0, 0] S1x512x1.size inb_S2x512x1_S1x512x1_1_0_0), k0_pay80 (k0_pay76 (B.kh 1) (B.vh 1) (B.ch 1) (k0_pay63 v75) (k0_pay64 v78) v149 v152) (v.readCov (Val := Elt Ideal) (⟨(Rect.unit (s := S2x512x1) ![0, 0, 0] S1x512x1.size inb_S2x512x1_S1x512x1_0_0_0), k0_pay72 (k0_pay68 (B.kh 0) (B.vh 0) (B.ch 0) v75 v78 v87 v90) (v.readCov (Val := Elt Ideal) [⟨Rect.unit (s := S2x512x1) ![0, 0, 0] S2x512x1.size inb_S2x512x1_S2x512x1_0_0_0, (k0_pay62 (F := Ideal))⟩] (Rect.unit (s := S2x512x1) ![0, 0, 0] S1x512x1.size inb_S2x512x1_S1x512x1_0_0_0).toLoadRect)⟩ :: [⟨Rect.unit (s := S2x512x1) ![0, 0, 0] S2x512x1.size inb_S2x512x1_S2x512x1_0_0_0, (k0_pay62 (F := Ideal))⟩]) (Rect.unit (s := S2x512x1) ![1, 0, 0] S1x512x1.size inb_S2x512x1_S1x512x1_1_0_0).toLoadRect)⟩ :: ⟨(Rect.unit (s := S2x512x1) ![0, 0, 0] S1x512x1.size inb_S2x512x1_S1x512x1_0_0_0), k0_pay72 (k0_pay68 (B.kh 0) (B.vh 0) (B.ch 0) v75 v78 v87 v90) (v.readCov (Val := Elt Ideal) [⟨Rect.unit (s := S2x512x1) ![0, 0, 0] S2x512x1.size inb_S2x512x1_S2x512x1_0_0_0, (k0_pay62 (F := Ideal))⟩] (Rect.unit (s := S2x512x1) ![0, 0, 0] S1x512x1.size inb_S2x512x1_S1x512x1_0_0_0).toLoadRect)⟩ :: [⟨Rect.unit (s := S2x512x1) ![0, 0, 0] S2x512x1.size inb_S2x512x1_S2x512x1_0_0_0, (k0_pay62 (F := Ideal))⟩])) (ix3 h r 0) = blockSum (fun t => B.s h r t) (i 1).val := by
  rw [blockSum_tq]
  revert h
  rw [Fin.forall_fin_two]
  constructor
  · refine Eq.trans (slab0 v _ _ _ _ _ _ _ _) ?_
    have hz : v.readCov (Val := Elt Ideal) [⟨Rect.unit (s := S2x512x1) ![0, 0, 0] S2x512x1.size inb_S2x512x1_S2x512x1_0_0_0, (k0_pay62 (F := Ideal))⟩] (Rect.unit (s := S2x512x1) ![0, 0, 0] S1x512x1.size inb_S2x512x1_S1x512x1_0_0_0).toLoadRect (ix3 0 r 0) = 0 := by
      refine Eq.trans (ldS0 v _ _ _ _) ?_
      refine Eq.trans (View.read_writes_cons_unit_of_mem _ _ _ _ _ _ (ix3 0 r 0) rfl (by intro a; fin_cases a <;> exact (Nat.zero_add _).symm)) ?_
      pointwise [k0_pay62]
    pointwise [k0_pay72, hz]
    exact Finset.sum_congr rfl fun x _ => diag_s0 B hkj v75 v78 v87 v90 h75 h78 h87 h90 r x
  · refine Eq.trans (slab1 v _ _ _ _ _ _) ?_
    have hz : v.readCov (Val := Elt Ideal) (⟨(Rect.unit (s := S2x512x1) ![0, 0, 0] S1x512x1.size inb_S2x512x1_S1x512x1_0_0_0), k0_pay72 (k0_pay68 (B.kh 0) (B.vh 0) (B.ch 0) v75 v78 v87 v90) (v.readCov (Val := Elt Ideal) [⟨Rect.unit (s := S2x512x1) ![0, 0, 0] S2x512x1.size inb_S2x512x1_S2x512x1_0_0_0, (k0_pay62 (F := Ideal))⟩] (Rect.unit (s := S2x512x1) ![0, 0, 0] S1x512x1.size inb_S2x512x1_S1x512x1_0_0_0).toLoadRect)⟩ :: [⟨Rect.unit (s := S2x512x1) ![0, 0, 0] S2x512x1.size inb_S2x512x1_S2x512x1_0_0_0, (k0_pay62 (F := Ideal))⟩]) (Rect.unit (s := S2x512x1) ![1, 0, 0] S1x512x1.size inb_S2x512x1_S1x512x1_1_0_0).toLoadRect (ix3 0 r 0) = 0 := by
      refine Eq.trans (ldS1 v _ _ _ _) ?_
      refine Eq.trans (View.read_writes_cons_unit_of_not_mem v _ _ _ _ _ rfl (0 : Fin 3) (.inr Nat.le.refl)) ?_
      refine Eq.trans (View.read_writes_cons_unit_of_mem _ _ _ _ _ _ (ix3 1 r 0) rfl (by intro a; fin_cases a <;> exact (Nat.zero_add _).symm)) ?_
      pointwise [k0_pay62]
    pointwise [k0_pay80, hz]
    exact Finset.sum_congr rfl fun x _ => diag_s1' B hkj v75 v78 v149 v152 h75 h78 h149 h152 r x

/-- The block of queries on the diagonal. -/
theorem tq_of {i : grid0.Coords} {t : Fin 16384} (h : 512 * (i 1).val ≤ t.val ∧ t.val < 512 * (i 1).val + 512) : ∃ x, t = tq i x :=
  ⟨⟨t.val - 512 * (i 1).val, by have := h.1; have := h.2; omega⟩, Fin.ext (by
    show t.val = 512 * (i 1).val + (t.val - 512 * (i 1).val)
    have := h.1; omega)⟩

include hkj h75 h78 h87 h90 h149 h152 in
theorem seed12 {sp : Space} (v : View sig .tc sp S128x16384 .f32) (f : v.ty.Contents (Elt Ideal)) (L : List (View.Piece (Elt Ideal) S128x16384 .f32))
    (v204 ld : Vec Ideal S128x512 .f32) (hld : ∀ d x, ld (ix2 d x) = v.read (Elt Ideal) (v.writes (Elt Ideal) f L) (ix2 d (tq i x)))
    (h204 : v204 = k0_pay74 (B.kth 0) (k0_pay69 (B.kh 0) (B.vh 0) (B.ch 0) v75 v78 v87 v90) ld) (d : Fin 128) (t : Fin 16384) :
    v.read (Elt Ideal) (v.writes (Elt Ideal) f (⟨(Rect.unit (s := S128x16384) (k0_off2 i) S128x512.size (k0_off2_inb i)), k0_pay82 (B.kth 1) (k0_pay77 (B.kh 1) (B.vh 1) (B.ch 1) (k0_pay63 v75) (k0_pay64 v78) v149 v152) v204⟩ :: ⟨(Rect.unit (s := S128x16384) (k0_off2 i) S128x512.size (k0_off2_inb i)), k0_pay74 (B.kth 0) (k0_pay69 (B.kh 0) (B.vh 0) (B.ch 0) v75 v78 v87 v90) ld⟩ :: L)) (ix2 d t)
      = v.read (Elt Ideal) (v.writes (Elt Ideal) f L) (ix2 d t) + (if 512 * (i 1).val ≤ t.val ∧ t.val < 512 * (i 1).val + 512 then B.g12 d t else 0) := by
  subst h204
  by_cases ht : 512 * (i 1).val ≤ t.val ∧ t.val < 512 * (i 1).val + 512
  · rw [if_pos ht]
    obtain ⟨x, rfl⟩ := tq_of ht
    refine Eq.trans (View.read_writes_cons_unit_of_mem _ _ _ _ _ _ (ix2 d x) (k0_off2_eq i) (by intro a; fin_cases a <;> first | rfl | exact (Nat.zero_add _).symm)) ?_
    pointwise [k0_pay82, k0_pay74, k0_pay69, k0_pay77, hld]
    refine Eq.trans (add_assoc _ _ _) ?_
    refine congrArg _ (congrArg₂ _ (Finset.sum_congr rfl fun r _ => congrArg _ ?_) (Finset.sum_congr rfl fun r _ => congrArg _ ?_))
    · exact diag_s0 B hkj v75 v78 v87 v90 h75 h78 h87 h90 r x
    · exact diag_s1' B hkj v75 v78 v149 v152 h75 h78 h149 h152 r x
  · rw [if_neg ht, add_zero]
    have ht' : t.val < 512 * (i 1).val ∨ 512 * (i 1).val + 512 ≤ t.val := by omega
    exact (View.read_writes_cons_unit_of_not_mem _ _ _ _ _ _ (k0_off2_eq i) (1 : Fin 2) ht').trans
      (View.read_writes_cons_unit_of_not_mem _ _ _ _ _ _ (k0_off2_eq i) (1 : Fin 2) ht')

include hkj h75 h78 h87 h90 h149 h152 in
theorem seed16 {sp : Space} (v : View sig .tc sp S1x8x16384 .f32) (f : v.ty.Contents (Elt Ideal)) (L : List (View.Piece (Elt Ideal) S1x8x16384 .f32))
    (la lb : Vec Ideal S1x1x512 .f32) (hla : ∀ x, la (ix3 0 0 x) = v.read (Elt Ideal) (v.writes (Elt Ideal) f L) (ix3 0 (Blk.row 0) (tq i x)))
    (hlb : ∀ x, lb (ix3 0 0 x) = v.read (Elt Ideal) (v.writes (Elt Ideal) f L) (ix3 0 (Blk.row 1) (tq i x))) (e : Fin 8) (t : Fin 16384) :
    v.read (Elt Ideal) (v.writes (Elt Ideal) f (⟨(Rect.unit (s := S1x8x16384) (k0_off4 i) S1x1x512.size (k0_off4_inb i)), k0_pay81 (k0_pay76 (B.kh 1) (B.vh 1) (B.ch 1) (k0_pay63 v75) (k0_pay64 v78) v149 v152) lb⟩
        :: ⟨(Rect.unit (s := S1x8x16384) (k0_off3 i) S1x1x512.size (k0_off3_inb i)), k0_pay73 (k0_pay68 (B.kh 0) (B.vh 0) (B.ch 0) v75 v78 v87 v90) la⟩ :: L)) (ix3 0 e t)
      = v.read (Elt Ideal) (v.writes (Elt Ideal) f L) (ix3 0 e t) + (if 512 * (i 1).val ≤ t.val ∧ t.val < 512 * (i 1).val + 512 then B.g16 e t else 0) := by
  by_cases ht : 512 * (i 1).val ≤ t.val ∧ t.val < 512 * (i 1).val + 512
  · rw [if_pos ht]
    obtain ⟨x, rfl⟩ := tq_of ht
    unfold Blk.g16
    by_cases h0 : e = Blk.row 0
    · subst h0
      rw [if_pos rfl]
      refine Eq.trans (View.read_writes_cons_unit_of_not_mem _ _ _ _ _ _ (k0_off4_eq i) (1 : Fin 3) (.inl Nat.zero_lt_one)) ?_
      refine Eq.trans (View.read_writes_cons_unit_of_mem _ _ _ _ _ _ (ix3 0 0 x) (k0_off3_eq i) (by intro a; fin_cases a <;> rfl)) ?_
      pointwise [k0_pay73, hla]
      exact congrArg _ (Finset.sum_congr rfl fun r _ => diag_s0 B hkj v75 v78 v87 v90 h75 h78 h87 h90 r x)
    · rw [if_neg h0]
      by_cases h1 : e = Blk.row 1
      · subst h1
        rw [if_pos rfl]
        refine Eq.trans (View.read_writes_cons_unit_of_mem _ _ _ _ _ _ (ix3 0 0 x) (k0_off4_eq i) (by intro a; fin_cases a <;> rfl)) ?_
        pointwise [k0_pay81, hlb]
        exact congrArg _ (Finset.sum_congr rfl fun r _ => diag_s1' B hkj v75 v78 v149 v152 h75 h78 h149 h152 r x)
      · rw [if_neg h1, add_zero]
        have e0 : e.val ≠ 0 := fun h => h0 (Fin.ext h)
        have e1 : e.val ≠ 1 := fun h => h1 (Fin.ext h)
        refine Eq.trans (View.read_writes_cons_unit_of_not_mem _ _ _ _ _ _ (k0_off4_eq i) (1 : Fin 3) (?_ : e.val < 1 ∨ 1 + 1 ≤ e.val)) ?_
        · omega
        refine (View.read_writes_cons_unit_of_not_mem _ _ _ _ _ _ (k0_off3_eq i) (1 : Fin 3) (?_ : e.val < 0 ∨ 0 + 1 ≤ e.val))
        · omega
  · rw [if_neg ht, add_zero]
    have ht' : t.val < 512 * (i 1).val ∨ 512 * (i 1).val + 512 ≤ t.val := by omega
    exact (View.read_writes_cons_unit_of_not_mem _ _ _ _ _ _ (k0_off4_eq i) (2 : Fin 3) ht').trans
      (View.read_writes_cons_unit_of_not_mem _ _ _ _ _ _ (k0_off3_eq i) (2 : Fin 3) ht')

end Seed

end Cert.KernelIdeal.Point
-- ==== Proof.ValA.lean ====
/- What the run of the body leaves in the outputs at the first key block of a pair of heads. -/
module

public import proofs.«01_k».proof.Proof.Run
public import proofs.«01_k».proof.Proof.After
public import proofs.«01_k».proof.Proof.Seed

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

section Val
variable (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (B : Blk) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty)
  (hkj : (i 1).val = B.kj) (htr : (k0_t1_loop i).trips = 31 - (i 1).val)
  (hkh0 : k0_pay42 (arg3.view.read (Elt Ideal) f3) = B.kh 0) (hkh1 : k0_pay43 (arg3.view.read (Elt Ideal) f3) = B.kh 1) (hvh0 : k0_pay46 (arg5.view.read (Elt Ideal) f5) = B.vh 0) (hvh1 : k0_pay47 (arg5.view.read (Elt Ideal) f5) = B.vh 1)
  (hkth0 : k0_pay51 (arg4.view.read (Elt Ideal) f4) = B.kth 0) (hkth1 : k0_pay52 (arg4.view.read (Elt Ideal) f4) = B.kth 1)
  (hch0 : k0_pay56 (k0_pay54 (arg6.view.read (Elt Ideal) f6)) (FloatOps.ofBits .f32 0#32) (k0_pay55 i) = B.ch 0) (hch1 : k0_pay57 (k0_pay53 i) (arg6.view.read (Elt Ideal) f6) = B.ch 1)
  (hq : arg2.view.read (Elt Ideal) f2 = B.q) (hal : arg7.view.read (Elt Ideal) f7 = B.al) (hdl : arg8.view.read (Elt Ideal) f8 = B.dl) (hqt : arg9.view.read (Elt Ideal) f9 = B.qt) (hdO : arg10.view.read (Elt Ideal) f10 = B.dO) (hdOt : arg11.view.read (Elt Ideal) f11 = B.dOt)

set_option maxHeartbeats 1000000 in
include hkj htr hkh0 hkh1 hvh0 hvh1 hkth0 hkth1 hch0 hch1 hq hal hdl hqt hdO hdOt in
theorem runA_13 (hc0 : Cond0 i) (hc1 : ¬Cond1 i) (d : Fin 128) (r : Fin 512) : arg13.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.1 (ix2 d r) = (if d.val / 64 = 0 then ∑ t : Fin 16384, B.qt (ix2 d t) * B.s 0 r t else ∑ t : Fin 16384, B.qt (ix2 d t) * B.s 1 r t) * Named.named (F := Ideal) (φ := .f32) κ "ln2" 0x3F317218#32 := by
  unfold runA
  dsimp only
  simp only [runA.sl.H12_1, runA.sl.H12_2, runA.sl.H16_1, runA.sl.H16_2, runA.sl.H17_1, runA.sl.H17_2, runA.sl.H17_3, runA.sl.H18_1, runA.sl.H18_2, runA.sl.H18_3, runA.sl.H19_1, runA.sl.H19_2, runA.sl.H19_3, runA.sl.cst_10, runA.sl.cst_137, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_3, runA.sl.r_4, runA.sl.r_5, runA.sl.r_6, runA.sl.r_7, runA.sl.r_8, runA.sl.r_9, runA.sl.v109, runA.sl.v116, runA.sl.v123, runA.sl.v171, runA.sl.v178, runA.sl.v185, runA.sl.v204, runA.sl.v210, runA.sl.v211, runA.sl.v213, runA.sl.v214, runA.sl.v215, runA.sl.v216, runA.sl.v218, runA.sl.v227, runA.sl.v229, runA.sl.v240, runA.sl.v247, runA.sl.v57, runA.sl.v58, runA.sl.v59, runA.sl.v72, ld0, hkh0, hkh1, hvh0, hvh1, hkth0, hkth1, hch0, hch1]
  refine Eq.trans (View.read_writes_cons_unit_of_mem _ _ _ _ _ _ (ix2 d r) rfl (by intro a; fin_cases a <;> exact (Nat.zero_add _).symm)) ?_
  pointwise [k0_pay90, k0_pay89, k0_pay48]
  refine congrArg (· * _) (Eq.trans (sel_of (lane0 d) _ _) ?_)
  exact if_congr Iff.rfl (after17_0 (hkj := hkj) (hq := hq) (hal := hal) (hdl := hdl) (hqt := hqt) (hdO := hdO) (hdOt := hdOt) (htr := htr) (hL := fun h d r => seed17 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (h82 := fun d x => (ld2 ..).trans (congrFun hqt _)) ..) ..) (after17_1 (hkj := hkj) (hq := hq) (hal := hal) (hdl := hdl) (hqt := hqt) (hdO := hdO) (hdOt := hdOt) (htr := htr) (hL := fun h d r => seed17 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (h82 := fun d x => (ld2 ..).trans (congrFun hqt _)) ..) ..)

set_option maxHeartbeats 1000000 in
include hkj htr hkh0 hkh1 hvh0 hvh1 hkth0 hkth1 hch0 hch1 hq hal hdl hqt hdO hdOt in
theorem runA_14 (hc0 : Cond0 i) (hc1 : ¬Cond1 i) (d : Fin 128) (r : Fin 512) : arg14.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.1 (ix2 d r) = if d.val / 64 = 0 then ∑ t : Fin 16384, B.dOt (ix2 d t) * B.p 0 r t else ∑ t : Fin 16384, B.dOt (ix2 d t) * B.p 1 r t := by
  unfold runA
  dsimp only
  simp only [runA.sl.H12_1, runA.sl.H12_2, runA.sl.H16_1, runA.sl.H16_2, runA.sl.H17_1, runA.sl.H17_2, runA.sl.H17_3, runA.sl.H18_1, runA.sl.H18_2, runA.sl.H18_3, runA.sl.H19_1, runA.sl.H19_2, runA.sl.H19_3, runA.sl.cst_10, runA.sl.cst_137, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_3, runA.sl.r_4, runA.sl.r_5, runA.sl.r_6, runA.sl.r_7, runA.sl.r_8, runA.sl.r_9, runA.sl.v109, runA.sl.v116, runA.sl.v123, runA.sl.v171, runA.sl.v178, runA.sl.v185, runA.sl.v204, runA.sl.v210, runA.sl.v211, runA.sl.v213, runA.sl.v214, runA.sl.v215, runA.sl.v216, runA.sl.v218, runA.sl.v227, runA.sl.v229, runA.sl.v240, runA.sl.v247, runA.sl.v57, runA.sl.v58, runA.sl.v59, runA.sl.v72, ld0, hkh0, hkh1, hvh0, hvh1, hkth0, hkth1, hch0, hch1]
  refine Eq.trans (View.read_writes_cons_unit_of_mem _ _ _ _ _ _ (ix2 d r) rfl (by intro a; fin_cases a <;> exact (Nat.zero_add _).symm)) ?_
  pointwise [k0_pay91, k0_pay48]
  refine Eq.trans (sel_of (lane0 d) _ _) ?_
  exact if_congr Iff.rfl (after18_0 (hkj := hkj) (hq := hq) (hal := hal) (hdl := hdl) (hqt := hqt) (hdO := hdO) (hdOt := hdOt) (htr := htr) (hL := fun h d r => seed18 (hkj := hkj) (h75 := fun x d => (ld1 ..).trans (congrFun hq _)) (h87 := fun x => (ld3 ..).trans (congrFun hal _)) (h149 := fun x => (ld4 ..).trans (congrFun hal _))  (h84 := fun d x => (ld2 ..).trans (congrFun hdOt _)) ..) ..) (after18_1 (hkj := hkj) (hq := hq) (hal := hal) (hdl := hdl) (hqt := hqt) (hdO := hdO) (hdOt := hdOt) (htr := htr) (hL := fun h d r => seed18 (hkj := hkj) (h75 := fun x d => (ld1 ..).trans (congrFun hq _)) (h87 := fun x => (ld3 ..).trans (congrFun hal _)) (h149 := fun x => (ld4 ..).trans (congrFun hal _))  (h84 := fun d x => (ld2 ..).trans (congrFun hdOt _)) ..) ..)

set_option maxHeartbeats 1000000 in
include hkj htr hkh0 hkh1 hvh0 hvh1 hkth0 hkth1 hch0 hch1 hq hal hdl hqt hdO hdOt in
theorem runA_15 (hc0 : Cond0 i) (hc1 : ¬Cond1 i) (r : Fin 512) (l : Fin 128) : arg15.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.1 (ix3 0 r l) = if l.val = 2 * (i 0).val then 0 - ∑ t : Fin 16384, B.s 0 r t else if l.val = 2 * (i 0).val + 1 then 0 - ∑ t : Fin 16384, B.s 1 r t else 0 := by
  unfold runA
  dsimp only
  simp only [runA.sl.H12_1, runA.sl.H12_2, runA.sl.H16_1, runA.sl.H16_2, runA.sl.H17_1, runA.sl.H17_2, runA.sl.H17_3, runA.sl.H18_1, runA.sl.H18_2, runA.sl.H18_3, runA.sl.H19_1, runA.sl.H19_2, runA.sl.H19_3, runA.sl.cst_10, runA.sl.cst_137, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_3, runA.sl.r_4, runA.sl.r_5, runA.sl.r_6, runA.sl.r_7, runA.sl.r_8, runA.sl.r_9, runA.sl.v109, runA.sl.v116, runA.sl.v123, runA.sl.v171, runA.sl.v178, runA.sl.v185, runA.sl.v204, runA.sl.v210, runA.sl.v211, runA.sl.v213, runA.sl.v214, runA.sl.v215, runA.sl.v216, runA.sl.v218, runA.sl.v227, runA.sl.v229, runA.sl.v240, runA.sl.v247, runA.sl.v57, runA.sl.v58, runA.sl.v59, runA.sl.v72, ld0, hkh0, hkh1, hvh0, hvh1, hkth0, hkth1, hch0, hch1]
  refine Eq.trans (View.read_writes_cons_unit_of_mem _ _ _ _ _ _ (ix3 0 r l) rfl (by intro a; fin_cases a <;> exact (Nat.zero_add _).symm)) ?_
  pointwise [k0_pay1, k0_pay92, k0_pay93, k0_pay94, k0_pay95]
  refine Eq.trans (sel_of (gate0 l (i 0)) _ _) ?_
  refine if_congr Iff.rfl (congrArg (0 - ·) (after19_0 (hkj := hkj) (hq := hq) (hal := hal) (hdl := hdl) (hqt := hqt) (hdO := hdO) (hdOt := hdOt) (htr := htr) (hL := fun h r => seed19 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) ..) ..)) ?_
  refine Eq.trans (sel_of (gate1 l (i 0)) _ _) ?_
  exact if_congr Iff.rfl (congrArg (0 - ·) (after19_1 (hkj := hkj) (hq := hq) (hal := hal) (hdl := hdl) (hqt := hqt) (hdO := hdO) (hdOt := hdOt) (htr := htr) (hL := fun h r => seed19 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) ..) ..)) rfl

set_option maxHeartbeats 1000000 in
include hkj htr hkh0 hkh1 hvh0 hvh1 hkth0 hkth1 hch0 hch1 hq hal hdl hqt hdO hdOt in
theorem runA_12 (hc0 : Cond0 i) (hc1 : ¬Cond1 i) (d : Fin 128) (t : Fin 16384) : arg12.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).1 (ix2 d t) = 0 + B.g12 d t := by
  unfold runA
  dsimp only
  simp only [runA.sl.H12_1, runA.sl.H12_2, runA.sl.H16_1, runA.sl.H16_2, runA.sl.H17_1, runA.sl.H17_2, runA.sl.H17_3, runA.sl.H18_1, runA.sl.H18_2, runA.sl.H18_3, runA.sl.H19_1, runA.sl.H19_2, runA.sl.H19_3, runA.sl.cst_10, runA.sl.cst_137, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_3, runA.sl.r_4, runA.sl.r_5, runA.sl.r_6, runA.sl.r_7, runA.sl.r_8, runA.sl.r_9, runA.sl.v109, runA.sl.v116, runA.sl.v123, runA.sl.v171, runA.sl.v178, runA.sl.v185, runA.sl.v204, runA.sl.v210, runA.sl.v211, runA.sl.v213, runA.sl.v214, runA.sl.v215, runA.sl.v216, runA.sl.v218, runA.sl.v227, runA.sl.v229, runA.sl.v240, runA.sl.v247, runA.sl.v57, runA.sl.v58, runA.sl.v59, runA.sl.v72, ld0, hkh0, hkh1, hvh0, hvh1, hkth0, hkth1, hch0, hch1]
  refine after12 (hkj := hkj) (hq := hq) (hal := hal) (hdl := hdl) (hqt := hqt) (hdO := hdO) (hdOt := hdOt) (htr := htr) (base := 0) (hL := (seed12 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (hld := fun d x => ld2 ..) (h204 := View.readCov_cons_toLoadRect ..) ..).trans (congrArg (· + _) ?_)) ..
  · refine Eq.trans (View.read_writes_cons_unit_of_mem _ _ _ _ _ _ (ix2 d t) rfl (by intro a; fin_cases a <;> exact (Nat.zero_add _).symm)) ?_
    pointwise [k0_pay58]

set_option maxHeartbeats 1000000 in
include hkj htr hkh0 hkh1 hvh0 hvh1 hkth0 hkth1 hch0 hch1 hq hal hdl hqt hdO hdOt in
theorem runA_16 (hc0 : Cond0 i) (hc1 : ¬Cond1 i) (e : Fin 8) (t : Fin 16384) : arg16.view.read (Elt Ideal) (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.2.1 (ix3 0 e t) = 0 + B.g16 e t := by
  unfold runA
  dsimp only
  simp only [runA.sl.H12_1, runA.sl.H12_2, runA.sl.H16_1, runA.sl.H16_2, runA.sl.H17_1, runA.sl.H17_2, runA.sl.H17_3, runA.sl.H18_1, runA.sl.H18_2, runA.sl.H18_3, runA.sl.H19_1, runA.sl.H19_2, runA.sl.H19_3, runA.sl.cst_10, runA.sl.cst_137, runA.sl.r, runA.sl.r_1, runA.sl.r_10, runA.sl.r_11, runA.sl.r_12, runA.sl.r_13, runA.sl.r_14, runA.sl.r_15, runA.sl.r_16, runA.sl.r_17, runA.sl.r_18, runA.sl.r_19, runA.sl.r_2, runA.sl.r_20, runA.sl.r_21, runA.sl.r_22, runA.sl.r_23, runA.sl.r_3, runA.sl.r_4, runA.sl.r_5, runA.sl.r_6, runA.sl.r_7, runA.sl.r_8, runA.sl.r_9, runA.sl.v109, runA.sl.v116, runA.sl.v123, runA.sl.v171, runA.sl.v178, runA.sl.v185, runA.sl.v204, runA.sl.v210, runA.sl.v211, runA.sl.v213, runA.sl.v214, runA.sl.v215, runA.sl.v216, runA.sl.v218, runA.sl.v227, runA.sl.v229, runA.sl.v240, runA.sl.v247, runA.sl.v57, runA.sl.v58, runA.sl.v59, runA.sl.v72, ld0, hkh0, hkh1, hvh0, hvh1, hkth0, hkth1, hch0, hch1]
  refine after16 (hkj := hkj) (hq := hq) (hal := hal) (hdl := hdl) (hqt := hqt) (hdO := hdO) (hdOt := hdOt) (htr := htr) (base := 0) (hL := (seed16 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (hla := fun x => ld3 ..) (hlb := fun x => (ld4 ..).trans (View.read_writes_cons_unit_of_not_mem _ _ _ _ _ _ (k0_off3_eq i) (1 : Fin 3) (.inr Nat.le.refl))) ..).trans (congrArg (· + _) ?_)) ..
  · refine Eq.trans (View.read_writes_cons_unit_of_mem _ _ _ _ _ _ (ix3 0 e t) rfl (by intro a; fin_cases a <;> exact (Nat.zero_add _).symm)) ?_
    pointwise [k0_pay59]

end Val

end Cert.KernelIdeal.Point
-- ==== Proof.TripleA.lean ====
/- The body of the attention kernel at a grid point of case A. -/
module

public import proofs.«01_k».proof.Proof.TripleDefs
public import proofs.«01_k».proof.Proof.ValA

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 4000000 in
/-- The body at a grid point of case A: what it leaves in every buffer. -/
theorem tripleA (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : Cond0 i) (hc1 : ¬Cond1 i) (htr : (k0_t1_loop i).trips = 31 - (i 1).val)
    (x2 : Vec Ideal S16384x128 .bf16) (x3 : Vec Ideal S512x128 .bf16) (x4 : Vec Ideal S128x512 .bf16) (x5 : Vec Ideal S512x128 .bf16) (x6 : Vec Ideal S512x128 .f32) (x7 x8 : Vec Ideal S1x8x16384 .f32) (x9 : Vec Ideal S128x16384 .bf16) (x10 : Vec Ideal S16384x128 .bf16) (x11 : Vec Ideal S128x16384 .bf16) (d12 : Vec Ideal S128x16384 .f32) (d16 : Vec Ideal S1x8x16384 .f32) (B : Blk) (hB : blkOf i x2 x3 x4 x5 x6 x7 x8 x9 x10 x11 = B)
    (E : Set ℕ) (K : PUnit → sProp (MT nD τ sig Unit (Elt Ideal) ℕ (UR sig nD τ) ℕ)) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (fun y => (0 : EReal) + add12 B y) ∗ owns (c : Thread nD τ) arg13 fullShare (out13 B) ∗ owns (c : Thread nD τ) arg14 fullShare (out14 B) ∗ owns (c : Thread nD τ) arg15 fullShare (out15 B (i 0).val) ∗ owns (c : Thread nD τ) arg16 fullShare (fun y => (0 : EReal) + add16 B y) ∗ (∃ d, owns (c : Thread nD τ) arg17 fullShare d) ∗ (∃ d, owns (c : Thread nD τ) arg18 fullShare d) ∗ (∃ d, owns (c : Thread nD τ) arg19 fullShare d)) -∗ K ⟨⟩)) : sProp (MT nD τ sig Unit (Elt Ideal) ℕ (UR sig nD τ) ℕ))
    ⊢ wp frame (wpE (defs₀ (F := Ideal)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  subst hB
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%e13, %f13, -, H13⟩, ⟨%e14, %f14, -, H14⟩, ⟨%e15, %f15, -, H15⟩, ⟨%f16, %h16, H16⟩, ⟨%e17, %f17, -, H17⟩, ⟨%e18, %f18, -, H18⟩, ⟨%e19, %f19, -, H19⟩, Hk⟩
  have r12 := runA_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r13 := runA_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r14 := runA_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r15 := runA_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r16 := runA_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  iapply (wp_wand_r frame (wpE (defs₀ (F := Ideal)) Variants.none (c : Thread nD τ) none) E)
  isplitl [H2 H3 H4 H5 H6 H7 H8 H9 H10 H11 H12 H13 H14 H15 H16 H17 H18 H19]
  · iapply ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.2.2.2.2.2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %a ⟨H2, H3, H4, H5, H6, H7, H8, H9, H10, H11, H12, H13, H14, H15, H16, H17, H18, H19⟩
  iapply Hk
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists f11; isplitr; · ipureintro; exact h11
    iexact H11
  isplitl [H12]
  · iexists _; isplitr; swap; · iexact H12
    ipureintro; exact pair_ext fun d t => r12 d t
  isplitl [H13]
  · iexists _; isplitr; swap; · iexact H13
    ipureintro; exact pair_ext fun d t => r13 d t
  isplitl [H14]
  · iexists _; isplitr; swap; · iexact H14
    ipureintro; exact pair_ext fun d t => r14 d t
  isplitl [H15]
  · iexists _; isplitr; swap; · iexact H15
    ipureintro; exact tri_ext fun d t => r15 d t
  isplitl [H16]
  · iexists _; isplitr; swap; · iexact H16
    ipureintro; exact tri_ext fun d t => r16 d t
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Point
-- ==== Proof.ValB.lean ====
/- What the run of the body leaves in the outputs at an inner key block of a pair of heads. -/
module

public import proofs.«01_k».proof.Proof.Run
public import proofs.«01_k».proof.Proof.After
public import proofs.«01_k».proof.Proof.Seed

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

section Val
variable (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (B : Blk) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty)
  (hkj : (i 1).val = B.kj) (htr : (k0_t1_loop i).trips = 31 - (i 1).val)
  (hkh0 : k0_pay42 (arg3.view.read (Elt Ideal) f3) = B.kh 0) (hkh1 : k0_pay43 (arg3.view.read (Elt Ideal) f3) = B.kh 1) (hvh0 : k0_pay46 (arg5.view.read (Elt Ideal) f5) = B.vh 0) (hvh1 : k0_pay47 (arg5.view.read (Elt Ideal) f5) = B.vh 1)
  (hkth0 : k0_pay51 (arg4.view.read (Elt Ideal) f4) = B.kth 0) (hkth1 : k0_pay52 (arg4.view.read (Elt Ideal) f4) = B.kth 1)
  (hch0 : k0_pay56 (k0_pay54 (arg6.view.read (Elt Ideal) f6)) (FloatOps.ofBits .f32 0#32) (k0_pay55 i) = B.ch 0) (hch1 : k0_pay57 (k0_pay53 i) (arg6.view.read (Elt Ideal) f6) = B.ch 1)
  (hq : arg2.view.read (Elt Ideal) f2 = B.q) (hal : arg7.view.read (Elt Ideal) f7 = B.al) (hdl : arg8.view.read (Elt Ideal) f8 = B.dl) (hqt : arg9.view.read (Elt Ideal) f9 = B.qt) (hdO : arg10.view.read (Elt Ideal) f10 = B.dO) (hdOt : arg11.view.read (Elt Ideal) f11 = B.dOt)

set_option maxHeartbeats 1000000 in
include hkj htr hkh0 hkh1 hvh0 hvh1 hkth0 hkth1 hch0 hch1 hq hal hdl hqt hdO hdOt in
theorem runB_13 (hc0 : ¬Cond0 i) (hc1 : ¬Cond1 i) (d : Fin 128) (r : Fin 512) : arg13.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.1 (ix2 d r) = (if d.val / 64 = 0 then ∑ t : Fin 16384, B.qt (ix2 d t) * B.s 0 r t else ∑ t : Fin 16384, B.qt (ix2 d t) * B.s 1 r t) * Named.named (F := Ideal) (φ := .f32) κ "ln2" 0x3F317218#32 := by
  unfold runB
  dsimp only
  simp only [runB.sl.H12_1, runB.sl.H17_1, runB.sl.H17_2, runB.sl.H17_3, runB.sl.H18_1, runB.sl.H18_2, runB.sl.H18_3, runB.sl.H19_1, runB.sl.H19_2, runB.sl.H19_3, runB.sl.cst_10, runB.sl.cst_137, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_3, runB.sl.r_4, runB.sl.r_5, runB.sl.r_6, runB.sl.r_7, runB.sl.r_8, runB.sl.r_9, runB.sl.v109, runB.sl.v116, runB.sl.v123, runB.sl.v171, runB.sl.v178, runB.sl.v185, runB.sl.v194, runB.sl.v204, runB.sl.v210, runB.sl.v211, runB.sl.v213, runB.sl.v214, runB.sl.v215, runB.sl.v216, runB.sl.v218, runB.sl.v227, runB.sl.v229, runB.sl.v240, runB.sl.v247, runB.sl.v57, runB.sl.v58, runB.sl.v59, runB.sl.v72, ld0, hkh0, hkh1, hvh0, hvh1, hkth0, hkth1, hch0, hch1]
  refine Eq.trans (View.read_writes_cons_unit_of_mem _ _ _ _ _ _ (ix2 d r) rfl (by intro a; fin_cases a <;> exact (Nat.zero_add _).symm)) ?_
  pointwise [k0_pay90, k0_pay89, k0_pay48]
  refine congrArg (· * _) (Eq.trans (sel_of (lane0 d) _ _) ?_)
  exact if_congr Iff.rfl (after17_0 (hkj := hkj) (hq := hq) (hal := hal) (hdl := hdl) (hqt := hqt) (hdO := hdO) (hdOt := hdOt) (htr := htr) (hL := fun h d r => seed17 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (h82 := fun d x => (ld2 ..).trans (congrFun hqt _)) ..) ..) (after17_1 (hkj := hkj) (hq := hq) (hal := hal) (hdl := hdl) (hqt := hqt) (hdO := hdO) (hdOt := hdOt) (htr := htr) (hL := fun h d r => seed17 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (h82 := fun d x => (ld2 ..).trans (congrFun hqt _)) ..) ..)

set_option maxHeartbeats 1000000 in
include hkj htr hkh0 hkh1 hvh0 hvh1 hkth0 hkth1 hch0 hch1 hq hal hdl hqt hdO hdOt in
theorem runB_14 (hc0 : ¬Cond0 i) (hc1 : ¬Cond1 i) (d : Fin 128) (r : Fin 512) : arg14.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.1 (ix2 d r) = if d.val / 64 = 0 then ∑ t : Fin 16384, B.dOt (ix2 d t) * B.p 0 r t else ∑ t : Fin 16384, B.dOt (ix2 d t) * B.p 1 r t := by
  unfold runB
  dsimp only
  simp only [runB.sl.H12_1, runB.sl.H17_1, runB.sl.H17_2, runB.sl.H17_3, runB.sl.H18_1, runB.sl.H18_2, runB.sl.H18_3, runB.sl.H19_1, runB.sl.H19_2, runB.sl.H19_3, runB.sl.cst_10, runB.sl.cst_137, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_3, runB.sl.r_4, runB.sl.r_5, runB.sl.r_6, runB.sl.r_7, runB.sl.r_8, runB.sl.r_9, runB.sl.v109, runB.sl.v116, runB.sl.v123, runB.sl.v171, runB.sl.v178, runB.sl.v185, runB.sl.v194, runB.sl.v204, runB.sl.v210, runB.sl.v211, runB.sl.v213, runB.sl.v214, runB.sl.v215, runB.sl.v216, runB.sl.v218, runB.sl.v227, runB.sl.v229, runB.sl.v240, runB.sl.v247, runB.sl.v57, runB.sl.v58, runB.sl.v59, runB.sl.v72, ld0, hkh0, hkh1, hvh0, hvh1, hkth0, hkth1, hch0, hch1]
  refine Eq.trans (View.read_writes_cons_unit_of_mem _ _ _ _ _ _ (ix2 d r) rfl (by intro a; fin_cases a <;> exact (Nat.zero_add _).symm)) ?_
  pointwise [k0_pay91, k0_pay48]
  refine Eq.trans (sel_of (lane0 d) _ _) ?_
  exact if_congr Iff.rfl (after18_0 (hkj := hkj) (hq := hq) (hal := hal) (hdl := hdl) (hqt := hqt) (hdO := hdO) (hdOt := hdOt) (htr := htr) (hL := fun h d r => seed18 (hkj := hkj) (h75 := fun x d => (ld1 ..).trans (congrFun hq _)) (h87 := fun x => (ld3 ..).trans (congrFun hal _)) (h149 := fun x => (ld4 ..).trans (congrFun hal _))  (h84 := fun d x => (ld2 ..).trans (congrFun hdOt _)) ..) ..) (after18_1 (hkj := hkj) (hq := hq) (hal := hal) (hdl := hdl) (hqt := hqt) (hdO := hdO) (hdOt := hdOt) (htr := htr) (hL := fun h d r => seed18 (hkj := hkj) (h75 := fun x d => (ld1 ..).trans (congrFun hq _)) (h87 := fun x => (ld3 ..).trans (congrFun hal _)) (h149 := fun x => (ld4 ..).trans (congrFun hal _))  (h84 := fun d x => (ld2 ..).trans (congrFun hdOt _)) ..) ..)

set_option maxHeartbeats 1000000 in
include hkj htr hkh0 hkh1 hvh0 hvh1 hkth0 hkth1 hch0 hch1 hq hal hdl hqt hdO hdOt in
theorem runB_15 (hc0 : ¬Cond0 i) (hc1 : ¬Cond1 i) (r : Fin 512) (l : Fin 128) : arg15.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.1 (ix3 0 r l) = if l.val = 2 * (i 0).val then 0 - ∑ t : Fin 16384, B.s 0 r t else if l.val = 2 * (i 0).val + 1 then 0 - ∑ t : Fin 16384, B.s 1 r t else 0 := by
  unfold runB
  dsimp only
  simp only [runB.sl.H12_1, runB.sl.H17_1, runB.sl.H17_2, runB.sl.H17_3, runB.sl.H18_1, runB.sl.H18_2, runB.sl.H18_3, runB.sl.H19_1, runB.sl.H19_2, runB.sl.H19_3, runB.sl.cst_10, runB.sl.cst_137, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_3, runB.sl.r_4, runB.sl.r_5, runB.sl.r_6, runB.sl.r_7, runB.sl.r_8, runB.sl.r_9, runB.sl.v109, runB.sl.v116, runB.sl.v123, runB.sl.v171, runB.sl.v178, runB.sl.v185, runB.sl.v194, runB.sl.v204, runB.sl.v210, runB.sl.v211, runB.sl.v213, runB.sl.v214, runB.sl.v215, runB.sl.v216, runB.sl.v218, runB.sl.v227, runB.sl.v229, runB.sl.v240, runB.sl.v247, runB.sl.v57, runB.sl.v58, runB.sl.v59, runB.sl.v72, ld0, hkh0, hkh1, hvh0, hvh1, hkth0, hkth1, hch0, hch1]
  refine Eq.trans (View.read_writes_cons_unit_of_mem _ _ _ _ _ _ (ix3 0 r l) rfl (by intro a; fin_cases a <;> exact (Nat.zero_add _).symm)) ?_
  pointwise [k0_pay1, k0_pay92, k0_pay93, k0_pay94, k0_pay95]
  refine Eq.trans (sel_of (gate0 l (i 0)) _ _) ?_
  refine if_congr Iff.rfl (congrArg (0 - ·) (after19_0 (hkj := hkj) (hq := hq) (hal := hal) (hdl := hdl) (hqt := hqt) (hdO := hdO) (hdOt := hdOt) (htr := htr) (hL := fun h r => seed19 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) ..) ..)) ?_
  refine Eq.trans (sel_of (gate1 l (i 0)) _ _) ?_
  exact if_congr Iff.rfl (congrArg (0 - ·) (after19_1 (hkj := hkj) (hq := hq) (hal := hal) (hdl := hdl) (hqt := hqt) (hdO := hdO) (hdOt := hdOt) (htr := htr) (hL := fun h r => seed19 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) ..) ..)) rfl

set_option maxHeartbeats 1000000 in
include hkj htr hkh0 hkh1 hvh0 hvh1 hkth0 hkth1 hch0 hch1 hq hal hdl hqt hdO hdOt in
theorem runB_12 (hc0 : ¬Cond0 i) (hc1 : ¬Cond1 i) (d : Fin 128) (t : Fin 16384) : arg12.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).1 (ix2 d t) = arg12.view.read (Elt Ideal) f12 (ix2 d t) + B.g12 d t := by
  unfold runB
  dsimp only
  simp only [runB.sl.H12_1, runB.sl.H17_1, runB.sl.H17_2, runB.sl.H17_3, runB.sl.H18_1, runB.sl.H18_2, runB.sl.H18_3, runB.sl.H19_1, runB.sl.H19_2, runB.sl.H19_3, runB.sl.cst_10, runB.sl.cst_137, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_3, runB.sl.r_4, runB.sl.r_5, runB.sl.r_6, runB.sl.r_7, runB.sl.r_8, runB.sl.r_9, runB.sl.v109, runB.sl.v116, runB.sl.v123, runB.sl.v171, runB.sl.v178, runB.sl.v185, runB.sl.v194, runB.sl.v204, runB.sl.v210, runB.sl.v211, runB.sl.v213, runB.sl.v214, runB.sl.v215, runB.sl.v216, runB.sl.v218, runB.sl.v227, runB.sl.v229, runB.sl.v240, runB.sl.v247, runB.sl.v57, runB.sl.v58, runB.sl.v59, runB.sl.v72, ld0, hkh0, hkh1, hvh0, hvh1, hkth0, hkth1, hch0, hch1]
  refine after12 (hkj := hkj) (hq := hq) (hal := hal) (hdl := hdl) (hqt := hqt) (hdO := hdO) (hdOt := hdOt) (htr := htr) (base := arg12.view.read (Elt Ideal) f12 (ix2 d t)) (hL := (seed12 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (hld := fun d x => ld2 ..) (h204 := View.readCov_cons_toLoadRect ..) ..).trans (congrArg (· + _) ?_)) ..
  · rfl

set_option maxHeartbeats 1000000 in
include hkj htr hkh0 hkh1 hvh0 hvh1 hkth0 hkth1 hch0 hch1 hq hal hdl hqt hdO hdOt in
theorem runB_16 (hc0 : ¬Cond0 i) (hc1 : ¬Cond1 i) (e : Fin 8) (t : Fin 16384) : arg16.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.2.1 (ix3 0 e t) = arg16.view.read (Elt Ideal) f16 (ix3 0 e t) + B.g16 e t := by
  unfold runB
  dsimp only
  simp only [runB.sl.H12_1, runB.sl.H17_1, runB.sl.H17_2, runB.sl.H17_3, runB.sl.H18_1, runB.sl.H18_2, runB.sl.H18_3, runB.sl.H19_1, runB.sl.H19_2, runB.sl.H19_3, runB.sl.cst_10, runB.sl.cst_137, runB.sl.r, runB.sl.r_1, runB.sl.r_10, runB.sl.r_11, runB.sl.r_12, runB.sl.r_13, runB.sl.r_14, runB.sl.r_15, runB.sl.r_16, runB.sl.r_17, runB.sl.r_18, runB.sl.r_19, runB.sl.r_2, runB.sl.r_20, runB.sl.r_21, runB.sl.r_22, runB.sl.r_23, runB.sl.r_3, runB.sl.r_4, runB.sl.r_5, runB.sl.r_6, runB.sl.r_7, runB.sl.r_8, runB.sl.r_9, runB.sl.v109, runB.sl.v116, runB.sl.v123, runB.sl.v171, runB.sl.v178, runB.sl.v185, runB.sl.v194, runB.sl.v204, runB.sl.v210, runB.sl.v211, runB.sl.v213, runB.sl.v214, runB.sl.v215, runB.sl.v216, runB.sl.v218, runB.sl.v227, runB.sl.v229, runB.sl.v240, runB.sl.v247, runB.sl.v57, runB.sl.v58, runB.sl.v59, runB.sl.v72, ld0, hkh0, hkh1, hvh0, hvh1, hkth0, hkth1, hch0, hch1]
  refine after16 (hkj := hkj) (hq := hq) (hal := hal) (hdl := hdl) (hqt := hqt) (hdO := hdO) (hdOt := hdOt) (htr := htr) (base := arg16.view.read (Elt Ideal) f16 (ix3 0 e t)) (hL := (seed16 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (hla := fun x => ld3 ..) (hlb := fun x => ld4 ..) ..).trans (congrArg (· + _) ?_)) ..
  · rfl

end Val

end Cert.KernelIdeal.Point
-- ==== Proof.TripleB.lean ====
/- The body of the attention kernel at a grid point of case B. -/
module

public import proofs.«01_k».proof.Proof.TripleDefs
public import proofs.«01_k».proof.Proof.ValB

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 4000000 in
/-- The body at a grid point of case B: what it leaves in every buffer. -/
theorem tripleB (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : ¬Cond0 i) (hc1 : ¬Cond1 i) (htr : (k0_t1_loop i).trips = 31 - (i 1).val)
    (x2 : Vec Ideal S16384x128 .bf16) (x3 : Vec Ideal S512x128 .bf16) (x4 : Vec Ideal S128x512 .bf16) (x5 : Vec Ideal S512x128 .bf16) (x6 : Vec Ideal S512x128 .f32) (x7 x8 : Vec Ideal S1x8x16384 .f32) (x9 : Vec Ideal S128x16384 .bf16) (x10 : Vec Ideal S16384x128 .bf16) (x11 : Vec Ideal S128x16384 .bf16) (d12 : Vec Ideal S128x16384 .f32) (d16 : Vec Ideal S1x8x16384 .f32) (B : Blk) (hB : blkOf i x2 x3 x4 x5 x6 x7 x8 x9 x10 x11 = B)
    (E : Set ℕ) (K : PUnit → sProp (MT nD τ sig Unit (Elt Ideal) ℕ (UR sig nD τ) ℕ)) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (fun y => (d12 y + add12 B y : EReal)) ∗ owns (c : Thread nD τ) arg13 fullShare (out13 B) ∗ owns (c : Thread nD τ) arg14 fullShare (out14 B) ∗ owns (c : Thread nD τ) arg15 fullShare (out15 B (i 0).val) ∗ owns (c : Thread nD τ) arg16 fullShare (fun y => (d16 y + add16 B y : EReal)) ∗ (∃ d, owns (c : Thread nD τ) arg17 fullShare d) ∗ (∃ d, owns (c : Thread nD τ) arg18 fullShare d) ∗ (∃ d, owns (c : Thread nD τ) arg19 fullShare d)) -∗ K ⟨⟩)) : sProp (MT nD τ sig Unit (Elt Ideal) ℕ (UR sig nD τ) ℕ))
    ⊢ wp frame (wpE (defs₀ (F := Ideal)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  subst hB
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%e13, %f13, -, H13⟩, ⟨%e14, %f14, -, H14⟩, ⟨%e15, %f15, -, H15⟩, ⟨%f16, %h16, H16⟩, ⟨%e17, %f17, -, H17⟩, ⟨%e18, %f18, -, H18⟩, ⟨%e19, %f19, -, H19⟩, Hk⟩
  have r12 := runB_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r13 := runB_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r14 := runB_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r15 := runB_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r16 := runB_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  iapply (wp_wand_r frame (wpE (defs₀ (F := Ideal)) Variants.none (c : Thread nD τ) none) E)
  isplitl [H2 H3 H4 H5 H6 H7 H8 H9 H10 H11 H12 H13 H14 H15 H16 H17 H18 H19]
  · iapply ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.2.2.2.2.2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %a ⟨H2, H3, H4, H5, H6, H7, H8, H9, H10, H11, H12, H13, H14, H15, H16, H17, H18, H19⟩
  iapply Hk
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists f11; isplitr; · ipureintro; exact h11
    iexact H11
  isplitl [H12]
  · iexists _; isplitr; swap; · iexact H12
    ipureintro; exact pair_ext fun d t => (r12 d t).trans (congrArg (· + _) (congrFun h12 _))
  isplitl [H13]
  · iexists _; isplitr; swap; · iexact H13
    ipureintro; exact pair_ext fun d t => r13 d t
  isplitl [H14]
  · iexists _; isplitr; swap; · iexact H14
    ipureintro; exact pair_ext fun d t => r14 d t
  isplitl [H15]
  · iexists _; isplitr; swap; · iexact H15
    ipureintro; exact tri_ext fun d t => r15 d t
  isplitl [H16]
  · iexists _; isplitr; swap; · iexact H16
    ipureintro; exact tri_ext fun d t => (r16 d t).trans (congrArg (· + _) (congrFun h16 _))
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Point
-- ==== Proof.ValC.lean ====
/- What the run of the body leaves in the outputs at the last key block of a pair of heads. -/
module

public import proofs.«01_k».proof.Proof.Run
public import proofs.«01_k».proof.Proof.After
public import proofs.«01_k».proof.Proof.Seed

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

section Val
variable (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (B : Blk) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty)
  (hkj : (i 1).val = B.kj) (htr : (k0_t1_loop i).trips = 31 - (i 1).val)
  (hkh0 : k0_pay42 (arg3.view.read (Elt Ideal) f3) = B.kh 0) (hkh1 : k0_pay43 (arg3.view.read (Elt Ideal) f3) = B.kh 1) (hvh0 : k0_pay46 (arg5.view.read (Elt Ideal) f5) = B.vh 0) (hvh1 : k0_pay47 (arg5.view.read (Elt Ideal) f5) = B.vh 1)
  (hkth0 : k0_pay51 (arg4.view.read (Elt Ideal) f4) = B.kth 0) (hkth1 : k0_pay52 (arg4.view.read (Elt Ideal) f4) = B.kth 1)
  (hch0 : k0_pay56 (k0_pay54 (arg6.view.read (Elt Ideal) f6)) (FloatOps.ofBits .f32 0#32) (k0_pay55 i) = B.ch 0) (hch1 : k0_pay57 (k0_pay53 i) (arg6.view.read (Elt Ideal) f6) = B.ch 1)
  (hq : arg2.view.read (Elt Ideal) f2 = B.q) (hal : arg7.view.read (Elt Ideal) f7 = B.al) (hdl : arg8.view.read (Elt Ideal) f8 = B.dl) (hqt : arg9.view.read (Elt Ideal) f9 = B.qt) (hdO : arg10.view.read (Elt Ideal) f10 = B.dO) (hdOt : arg11.view.read (Elt Ideal) f11 = B.dOt)

set_option maxHeartbeats 1000000 in
include hkj htr hkh0 hkh1 hvh0 hvh1 hkth0 hkth1 hch0 hch1 hq hal hdl hqt hdO hdOt in
theorem runC_13 (hc0 : ¬Cond0 i) (hc1 : Cond1 i) (d : Fin 128) (r : Fin 512) : arg13.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.1 (ix2 d r) = (if d.val / 64 = 0 then ∑ t : Fin 16384, B.qt (ix2 d t) * B.s 0 r t else ∑ t : Fin 16384, B.qt (ix2 d t) * B.s 1 r t) * Named.named (F := Ideal) (φ := .f32) κ "ln2" 0x3F317218#32 := by
  unfold runC
  dsimp only
  simp only [runC.sl.H12_1, runC.sl.H17_1, runC.sl.H17_2, runC.sl.H17_3, runC.sl.H18_1, runC.sl.H18_2, runC.sl.H18_3, runC.sl.H19_1, runC.sl.H19_2, runC.sl.H19_3, runC.sl.cst_10, runC.sl.cst_137, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_3, runC.sl.r_4, runC.sl.r_5, runC.sl.r_6, runC.sl.r_7, runC.sl.r_8, runC.sl.r_9, runC.sl.v109, runC.sl.v116, runC.sl.v123, runC.sl.v171, runC.sl.v178, runC.sl.v185, runC.sl.v194, runC.sl.v204, runC.sl.v210, runC.sl.v211, runC.sl.v213, runC.sl.v214, runC.sl.v215, runC.sl.v216, runC.sl.v218, runC.sl.v227, runC.sl.v229, runC.sl.v240, runC.sl.v247, runC.sl.v268, runC.sl.v57, runC.sl.v58, runC.sl.v59, runC.sl.v72, ld0, hkh0, hkh1, hvh0, hvh1, hkth0, hkth1, hch0, hch1]
  refine Eq.trans (View.read_writes_cons_unit_of_mem _ _ _ _ _ _ (ix2 d r) rfl (by intro a; fin_cases a <;> exact (Nat.zero_add _).symm)) ?_
  pointwise [k0_pay90, k0_pay89, k0_pay48]
  refine congrArg (· * _) (Eq.trans (sel_of (lane0 d) _ _) ?_)
  exact if_congr Iff.rfl (after17_0 (hkj := hkj) (hq := hq) (hal := hal) (hdl := hdl) (hqt := hqt) (hdO := hdO) (hdOt := hdOt) (htr := htr) (hL := fun h d r => seed17 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (h82 := fun d x => (ld2 ..).trans (congrFun hqt _)) ..) ..) (after17_1 (hkj := hkj) (hq := hq) (hal := hal) (hdl := hdl) (hqt := hqt) (hdO := hdO) (hdOt := hdOt) (htr := htr) (hL := fun h d r => seed17 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (h82 := fun d x => (ld2 ..).trans (congrFun hqt _)) ..) ..)

set_option maxHeartbeats 1000000 in
include hkj htr hkh0 hkh1 hvh0 hvh1 hkth0 hkth1 hch0 hch1 hq hal hdl hqt hdO hdOt in
theorem runC_14 (hc0 : ¬Cond0 i) (hc1 : Cond1 i) (d : Fin 128) (r : Fin 512) : arg14.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.1 (ix2 d r) = if d.val / 64 = 0 then ∑ t : Fin 16384, B.dOt (ix2 d t) * B.p 0 r t else ∑ t : Fin 16384, B.dOt (ix2 d t) * B.p 1 r t := by
  unfold runC
  dsimp only
  simp only [runC.sl.H12_1, runC.sl.H17_1, runC.sl.H17_2, runC.sl.H17_3, runC.sl.H18_1, runC.sl.H18_2, runC.sl.H18_3, runC.sl.H19_1, runC.sl.H19_2, runC.sl.H19_3, runC.sl.cst_10, runC.sl.cst_137, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_3, runC.sl.r_4, runC.sl.r_5, runC.sl.r_6, runC.sl.r_7, runC.sl.r_8, runC.sl.r_9, runC.sl.v109, runC.sl.v116, runC.sl.v123, runC.sl.v171, runC.sl.v178, runC.sl.v185, runC.sl.v194, runC.sl.v204, runC.sl.v210, runC.sl.v211, runC.sl.v213, runC.sl.v214, runC.sl.v215, runC.sl.v216, runC.sl.v218, runC.sl.v227, runC.sl.v229, runC.sl.v240, runC.sl.v247, runC.sl.v268, runC.sl.v57, runC.sl.v58, runC.sl.v59, runC.sl.v72, ld0, hkh0, hkh1, hvh0, hvh1, hkth0, hkth1, hch0, hch1]
  refine Eq.trans (View.read_writes_cons_unit_of_mem _ _ _ _ _ _ (ix2 d r) rfl (by intro a; fin_cases a <;> exact (Nat.zero_add _).symm)) ?_
  pointwise [k0_pay91, k0_pay48]
  refine Eq.trans (sel_of (lane0 d) _ _) ?_
  exact if_congr Iff.rfl (after18_0 (hkj := hkj) (hq := hq) (hal := hal) (hdl := hdl) (hqt := hqt) (hdO := hdO) (hdOt := hdOt) (htr := htr) (hL := fun h d r => seed18 (hkj := hkj) (h75 := fun x d => (ld1 ..).trans (congrFun hq _)) (h87 := fun x => (ld3 ..).trans (congrFun hal _)) (h149 := fun x => (ld4 ..).trans (congrFun hal _))  (h84 := fun d x => (ld2 ..).trans (congrFun hdOt _)) ..) ..) (after18_1 (hkj := hkj) (hq := hq) (hal := hal) (hdl := hdl) (hqt := hqt) (hdO := hdO) (hdOt := hdOt) (htr := htr) (hL := fun h d r => seed18 (hkj := hkj) (h75 := fun x d => (ld1 ..).trans (congrFun hq _)) (h87 := fun x => (ld3 ..).trans (congrFun hal _)) (h149 := fun x => (ld4 ..).trans (congrFun hal _))  (h84 := fun d x => (ld2 ..).trans (congrFun hdOt _)) ..) ..)

set_option maxHeartbeats 1000000 in
include hkj htr hkh0 hkh1 hvh0 hvh1 hkth0 hkth1 hch0 hch1 hq hal hdl hqt hdO hdOt in
theorem runC_15 (hc0 : ¬Cond0 i) (hc1 : Cond1 i) (r : Fin 512) (l : Fin 128) : arg15.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.1 (ix3 0 r l) = if l.val = 2 * (i 0).val then 0 - ∑ t : Fin 16384, B.s 0 r t else if l.val = 2 * (i 0).val + 1 then 0 - ∑ t : Fin 16384, B.s 1 r t else 0 := by
  unfold runC
  dsimp only
  simp only [runC.sl.H12_1, runC.sl.H17_1, runC.sl.H17_2, runC.sl.H17_3, runC.sl.H18_1, runC.sl.H18_2, runC.sl.H18_3, runC.sl.H19_1, runC.sl.H19_2, runC.sl.H19_3, runC.sl.cst_10, runC.sl.cst_137, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_3, runC.sl.r_4, runC.sl.r_5, runC.sl.r_6, runC.sl.r_7, runC.sl.r_8, runC.sl.r_9, runC.sl.v109, runC.sl.v116, runC.sl.v123, runC.sl.v171, runC.sl.v178, runC.sl.v185, runC.sl.v194, runC.sl.v204, runC.sl.v210, runC.sl.v211, runC.sl.v213, runC.sl.v214, runC.sl.v215, runC.sl.v216, runC.sl.v218, runC.sl.v227, runC.sl.v229, runC.sl.v240, runC.sl.v247, runC.sl.v268, runC.sl.v57, runC.sl.v58, runC.sl.v59, runC.sl.v72, ld0, hkh0, hkh1, hvh0, hvh1, hkth0, hkth1, hch0, hch1]
  refine Eq.trans (View.read_writes_cons_unit_of_mem _ _ _ _ _ _ (ix3 0 r l) rfl (by intro a; fin_cases a <;> exact (Nat.zero_add _).symm)) ?_
  pointwise [k0_pay1, k0_pay92, k0_pay93, k0_pay94, k0_pay95]
  refine Eq.trans (sel_of (gate0 l (i 0)) _ _) ?_
  refine if_congr Iff.rfl (congrArg (0 - ·) (after19_0 (hkj := hkj) (hq := hq) (hal := hal) (hdl := hdl) (hqt := hqt) (hdO := hdO) (hdOt := hdOt) (htr := htr) (hL := fun h r => seed19 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) ..) ..)) ?_
  refine Eq.trans (sel_of (gate1 l (i 0)) _ _) ?_
  exact if_congr Iff.rfl (congrArg (0 - ·) (after19_1 (hkj := hkj) (hq := hq) (hal := hal) (hdl := hdl) (hqt := hqt) (hdO := hdO) (hdOt := hdOt) (htr := htr) (hL := fun h r => seed19 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) ..) ..)) rfl

set_option maxHeartbeats 1000000 in
include hkj htr hkh0 hkh1 hvh0 hvh1 hkth0 hkth1 hch0 hch1 hq hal hdl hqt hdO hdOt in
theorem runC_12 (hc0 : ¬Cond0 i) (hc1 : Cond1 i) (d : Fin 128) (t : Fin 16384) : arg12.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).1 (ix2 d t) = (arg12.view.read (Elt Ideal) f12 (ix2 d t) + B.g12 d t) * FloatOps.ofBits (F := Ideal) .f32 0x3E000000#32 := by
  unfold runC
  dsimp only
  simp only [runC.sl.H12_1, runC.sl.H17_1, runC.sl.H17_2, runC.sl.H17_3, runC.sl.H18_1, runC.sl.H18_2, runC.sl.H18_3, runC.sl.H19_1, runC.sl.H19_2, runC.sl.H19_3, runC.sl.cst_10, runC.sl.cst_137, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_3, runC.sl.r_4, runC.sl.r_5, runC.sl.r_6, runC.sl.r_7, runC.sl.r_8, runC.sl.r_9, runC.sl.v109, runC.sl.v116, runC.sl.v123, runC.sl.v171, runC.sl.v178, runC.sl.v185, runC.sl.v194, runC.sl.v204, runC.sl.v210, runC.sl.v211, runC.sl.v213, runC.sl.v214, runC.sl.v215, runC.sl.v216, runC.sl.v218, runC.sl.v227, runC.sl.v229, runC.sl.v240, runC.sl.v247, runC.sl.v268, runC.sl.v57, runC.sl.v58, runC.sl.v59, runC.sl.v72, ld0, hkh0, hkh1, hvh0, hvh1, hkth0, hkth1, hch0, hch1]
  refine Eq.trans (View.read_writes_cons_unit_of_mem _ _ _ _ _ _ (ix2 d t) rfl (by intro a; fin_cases a <;> exact (Nat.zero_add _).symm)) ?_
  pointwise [k0_pay2]
  refine congrArg (· * _) ?_
  refine after12 (hkj := hkj) (hq := hq) (hal := hal) (hdl := hdl) (hqt := hqt) (hdO := hdO) (hdOt := hdOt) (htr := htr) (base := arg12.view.read (Elt Ideal) f12 (ix2 d t)) (hL := (seed12 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (hld := fun d x => ld2 ..) (h204 := View.readCov_cons_toLoadRect ..) ..).trans (congrArg (· + _) ?_)) ..
  · rfl

set_option maxHeartbeats 1000000 in
include hkj htr hkh0 hkh1 hvh0 hvh1 hkth0 hkth1 hch0 hch1 hq hal hdl hqt hdO hdOt in
theorem runC_16 (hc0 : ¬Cond0 i) (hc1 : Cond1 i) (e : Fin 8) (t : Fin 16384) : arg16.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.2.1 (ix3 0 e t) = arg16.view.read (Elt Ideal) f16 (ix3 0 e t) + B.g16 e t := by
  unfold runC
  dsimp only
  simp only [runC.sl.H12_1, runC.sl.H17_1, runC.sl.H17_2, runC.sl.H17_3, runC.sl.H18_1, runC.sl.H18_2, runC.sl.H18_3, runC.sl.H19_1, runC.sl.H19_2, runC.sl.H19_3, runC.sl.cst_10, runC.sl.cst_137, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_3, runC.sl.r_4, runC.sl.r_5, runC.sl.r_6, runC.sl.r_7, runC.sl.r_8, runC.sl.r_9, runC.sl.v109, runC.sl.v116, runC.sl.v123, runC.sl.v171, runC.sl.v178, runC.sl.v185, runC.sl.v194, runC.sl.v204, runC.sl.v210, runC.sl.v211, runC.sl.v213, runC.sl.v214, runC.sl.v215, runC.sl.v216, runC.sl.v218, runC.sl.v227, runC.sl.v229, runC.sl.v240, runC.sl.v247, runC.sl.v268, runC.sl.v57, runC.sl.v58, runC.sl.v59, runC.sl.v72, ld0, hkh0, hkh1, hvh0, hvh1, hkth0, hkth1, hch0, hch1]
  refine after16 (hkj := hkj) (hq := hq) (hal := hal) (hdl := hdl) (hqt := hqt) (hdO := hdO) (hdOt := hdOt) (htr := htr) (base := arg16.view.read (Elt Ideal) f16 (ix3 0 e t)) (hL := (seed16 (hkj := hkj) (h75 := fun x d => (ld1 ..).trans (congrFun hq _)) (h78 := fun x d => (ld1 ..).trans (congrFun hdO _)) (h87 := fun x => (ld3 ..).trans (congrFun hal _)) (h90 := fun x => (ld3 ..).trans (congrFun hdl _)) (h149 := fun x => (ld4 ..).trans (congrFun hal _)) (h152 := fun x => (ld4 ..).trans (congrFun hdl _)) (hla := fun x => ld3 ..) (hlb := fun x => ld4 ..) ..).trans (congrArg (· + _) ?_)) ..
  · rfl

end Val

end Cert.KernelIdeal.Point
-- ==== Proof.TripleC.lean ====
/- The body of the attention kernel at a grid point of case C. -/
module

public import proofs.«01_k».proof.Proof.TripleDefs
public import proofs.«01_k».proof.Proof.ValC

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

set_option maxHeartbeats 4000000 in
/-- The body at a grid point of case C: what it leaves in every buffer. -/
theorem tripleC (c : Dev nD) (i : grid0.Coords) (arg2 : Memref sig .tc .vmem S16384x128 .bf16) (harg2 : arg2.IsWhole) (arg3 : Memref sig .tc .vmem S512x128 .bf16) (harg3 : arg3.IsWhole) (arg4 : Memref sig .tc .vmem S128x512 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S1x8x16384 .f32) (harg7 : arg7.IsWhole) (arg8 : Memref sig .tc .vmem S1x8x16384 .f32) (harg8 : arg8.IsWhole) (arg9 : Memref sig .tc .vmem S128x16384 .bf16) (harg9 : arg9.IsWhole) (arg10 : Memref sig .tc .vmem S16384x128 .bf16) (harg10 : arg10.IsWhole) (arg11 : Memref sig .tc .vmem S128x16384 .bf16) (harg11 : arg11.IsWhole) (arg12 : Memref sig .tc .vmem S128x16384 .f32) (harg12 : arg12.IsWhole) (arg13 : Memref sig .tc .vmem S128x512 .bf16) (harg13 : arg13.IsWhole) (arg14 : Memref sig .tc .vmem S128x512 .bf16) (harg14 : arg14.IsWhole) (arg15 : Memref sig .tc .vmem S1x512x128 .f32) (harg15 : arg15.IsWhole) (arg16 : Memref sig .tc .vmem S1x8x16384 .f32) (harg16 : arg16.IsWhole) (arg17 : Memref sig .tc .vmem S2x128x512 .f32) (harg17 : arg17.IsWhole) (arg18 : Memref sig .tc .vmem S2x128x512 .f32) (harg18 : arg18.IsWhole) (arg19 : Memref sig .tc .vmem S2x512x1 .f32) (harg19 : arg19.IsWhole) (hc0 : ¬Cond0 i) (hc1 : Cond1 i) (htr : (k0_t1_loop i).trips = 31 - (i 1).val)
    (x2 : Vec Ideal S16384x128 .bf16) (x3 : Vec Ideal S512x128 .bf16) (x4 : Vec Ideal S128x512 .bf16) (x5 : Vec Ideal S512x128 .bf16) (x6 : Vec Ideal S512x128 .f32) (x7 x8 : Vec Ideal S1x8x16384 .f32) (x9 : Vec Ideal S128x16384 .bf16) (x10 : Vec Ideal S16384x128 .bf16) (x11 : Vec Ideal S128x16384 .bf16) (d12 : Vec Ideal S128x16384 .f32) (d16 : Vec Ideal S1x8x16384 .f32) (B : Blk) (hB : blkOf i x2 x3 x4 x5 x6 x7 x8 x9 x10 x11 = B)
    (E : Set ℕ) (K : PUnit → sProp (MT nD τ sig Unit (Elt Ideal) ℕ (UR sig nD τ) ℕ)) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (fun y => ((d12 y + add12 B y) * eighth : EReal)) ∗ owns (c : Thread nD τ) arg13 fullShare (out13 B) ∗ owns (c : Thread nD τ) arg14 fullShare (out14 B) ∗ owns (c : Thread nD τ) arg15 fullShare (out15 B (i 0).val) ∗ owns (c : Thread nD τ) arg16 fullShare (fun y => (d16 y + add16 B y : EReal)) ∗ (∃ d, owns (c : Thread nD τ) arg17 fullShare d) ∗ (∃ d, owns (c : Thread nD τ) arg18 fullShare d) ∗ (∃ d, owns (c : Thread nD τ) arg19 fullShare d)) -∗ K ⟨⟩)) : sProp (MT nD τ sig Unit (Elt Ideal) ℕ (UR sig nD τ) ℕ))
    ⊢ wp frame (wpE (defs₀ (F := Ideal)) Variants.none (c : Thread nD τ) none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  subst hB
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%e13, %f13, -, H13⟩, ⟨%e14, %f14, -, H14⟩, ⟨%e15, %f15, -, H15⟩, ⟨%f16, %h16, H16⟩, ⟨%e17, %f17, -, H17⟩, ⟨%e18, %f18, -, H18⟩, ⟨%e19, %f19, -, H19⟩, Hk⟩
  have r12 := runC_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r13 := runC_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r14 := runC_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r15 := runC_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  have r16 := runC_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (blkOf i x2 x3 x4 x5 x6 x7 x8 x9 x10 x11) f2 f3 f4 f5 f6 f7 f8 f9 f10 f11 f12 f13 f14 f15 f16 f17 f18 f19 rfl htr ((congrArg _ h3).trans (kh0 i x2 x3 x4 x5 x6 x7 x8 x9 x10 x11)) ((congrArg _ h3).trans (kh1 i x2 x3 x4 x5 x6 x7 x8 x9 x10 x11)) ((congrArg _ h5).trans (vh0 i x2 x3 x4 x5 x6 x7 x8 x9 x10 x11)) ((congrArg _ h5).trans (vh1 i x2 x3 x4 x5 x6 x7 x8 x9 x10 x11)) ((congrArg _ h4).trans (kth0 i x2 x3 x4 x5 x6 x7 x8 x9 x10 x11)) ((congrArg _ h4).trans (kth1 i x2 x3 x4 x5 x6 x7 x8 x9 x10 x11)) ((congrArg (fun x => k0_pay56 (F := Ideal) (k0_pay54 x) (FloatOps.ofBits .f32 0#32) (k0_pay55 i)) h6).trans (ch0 i x2 x3 x4 x5 x6 x7 x8 x9 x10 x11)) ((congrArg (fun x => k0_pay57 (F := Ideal) (k0_pay53 i) x) h6).trans (ch1 i x2 x3 x4 x5 x6 x7 x8 x9 x10 x11)) h2 h7 h8 h9 h10 h11 hc0 hc1
  iapply (wp_wand_r frame (wpE (defs₀ (F := Ideal)) Variants.none (c : Thread nD τ) none) E)
  isplitl [H2 H3 H4 H5 H6 H7 H8 H9 H10 H11 H12 H13 H14 H15 H16 H17 H18 H19]
  · iapply ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 f2 f3 f4 f5 f6 f7 f8 f9 f10 f11 f12 f13 f14 f15 f16 f17 f18 f19).2.2.2.2.2.2.2.2 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %a ⟨H2, H3, H4, H5, H6, H7, H8, H9, H10, H11, H12, H13, H14, H15, H16, H17, H18, H19⟩
  iapply Hk
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists f11; isplitr; · ipureintro; exact h11
    iexact H11
  isplitl [H12]
  · iexists _; isplitr; swap; · iexact H12
    ipureintro; exact pair_ext fun d t => (r12 d t).trans (congrArg (fun z : EReal => (z + _) * _) (congrFun h12 _))
  isplitl [H13]
  · iexists _; isplitr; swap; · iexact H13
    ipureintro; exact pair_ext fun d t => r13 d t
  isplitl [H14]
  · iexists _; isplitr; swap; · iexact H14
    ipureintro; exact pair_ext fun d t => r14 d t
  isplitl [H15]
  · iexists _; isplitr; swap; · iexact H15
    ipureintro; exact tri_ext fun d t => r15 d t
  isplitl [H16]
  · iexists _; isplitr; swap; · iexact H16
    ipureintro; exact tri_ext fun d t => (r16 d t).trans (congrArg (· + _) (congrFun h16 _))
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Cert.KernelIdeal.Point
-- ==== Proof.Body.lean ====
/- The body at every grid point, and the launch. -/
module

public import proofs.«01_k».proof.Proof.Windows
public import proofs.«01_k».proof.Proof.TripleA
public import proofs.«01_k».proof.Proof.TripleB
public import proofs.«01_k».proof.Proof.TripleC

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable (m : (ℓ : Loc nD τ sig) → Buf (Elt Ideal) ℓ) (ρ : Dev nD → PrngReg)

set_option maxHeartbeats 4000000 in
theorem sound_A (c : Dev nD) (t : Fin cfg0.N) (h0 : t.val % 32 = 0) (h1 : t.val % 32 ≠ 31) :
    bodyPre m c t ⊢ wp frame (wpE (defs₀ (F := Ideal)) Variants.none c none) Set.univ (bodyAt0 t) (fun _ => bodyPost m c t) := by
  unfold bodyPre bodyPost bodyAt0
  simp only [bef_0, bef_1, bef_2, bef_3, bef_4, bef_5, bef_6, bef_7, bef_8, bef_9]
  rw [show (dats m 0 c).Φ t.succ = (dats m 0 c).Φ t.castSucc from rfl,
    show (dats m 0 c).owesAt () t.succ = (dats m 0 c).owesAt () t.castSucc from rfl,
    aft_0, aft_1, aft_2, aft_3, aft_4, aft_5, aft_6, aft_7, aft_8, aft_9, aft_10, aft_11, aft_12, aft_13, aft_14, step12_A m c t h0, step16_A m c t h0]
  rw [show (dats m 0 c).Φ t.castSucc = Pipeline.ΦA spec0 c from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (tripleA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) sc2 (Memref.isWhole_whole _) ((cond0_iff t).mpr h0) (fun h => h1 ((cond1_iff t).mp h)) (trips_eq t) (iblk m c 0 t) (iblk m c 1 t) (iblk m c 2 t) (iblk m c 3 t) (iblk m c 4 t) (iblk m c 5 t) (iblk m c 6 t) (iblk m c 7 t) (iblk m c 8 t) (iblk m c 9 t) ((dats m 0 c).before 10 t d10) ((dats m 0 c).before 14 t d14) (Bt m c t) rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
theorem sound_B (c : Dev nD) (t : Fin cfg0.N) (h0 : t.val % 32 ≠ 0) (h1 : t.val % 32 ≠ 31) :
    bodyPre m c t ⊢ wp frame (wpE (defs₀ (F := Ideal)) Variants.none c none) Set.univ (bodyAt0 t) (fun _ => bodyPost m c t) := by
  unfold bodyPre bodyPost bodyAt0
  simp only [bef_0, bef_1, bef_2, bef_3, bef_4, bef_5, bef_6, bef_7, bef_8, bef_9]
  simp only [bef_10 m c t h0, bef_14 m c t h0]
  rw [show (dats m 0 c).Φ t.succ = (dats m 0 c).Φ t.castSucc from rfl,
    show (dats m 0 c).owesAt () t.succ = (dats m 0 c).owesAt () t.castSucc from rfl,
    aft_0, aft_1, aft_2, aft_3, aft_4, aft_5, aft_6, aft_7, aft_8, aft_9, aft_10, aft_11, aft_12, aft_13, aft_14, step12_B m c t h0 h1, step16_B m c t h0]
  rw [show (dats m 0 c).Φ t.castSucc = Pipeline.ΦA spec0 c from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (tripleB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) sc2 (Memref.isWhole_whole _) (fun h => h0 ((cond0_iff t).mp h)) (fun h => h1 ((cond1_iff t).mp h)) (trips_eq t) (iblk m c 0 t) (iblk m c 1 t) (iblk m c 2 t) (iblk m c 3 t) (iblk m c 4 t) (iblk m c 5 t) (iblk m c 6 t) (iblk m c 7 t) (iblk m c 8 t) (iblk m c 9 t) (aft12 m c (t.val - 1)) (aft16 m c (t.val - 1)) (Bt m c t) rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 4000000 in
theorem sound_C (c : Dev nD) (t : Fin cfg0.N) (h0 : t.val % 32 ≠ 0) (h1 : t.val % 32 = 31) :
    bodyPre m c t ⊢ wp frame (wpE (defs₀ (F := Ideal)) Variants.none c none) Set.univ (bodyAt0 t) (fun _ => bodyPost m c t) := by
  unfold bodyPre bodyPost bodyAt0
  simp only [bef_0, bef_1, bef_2, bef_3, bef_4, bef_5, bef_6, bef_7, bef_8, bef_9]
  simp only [bef_10 m c t h0, bef_14 m c t h0]
  rw [show (dats m 0 c).Φ t.succ = (dats m 0 c).Φ t.castSucc from rfl,
    show (dats m 0 c).owesAt () t.succ = (dats m 0 c).owesAt () t.castSucc from rfl,
    aft_0, aft_1, aft_2, aft_3, aft_4, aft_5, aft_6, aft_7, aft_8, aft_9, aft_10, aft_11, aft_12, aft_13, aft_14, step12_C m c t h1, step16_B m c t h0]
  rw [show (dats m 0 c).Φ t.castSucc = Pipeline.ΦA spec0 c from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (tripleC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) sc2 (Memref.isWhole_whole _) (fun h => h0 ((cond0_iff t).mp h)) ((cond1_iff t).mpr h1) (trips_eq t) (iblk m c 0 t) (iblk m c 1 t) (iblk m c 2 t) (iblk m c 3 t) (iblk m c 4 t) (iblk m c 5 t) (iblk m c 6 t) (iblk m c 7 t) (iblk m c 8 t) (iblk m c 9 t) (aft12 m c (t.val - 1)) (aft16 m c (t.val - 1)) (Bt m c t) rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any grid point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 32 = 0
  · exact sound_A m c t h0 (by omega)
  · by_cases h1 : t.val % 32 = 31
    · exact sound_C m c t h0 h1
    · exact sound_B m c t h0 h1

theorem body_row (t : Fin cfg0.N) :
    defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, body_row]
  exact triple_restated (sound_body m c t) rfl .rfl fun _ => .rfl

set_option backward.isDefEq.respectTransparency.types false in
/-- The launch: every array ends at what the grid points leave in it, and every semaphore counter reads zero. -/
theorem launched : θ_run defs (onTc (τ := τ) (main (F := Ideal))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The frame of the attention kernel's backward pass. -/
theorem framed : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.KernelIdeal.Point
-- ==== Proof.Outputs.lean ====
/- The result arrays after the run of the kernel. -/
module

public import proofs.«01_k».proof.Proof.Body
public import Idealize.ShloMosaic.Lib.Pipeline.ValueKit

@[expose] public section

set_option maxRecDepth 16384

noncomputable section

namespace Cert.KernelIdeal.Point

open Idealize.ShloMosaic Idealize.ShloMosaic.TcCoe Idealize.ShloMosaic.Tactic
open Cert.KernelIdeal Cert.KernelIdeal.Gen

variable {m : (ℓ : Loc nD τ sig) → Buf (Elt Ideal) ℓ} {r : PUnit × MemSt nD τ sig (Elt Ideal)}
  (h : Pipeline.FramePost cfgs (dats m) 0 (V m) r) (c : Dev nD)
include h

theorem out0 : r.2.mem ((c.tc : Thread nD τ).loc main_v60_0) = (dats m 0 c).arrAt 10 cfg0.N := h.out_eq c 10

theorem out1 : r.2.mem ((c.tc : Thread nD τ).loc main_v60_1) = (dats m 0 c).arrAt 11 cfg0.N := h.out_eq c 11

theorem out2 : r.2.mem ((c.tc : Thread nD τ).loc main_v60_2) = (dats m 0 c).arrAt 12 cfg0.N := h.out_eq c 12

theorem out3 : r.2.mem ((c.tc : Thread nD τ).loc main_v60_3) = (dats m 0 c).arrAt 13 cfg0.N := h.out_eq c 13

theorem out4 : r.2.mem ((c.tc : Thread nD τ).loc main_v60_4) = (dats m 0 c).arrAt 14 cfg0.N := h.out_eq c 14

end Cert.KernelIdeal.Point
-- ==== Proof.Blocks.lean ====
/- The blocks that a grid point of the kernel reads, at coordinates. -/
module

public import proofs.«01_k».proof.Proof.Windows
public import Idealize.ShloMosaic.Lib.Pipeline.ValueKit

@[expose] public section

set_option maxRecDepth 16384

noncomputable section

namespace Cert.KernelIdeal.Point

open Idealize.ShloMosaic Idealize.ShloMosaic.TcCoe Idealize.ShloMosaic.Tactic
open Cert.KernelIdeal Cert.KernelIdeal.Gen

/-- The pair of heads of a grid point. -/
def pj (t : Fin cfg0.N) : Fin 4 := ⟨(grid0.coords t 0).val, (grid0.coords t 0).isLt⟩

/-- The key block of a grid point. -/
def pk (t : Fin cfg0.N) : Fin 32 := ⟨(grid0.coords t 1).val, (grid0.coords t 1).isLt⟩

theorem idxIn : ∀ t : Fin cfg0.N, win0_0.index t = ![0, (pj t).val] ∧ win0_1.index t = ![(pk t).val, 4 + (pj t).val]
    ∧ win0_2.index t = ![4 + (pj t).val, (pk t).val] ∧ win0_3.index t = ![(pk t).val, 8 + (pj t).val]
    ∧ win0_4.index t = ![(pk t).val, 0] ∧ win0_5.index t = ![(pj t).val, 0, 0] ∧ win0_6.index t = ![(pj t).val, 0, 0]
    ∧ win0_7.index t = ![(pj t).val, 0] ∧ win0_8.index t = ![0, (pj t).val] ∧ win0_9.index t = ![(pj t).val, 0] :=
  (by decide +kernel : ∀ t : Fin grid0.N, _)

theorem idxOut : ∀ t : Fin cfg0.N, win0_10.index t = ![(pj t).val, 0] ∧ win0_11.index t = ![(pj t).val, (pk t).val]
    ∧ win0_12.index t = ![(pj t).val, (pk t).val] ∧ win0_13.index t = ![(pj t).val, (pk t).val, 0]
    ∧ win0_14.index t = ![(pj t).val, 0, 0] :=
  (by decide +kernel : ∀ t : Fin grid0.N, _)

theorem pt_coords : ∀ (j : Fin 4) (k : Fin 32), pj (pt (32 * j.val + k.val)) = j ∧ pk (pt (32 * j.val + k.val)) = k := by
  decide +kernel

theorem coords_pt : ∀ t : Fin cfg0.N, t.val = 32 * (pj t).val + (pk t).val :=
  (by decide +kernel : ∀ t : Fin grid0.N, _)

variable (m : (ℓ : Loc nD τ sig) → Buf (Elt Ideal) ℓ) (c : Dev nD) (t : Fin cfg0.N)

/-- Key `r` of the block of a grid point. -/
def kr (k : Fin 32) (r : Fin 512) : Fin 16384 := ⟨512 * k.val + r.val, by have := k.isLt; have := r.isLt; omega⟩

/-- Column `d` of the pair `j` in one of the joined arrays, from column `b`. -/
def pc (b : Fin 3) (j : Fin 4) (d : Fin 128) : Fin 1536 :=
  ⟨512 * b.val + 128 * j.val + d.val, by have := b.isLt; have := j.isLt; have := d.isLt; omega⟩

/-- Column `d` of the pair `j`. -/
def pd (j : Fin 4) (d : Fin 128) : Fin 512 := ⟨128 * j.val + d.val, by have := j.isLt; have := d.isLt; omega⟩

theorem ib0 (x : Fin 16384) (d : Fin 128) : iblk m c 0 t (ix2 x d) = V m c main_v50 (ix2 x (pc 0 (pj t) d)) := by
  blk_ext [iblk, pc, kr, pd, idxIn t]

theorem ib1 (r : Fin 512) (d : Fin 128) : iblk m c 1 t (ix2 r d) = V m c main_v50 (ix2 (kr (pk t) r) (pc 1 (pj t) d)) := by
  blk_ext [iblk, pc, kr, pd, idxIn t]

theorem ib2 (d : Fin 128) (r : Fin 512) : iblk m c 2 t (ix2 d r) = V m c main_v52 (ix2 (pc 1 (pj t) d) (kr (pk t) r)) := by
  blk_ext [iblk, pc, kr, pd, idxIn t]

theorem ib3 (r : Fin 512) (d : Fin 128) : iblk m c 3 t (ix2 r d) = V m c main_v50 (ix2 (kr (pk t) r) (pc 2 (pj t) d)) := by
  blk_ext [iblk, pc, kr, pd, idxIn t]

theorem ib4 (r : Fin 512) (l : Fin 128) : iblk m c 4 t (ix2 r l) = V m c main_v49 (ix2 (kr (pk t) r) l) := by
  blk_ext [iblk, pc, kr, pd, idxIn t]

theorem ib5 (e : Fin 8) (x : Fin 16384) : iblk m c 5 t (ix3 0 e x) = V m c main_v57 (ix3 (pj t) e x) := by
  blk_ext [iblk, pc, kr, pd, idxIn t]

theorem ib6 (e : Fin 8) (x : Fin 16384) : iblk m c 6 t (ix3 0 e x) = V m c main_v59 (ix3 (pj t) e x) := by
  blk_ext [iblk, pc, kr, pd, idxIn t]

theorem ib7 (d : Fin 128) (x : Fin 16384) : iblk m c 7 t (ix2 d x) = V m c main_v52 (ix2 (pc 0 (pj t) d) x) := by
  blk_ext [iblk, pc, kr, pd, idxIn t]

theorem ib8 (x : Fin 16384) (d : Fin 128) : iblk m c 8 t (ix2 x d) = V m c main_v53 (ix2 x (pd (pj t) d)) := by
  blk_ext [iblk, pc, kr, pd, idxIn t]

theorem ib9 (d : Fin 128) (x : Fin 16384) : iblk m c 9 t (ix2 d x) = V m c main_v55 (ix2 (pd (pj t) d) x) := by
  blk_ext [iblk, pc, kr, pd, idxIn t]

end Cert.KernelIdeal.Point
-- ==== Proof.Host.lean ====
/- What the host computes before the kernel starts, over real arguments. -/
module

public import proofs.«01_k».proof.Proof.Windows
public import proofs.«01_k».proof.Proof.RefSide

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Cert.Maths
open Cert.ReferenceIdeal.Read (val_main_v20_0 val_main_v21)

section Terms

variable (x0 x1 x2 x4 : FVec Ideal S16384x512 .f32) (x3 : FVec Ideal S16384x8 .f32)

def hLn2 : FVec Ideal S_ .f32 := Host.log (constant (F := Ideal) S_ .f32 0x40000000#32)

def hc : FVec Ideal S16384x128 .f32 :=
  pad S16384x128 ![0, 0] ![0, 120] ![0, 0] (Host.divf x3 (broadcastInDim S16384x8 ![] bcast_S_S16384x8 hLn2))
    (sitofp (F := Ideal) .f32 (constantI S_ 32 0#32)) pads_S16384x8_S16384x128_000_01200 h_S_

def hqkv : FVec Ideal S16384x1536 .f32 :=
  concatenate S16384x1536 1 [⟨S16384x512, mulf x0 (broadcastInDim S16384x512 ![] bcast_S_S16384x512 (Host.divf (constant (F := Ideal) S_ .f32 0x3E000000#32) hLn2))⟩,
    ⟨S16384x512, x1⟩, ⟨S16384x512, x2⟩] concatenates_S16384x512_S16384x512_S16384x512_S16384x1536_d1

/-- The weights after the shift by the row's greatest logit. -/
def he : FVec Ideal S8x16384x16384 .f32 :=
  Host.exp (subf (val_main_v20_0 (F := Ideal) x0 x1 x3) (broadcastInDim S8x16384x16384 ![0, 1, 2] bcast_S8x16384x1_S8x16384x16384_0_1_2
    (broadcastInDim S8x16384x1 ![0, 1] bcast_S8x16384_S8x16384x1_0_1 (val_main_v21 (F := Ideal) x0 x1 x3))))

/-- Their sum. -/
def hl : FVec Ideal S8x16384 .f32 :=
  Host.reduceAdd (he x0 x1 x3) (constant (F := Ideal) S_ .f32 0x00000000#32) reducesTo_S8x16384x16384_S8x16384_d2 h_S_

/-- The probabilities. -/
def hp : FVec Ideal S8x16384x16384 .f32 :=
  Host.divf (he x0 x1 x3) (broadcastInDim S8x16384x16384 ![0, 1, 2] bcast_S8x16384x1_S8x16384x16384_0_1_2
    (broadcastInDim S8x16384x1 ![0, 1] bcast_S8x16384_S8x16384x1_0_1 (hl x0 x1 x3)))

/-- The output of the attention. -/
def ho : FVec Ideal S8x16384x64 .f32 :=
  Host.dotGeneral dot_S8x16384x16384_S16384x8x64_S8x16384x64_2_0_1_2_0_1 none (hp x0 x1 x3) (shapeCast S16384x8x64 x2 shapeCasts_S16384x512_S16384x8x64)

/-- The row sums of the output times its cotangent. -/
def hd' : FVec Ideal S8x16384 .f32 :=
  Host.reduceAdd (mulf (transpose S8x16384x64 [1, 0, 2] (shapeCast S16384x8x64 x4 shapeCasts_S16384x512_S16384x8x64) transposes_S16384x8x64_S8x16384x64_1_0_2) (ho x0 x1 x2 x3))
    (constant (F := Ideal) S_ .f32 0x00000000#32) reducesTo_S8x16384x64_S8x16384_d2 h_S_

/-- The decays minus the log-sum-exp, in powers of two. -/
def ha : FVec Ideal S8x16384 .f32 :=
  Host.divf (subf (transpose S8x16384 [1, 0] x3 transposes_S16384x8_S8x16384_1_0) (addf (val_main_v21 (F := Ideal) x0 x1 x3) (Host.log (hl x0 x1 x3))))
    (broadcastInDim S8x16384 ![] bcast_S_S8x16384 hLn2)

/-- Eight row vectors of a pair of heads. -/
def hrows (y : FVec Ideal S8x16384 .f32) : FVec Ideal S4x8x16384 .f32 :=
  pad S4x8x16384 ![0, 0, 0] ![0, 6, 0] ![0, 0, 0] (shapeCast S4x2x16384 y shapeCasts_S8x16384_S4x2x16384)
    (sitofp (F := Ideal) .f32 (constantI S_ 32 0#32)) pads_S4x2x16384_S4x8x16384_000_060_000 h_S_

/-- The cotangent, and its transpose. -/
def hdo : FVec Ideal S16384x512 .bf16 := truncf (F := Ideal) .bf16 x4 bitsLt_bf16_f32
def hdot : FVec Ideal S512x16384 .bf16 := truncf (F := Ideal) .bf16 (transpose S512x16384 [1, 0] x4 transposes_S16384x512_S512x16384_1_0) bitsLt_bf16_f32

end Terms

section Entry

variable (m : (ℓ : Loc nD τ sig) → Buf (Elt Ideal) ℓ) (c : Dev nD)

theorem entry49 : V m c main_v49 = hc (m ((c.tc : Thread nD τ).loc main_arg3)) := by
  unfold V
  simp only [hostOps0, hostOps0_1, hostOps0_2, hostOps0_3, hostOps0_4, hostOps0_5, hostOps0_6, hostOps0_7, List.flatten_cons, List.flatten_nil, List.append_nil, List.nil_append, List.cons_append]
  after_results
  rfl

theorem entry50 : V m c main_v50 = truncf .bf16 (hqkv (m ((c.tc : Thread nD τ).loc main_arg0)) (m ((c.tc : Thread nD τ).loc main_arg1)) (m ((c.tc : Thread nD τ).loc main_arg2))) bitsLt_bf16_f32 := by
  unfold V
  simp only [hostOps0, hostOps0_1, hostOps0_2, hostOps0_3, hostOps0_4, hostOps0_5, hostOps0_6, hostOps0_7, List.flatten_cons, List.flatten_nil, List.append_nil, List.nil_append, List.cons_append]
  after_results
  rfl

theorem entry52 : V m c main_v52 = truncf .bf16 (transpose S1536x16384 [1, 0] (hqkv (m ((c.tc : Thread nD τ).loc main_arg0)) (m ((c.tc : Thread nD τ).loc main_arg1)) (m ((c.tc : Thread nD τ).loc main_arg2))) transposes_S16384x1536_S1536x16384_1_0) bitsLt_bf16_f32 := by
  unfold V
  simp only [hostOps0, hostOps0_1, hostOps0_2, hostOps0_3, hostOps0_4, hostOps0_5, hostOps0_6, hostOps0_7, List.flatten_cons, List.flatten_nil, List.append_nil, List.nil_append, List.cons_append]
  after_results
  rfl

theorem entry53 : V m c main_v53 = hdo (m ((c.tc : Thread nD τ).loc main_arg4)) := by
  unfold V
  simp only [hostOps0, hostOps0_1, hostOps0_2, hostOps0_3, hostOps0_4, hostOps0_5, hostOps0_6, hostOps0_7, List.flatten_cons, List.flatten_nil, List.append_nil, List.nil_append, List.cons_append]
  after_results
  rfl

theorem entry55 : V m c main_v55 = hdot (m ((c.tc : Thread nD τ).loc main_arg4)) := by
  unfold V
  simp only [hostOps0, hostOps0_1, hostOps0_2, hostOps0_3, hostOps0_4, hostOps0_5, hostOps0_6, hostOps0_7, List.flatten_cons, List.flatten_nil, List.append_nil, List.nil_append, List.cons_append]
  after_results
  rfl

theorem entry57 : V m c main_v57 = hrows (ha (m ((c.tc : Thread nD τ).loc main_arg0)) (m ((c.tc : Thread nD τ).loc main_arg1)) (m ((c.tc : Thread nD τ).loc main_arg3))) := by
  unfold V
  simp only [hostOps0, hostOps0_1, hostOps0_2, hostOps0_3, hostOps0_4, hostOps0_5, hostOps0_6, hostOps0_7, List.flatten_cons, List.flatten_nil, List.append_nil, List.nil_append, List.cons_append]
  after_results
  rfl

theorem entry59 : V m c main_v59 = hrows (hd' (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3))) := by
  unfold V
  simp only [hostOps0, hostOps0_1, hostOps0_2, hostOps0_3, hostOps0_4, hostOps0_5, hostOps0_6, hostOps0_7, List.flatten_cons, List.flatten_nil, List.append_nil, List.nil_append, List.cons_append]
  after_results
  rfl

end Entry

end Cert.KernelIdeal.Point
-- ==== Proof.HostReal.lean ====
/- What the host computes before the kernel starts, as real numbers. -/
module

public import proofs.«01_k».proof.Proof.Host

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Cert.Maths
open Cert.ReferenceIdeal.Read (val_main_v20_0 val_main_v21)
open Cert.RefSide (x0 x1 x2 x3 x4)

theorem log2_pos : (0 : ℝ) < Real.log 2 := Real.log_pos one_lt_two

theorem hLn2_at (i : S_.Idx) : hLn2 i = ((Real.log 2 : ℝ) : EReal) := by
  show Ideal.log (Ideal.ofBits .f32 0x40000000#32) = _
  rw [ofBits_two, Ideal.log_coe, if_neg (by norm_num)]

theorem sit0 (i : S_.Idx) : sitofp (F := Ideal) .f32 (constantI S_ 32 0#32) i = (0 : EReal) := by
  show (((0#32 : BitVec 32).toInt : ℝ) : EReal) = 0
  norm_num

/-- The greatest logit of a row. -/
def mx (A : Args) (h : Fin 8) (t : Fin 16384) : ℝ := (Cert.RefSide.v21 A h t).choose

theorem mx_spec (A : Args) (h : Fin 8) (t : Fin 16384) : val_main_v21 (F := Ideal) (x0 A) (x1 A) (x3 A) (ix2 h t) = ((mx A h t : ℝ) : EReal) :=
  (Cert.RefSide.v21 A h t).choose_spec

variable (A : Args)

theorem hc_at (t : Fin 16384) (l : Fin 128) : hc (x3 A) (ix2 t l) = if h : l.val < 8 then ((A.c t ⟨l.val, h⟩ / Real.log 2 : ℝ) : EReal) else 0 := by
  pointwise [hc]
  by_cases hl : l.val < 8
  · rw [dif_pos hl, dif_pos hl]
    refine Eq.trans (congrArg (Ideal.div _) (hLn2_at _)) ?_
    exact div_real log2_pos.ne'
  · rw [dif_neg hl, dif_neg hl]
    exact sit0 (Shape.Idx.first h_S_)

/-- The three joined arrays. -/
def qkv (t : Fin 16384) (e : Fin 1536) : ℝ :=
  if h : e.val < 512 then A.q t ⟨e.val, h⟩ * ((1 / 8) / Real.log 2)
  else if h' : e.val - 512 < 512 then A.k t ⟨e.val - 512, h'⟩
  else A.v t ⟨e.val - 512 - 512, by have := e.isLt; omega⟩

theorem scale_at (i : S_.Idx) : Host.divf (constant (F := Ideal) S_ .f32 0x3E000000#32) hLn2 i = (((1 / 8) / Real.log 2 : ℝ) : EReal) := by
  show Ideal.div (Ideal.ofBits .f32 0x3E000000#32) (hLn2 i) = _
  rw [ofBits_eighth, hLn2_at, div_real log2_pos.ne']

theorem hqkv_at (t : Fin 16384) (e : Fin 1536) : hqkv (x0 A) (x1 A) (x2 A) (ix2 t e) = ((qkv A t e : ℝ) : EReal) := by
  unfold hqkv
  have hs := scale_at
  generalize Host.divf (constant (F := Ideal) S_ .f32 0x3E000000#32) hLn2 = s at hs ⊢
  pointwise []
  unfold qkv
  by_cases h : e.val < 512
  · rw [dif_pos h, dif_pos h, hs, EReal.coe_mul]
    rfl
  · rw [dif_neg h, dif_neg h]
    by_cases h' : e.val - 512 < 512
    · rw [dif_pos h', dif_pos h']
      rfl
    · rw [dif_neg h', dif_neg h']
      rfl

theorem he_at (h : Fin 8) (t r : Fin 16384) : he (x0 A) (x1 A) (x3 A) (ix3 h t r) = ((A.w h t r * Real.exp (-mx A h t) : ℝ) : EReal) := by
  have e : he (x0 A) (x1 A) (x3 A) (ix3 h t r) = Ideal.exp (val_main_v20_0 (F := Ideal) (x0 A) (x1 A) (x3 A) (ix3 h t r) - val_main_v21 (F := Ideal) (x0 A) (x1 A) (x3 A) (ix2 h t)) := by
    unfold he
    generalize val_main_v20_0 (F := Ideal) (x0 A) (x1 A) (x3 A) = y
    generalize val_main_v21 (F := Ideal) (x0 A) (x1 A) (x3 A) = z
    pointwise []
  rw [e, mx_spec, Cert.RefSide.v20, ← A.w_shift (mx A h t) h t r]
  split
  · rw [← EReal.coe_sub, Ideal.exp_coe]
  · rw [EReal.bot_sub, Ideal.exp_bot, EReal.coe_zero]

theorem hl_at (h : Fin 8) (t : Fin 16384) : hl (x0 A) (x1 A) (x3 A) (ix2 h t) = ((A.L h t * Real.exp (-mx A h t) : ℝ) : EReal) := by
  have e : hl (x0 A) (x1 A) (x3 A) (ix2 h t) = ∑ r : Fin 16384, he (x0 A) (x1 A) (x3 A) (ix3 h t r) := by
    unfold hl
    generalize he (x0 A) (x1 A) (x3 A) = y
    pointwise []
  rw [e, sum_coe _ fun r => he_at A h t r, A.L_shift]

theorem hp_at (h : Fin 8) (t r : Fin 16384) : hp (x0 A) (x1 A) (x3 A) (ix3 h t r) = ((A.p h t r : ℝ) : EReal) := by
  have e : hp (x0 A) (x1 A) (x3 A) (ix3 h t r) = Ideal.div (he (x0 A) (x1 A) (x3 A) (ix3 h t r)) (hl (x0 A) (x1 A) (x3 A) (ix2 h t)) := by
    unfold hp
    generalize he (x0 A) (x1 A) (x3 A) = y
    generalize hl (x0 A) (x1 A) (x3 A) = z
    pointwise []
  rw [e, he_at, hl_at, div_real (A.L_shift_pos _ h t).ne', A.p_shift]

theorem ho_at (h : Fin 8) (t : Fin 16384) (d : Fin 64) : ho (x0 A) (x1 A) (x2 A) (x3 A) (ix3 h t d) = ((∑ r, A.p h t r * A.v r (col h d) : ℝ) : EReal) := by
  have e : ho (x0 A) (x1 A) (x2 A) (x3 A) (ix3 h t d) = ∑ r : Fin 16384, hp (x0 A) (x1 A) (x3 A) (ix3 h t r) * x2 A (ix2 r (col h d)) := by
    unfold ho
    generalize hp (x0 A) (x1 A) (x3 A) = y
    generalize x2 A = z
    pointwise []
    rfl
  rw [e]
  exact sum_coe _ fun r => by rw [hp_at, EReal.coe_mul]; rfl

theorem hd_at (h : Fin 8) (t : Fin 16384) : hd' (x0 A) (x1 A) (x2 A) (x4 A) (x3 A) (ix2 h t) = ((A.dl h t : ℝ) : EReal) := by
  have e : hd' (x0 A) (x1 A) (x2 A) (x4 A) (x3 A) (ix2 h t) = ∑ d : Fin 64, x4 A (ix2 t (col h d)) * ho (x0 A) (x1 A) (x2 A) (x3 A) (ix3 h t d) := by
    unfold hd'
    generalize ho (x0 A) (x1 A) (x2 A) (x3 A) = y
    generalize x4 A = z
    pointwise []
    rfl
  rw [e, ← A.dl_eq h t]
  exact sum_coe _ fun d => by rw [ho_at, EReal.coe_mul]; rfl

/-- The row vector of `(c − lse)/ln 2`. -/
def al (h : Fin 8) (t : Fin 16384) : ℝ := (A.c t h - (mx A h t + Real.log (A.L h t * Real.exp (-mx A h t)))) / Real.log 2

theorem ha_read (y z : FVec Ideal S8x16384 .f32) (w : FVec Ideal S16384x8 .f32) (s : FVec Ideal S_ .f32) (h : Fin 8) (t : Fin 16384) :
   (Host.divf (subf (transpose S8x16384 [1, 0] w transposes_S16384x8_S8x16384_1_0) (addf y (Host.log z)))
    (broadcastInDim S8x16384 ![] bcast_S_S8x16384 s) : FVec Ideal S8x16384 .f32) (ix2 h t) = Ideal.div ((w (ix2 t h) : EReal) - ((y (ix2 h t) : EReal) + Ideal.log (z (ix2 h t)))) (s ix0) := by
  pointwise []
theorem ha_at (h : Fin 8) (t : Fin 16384) : ha (x0 A) (x1 A) (x3 A) (ix2 h t) = ((al A h t : ℝ) : EReal) := by
  unfold ha al
  rw [ha_read, mx_spec, hl_at, hLn2_at, Ideal.log_coe, if_neg (A.L_shift_pos _ h t).not_ge, ← EReal.coe_add]
  have ex : (x3 A (ix2 t h) : EReal) = ((A.c t h : ℝ) : EReal) := rfl
  rw [ex, ← EReal.coe_sub, div_real log2_pos.ne']

theorem hrows_at (y : FVec Ideal S8x16384 .f32) (j : Fin 4) (e : Fin 8) (t : Fin 16384) :
    hrows y (ix3 j e t) = if h : e.val < 2 then y (ix2 ⟨2 * j.val + e.val, by have := j.isLt; omega⟩ t) else (0 : EReal) := by
  unfold hrows
  have hs := sit0
  generalize sitofp (F := Ideal) .f32 (constantI S_ 32 0#32) = s at hs ⊢
  pointwise []
  by_cases he : e.val < 2
  · rw [dif_pos he, dif_pos he]
    refine congrArg (fun k => y (ix2 k t)) (Fin.ext ?_)
    show j.val * 2 + e.val = 2 * j.val + e.val
    omega
  · rw [dif_neg he, dif_neg he]
    exact hs _

end Cert.KernelIdeal.Point
-- ==== Proof.BlockReal.lean ====
/- What a grid point of the kernel computes, as real numbers. -/
module

public import proofs.«01_k».proof.Proof.Blocks
public import proofs.«01_k».proof.Proof.HostReal

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Cert.Maths
open Cert.RefSide (x0 x1 x2 x3 x4)

/-- Head `h` of the pair `j`. -/
def hh (j : Fin 4) (h : Fin 2) : Fin 8 := ⟨2 * j.val + h.val, by have := j.isLt; have := h.isLt; omega⟩

/-- Lane `d` of head `h` of a pair. -/
def ld (h : Fin 2) (d : Fin 64) : Fin 128 := ⟨64 * h.val + d.val, by have := h.isLt; have := d.isLt; omega⟩

theorem pd_ld (j : Fin 4) (h : Fin 2) (d : Fin 64) : pd j (ld h d) = col (hh j h) d :=
  Fin.ext (by show 128 * j.val + (64 * h.val + d.val) = (2 * j.val + h.val) * 64 + d.val; omega)

/-- A sum over the lanes that keeps one head. -/
theorem half (f : Fin 128 → ℝ) (h : Fin 2) : (∑ d : Fin 128, if d.val / 64 = h.val then f d else 0) = ∑ d : Fin 64, f (ld h d) := by
  rw [← Finset.sum_filter]
  refine Finset.sum_bij' (fun d _ => (⟨d.val % 64, Nat.mod_lt _ (by decide)⟩ : Fin 64)) (fun d _ => ld h d) ?_ ?_ ?_ ?_ ?_
  · intro d _; exact Finset.mem_univ _
  · intro d _
    refine Finset.mem_filter.2 ⟨Finset.mem_univ _, ?_⟩
    have := d.isLt
    show (64 * h.val + d.val) / 64 = h.val
    omega
  · intro d hd
    have e := (Finset.mem_filter.1 hd).2
    refine Fin.ext ?_
    show 64 * h.val + d.val % 64 = d.val
    omega
  · intro d _
    have := d.isLt
    refine Fin.ext ?_
    show (64 * h.val + d.val) % 64 = d.val
    omega
  · intro d hd
    have e := (Finset.mem_filter.1 hd).2
    refine congrArg f (Fin.ext ?_)
    show d.val = 64 * h.val + d.val % 64
    omega

/-- A value kept where `P` holds, times a real. -/
theorem ite_mul_coe (P : Prop) [Decidable P] (a b : ℝ) :
    ((if P then ((a : ℝ) : EReal) else 0) * (b : EReal) : EReal) = (((if P then a * b else 0) : ℝ) : EReal) := by
  split
  · exact (EReal.coe_mul _ _).symm
  · rw [zero_mul, EReal.coe_zero]

/-- The block of values of the pair `j` of heads and the key block `k`, as real numbers. -/
structure IsReal (A : Args) (B : Blk) (j : Fin 4) (k : Fin 32) : Prop where
  kh : ∀ h r d, B.kh h (ix2 r d) = if d.val / 64 = h.val then ((A.k (kr k r) (pd j d) : ℝ) : EReal) else (0 : EReal)
  vh : ∀ h r d, B.vh h (ix2 r d) = if d.val / 64 = h.val then ((A.v (kr k r) (pd j d) : ℝ) : EReal) else (0 : EReal)
  kth : ∀ h d r, B.kth h (ix2 d r) = if d.val / 64 = h.val then ((A.k (kr k r) (pd j d) : ℝ) : EReal) else (0 : EReal)
  ch : ∀ h r, B.ch h (ix2 r 0) = ((A.c (kr k r) (hh j h) / Real.log 2 : ℝ) : EReal)
  q : ∀ t d, B.q (ix2 t d) = ((A.q t (pd j d) * ((1 / 8) / Real.log 2) : ℝ) : EReal)
  al : ∀ h t, B.al (ix3 0 (Blk.row h) t) = ((al A (hh j h) t : ℝ) : EReal)
  dl : ∀ h t, B.dl (ix3 0 (Blk.row h) t) = ((A.dl (hh j h) t : ℝ) : EReal)
  qt : ∀ d t, B.qt (ix2 d t) = ((A.q t (pd j d) * ((1 / 8) / Real.log 2) : ℝ) : EReal)
  dO : ∀ t d, B.dO (ix2 t d) = ((A.dO t (pd j d) : ℝ) : EReal)
  dOt : ∀ d t, B.dOt (ix2 d t) = ((A.dO t (pd j d) : ℝ) : EReal)
  kj : B.kj = k.val

section Real

variable {A : Args} {B : Blk} {j : Fin 4} {k : Fin 32} (R : IsReal A B j k)
include R

theorem z_real (h : Fin 2) (r : Fin 512) (t : Fin 16384) :
    B.z h r t = (((∑ d, A.k (kr k r) (col (hh j h) d) * (A.q t (col (hh j h) d) * ((1 / 8) / Real.log 2)))
      + (al A (hh j h) t - A.c (kr k r) (hh j h) / Real.log 2) : ℝ) : EReal) := by
  unfold Blk.z
  have e : (∑ d : Fin 128, (B.kh h (ix2 r d) : EReal) * B.q (ix2 t d)) = ((∑ d, A.k (kr k r) (col (hh j h) d) * (A.q t (col (hh j h) d) * ((1 / 8) / Real.log 2)) : ℝ) : EReal) := by
    refine (sum_coe (fun d : Fin 128 => if d.val / 64 = h.val then A.k (kr k r) (pd j d) * (A.q t (pd j d) * ((1 / 8) / Real.log 2)) else 0) fun d => ?_).trans (congrArg _ ?_)
    · rw [R.kh, R.q]
      exact ite_mul_coe _ _ _
    · rw [half (fun d => A.k (kr k r) (pd j d) * (A.q t (pd j d) * ((1 / 8) / Real.log 2))) h]
      exact Finset.sum_congr rfl fun d _ => by rw [pd_ld]
  rw [e, R.al, R.ch, ← EReal.coe_sub, ← EReal.coe_add]

theorem p_real (h : Fin 2) (r : Fin 512) (t : Fin 16384) : B.p h r t = ((A.p (hh j h) t (kr k r) : ℝ) : EReal) := by
  unfold Blk.p Blk.pe
  rw [z_real R, Ideal.exp2_coe, R.kj, ← A.p_pow (mx A (hh j h) t)]
  show (if (kr k r).val ≤ t.val then _ else _) = _
  split
  · rfl
  · exact EReal.coe_zero.symm

theorem u_real (h : Fin 2) (r : Fin 512) (t : Fin 16384) :
    B.u h r t = ((A.dP (hh j h) t (kr k r) - A.dl (hh j h) t : ℝ) : EReal) := by
  unfold Blk.u
  have e : (∑ d : Fin 128, (B.vh h (ix2 r d) : EReal) * B.dO (ix2 t d)) = ((A.dP (hh j h) t (kr k r) : ℝ) : EReal) := by
    refine (sum_coe (fun d : Fin 128 => if d.val / 64 = h.val then A.v (kr k r) (pd j d) * A.dO t (pd j d) else 0) fun d => ?_).trans (congrArg _ ?_)
    · rw [R.vh, R.dO]
      exact ite_mul_coe _ _ _
    · rw [half (fun d => A.v (kr k r) (pd j d) * A.dO t (pd j d)) h]
      exact Finset.sum_congr rfl fun d _ => by rw [pd_ld, mul_comm]
  rw [e, R.dl, ← EReal.coe_sub]

theorem s_real (h : Fin 2) (r : Fin 512) (t : Fin 16384) : B.s h r t = ((A.ds (hh j h) t (kr k r) : ℝ) : EReal) := by
  unfold Blk.s
  rw [p_real R, u_real R, ← EReal.coe_mul]
  rfl

theorem hd_pd (h : Fin 2) (d : Fin 128) (e : d.val / 64 = h.val) : hd (pd j d) = hh j h :=
  Fin.ext (by show (128 * j.val + d.val) / 64 = 2 * j.val + h.val; omega)

theorem out13_real (d : Fin 128) (r : Fin 512) : out13 B (ix2 d r) = ((A.dk (hd (pd j d)) (ln (pd j d)) (kr k r) : ℝ) : EReal) := by
  have key : ∀ h : Fin 2, d.val / 64 = h.val → (∑ t : Fin 16384, (B.qt (ix2 d t) : EReal) * B.s h r t) * ((Real.log 2 : ℝ) : EReal)
      = ((A.dk (hd (pd j d)) (ln (pd j d)) (kr k r) : ℝ) : EReal) := fun h hh' => by
    rw [sum_coe (fun t => A.q t (pd j d) * ((1 / 8) / Real.log 2) * A.ds (hh j h) t (kr k r)) fun t => by rw [R.qt, s_real R]; exact (EReal.coe_mul _ _).symm, ← EReal.coe_mul, Finset.sum_mul]
    unfold Args.dk
    refine congrArg _ (Finset.sum_congr rfl fun t _ => ?_)
    rw [col_hd, hd_pd R h d hh']
    have := log2_pos.ne'
    field_simp
  have l : Named.named (F := Ideal) (φ := .f32) κ "ln2" 0x3F317218#32 = ((Real.log 2 : ℝ) : EReal) :=
    IdealRules.named_const.ideal_named_scalar κ "ln2" _ ((Real.log 2 : ℝ) : EReal) rfl
  unfold out13
  rw [l]
  have hd2 : d.val < 128 := d.isLt
  by_cases h : d.val / 64 = 0
  · exact (congrArg (· * ((Real.log 2 : ℝ) : EReal)) (if_pos h)).trans (key 0 h)
  · exact (congrArg (· * ((Real.log 2 : ℝ) : EReal)) (if_neg h)).trans (key 1 (by show d.val / 64 = 1; omega))

theorem out14_real (d : Fin 128) (r : Fin 512) : out14 B (ix2 d r) = ((A.dv (hd (pd j d)) (ln (pd j d)) (kr k r) : ℝ) : EReal) := by
  have key : ∀ h : Fin 2, d.val / 64 = h.val → (∑ t : Fin 16384, (B.dOt (ix2 d t) : EReal) * B.p h r t)
      = ((A.dv (hd (pd j d)) (ln (pd j d)) (kr k r) : ℝ) : EReal) := fun h hh' => by
    rw [sum_coe (fun t => A.dO t (pd j d) * A.p (hh j h) t (kr k r)) fun t => by rw [R.dOt, p_real R, EReal.coe_mul]]
    unfold Args.dv
    rw [col_hd, hd_pd R h d hh']
  unfold out14
  have hd2 : d.val < 128 := d.isLt
  by_cases h : d.val / 64 = 0
  · exact (if_pos h).trans (key 0 h)
  · exact (if_neg h).trans (key 1 (by show d.val / 64 = 1; omega))

theorem neg_sum_real (h : Fin 2) (r : Fin 512) : (0 : EReal) - ∑ t : Fin 16384, B.s h r t = ((A.dck (hh j h) (kr k r) : ℝ) : EReal) := by
  rw [sum_coe _ fun t => s_real R h r t, ← EReal.coe_zero, ← EReal.coe_sub, zero_sub]
  exact congrArg _ (Finset.sum_neg_distrib ..).symm

theorem out15_real (r : Fin 512) (l : Fin 128) : out15 B j.val (ix3 0 r l)
    = if h : l.val = 2 * j.val ∨ l.val = 2 * j.val + 1 then ((A.dck ⟨l.val, by have := j.isLt; omega⟩ (kr k r) : ℝ) : EReal) else 0 := by
  unfold out15
  by_cases h0 : l.val = 2 * j.val
  · rw [dif_pos (Or.inl h0)]
    refine (if_pos h0).trans ((neg_sum_real R 0 r).trans ?_)
    exact congrArg (fun x => ((A.dck x (kr k r) : ℝ) : EReal)) (Fin.ext h0.symm)
  · refine (if_neg h0).trans ?_
    by_cases h1 : l.val = 2 * j.val + 1
    · rw [dif_pos (Or.inr h1)]
      refine (if_pos h1).trans ((neg_sum_real R 1 r).trans ?_)
      exact congrArg (fun x => ((A.dck x (kr k r) : ℝ) : EReal)) (Fin.ext h1.symm)
    · rw [dif_neg (not_or.2 ⟨h0, h1⟩)]
      exact if_neg h1

theorem add12_real (d : Fin 128) (t : Fin 16384) :
    add12 B (ix2 d t) = ((∑ r, A.ds (hd (pd j d)) t (kr k r) * A.k (kr k r) (pd j d) : ℝ) : EReal) := by
  have key : ∀ h : Fin 2, (∑ r : Fin 512, (B.kth h (ix2 d r) : EReal) * B.s h r t)
      = ((∑ r, (if d.val / 64 = h.val then A.k (kr k r) (pd j d) * A.ds (hh j h) t (kr k r) else 0) : ℝ) : EReal) := fun h =>
    sum_coe _ fun r => by rw [R.kth, s_real R]; exact ite_mul_coe _ _ _
  show (∑ r : Fin 512, (B.kth 0 (ix2 d r) : EReal) * B.s 0 r t) + (∑ r : Fin 512, (B.kth 1 (ix2 d r) : EReal) * B.s 1 r t) = _
  rw [key, key, ← EReal.coe_add, ← Finset.sum_add_distrib]
  refine congrArg _ (Finset.sum_congr rfl fun r _ => ?_)
  have hd2 : d.val < 128 := d.isLt
  by_cases h : d.val / 64 = 0
  · rw [if_pos (show d.val / 64 = (0 : Fin 2).val from h), if_neg (show ¬ d.val / 64 = (1 : Fin 2).val from fun e => by
      have : d.val / 64 = 1 := e
      omega), add_zero, hd_pd R 0 d h, mul_comm]
  · have h1 : d.val / 64 = (1 : Fin 2).val := by show d.val / 64 = 1; omega
    rw [if_neg (show ¬ d.val / 64 = (0 : Fin 2).val from h), if_pos h1, zero_add, hd_pd R 1 d h1, mul_comm]

theorem add16_real (e : Fin 8) (t : Fin 16384) : add16 B (ix3 0 e t)
    = ((if h : e.val < 2 then ∑ r, A.ds (hh j ⟨e.val, h⟩) t (kr k r) else 0 : ℝ) : EReal) := by
  have key : ∀ h : Fin 2, (∑ r : Fin 512, (B.s h r t : EReal)) = ((∑ r, A.ds (hh j h) t (kr k r) : ℝ) : EReal) := fun h =>
    sum_coe _ fun r => s_real R h r t
  show (if e = Blk.row 0 then ∑ r, B.s 0 r t else if e = Blk.row 1 then ∑ r, B.s 1 r t else 0) = _
  by_cases h0 : e = Blk.row 0
  · subst h0
    rw [if_pos rfl, key]
    rfl
  · rw [if_neg h0]
    by_cases h1 : e = Blk.row 1
    · subst h1
      rw [if_pos rfl, key]
      rfl
    · rw [if_neg h1, dif_neg, EReal.coe_zero]
      intro h
      have : e.val ≠ 0 := fun x => h0 (Fin.ext x)
      have : e.val ≠ 1 := fun x => h1 (Fin.ext x)
      omega

end Real

end Cert.KernelIdeal.Point
-- ==== Proof.Arrays.lean ====
/- The kernel's result arrays over real arguments. -/
module

public import proofs.«01_k».proof.Proof.BlockReal
public import proofs.«01_k».proof.Proof.Finite

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Cert.Maths
open Cert.RefSide (x0 x1 x2 x3 x4)
open Cert.ReferenceIdeal.Read (val_main_v108 val_main_v109 val_main_v111 val_main_v113 val_main_v116)

variable (m : (ℓ : Loc nD τ sig) → Buf (Elt Ideal) ℓ) (c : Dev nD) (A : Args)

/-- The arguments of a device are the reals of `A`. -/
structure Holds : Prop where
  a0 : m ((c.tc : Thread nD τ).loc main_arg0) = x0 A
  a1 : m ((c.tc : Thread nD τ).loc main_arg1) = x1 A
  a2 : m ((c.tc : Thread nD τ).loc main_arg2) = x2 A
  a3 : m ((c.tc : Thread nD τ).loc main_arg3) = x3 A
  a4 : m ((c.tc : Thread nD τ).loc main_arg4) = x4 A

variable {m c A} (H : Holds m c A)
include H

theorem at49 (r : Fin 16384) (l : Fin 128) : V m c main_v49 (ix2 r l) = if h : l.val < 8 then ((A.c r ⟨l.val, h⟩ / Real.log 2 : ℝ) : EReal) else 0 := by
  rw [entry49, H.a3]; exact hc_at A r l

theorem at50 (t : Fin 16384) (e : Fin 1536) : V m c main_v50 (ix2 t e) = ((qkv A t e : ℝ) : EReal) := by
  rw [entry50, H.a0, H.a1, H.a2]; exact hqkv_at A t e

theorem at52 (e : Fin 1536) (t : Fin 16384) : V m c main_v52 (ix2 e t) = ((qkv A t e : ℝ) : EReal) := by
  rw [entry52, H.a0, H.a1, H.a2]
  refine Eq.trans ?_ (hqkv_at A t e)
  generalize hqkv (x0 A) (x1 A) (x2 A) = y
  pointwise []

theorem at53 (t : Fin 16384) (e : Fin 512) : V m c main_v53 (ix2 t e) = ((A.dO t e : ℝ) : EReal) := by
  rw [entry53, H.a4]; rfl

theorem at55 (e : Fin 512) (t : Fin 16384) : V m c main_v55 (ix2 e t) = ((A.dO t e : ℝ) : EReal) := by
  rw [entry55, H.a4]
  unfold hdot
  refine Eq.trans ?_ (rfl : x4 A (ix2 t e) = _)
  generalize x4 A = y
  pointwise []

theorem at57 (j : Fin 4) (h : Fin 2) (t : Fin 16384) : V m c main_v57 (ix3 j (Blk.row h) t) = ((al A (hh j h) t : ℝ) : EReal) := by
  rw [entry57, H.a0, H.a1, H.a3, hrows_at, dif_pos (show (Blk.row h).val < 2 from h.isLt)]
  exact ha_at A (hh j h) t

theorem at59 (j : Fin 4) (h : Fin 2) (t : Fin 16384) : V m c main_v59 (ix3 j (Blk.row h) t) = ((A.dl (hh j h) t : ℝ) : EReal) := by
  rw [entry59, H.a0, H.a1, H.a2, H.a3, H.a4, hrows_at, dif_pos (show (Blk.row h).val < 2 from h.isLt)]
  exact hd_at A (hh j h) t

omit H in
theorem qkv_q (t : Fin 16384) (j : Fin 4) (d : Fin 128) : qkv A t (pc 0 j d) = A.q t (pd j d) * ((1 / 8) / Real.log 2) := by
  have h : (pc 0 j d).val = 128 * j.val + d.val := by show 512 * 0 + 128 * j.val + d.val = _; omega
  have hj := j.isLt
  have hd := d.isLt
  unfold qkv
  rw [dif_pos (by omega)]
  exact congrArg (fun e => A.q t e * _) (Fin.ext h)

omit H in
theorem qkv_k (t : Fin 16384) (j : Fin 4) (d : Fin 128) : qkv A t (pc 1 j d) = A.k t (pd j d) := by
  have h : (pc 1 j d).val = 512 + 128 * j.val + d.val := by show 512 * 1 + 128 * j.val + d.val = _; omega
  have hj := j.isLt
  have hd := d.isLt
  unfold qkv
  rw [dif_neg (by omega), dif_pos (by omega)]
  exact congrArg (fun e => A.k t e) (Fin.ext (by show (pc 1 j d).val - 512 = 128 * j.val + d.val; omega))

omit H in
theorem qkv_v (t : Fin 16384) (j : Fin 4) (d : Fin 128) : qkv A t (pc 2 j d) = A.v t (pd j d) := by
  have h : (pc 2 j d).val = 1024 + 128 * j.val + d.val := by show 512 * 2 + 128 * j.val + d.val = _; omega
  have hj := j.isLt
  have hd := d.isLt
  unfold qkv
  rw [dif_neg (by omega), dif_neg (by omega)]
  exact congrArg (fun e => A.v t e) (Fin.ext (by show (pc 2 j d).val - 512 - 512 = 128 * j.val + d.val; omega))

omit H in
theorem isReal_of (i : grid0.Coords) (j : Fin 4) (k : Fin 32) (hj : (i 0).val = j.val) (hk : (i 1).val = k.val)
    (y2 : Vec Ideal S16384x128 .bf16) (y3 : Vec Ideal S512x128 .bf16) (y4 : Vec Ideal S128x512 .bf16)
    (y5 : Vec Ideal S512x128 .bf16) (y6 : Vec Ideal S512x128 .f32) (y7 y8 : Vec Ideal S1x8x16384 .f32)
    (y9 : Vec Ideal S128x16384 .bf16) (y10 : Vec Ideal S16384x128 .bf16) (y11 : Vec Ideal S128x16384 .bf16)
    (h2 : ∀ t d, y2 (ix2 t d) = ((A.q t (pd j d) * ((1 / 8) / Real.log 2) : ℝ) : EReal))
    (h3 : ∀ r d, y3 (ix2 r d) = ((A.k (kr k r) (pd j d) : ℝ) : EReal))
    (h4 : ∀ d r, y4 (ix2 d r) = ((A.k (kr k r) (pd j d) : ℝ) : EReal))
    (h5 : ∀ r d, y5 (ix2 r d) = ((A.v (kr k r) (pd j d) : ℝ) : EReal))
    (h6 : ∀ r (l : Fin 128), y6 (ix2 r l) = if h : l.val < 8 then ((A.c (kr k r) ⟨l.val, h⟩ / Real.log 2 : ℝ) : EReal) else (0 : EReal))
    (h7 : ∀ h t, y7 (ix3 0 (Blk.row h) t) = ((al A (hh j h) t : ℝ) : EReal))
    (h8 : ∀ h t, y8 (ix3 0 (Blk.row h) t) = ((A.dl (hh j h) t : ℝ) : EReal))
    (h9 : ∀ d t, y9 (ix2 d t) = ((A.q t (pd j d) * ((1 / 8) / Real.log 2) : ℝ) : EReal))
    (h10 : ∀ t d, y10 (ix2 t d) = ((A.dO t (pd j d) : ℝ) : EReal))
    (h11 : ∀ d t, y11 (ix2 d t) = ((A.dO t (pd j d) : ℝ) : EReal)) :
    IsReal A (blkOf i y2 y3 y4 y5 y6 y7 y8 y9 y10 y11) j k where
  kh h r d := by
    show (if d.val / 64 = h.val then y3 (ix2 r d) else (0 : EReal)) = _
    rw [h3]
  vh h r d := by
    show (if d.val / 64 = h.val then y5 (ix2 r d) else (0 : EReal)) = _
    rw [h5]
  kth h d r := by
    show (if d.val / 64 = h.val then y4 (ix2 d r) else (0 : EReal)) = _
    rw [h4]
  ch h r := by
    show (∑ l : Fin 128, if l.val = 2 * (i 0).val + h.val then y6 (ix2 r l) else (0 : EReal)) = _
    have hj' := j.isLt
    have hh' := h.isLt
    rw [hj]
    refine (Finset.sum_eq_single (⟨2 * j.val + h.val, by omega⟩ : Fin 128) ?_ fun e => absurd (Finset.mem_univ _) e).trans ?_
    · intro l _ hl
      exact if_neg fun e => hl (Fin.ext e)
    · rw [if_pos rfl, h6, dif_pos (by show 2 * j.val + h.val < 8; omega)]
      rfl
  q := h2
  al := h7
  dl := h8
  qt := h9
  dO := h10
  dOt := h11
  kj := hk

theorem isReal (t : Fin cfg0.N) : IsReal A (Bt m c t) (pj t) (pk t) :=
  isReal_of (grid0.coords t) (pj t) (pk t) rfl rfl (iblk m c 0 t) (iblk m c 1 t) (iblk m c 2 t) (iblk m c 3 t) (iblk m c 4 t) (iblk m c 5 t)
    (iblk m c 6 t) (iblk m c 7 t) (iblk m c 8 t) (iblk m c 9 t)
    (fun x d => (ib0 m c t x d).trans ((at50 H _ _).trans (congrArg _ (qkv_q _ _ _))))
    (fun r d => (ib1 m c t r d).trans ((at50 H _ _).trans (congrArg _ (qkv_k _ _ _))))
    (fun d r => (ib2 m c t d r).trans ((at52 H _ _).trans (congrArg _ (qkv_k _ _ _))))
    (fun r d => (ib3 m c t r d).trans ((at50 H _ _).trans (congrArg _ (qkv_v _ _ _))))
    (fun r l => (ib4 m c t r l).trans (at49 H _ _))
    (fun h x => (ib5 m c t _ x).trans (at57 H _ _ _))
    (fun h x => (ib6 m c t _ x).trans (at59 H _ _ _))
    (fun d x => (ib7 m c t d x).trans ((at52 H _ _).trans (congrArg _ (qkv_q _ _ _))))
    (fun x d => (ib8 m c t x d).trans (at53 H _ _))
    (fun d x => (ib9 m c t d x).trans (at55 H _ _))

/-- A sum over the grid points of a pair of heads is a sum over the keys. -/
theorem acc_real (f : Fin cfg0.N → EReal) (j : Fin 4) (g : Fin 16384 → ℝ)
    (hf : ∀ k : Fin 32, f (pt (32 * j.val + k.val)) = ((∑ r, g (kr k r) : ℝ) : EReal)) (t : ℕ) (ht : t = 32 * j.val + 31) :
    acc f t = ((∑ r, g r : ℝ) : EReal) := by
  unfold acc
  rw [show t % 32 + 1 = 32 by omega, show t / 32 = j.val by omega, Finset.sum_range, sum_coe _ hf, Fin.sum_univ_tiles 32 512 rfl g]
  refine congrArg _ (Finset.sum_congr rfl fun k _ => Finset.sum_congr rfl fun r _ => congrArg g (Fin.ext ?_))
  show 512 * k.val + r.val = k.val * 512 + r.val
  omega

theorem aft12_real (j : Fin 4) (t : ℕ) (ht : t = 32 * j.val + 31) (d : Fin 128) (x : Fin 16384) :
    aft12 m c t (ix2 d x) = ((A.dq (hd (pd j d)) (ln (pd j d)) x : ℝ) : EReal) := by
  have e8 : eighth = ((1 / 8 : ℝ) : EReal) := ofBits_eighth
  refine (if_pos (show t % 32 = 31 by omega)).trans ?_
  rw [acc_real H (fun u => add12 (Bt m c u) (ix2 d x)) j (fun r => A.ds (hd (pd j d)) x r * A.k r (pd j d)) (fun k => by
    have h := add12_real (isReal H (pt (32 * j.val + k.val))) d x
    rw [(pt_coords j k).1, (pt_coords j k).2] at h
    exact h) t ht, e8, ← EReal.coe_mul, Finset.sum_mul]
  unfold Args.dq
  refine congrArg _ (Finset.sum_congr rfl fun r _ => ?_)
  rw [col_hd]
  ring

theorem aft16_real (j : Fin 4) (t : ℕ) (ht : t = 32 * j.val + 31) (e : Fin 8) (x : Fin 16384) :
    aft16 m c t (ix3 0 e x) = ((if h : e.val < 2 then A.dcq (hh j ⟨e.val, h⟩) x else 0 : ℝ) : EReal) := by
  refine (acc_real H (fun u => add16 (Bt m c u) (ix3 0 e x)) j (fun r => if h : e.val < 2 then A.ds (hh j ⟨e.val, h⟩) x r else 0) (fun k => by
    have h := add16_real (isReal H (pt (32 * j.val + k.val))) e x
    rw [(pt_coords j k).1, (pt_coords j k).2] at h
    refine h.trans (congrArg _ ?_)
    by_cases he : e.val < 2
    · simp only [dif_pos he]
    · simp only [dif_neg he, Finset.sum_const_zero]) t ht).trans (congrArg _ ?_)
  by_cases he : e.val < 2
  · simp only [dif_pos he]
    rfl
  · simp only [dif_neg he, Finset.sum_const_zero]

end Cert.KernelIdeal.Point
-- ==== Proof.Results.lean ====
/- The kernel's result arrays are the reference's. -/
module

public import proofs.«01_k».proof.Proof.Arrays

@[expose] public section

set_option maxRecDepth 16384

noncomputable section

namespace Cert.KernelIdeal.Point

open Idealize.ShloMosaic Idealize.ShloMosaic.TcCoe Idealize.ShloMosaic.Tactic
open Cert.KernelIdeal Cert.KernelIdeal.Gen
open Cert.Maths
open Cert.RefSide (x0 x1 x2 x3 x4)
open Cert.ReferenceIdeal.Read (val_main_v108 val_main_v109 val_main_v111 val_main_v113 val_main_v116)

theorem flush_last : ∀ t : Fin cfg0.N, (win0_10.flush t = true → (pk t).val = 31) ∧ (win0_14.flush t = true → (pk t).val = 31) :=
  (by decide +kernel : ∀ t : Fin grid0.N, _)

section Emb

variable (t : Fin cfg0.N)

theorem emb10 (G : S512x16384.Idx → EReal) (d : Fin 128) (x : Fin 16384) : G ((win0_10.blk t).view.emb (ix2 d x)) = G (ix2 (pd (pj t) d) x) := by
  blk_ext [pd, kr, idxOut t]

theorem emb11 (G : S512x16384.Idx → EReal) (d : Fin 128) (r : Fin 512) : G ((win0_11.blk t).view.emb (ix2 d r)) = G (ix2 (pd (pj t) d) (kr (pk t) r)) := by
  blk_ext [pd, kr, idxOut t]

theorem emb12 (G : S512x16384.Idx → EReal) (d : Fin 128) (r : Fin 512) : G ((win0_12.blk t).view.emb (ix2 d r)) = G (ix2 (pd (pj t) d) (kr (pk t) r)) := by
  blk_ext [pd, kr, idxOut t]

theorem emb13 (G : S4x16384x128.Idx → EReal) (r : Fin 512) (l : Fin 128) : G ((win0_13.blk t).view.emb (ix3 0 r l)) = G (ix3 (pj t) (kr (pk t) r) l) := by
  blk_ext [pd, kr, idxOut t]

theorem emb14 (G : S4x8x16384.Idx → EReal) (e : Fin 8) (x : Fin 16384) : G ((win0_14.blk t).view.emb (ix3 0 e x)) = G (ix3 (pj t) e x) := by
  blk_ext [pd, kr, idxOut t]

end Emb

variable {m : (ℓ : Loc nD τ sig) → Buf (Elt Ideal) ℓ} {c : Dev nD} {A : Args} (H : Holds m c A)
include H

theorem arr10 : (dats m 0 c).arrAt 10 cfg0.N = val_main_v109 (F := Ideal) (x0 A) (x1 A) (x2 A) (x3 A) (x4 A) := by
  refine (dats m 0 c).arrAt_eq_of_covers 10 _ (by decide +kernel) fun t hf y => ?_
  have hk : t.val = 32 * (pj t).val + 31 := (coords_pt t).trans (congrArg _ ((flush_last t).1 hf))
  blk_simp
  rw [aft_10]
  refine congrFun (pair_ext (f := aft12 m c t.val) (g := fun y => val_main_v109 (F := Ideal) (x0 A) (x1 A) (x2 A) (x3 A) (x4 A) ((win0_10.blk t).view.emb y)) fun d x => ?_) y
  rw [aft12_real H (pj t) t.val hk]
  exact ((emb10 t _ d x).trans (Cert.RefSide.v109 A _ _)).symm

theorem arr11 : (dats m 0 c).arrAt 11 cfg0.N = val_main_v111 (F := Ideal) (x0 A) (x1 A) (x2 A) (x3 A) (x4 A) := by
  refine (dats m 0 c).arrAt_eq_of_covers 11 _ (by decide +kernel) fun t hf y => ?_
  blk_simp
  rw [aft_11]
  refine congrFun (pair_ext (f := out13 (Bt m c t)) (g := fun y => val_main_v111 (F := Ideal) (x0 A) (x1 A) (x2 A) (x3 A) (x4 A) ((win0_11.blk t).view.emb y)) fun d r => ?_) y
  rw [out13_real (isReal H t)]
  exact ((emb11 t _ d r).trans (Cert.RefSide.v111 A _ _)).symm

theorem arr12 : (dats m 0 c).arrAt 12 cfg0.N = val_main_v113 (F := Ideal) (x0 A) (x1 A) (x3 A) (x4 A) := by
  refine (dats m 0 c).arrAt_eq_of_covers 12 _ (by decide +kernel) fun t hf y => ?_
  blk_simp
  rw [aft_12]
  refine congrFun (pair_ext (f := out14 (Bt m c t)) (g := fun y => val_main_v113 (F := Ideal) (x0 A) (x1 A) (x3 A) (x4 A) ((win0_12.blk t).view.emb y)) fun d r => ?_) y
  rw [out14_real (isReal H t)]
  exact ((emb12 t _ d r).trans (Cert.RefSide.v113 A _ _)).symm

theorem arr13 : (dats m 0 c).arrAt 13 cfg0.N = val_main_v108 (F := Ideal) (x0 A) (x1 A) (x2 A) (x3 A) (x4 A) := by
  refine (dats m 0 c).arrAt_eq_of_covers 13 _ (by decide +kernel) fun t hf y => ?_
  blk_simp
  rw [aft_13]
  refine congrFun (tri_ext (f := out15 (Bt m c t) (grid0.coords t 0).val) (g := fun y => val_main_v108 (F := Ideal) (x0 A) (x1 A) (x2 A) (x3 A) (x4 A) ((win0_13.blk t).view.emb y)) fun r l => ?_) y
  refine (out15_real (isReal H t) r l).trans ?_
  exact ((emb13 t _ r l).trans (Cert.RefSide.v108 A _ _ _)).symm

theorem arr14 : (dats m 0 c).arrAt 14 cfg0.N = val_main_v116 (F := Ideal) (x0 A) (x1 A) (x2 A) (x3 A) (x4 A) := by
  refine (dats m 0 c).arrAt_eq_of_covers 14 _ (by decide +kernel) fun t hf y => ?_
  have hk : t.val = 32 * (pj t).val + 31 := (coords_pt t).trans (congrArg _ ((flush_last t).2 hf))
  blk_simp
  rw [aft_14]
  refine congrFun (tri_ext (f := aft16 m c t.val) (g := fun y => val_main_v116 (F := Ideal) (x0 A) (x1 A) (x2 A) (x3 A) (x4 A) ((win0_14.blk t).view.emb y)) fun e x => ?_) y
  rw [aft16_real H (pj t) t.val hk]
  refine Eq.trans ?_ ((emb14 t _ e x).trans (Cert.RefSide.v116 A _ _ _)).symm
  by_cases he : e.val < 2
  · rw [dif_pos he, dif_pos he]
    rfl
  · rw [dif_neg he, dif_neg he, EReal.coe_zero]

end Cert.KernelIdeal.Point
-- ==== Proof.lean ====
/- The proof of the claims of `Defs.lean`: the frames of the kernel, of its idealization and of the reference, that the
   idealization is the sanctioned one, and that over finite arguments it computes the reference's gradients. -/
module

public import proofs.«01_k».proof.Defs
public import proofs.«01_k».proof.Proof.Words
public import proofs.«01_k».proof.Proof.WeightIn
public import proofs.«01_k».proof.Proof.WeightOut
public import proofs.«01_k».proof.Proof.FeedForwardValue
public import proofs.«01_k».proof.Proof.FeedForwardBackValue
public import proofs.«01_k».proof.Proof.MixerIn
public import proofs.«01_k».proof.Proof.WeightMix
public import proofs.«01_k».proof.Proof.WeightGate
public import proofs.«01_k».proof.Proof.Gen.Kernel2.Frame
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Pre_finite8
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel3.Frame
public import proofs.«01_k».proof.Proof.Gen.Kernel4.Frame
public import proofs.«01_k».proof.Proof.Gen.ReferenceIdeal.Run
public import proofs.«01_k».proof.Proof.Outputs
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.SL.Sem

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xF149F2CA#32 _ rfl,
   IdealRules.named_const.statement Cert.KernelIdeal.κ "ln2" .f32 0x3F317218#32 _ rfl⟩

section Value

open Cert.KernelIdeal Cert.KernelIdeal.Gen Cert.KernelIdeal.Point
open Cert.ReferenceIdeal.Read (val_main_v108 val_main_v109 val_main_v111 val_main_v113 val_main_v116)

variable (m : (ℓ : Loc nD τ sig) → Buf (Elt Ideal) ℓ)

/-- Over finite arguments the arguments of a device are real numbers. -/
theorem holds (H : Cert.Pre_KernelIdeal_finite m) (c : Dev nD) : ∃ A, Holds m c A := by
  obtain ⟨h0, h1, h2, h3, h4⟩ := Cert.RefSide.real_args _ _ _ _ _ (H c)
  exact ⟨_, h0, h1, h2, h3, h4⟩

/-- A result of the reference at the arguments of a device of the kernel. -/
def res109 (c : Dev nD) := val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def res111 (c : Dev nD) := val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def res113 (c : Dev nD) := val_main_v113 (F := Ideal) (m ((c.tc : Thread nD τ).loc main_arg0)) (m ((c.tc : Thread nD τ).loc main_arg1)) (m ((c.tc : Thread nD τ).loc main_arg3)) (m ((c.tc : Thread nD τ).loc main_arg4))
def res108 (c : Dev nD) := val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def res116 (c : Dev nD) := val_main_v116 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem arrays (H : Cert.Pre_KernelIdeal_finite m) (c : Dev nD) :
    (dats m 0 c).arrAt 10 cfg0.N = res109 m c ∧ (dats m 0 c).arrAt 11 cfg0.N = res111 m c ∧ (dats m 0 c).arrAt 12 cfg0.N = res113 m c
      ∧ (dats m 0 c).arrAt 13 cfg0.N = res108 m c ∧ (dats m 0 c).arrAt 14 cfg0.N = res116 m c := by
  obtain ⟨A, h⟩ := holds m H c
  unfold res109 res111 res113 res108 res116
  rw [h.a0, h.a1, h.a2, h.a3, h.a4]
  exact ⟨arr10 h, arr11 h, arr12 h, arr13 h, arr14 h⟩

theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' H hm
  refine ⟨res109 m, res111 m, res113 m, res108 m, res116 m, ?_, ?_⟩
  · refine (θ_run defs _ _).mono (fun r h c => ?_) (θ_run_and (launched m ρ) (framed m ρ))
    obtain ⟨a, b, d, e, f⟩ := arrays m H c
    exact ⟨(out0 h.1.1 c).trans a, (out1 h.1.1 c).trans b, (out2 h.1.1 c).trans d, (out3 h.1.1 c).trans e, (out4 h.1.1 c).trans f, h.2.1 c⟩
  · refine (θ_run Cert.ReferenceIdeal.defs _ _).mono (fun r h c => ?_) (Cert.ReferenceIdeal.Value.run (F := Ideal) m' ρ')
    obtain ⟨h0, h1, h2, h3, h4, ha⟩ := h c
    obtain ⟨e0, e1, e2, e3, e4⟩ := hm c
    refine ⟨h0.trans ((Cert.ReferenceIdeal.Read.val_main_v109_eq m' c).trans ?_), h1.trans ((Cert.ReferenceIdeal.Read.val_main_v111_eq m' c).trans ?_),
      h2.trans ((Cert.ReferenceIdeal.Read.val_main_v113_eq m' c).trans ?_), h3.trans ((Cert.ReferenceIdeal.Read.val_main_v108_eq m' c).trans ?_),
      h4.trans ((Cert.ReferenceIdeal.Read.val_main_v116_eq m' c).trans ?_), ha⟩
    · rw [e0, e1, e2, e3, e4]; rfl
    · rw [e0, e1, e2, e3, e4]; rfl
    · rw [e0, e1, e3, e4]; rfl
    · rw [e0, e1, e2, e3, e4]; rfl
    · rw [e0, e1, e2, e3, e4]; rfl

end Value

theorem claim : Cert.Claim :=
  ⟨Cert.Kernel.Gen.facts, Cert.KernelIdeal.Gen.facts, Cert.ReferenceIdeal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel2.Gen.facts, Cert.Kernel2Ideal.Gen.facts, Cert.Reference2Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Pre_finite.Gen.facts, Cert.Pre_finite8.Gen.facts,
   fun m ρ _ => Cert.Kernel.Words.framed m ρ, fun m ρ _ => Cert.KernelIdeal.Point.framed m ρ, fun m ρ _ => Cert.KernelIdeal.Point.framed m ρ,
   fun m ρ _ => frame_reference m ρ, fun m ρ _ => frame_reference m ρ,
   fun m ρ _ => Cert.Kernel3.Gen.frame m ρ, fun m ρ _ => Cert.Kernel3Ideal.Gen.frame m ρ, fun m ρ _ => Cert.Kernel3Ideal.Weight.frame_reference m ρ,
   fun m ρ _ => Cert.Kernel4.Gen.frame m ρ, fun m ρ _ => Cert.Kernel4Ideal.Gen.frame m ρ, fun m ρ _ => Cert.Kernel4Ideal.Weight.frame_reference m ρ,
   fun m ρ _ => Cert.Kernel2.Gen.frame m ρ, fun m ρ _ => Cert.Kernel2Ideal.Gen.frame m ρ, fun m ρ _ => Cert.Kernel2Ideal.FeedForward.frame_reference m ρ,
   fun m ρ _ => Cert.Kernel5.Gen.frame m ρ, fun m ρ _ => Cert.Kernel5Ideal.Gen.frame m ρ, fun m ρ _ => Cert.Kernel5Ideal.MixerIn.frame_reference m ρ,
   fun m ρ _ => Cert.Kernel6.Gen.frame m ρ, fun m ρ _ => Cert.Kernel6Ideal.Gen.frame m ρ, fun m ρ _ => Cert.Kernel6Ideal.Weight.frame_reference m ρ,
   fun m ρ _ => Cert.Kernel7.Gen.frame m ρ, fun m ρ _ => Cert.Kernel7Ideal.Gen.frame m ρ, fun m ρ _ => Cert.Kernel7Ideal.Weight.frame_reference m ρ,
   fun m ρ _ => Cert.Kernel8.Gen.frame m ρ, fun m ρ _ => Cert.Kernel8Ideal.Gen.frame m ρ, fun m ρ _ => Cert.Kernel8Ideal.Gen.frame m ρ,
   fun m ρ _ => Cert.Kernel8Ideal.Back.frame_reference m ρ, fun m ρ _ => Cert.Kernel8Ideal.Back.frame_reference m ρ,
   preserves, value, trivial, Cert.Kernel3Ideal.Weight.value, trivial, Cert.Kernel4Ideal.Weight.value,
   trivial, Cert.Kernel2Ideal.FeedForward.value,
   trivial, Cert.Kernel5Ideal.MixerIn.value, trivial, Cert.Kernel6Ideal.Weight.value, trivial, Cert.Kernel7Ideal.Weight.value,
   trivial, Cert.Kernel8Ideal.Back.value⟩

end Cert.Proof

end
